-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 1024, 8, 128]⟩ ⟨4, ![4, 1024, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 8, 128]⟩ ⟨4, ![4, 1024, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x8x128 .f32 := Host.absf main_arg2
  let main_cst_2 : FVec F S_ .f32 := constant S_ .f32 0x7F800000#32
  let main_v10 : FVec F S4x1024x8x128 .f32 := broadcastInDim S4x1024x8x128 ![] bcast_S_S4x1024x8x128 main_cst_2
  let main_v11 : IVec S4x1024x8x128 1 := cmpf .olt main_v9 main_v10
  let main_c_3 : IVec S_ 1 := constantI S_ 1 1#1
  let main_v12 : IVec S_ 1 := (fun x v => Host.reduce IntOp.andi x v reducesTo_S4x1024x8x128_S_d0_1_2_3 h_S_) main_v11 main_c_3
  let main_v13 : IVec S_ 1 := andi main_v8 main_v12
  main_v13
-- ==== Pre_finite_scores_ReferenceIdeal.lean ====
abbrev S4x256x1024 : Shape := ⟨3, ![4, 256, 1024]⟩
abbrev S1024x16384 : Shape := ⟨2, ![1024, 16384]⟩
abbrev S4x1024x128x128 : Shape := ⟨4, ![4, 1024, 128, 128]⟩
abbrev S16384x1024 : Shape := ⟨2, ![16384, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S4x1024x128x128 : S_.BroadcastsInDim S4x1024x128x128 (![] : Fin 0 → Fin S4x1024x128x128.rank)
  reducesTo_S4x1024x128x128_S_d0_1_2_3 : S4x1024x128x128.ReducesTo [0, 1, 2, 3] S_

variable [Facts]

def fn {F : FTy → Type} [FloatOps F] (main_arg0 : FVec F S4x256x1024 .f32) (main_arg1 : FVec F S1024x16384 .f32) (main_arg2 : FVec F S4x1024x128x128 .f32) (main_arg3 : FVec F S4x1024x128x128 .f32) (main_arg4 : FVec F S16384x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S4x1024x128x128 .f32 := Host.absf main_arg2
  let main_cst_2 : FVec F S_ .f32 := constant S_ .f32 0x7F800000#32
  let main_v10 : FVec F S4x1024x128x128 .f32 := broadcastInDim S4x1024x128x128 ![] bcast_S_S4x1024x128x128 main_cst_2
  let main_v11 : IVec S4x1024x128x128 1 := cmpf .olt main_v9 main_v10
  let main_c_3 : IVec S_ 1 := constantI S_ 1 1#1
  let main_v12 : IVec S_ 1 := (fun x v => Host.reduce IntOp.andi x v reducesTo_S4x1024x128x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S1x256x1024 : Shape := ⟨3, ![1, 256, 1024]⟩
abbrev S1x1024x8x128 : Shape := ⟨4, ![1, 1024, 8, 128]⟩
abbrev S4x16x16x1024 : Shape := ⟨4, ![4, 16, 16, 1024]⟩
abbrev S4x16x1024 : Shape := ⟨3, ![4, 16, 1024]⟩
abbrev S16x1024 : Shape := ⟨2, ![16, 1024]⟩
abbrev S256x1024 : Shape := ⟨2, ![256, 1024]⟩
abbrev S4x16 : Shape := ⟨2, ![4, 16]⟩
abbrev S_ : Shape := ⟨0, ![]⟩
abbrev S1024x128 : Shape := ⟨2, ![1024, 128]⟩
abbrev S256x128 : Shape := ⟨2, ![256, 128]⟩
abbrev S1x1024x1x128 : Shape := ⟨4, ![1, 1024, 1, 128]⟩
abbrev S128x1024 : Shape := ⟨2, ![128, 1024]⟩
abbrev S256x1 : Shape := ⟨2, ![256, 1]⟩
abbrev S1x1 : Shape := ⟨2, ![1, 1]⟩
abbrev S1x1x16x1024 : Shape := ⟨4, ![1, 1, 16, 1024]⟩
abbrev S1x16x1024 : Shape := ⟨3, ![1, 16, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x8x128, .f32⟩
  | .local _ .vmem, ⟨5, _⟩ => ⟨S1x1024x8x128, .f32⟩
  | .local _ .vmem, ⟨6, _⟩ => ⟨S1x1024x8x128, .f32⟩
  | .local _ .vmem, ⟨7, _⟩ => ⟨S1x1024x8x128, .f32⟩
  | .local _ .vmem, ⟨8, _⟩ => ⟨S4x256x1024, .f32⟩
  | .local _ .vmem, ⟨9, _⟩ => ⟨S4x16x16x1024, .bf16⟩
  | .local _ .vmem, ⟨10, _⟩ => ⟨S4x16x16x1024, .bf16⟩
  | .local _ .vmem, ⟨11, _⟩ => ⟨S4x256x1024, .bf16⟩
  | .local _ .vmem, ⟨12, _⟩ => ⟨S4x16x1024, .bf16⟩
  | .local _ .vmem, ⟨13, _⟩ => ⟨S16x1024, .f32⟩
  | .local _ .vmem, ⟨14, _⟩ => ⟨S256x1024, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 265 → Bool
  | ⟨i, _⟩ => dmaSemScopedAt i

abbrev sig : RefSig :=
  (ofTc nBuf bufTy 1 265 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev barrier0 : Sem sig := 0

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_132 : BitVec 32 := 0#32
  let v252 : BitVec 1 := Scalar.cmpi .ne v2 c0_i32_132
  let v253 : BitVec 32 := Scalar.extui v252
  let c0_i32_133 : BitVec 32 := 0#32
  let v254 : BitVec 1 := Scalar.cmpi .ne v253 c0_i32_133
  v254

def k0_dev1 : Nat :=
  let c0_i32_168 : BitVec 32 := 0#32
  let c0_i32_166 : BitVec 32 := 0#32
  let c1_i32_167 : BitVec 32 := 1#32
  let v300 : BitVec 32 := Scalar.muli c0_i32_166 c1_i32_167
  let v301 : BitVec 32 := Scalar.addi c0_i32_168 v300
  v301.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_134 : BitVec 32 := 1#32
  let v255 : BitVec 1 := Scalar.cmpi .ne v2 c1_i32_134
  let v256 : BitVec 32 := Scalar.extui v255
  let c0_i32_135 : BitVec 32 := 0#32
  let v257 : BitVec 1 := Scalar.cmpi .ne v256 c0_i32_135
  v257

def k0_dev2 : Nat :=
  let c0_i32_168 : BitVec 32 := 0#32
  let c1_i32_166 : BitVec 32 := 1#32
  let c1_i32_167 : BitVec 32 := 1#32
  let v300 : BitVec 32 := Scalar.muli c1_i32_166 c1_i32_167
  let v301 : BitVec 32 := Scalar.addi c0_i32_168 v300
  v301.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_136 : BitVec 32 := 2#32
  let v258 : BitVec 1 := Scalar.cmpi .ne v2 c2_i32_136
  let v259 : BitVec 32 := Scalar.extui v258
  let c0_i32_137 : BitVec 32 := 0#32
  let v260 : BitVec 1 := Scalar.cmpi .ne v259 c0_i32_137
  v260

def k0_dev3 : Nat :=
  let c0_i32_168 : BitVec 32 := 0#32
  let c2_i32_166 : BitVec 32 := 2#32
  let c1_i32_167 : BitVec 32 := 1#32
  let v300 : BitVec 32 := Scalar.muli c2_i32_166 c1_i32_167
  let v301 : BitVec 32 := Scalar.addi c0_i32_168 v300
  v301.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_138 : BitVec 32 := 3#32
  let v261 : BitVec 1 := Scalar.cmpi .ne v2 c3_i32_138
  let v262 : BitVec 32 := Scalar.extui v261
  let c0_i32_139 : BitVec 32 := 0#32
  let v263 : BitVec 1 := Scalar.cmpi .ne v262 c0_i32_139
  v263

def k0_dev4 : Nat :=
  let c0_i32_168 : BitVec 32 := 0#32
  let c3_i32_166 : BitVec 32 := 3#32
  let c1_i32_167 : BitVec 32 := 1#32
  let v300 : BitVec 32 := Scalar.muli c3_i32_166 c1_i32_167
  let v301 : BitVec 32 := Scalar.addi c0_i32_168 v300
  v301.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_140 : BitVec 32 := 4#32
  let v264 : BitVec 1 := Scalar.cmpi .ne v2 c4_i32_140
  let v265 : BitVec 32 := Scalar.extui v264
  let c0_i32_141 : BitVec 32 := 0#32
  let v266 : BitVec 1 := Scalar.cmpi .ne v265 c0_i32_141
  v266

def k0_dev5 : Nat :=
  let c0_i32_168 : BitVec 32 := 0#32
  let c4_i32_166 : BitVec 32 := 4#32
  let c1_i32_167 : BitVec 32 := 1#32
  let v300 : BitVec 32 := Scalar.muli c4_i32_166 c1_i32_167
  let v301 : BitVec 32 := Scalar.addi c0_i32_168 v300
  v301.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_142 : BitVec 32 := 5#32
  let v267 : BitVec 1 := Scalar.cmpi .ne v2 c5_i32_142
  let v268 : BitVec 32 := Scalar.extui v267
  let c0_i32_143 : BitVec 32 := 0#32
  let v269 : BitVec 1 := Scalar.cmpi .ne v268 c0_i32_143
  v269

def k0_dev6 : Nat :=
  let c0_i32_168 : BitVec 32 := 0#32
  let c5_i32_166 : BitVec 32 := 5#32
  let c1_i32_167 : BitVec 32 := 1#32
  let v300 : BitVec 32 := Scalar.muli c5_i32_166 c1_i32_167
  let v301 : BitVec 32 := Scalar.addi c0_i32_168 v300
  v301.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_144 : BitVec 32 := 6#32
  let v270 : BitVec 1 := Scalar.cmpi .ne v2 c6_i32_144
  let v271 : BitVec 32 := Scalar.extui v270
  let c0_i32_145 : BitVec 32 := 0#32
  let v272 : BitVec 1 := Scalar.cmpi .ne v271 c0_i32_145
  v272

def k0_dev7 : Nat :=
  let c0_i32_168 : BitVec 32 := 0#32
  let c6_i32_166 : BitVec 32 := 6#32
  let c1_i32_167 : BitVec 32 := 1#32
  let v300 : BitVec 32 := Scalar.muli c6_i32_166 c1_i32_167
  let v301 : BitVec 32 := Scalar.addi c0_i32_168 v300
  v301.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_146 : BitVec 32 := 7#32
  let v273 : BitVec 1 := Scalar.cmpi .ne v2 c7_i32_146
  let v274 : BitVec 32 := Scalar.extui v273
  let c0_i32_147 : BitVec 32 := 0#32
  let v275 : BitVec 1 := Scalar.cmpi .ne v274 c0_i32_147
  v275

def k0_dev8 : Nat :=
  let c0_i32_168 : BitVec 32 := 0#32
  let c7_i32_166 : BitVec 32 := 7#32
  let c1_i32_167 : BitVec 32 := 1#32
  let v300 : BitVec 32 := Scalar.muli c7_i32_166 c1_i32_167
  let v301 : BitVec 32 := Scalar.addi c0_i32_168 v300
  v301.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_148 : BitVec 32 := 8#32
  let v276 : BitVec 1 := Scalar.cmpi .ne v2 c8_i32_148
  let v277 : BitVec 32 := Scalar.extui v276
  let c0_i32_149 : BitVec 32 := 0#32
  let v278 : BitVec 1 := Scalar.cmpi .ne v277 c0_i32_149
  v278

def k0_dev9 : Nat :=
  let c0_i32_168 : BitVec 32 := 0#32
  let c8_i32_166 : BitVec 32 := 8#32
  let c1_i32_167 : BitVec 32 := 1#32
  let v300 : BitVec 32 := Scalar.muli c8_i32_166 c1_i32_167
  let v301 : BitVec 32 := Scalar.addi c0_i32_168 v300
  v301.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_150 : BitVec 32 := 9#32
  let v279 : BitVec 1 := Scalar.cmpi .ne v2 c9_i32_150
  let v280 : BitVec 32 := Scalar.extui v279
  let c0_i32_151 : BitVec 32 := 0#32
  let v281 : BitVec 1 := Scalar.cmpi .ne v280 c0_i32_151
  v281

def k0_dev10 : Nat :=
  let c0_i32_168 : BitVec 32 := 0#32
  let c9_i32_166 : BitVec 32 := 9#32
  let c1_i32_167 : BitVec 32 := 1#32
  let v300 : BitVec 32 := Scalar.muli c9_i32_166 c1_i32_167
  let v301 : BitVec 32 := Scalar.addi c0_i32_168 v300
  v301.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_152 : BitVec 32 := 10#32
  let v282 : BitVec 1 := Scalar.cmpi .ne v2 c10_i32_152
  let v283 : BitVec 32 := Scalar.extui v282
  let c0_i32_153 : BitVec 32 := 0#32
  let v284 : BitVec 1 := Scalar.cmpi .ne v283 c0_i32_153
  v284

def k0_dev11 : Nat :=
  let c0_i32_168 : BitVec 32 := 0#32
  let c10_i32_166 : BitVec 32 := 10#32
  let c1_i32_167 : BitVec 32 := 1#32
  let v300 : BitVec 32 := Scalar.muli c10_i32_166 c1_i32_167
  let v301 : BitVec 32 := Scalar.addi c0_i32_168 v300
  v301.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_154 : BitVec 32 := 11#32
  let v285 : BitVec 1 := Scalar.cmpi .ne v2 c11_i32_154
  let v286 : BitVec 32 := Scalar.extui v285
  let c0_i32_155 : BitVec 32 := 0#32
  let v287 : BitVec 1 := Scalar.cmpi .ne v286 c0_i32_155
  v287

def k0_dev12 : Nat :=
  let c0_i32_168 : BitVec 32 := 0#32
  let c11_i32_166 : BitVec 32 := 11#32
  let c1_i32_167 : BitVec 32 := 1#32
  let v300 : BitVec 32 := Scalar.muli c11_i32_166 c1_i32_167
  let v301 : BitVec 32 := Scalar.addi c0_i32_168 v300
  v301.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_156 : BitVec 32 := 12#32
  let v288 : BitVec 1 := Scalar.cmpi .ne v2 c12_i32_156
  let v289 : BitVec 32 := Scalar.extui v288
  let c0_i32_157 : BitVec 32 := 0#32
  let v290 : BitVec 1 := Scalar.cmpi .ne v289 c0_i32_157
  v290

def k0_dev13 : Nat :=
  let c0_i32_168 : BitVec 32 := 0#32
  let c12_i32_166 : BitVec 32 := 12#32
  let c1_i32_167 : BitVec 32 := 1#32
  let v300 : BitVec 32 := Scalar.muli c12_i32_166 c1_i32_167
  let v301 : BitVec 32 := Scalar.addi c0_i32_168 v300
  v301.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_158 : BitVec 32 := 13#32
  let v291 : BitVec 1 := Scalar.cmpi .ne v2 c13_i32_158
  let v292 : BitVec 32 := Scalar.extui v291
  let c0_i32_159 : BitVec 32 := 0#32
  let v293 : BitVec 1 := Scalar.cmpi .ne v292 c0_i32_159
  v293

def k0_dev14 : Nat :=
  let c0_i32_168 : BitVec 32 := 0#32
  let c13_i32_166 : BitVec 32 := 13#32
  let c1_i32_167 : BitVec 32 := 1#32
  let v300 : BitVec 32 := Scalar.muli c13_i32_166 c1_i32_167
  let v301 : BitVec 32 := Scalar.addi c0_i32_168 v300
  v301.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_160 : BitVec 32 := 14#32
  let v294 : BitVec 1 := Scalar.cmpi .ne v2 c14_i32_160
  let v295 : BitVec 32 := Scalar.extui v294
  let c0_i32_161 : BitVec 32 := 0#32
  let v296 : BitVec 1 := Scalar.cmpi .ne v295 c0_i32_161
  v296

def k0_dev15 : Nat :=
  let c0_i32_168 : BitVec 32 := 0#32
  let c14_i32_166 : BitVec 32 := 14#32
  let c1_i32_167 : BitVec 32 := 1#32
  let v300 : BitVec 32 := Scalar.muli c14_i32_166 c1_i32_167
  let v301 : BitVec 32 := Scalar.addi c0_i32_168 v300
  v301.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_162 : BitVec 32 := 15#32
  let v297 : BitVec 1 := Scalar.cmpi .ne v2 c15_i32_162
  let v298 : BitVec 32 := Scalar.extui v297
  let c0_i32_163 : BitVec 32 := 0#32
  let v299 : BitVec 1 := Scalar.cmpi .ne v298 c0_i32_163
  v299

def k0_dev16 : Nat :=
  let c0_i32_168 : BitVec 32 := 0#32
  let c15_i32_166 : BitVec 32 := 15#32
  let c1_i32_167 : BitVec 32 := 1#32
  let v300 : BitVec 32 := Scalar.muli c15_i32_166 c1_i32_167
  let v301 : BitVec 32 := Scalar.addi c0_i32_168 v300
  v301.toNat
def k0_off1 (i : grid0.Coords) : Fin 3 → Nat :=
  let arg0 : BitVec 32 := BitVec.ofNat 32 (i 0).val
  let v182 : Index := Scalar.indexCast arg0
  let c0_102 : Index := 0#32
  let c0_103 : Index := 0#32
  ![v182.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_108 : BitVec 32 := 0#32
  let v194 : BitVec 1 := Scalar.cmpi .ne v2 c0_i32_108
  let v195 : BitVec 32 := Scalar.extui v194
  let c0_i32_109 : BitVec 32 := 0#32
  let v196 : BitVec 1 := Scalar.cmpi .ne v195 c0_i32_109
  v196

def k0_off2 (i : grid0.Coords) : Fin 2 → Nat :=
  let arg0 : BitVec 32 := BitVec.ofNat 32 (i 0).val
  let c0_i32_132 : BitVec 32 := 0#32
  ![arg0.toNat, 0]
def k0_off3 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off4 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off5 (i : grid0.Coords) : Fin 3 → Nat :=
  let arg0 : BitVec 32 := BitVec.ofNat 32 (i 0).val
  let c0_i32_138 : BitVec 32 := 0#32
  let c0_i32_139 : BitVec 32 := 0#32
  ![arg0.toNat, 0, 0]
def k0_dev17 : Nat :=
  let c0_i32_135 : BitVec 32 := 0#32
  let c0_i32_133 : BitVec 32 := 0#32
  let c1_i32_134 : BitVec 32 := 1#32
  let v251 : BitVec 32 := Scalar.muli c0_i32_133 c1_i32_134
  let v252 : BitVec 32 := Scalar.addi c0_i32_135 v251
  v252.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_110 : BitVec 32 := 1#32
  let v197 : BitVec 1 := Scalar.cmpi .ne v2 c1_i32_110
  let v198 : BitVec 32 := Scalar.extui v197
  let c0_i32_111 : BitVec 32 := 0#32
  let v199 : BitVec 1 := Scalar.cmpi .ne v198 c0_i32_111
  v199

def k0_off6 (i : grid0.Coords) : Fin 2 → Nat :=
  let arg0 : BitVec 32 := BitVec.ofNat 32 (i 0).val
  let c1_i32_132 : BitVec 32 := 1#32
  ![arg0.toNat, 1]
def k0_off7 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off8 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off9 (i : grid0.Coords) : Fin 3 → Nat :=
  let arg0 : BitVec 32 := BitVec.ofNat 32 (i 0).val
  let c16_i32_138 : BitVec 32 := 16#32
  let c0_i32_139 : BitVec 32 := 0#32
  ![arg0.toNat, 16, 0]
def k0_dev18 : Nat :=
  let c0_i32_135 : BitVec 32 := 0#32
  let c1_i32_133 : BitVec 32 := 1#32
  let c1_i32_134 : BitVec 32 := 1#32
  let v251 : BitVec 32 := Scalar.muli c1_i32_133 c1_i32_134
  let v252 : BitVec 32 := Scalar.addi c0_i32_135 v251
  v252.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v200 : BitVec 1 := Scalar.cmpi .ne v2 c2_i32
  let v201 : BitVec 32 := Scalar.extui v200
  let c0_i32_112 : BitVec 32 := 0#32
  let v202 : BitVec 1 := Scalar.cmpi .ne v201 c0_i32_112
  v202

def k0_off10 (i : grid0.Coords) : Fin 2 → Nat :=
  let arg0 : BitVec 32 := BitVec.ofNat 32 (i 0).val
  let c2_i32_132 : BitVec 32 := 2#32
  ![arg0.toNat, 2]
def k0_off11 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off12 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off13 (i : grid0.Coords) : Fin 3 → Nat :=
  let arg0 : BitVec 32 := BitVec.ofNat 32 (i 0).val
  let c32_i32 : BitVec 32 := 32#32
  let c0_i32_138 : BitVec 32 := 0#32
  ![arg0.toNat, 32, 0]
def k0_dev19 : Nat :=
  let c0_i32_135 : BitVec 32 := 0#32
  let c2_i32_133 : BitVec 32 := 2#32
  let c1_i32_134 : BitVec 32 := 1#32
  let v251 : BitVec 32 := Scalar.muli c2_i32_133 c1_i32_134
  let v252 : BitVec 32 := Scalar.addi c0_i32_135 v251
  v252.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v203 : BitVec 1 := Scalar.cmpi .ne v2 c3_i32
  let v204 : BitVec 32 := Scalar.extui v203
  let c0_i32_113 : BitVec 32 := 0#32
  let v205 : BitVec 1 := Scalar.cmpi .ne v204 c0_i32_113
  v205

def k0_off14 (i : grid0.Coords) : Fin 2 → Nat :=
  let arg0 : BitVec 32 := BitVec.ofNat 32 (i 0).val
  let c3_i32_132 : BitVec 32 := 3#32
  ![arg0.toNat, 3]
def k0_off15 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off16 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off17 (i : grid0.Coords) : Fin 3 → Nat :=
  let arg0 : BitVec 32 := BitVec.ofNat 32 (i 0).val
  let c48_i32 : BitVec 32 := 48#32
  let c0_i32_138 : BitVec 32 := 0#32
  ![arg0.toNat, 48, 0]
def k0_dev20 : Nat :=
  let c0_i32_135 : BitVec 32 := 0#32
  let c3_i32_133 : BitVec 32 := 3#32
  let c1_i32_134 : BitVec 32 := 1#32
  let v251 : BitVec 32 := Scalar.muli c3_i32_133 c1_i32_134
  let v252 : BitVec 32 := Scalar.addi c0_i32_135 v251
  v252.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v206 : BitVec 1 := Scalar.cmpi .ne v2 c4_i32
  let v207 : BitVec 32 := Scalar.extui v206
  let c0_i32_114 : BitVec 32 := 0#32
  let v208 : BitVec 1 := Scalar.cmpi .ne v207 c0_i32_114
  v208

def k0_off18 (i : grid0.Coords) : Fin 2 → Nat :=
  let arg0 : BitVec 32 := BitVec.ofNat 32 (i 0).val
  let c4_i32_132 : BitVec 32 := 4#32
  ![arg0.toNat, 4]
def k0_off19 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off20 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off21 (i : grid0.Coords) : Fin 3 → Nat :=
  let arg0 : BitVec 32 := BitVec.ofNat 32 (i 0).val
  let c64_i32 : BitVec 32 := 64#32
  let c0_i32_138 : BitVec 32 := 0#32
  ![arg0.toNat, 64, 0]
def k0_dev21 : Nat :=
  let c0_i32_135 : BitVec 32 := 0#32
  let c4_i32_133 : BitVec 32 := 4#32
  let c1_i32_134 : BitVec 32 := 1#32
  let v251 : BitVec 32 := Scalar.muli c4_i32_133 c1_i32_134
  let v252 : BitVec 32 := Scalar.addi c0_i32_135 v251
  v252.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v209 : BitVec 1 := Scalar.cmpi .ne v2 c5_i32
  let v210 : BitVec 32 := Scalar.extui v209
  let c0_i32_115 : BitVec 32 := 0#32
  let v211 : BitVec 1 := Scalar.cmpi .ne v210 c0_i32_115
  v211

def k0_off22 (i : grid0.Coords) : Fin 2 → Nat :=
  let arg0 : BitVec 32 := BitVec.ofNat 32 (i 0).val
  let c5_i32_132 : BitVec 32 := 5#32
  ![arg0.toNat, 5]
def k0_off23 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off24 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off25 (i : grid0.Coords) : Fin 3 → Nat :=
  let arg0 : BitVec 32 := BitVec.ofNat 32 (i 0).val
  let c80_i32 : BitVec 32 := 80#32
  let c0_i32_138 : BitVec 32 := 0#32
  ![arg0.toNat, 80, 0]
def k0_dev22 : Nat :=
  let c0_i32_135 : BitVec 32 := 0#32
  let c5_i32_133 : BitVec 32 := 5#32
  let c1_i32_134 : BitVec 32 := 1#32
  let v251 : BitVec 32 := Scalar.muli c5_i32_133 c1_i32_134
  let v252 : BitVec 32 := Scalar.addi c0_i32_135 v251
  v252.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v212 : BitVec 1 := Scalar.cmpi .ne v2 c6_i32
  let v213 : BitVec 32 := Scalar.extui v212
  let c0_i32_116 : BitVec 32 := 0#32
  let v214 : BitVec 1 := Scalar.cmpi .ne v213 c0_i32_116
  v214

def k0_off26 (i : grid0.Coords) : Fin 2 → Nat :=
  let arg0 : BitVec 32 := BitVec.ofNat 32 (i 0).val
  let c6_i32_132 : BitVec 32 := 6#32
  ![arg0.toNat, 6]
def k0_off27 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off28 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off29 (i : grid0.Coords) : Fin 3 → Nat :=
  let arg0 : BitVec 32 := BitVec.ofNat 32 (i 0).val
  let c96_i32 : BitVec 32 := 96#32
  let c0_i32_138 : BitVec 32 := 0#32
  ![arg0.toNat, 96, 0]
def k0_dev23 : Nat :=
  let c0_i32_135 : BitVec 32 := 0#32
  let c6_i32_133 : BitVec 32 := 6#32
  let c1_i32_134 : BitVec 32 := 1#32
  let v251 : BitVec 32 := Scalar.muli c6_i32_133 c1_i32_134
  let v252 : BitVec 32 := Scalar.addi c0_i32_135 v251
  v252.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v215 : BitVec 1 := Scalar.cmpi .ne v2 c7_i32
  let v216 : BitVec 32 := Scalar.extui v215
  let c0_i32_117 : BitVec 32 := 0#32
  let v217 : BitVec 1 := Scalar.cmpi .ne v216 c0_i32_117
  v217

def k0_off30 (i : grid0.Coords) : Fin 2 → Nat :=
  let arg0 : BitVec 32 := BitVec.ofNat 32 (i 0).val
  let c7_i32_132 : BitVec 32 := 7#32
  ![arg0.toNat, 7]
def k0_off31 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off32 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off33 (i : grid0.Coords) : Fin 3 → Nat :=
  let arg0 : BitVec 32 := BitVec.ofNat 32 (i 0).val
  let c112_i32 : BitVec 32 := 112#32
  let c0_i32_138 : BitVec 32 := 0#32
  ![arg0.toNat, 112, 0]
def k0_dev24 : Nat :=
  let c0_i32_135 : BitVec 32 := 0#32
  let c7_i32_133 : BitVec 32 := 7#32
  let c1_i32_134 : BitVec 32 := 1#32
  let v251 : BitVec 32 := Scalar.muli c7_i32_133 c1_i32_134
  let v252 : BitVec 32 := Scalar.addi c0_i32_135 v251
  v252.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v218 : BitVec 1 := Scalar.cmpi .ne v2 c8_i32
  let v219 : BitVec 32 := Scalar.extui v218
  let c0_i32_118 : BitVec 32 := 0#32
  let v220 : BitVec 1 := Scalar.cmpi .ne v219 c0_i32_118
  v220

def k0_off34 (i : grid0.Coords) : Fin 2 → Nat :=
  let arg0 : BitVec 32 := BitVec.ofNat 32 (i 0).val
  let c8_i32_132 : BitVec 32 := 8#32
  ![arg0.toNat, 8]
def k0_off35 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off36 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off37 (i : grid0.Coords) : Fin 3 → Nat :=
  let arg0 : BitVec 32 := BitVec.ofNat 32 (i 0).val
  let c128_i32 : BitVec 32 := 128#32
  let c0_i32_138 : BitVec 32 := 0#32
  ![arg0.toNat, 128, 0]
def k0_dev25 : Nat :=
  let c0_i32_135 : BitVec 32 := 0#32
  let c8_i32_133 : BitVec 32 := 8#32
  let c1_i32_134 : BitVec 32 := 1#32
  let v251 : BitVec 32 := Scalar.muli c8_i32_133 c1_i32_134
  let v252 : BitVec 32 := Scalar.addi c0_i32_135 v251
  v252.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v221 : BitVec 1 := Scalar.cmpi .ne v2 c9_i32
  let v222 : BitVec 32 := Scalar.extui v221
  let c0_i32_119 : BitVec 32 := 0#32
  let v223 : BitVec 1 := Scalar.cmpi .ne v222 c0_i32_119
  v223

def k0_off38 (i : grid0.Coords) : Fin 2 → Nat :=
  let arg0 : BitVec 32 := BitVec.ofNat 32 (i 0).val
  let c9_i32_132 : BitVec 32 := 9#32
  ![arg0.toNat, 9]
def k0_off39 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off40 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off41 (i : grid0.Coords) : Fin 3 → Nat :=
  let arg0 : BitVec 32 := BitVec.ofNat 32 (i 0).val
  let c144_i32 : BitVec 32 := 144#32
  let c0_i32_138 : BitVec 32 := 0#32
  ![arg0.toNat, 144, 0]
def k0_dev26 : Nat :=
  let c0_i32_135 : BitVec 32 := 0#32
  let c9_i32_133 : BitVec 32 := 9#32
  let c1_i32_134 : BitVec 32 := 1#32
  let v251 : BitVec 32 := Scalar.muli c9_i32_133 c1_i32_134
  let v252 : BitVec 32 := Scalar.addi c0_i32_135 v251
  v252.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v224 : BitVec 1 := Scalar.cmpi .ne v2 c10_i32
  let v225 : BitVec 32 := Scalar.extui v224
  let c0_i32_120 : BitVec 32 := 0#32
  let v226 : BitVec 1 := Scalar.cmpi .ne v225 c0_i32_120
  v226

def k0_off42 (i : grid0.Coords) : Fin 2 → Nat :=
  let arg0 : BitVec 32 := BitVec.ofNat 32 (i 0).val
  let c10_i32_132 : BitVec 32 := 10#32
  ![arg0.toNat, 10]
def k0_off43 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off44 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off45 (i : grid0.Coords) : Fin 3 → Nat :=
  let arg0 : BitVec 32 := BitVec.ofNat 32 (i 0).val
  let c160_i32 : BitVec 32 := 160#32
  let c0_i32_138 : BitVec 32 := 0#32
  ![arg0.toNat, 160, 0]
def k0_dev27 : Nat :=
  let c0_i32_135 : BitVec 32 := 0#32
  let c10_i32_133 : BitVec 32 := 10#32
  let c1_i32_134 : BitVec 32 := 1#32
  let v251 : BitVec 32 := Scalar.muli c10_i32_133 c1_i32_134
  let v252 : BitVec 32 := Scalar.addi c0_i32_135 v251
  v252.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v227 : BitVec 1 := Scalar.cmpi .ne v2 c11_i32
  let v228 : BitVec 32 := Scalar.extui v227
  let c0_i32_121 : BitVec 32 := 0#32
  let v229 : BitVec 1 := Scalar.cmpi .ne v228 c0_i32_121
  v229

def k0_off46 (i : grid0.Coords) : Fin 2 → Nat :=
  let arg0 : BitVec 32 := BitVec.ofNat 32 (i 0).val
  let c11_i32_132 : BitVec 32 := 11#32
  ![arg0.toNat, 11]
def k0_off47 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off48 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off49 (i : grid0.Coords) : Fin 3 → Nat :=
  let arg0 : BitVec 32 := BitVec.ofNat 32 (i 0).val
  let c176_i32 : BitVec 32 := 176#32
  let c0_i32_138 : BitVec 32 := 0#32
  ![arg0.toNat, 176, 0]
def k0_dev28 : Nat :=
  let c0_i32_135 : BitVec 32 := 0#32
  let c11_i32_133 : BitVec 32 := 11#32
  let c1_i32_134 : BitVec 32 := 1#32
  let v251 : BitVec 32 := Scalar.muli c11_i32_133 c1_i32_134
  let v252 : BitVec 32 := Scalar.addi c0_i32_135 v251
  v252.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v230 : BitVec 1 := Scalar.cmpi .ne v2 c12_i32
  let v231 : BitVec 32 := Scalar.extui v230
  let c0_i32_122 : BitVec 32 := 0#32
  let v232 : BitVec 1 := Scalar.cmpi .ne v231 c0_i32_122
  v232

def k0_off50 (i : grid0.Coords) : Fin 2 → Nat :=
  let arg0 : BitVec 32 := BitVec.ofNat 32 (i 0).val
  let c12_i32_132 : BitVec 32 := 12#32
  ![arg0.toNat, 12]
def k0_off51 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off52 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off53 (i : grid0.Coords) : Fin 3 → Nat :=
  let arg0 : BitVec 32 := BitVec.ofNat 32 (i 0).val
  let c192_i32 : BitVec 32 := 192#32
  let c0_i32_138 : BitVec 32 := 0#32
  ![arg0.toNat, 192, 0]
def k0_dev29 : Nat :=
  let c0_i32_135 : BitVec 32 := 0#32
  let c12_i32_133 : BitVec 32 := 12#32
  let c1_i32_134 : BitVec 32 := 1#32
  let v251 : BitVec 32 := Scalar.muli c12_i32_133 c1_i32_134
  let v252 : BitVec 32 := Scalar.addi c0_i32_135 v251
  v252.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v233 : BitVec 1 := Scalar.cmpi .ne v2 c13_i32
  let v234 : BitVec 32 := Scalar.extui v233
  let c0_i32_123 : BitVec 32 := 0#32
  let v235 : BitVec 1 := Scalar.cmpi .ne v234 c0_i32_123
  v235

def k0_off54 (i : grid0.Coords) : Fin 2 → Nat :=
  let arg0 : BitVec 32 := BitVec.ofNat 32 (i 0).val
  let c13_i32_132 : BitVec 32 := 13#32
  ![arg0.toNat, 13]
def k0_off55 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off56 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off57 (i : grid0.Coords) : Fin 3 → Nat :=
  let arg0 : BitVec 32 := BitVec.ofNat 32 (i 0).val
  let c208_i32 : BitVec 32 := 208#32
  let c0_i32_138 : BitVec 32 := 0#32
  ![arg0.toNat, 208, 0]
def k0_dev30 : Nat :=
  let c0_i32_135 : BitVec 32 := 0#32
  let c13_i32_133 : BitVec 32 := 13#32
  let c1_i32_134 : BitVec 32 := 1#32
  let v251 : BitVec 32 := Scalar.muli c13_i32_133 c1_i32_134
  let v252 : BitVec 32 := Scalar.addi c0_i32_135 v251
  v252.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v236 : BitVec 1 := Scalar.cmpi .ne v2 c14_i32
  let v237 : BitVec 32 := Scalar.extui v236
  let c0_i32_124 : BitVec 32 := 0#32
  let v238 : BitVec 1 := Scalar.cmpi .ne v237 c0_i32_124
  v238

def k0_off58 (i : grid0.Coords) : Fin 2 → Nat :=
  let arg0 : BitVec 32 := BitVec.ofNat 32 (i 0).val
  let c14_i32_132 : BitVec 32 := 14#32
  ![arg0.toNat, 14]
def k0_off59 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off60 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off61 (i : grid0.Coords) : Fin 3 → Nat :=
  let arg0 : BitVec 32 := BitVec.ofNat 32 (i 0).val
  let c224_i32 : BitVec 32 := 224#32
  let c0_i32_138 : BitVec 32 := 0#32
  ![arg0.toNat, 224, 0]
def k0_dev31 : Nat :=
  let c0_i32_135 : BitVec 32 := 0#32
  let c14_i32_133 : BitVec 32 := 14#32
  let c1_i32_134 : BitVec 32 := 1#32
  let v251 : BitVec 32 := Scalar.muli c14_i32_133 c1_i32_134
  let v252 : BitVec 32 := Scalar.addi c0_i32_135 v251
  v252.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v239 : BitVec 1 := Scalar.cmpi .ne v2 c15_i32
  let v240 : BitVec 32 := Scalar.extui v239
  let c0_i32_125 : BitVec 32 := 0#32
  let v241 : BitVec 1 := Scalar.cmpi .ne v240 c0_i32_125
  v241

def k0_off62 (i : grid0.Coords) : Fin 2 → Nat :=
  let arg0 : BitVec 32 := BitVec.ofNat 32 (i 0).val
  let c15_i32_132 : BitVec 32 := 15#32
  ![arg0.toNat, 15]
def k0_off63 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![arg0.toNat, v2.toNat]
def k0_off64 (i : grid0.Coords) (d0 : Dev nD) : Fin 4 → Nat :=
  let arg0 : BitVec 32 := BitVec.ofNat 32 (i 0).val
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![arg0.toNat, v2.toNat, 0, 0]
def k0_off65 (i : grid0.Coords) : Fin 3 → Nat :=
  let arg0 : BitVec 32 := BitVec.ofNat 32 (i 0).val
  let c240_i32 : BitVec 32 := 240#32
  let c0_i32_138 : BitVec 32 := 0#32
  ![arg0.toNat, 240, 0]
def k0_dev32 : Nat :=
  let c0_i32_135 : BitVec 32 := 0#32
  let c15_i32_133 : BitVec 32 := 15#32
  let c1_i32_134 : BitVec 32 := 1#32
  let v251 : BitVec 32 := Scalar.muli c15_i32_133 c1_i32_134
  let v252 : BitVec 32 := Scalar.addi c0_i32_135 v251
  v252.toNat
def k0_cond34 (i : grid0.Coords) : BitVec 1 :=
  let arg0 : BitVec 32 := BitVec.ofNat 32 (i 0).val
  let c1_i32_126 : BitVec 32 := 1#32
  let v242 : BitVec 1 := Scalar.cmpi .sgt arg0 c1_i32_126
  let v243 : BitVec 32 := Scalar.extui v242
  let c0_i32_127 : BitVec 32 := 0#32
  let v244 : BitVec 1 := Scalar.cmpi .ne v243 c0_i32_127
  v244

def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_133 : BitVec 32 := 0#32
  let v252 : BitVec 1 := Scalar.cmpi .ne v2 c0_i32_133
  let v253 : BitVec 32 := Scalar.extui v252
  let c0_i32_134 : BitVec 32 := 0#32
  let v254 : BitVec 1 := Scalar.cmpi .ne v253 c0_i32_134
  v254

def k0_off66 (i : grid0.Coords) : Fin 2 → Nat :=
  let arg0 : BitVec 32 := BitVec.ofNat 32 (i 0).val
  let c2_i32_132 : BitVec 32 := 2#32
  let v251 : BitVec 32 := Scalar.subi arg0 c2_i32_132
  let c0_i32_166 : BitVec 32 := 0#32
  ![v251.toNat, 0]
def k0_off67 (i : grid0.Coords) : Fin 4 → Nat :=
  let arg0 : BitVec 32 := BitVec.ofNat 32 (i 0).val
  let c2_i32_132 : BitVec 32 := 2#32
  let v251 : BitVec 32 := Scalar.subi arg0 c2_i32_132
  let c0_i32_165 : BitVec 32 := 0#32
  let c0_i32_171 : BitVec 32 := 0#32
  let c0_i32_172 : BitVec 32 := 0#32
  ![v251.toNat, 0, 0, 0]
def k0_off68 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off69 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c0_175 : Index := 0#32
  let c0_176 : Index := 0#32
  let c0_177 : Index := 0#32
  ![v308.toNat, 0, 0, 0]
def k0_off70 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c0_178 : Index := 0#32
  let c0_179 : Index := 0#32
  ![v312.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  let v255 : BitVec 1 := Scalar.cmpi .ne v2 c1_i32_135
  let v256 : BitVec 32 := Scalar.extui v255
  let c0_i32_136 : BitVec 32 := 0#32
  let v257 : BitVec 1 := Scalar.cmpi .ne v256 c0_i32_136
  v257

def k0_off71 (i : grid0.Coords) : Fin 2 → Nat :=
  let arg0 : BitVec 32 := BitVec.ofNat 32 (i 0).val
  let c2_i32_132 : BitVec 32 := 2#32
  let v251 : BitVec 32 := Scalar.subi arg0 c2_i32_132
  let c1_i32_166 : BitVec 32 := 1#32
  ![v251.toNat, 1]
def k0_off72 (i : grid0.Coords) : Fin 4 → Nat :=
  let arg0 : BitVec 32 := BitVec.ofNat 32 (i 0).val
  let c2_i32_132 : BitVec 32 := 2#32
  let v251 : BitVec 32 := Scalar.subi arg0 c2_i32_132
  let c1_i32_165 : BitVec 32 := 1#32
  let c0_i32_171 : BitVec 32 := 0#32
  let c0_i32_172 : BitVec 32 := 0#32
  ![v251.toNat, 1, 0, 0]
def k0_off73 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off74 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c1_175 : Index := 1#32
  let c0_176 : Index := 0#32
  let c0_177 : Index := 0#32
  ![v308.toNat, 1, 0, 0]
def k0_off75 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c16 : Index := 16#32
  let c0_178 : Index := 0#32
  ![v312.toNat, 16, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_137 : BitVec 32 := 2#32
  let v258 : BitVec 1 := Scalar.cmpi .ne v2 c2_i32_137
  let v259 : BitVec 32 := Scalar.extui v258
  let c0_i32_138 : BitVec 32 := 0#32
  let v260 : BitVec 1 := Scalar.cmpi .ne v259 c0_i32_138
  v260

def k0_off76 (i : grid0.Coords) : Fin 2 → Nat :=
  let arg0 : BitVec 32 := BitVec.ofNat 32 (i 0).val
  let c2_i32_132 : BitVec 32 := 2#32
  let v251 : BitVec 32 := Scalar.subi arg0 c2_i32_132
  let c2_i32_166 : BitVec 32 := 2#32
  ![v251.toNat, 2]
def k0_off77 (i : grid0.Coords) : Fin 4 → Nat :=
  let arg0 : BitVec 32 := BitVec.ofNat 32 (i 0).val
  let c2_i32_132 : BitVec 32 := 2#32
  let v251 : BitVec 32 := Scalar.subi arg0 c2_i32_132
  let c2_i32_165 : BitVec 32 := 2#32
  let c0_i32_171 : BitVec 32 := 0#32
  let c0_i32_172 : BitVec 32 := 0#32
  ![v251.toNat, 2, 0, 0]
def k0_off78 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off79 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c2_175 : Index := 2#32
  let c0_176 : Index := 0#32
  let c0_177 : Index := 0#32
  ![v308.toNat, 2, 0, 0]
def k0_off80 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c32 : Index := 32#32
  let c0_178 : Index := 0#32
  ![v312.toNat, 32, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_139 : BitVec 32 := 3#32
  let v261 : BitVec 1 := Scalar.cmpi .ne v2 c3_i32_139
  let v262 : BitVec 32 := Scalar.extui v261
  let c0_i32_140 : BitVec 32 := 0#32
  let v263 : BitVec 1 := Scalar.cmpi .ne v262 c0_i32_140
  v263

def k0_off81 (i : grid0.Coords) : Fin 2 → Nat :=
  let arg0 : BitVec 32 := BitVec.ofNat 32 (i 0).val
  let c2_i32_132 : BitVec 32 := 2#32
  let v251 : BitVec 32 := Scalar.subi arg0 c2_i32_132
  let c3_i32_166 : BitVec 32 := 3#32
  ![v251.toNat, 3]
def k0_off82 (i : grid0.Coords) : Fin 4 → Nat :=
  let arg0 : BitVec 32 := BitVec.ofNat 32 (i 0).val
  let c2_i32_132 : BitVec 32 := 2#32
  let v251 : BitVec 32 := Scalar.subi arg0 c2_i32_132
  let c3_i32_165 : BitVec 32 := 3#32
  let c0_i32_171 : BitVec 32 := 0#32
  let c0_i32_172 : BitVec 32 := 0#32
  ![v251.toNat, 3, 0, 0]
def k0_off83 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off84 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c3_175 : Index := 3#32
  let c0_176 : Index := 0#32
  let c0_177 : Index := 0#32
  ![v308.toNat, 3, 0, 0]
def k0_off85 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c48 : Index := 48#32
  let c0_178 : Index := 0#32
  ![v312.toNat, 48, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_141 : BitVec 32 := 4#32
  let v264 : BitVec 1 := Scalar.cmpi .ne v2 c4_i32_141
  let v265 : BitVec 32 := Scalar.extui v264
  let c0_i32_142 : BitVec 32 := 0#32
  let v266 : BitVec 1 := Scalar.cmpi .ne v265 c0_i32_142
  v266

def k0_off86 (i : grid0.Coords) : Fin 2 → Nat :=
  let arg0 : BitVec 32 := BitVec.ofNat 32 (i 0).val
  let c2_i32_132 : BitVec 32 := 2#32
  let v251 : BitVec 32 := Scalar.subi arg0 c2_i32_132
  let c4_i32_166 : BitVec 32 := 4#32
  ![v251.toNat, 4]
def k0_off87 (i : grid0.Coords) : Fin 4 → Nat :=
  let arg0 : BitVec 32 := BitVec.ofNat 32 (i 0).val
  let c2_i32_132 : BitVec 32 := 2#32
  let v251 : BitVec 32 := Scalar.subi arg0 c2_i32_132
  let c4_i32_165 : BitVec 32 := 4#32
  let c0_i32_171 : BitVec 32 := 0#32
  let c0_i32_172 : BitVec 32 := 0#32
  ![v251.toNat, 4, 0, 0]
def k0_off88 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off89 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c4_175 : Index := 4#32
  let c0_176 : Index := 0#32
  let c0_177 : Index := 0#32
  ![v308.toNat, 4, 0, 0]
def k0_off90 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c64 : Index := 64#32
  let c0_178 : Index := 0#32
  ![v312.toNat, 64, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_143 : BitVec 32 := 5#32
  let v267 : BitVec 1 := Scalar.cmpi .ne v2 c5_i32_143
  let v268 : BitVec 32 := Scalar.extui v267
  let c0_i32_144 : BitVec 32 := 0#32
  let v269 : BitVec 1 := Scalar.cmpi .ne v268 c0_i32_144
  v269

def k0_off91 (i : grid0.Coords) : Fin 2 → Nat :=
  let arg0 : BitVec 32 := BitVec.ofNat 32 (i 0).val
  let c2_i32_132 : BitVec 32 := 2#32
  let v251 : BitVec 32 := Scalar.subi arg0 c2_i32_132
  let c5_i32_166 : BitVec 32 := 5#32
  ![v251.toNat, 5]
def k0_off92 (i : grid0.Coords) : Fin 4 → Nat :=
  let arg0 : BitVec 32 := BitVec.ofNat 32 (i 0).val
  let c2_i32_132 : BitVec 32 := 2#32
  let v251 : BitVec 32 := Scalar.subi arg0 c2_i32_132
  let c5_i32_165 : BitVec 32 := 5#32
  let c0_i32_171 : BitVec 32 := 0#32
  let c0_i32_172 : BitVec 32 := 0#32
  ![v251.toNat, 5, 0, 0]
def k0_off93 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off94 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c5_175 : Index := 5#32
  let c0_176 : Index := 0#32
  let c0_177 : Index := 0#32
  ![v308.toNat, 5, 0, 0]
def k0_off95 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c80 : Index := 80#32
  let c0_178 : Index := 0#32
  ![v312.toNat, 80, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_145 : BitVec 32 := 6#32
  let v270 : BitVec 1 := Scalar.cmpi .ne v2 c6_i32_145
  let v271 : BitVec 32 := Scalar.extui v270
  let c0_i32_146 : BitVec 32 := 0#32
  let v272 : BitVec 1 := Scalar.cmpi .ne v271 c0_i32_146
  v272

def k0_off96 (i : grid0.Coords) : Fin 2 → Nat :=
  let arg0 : BitVec 32 := BitVec.ofNat 32 (i 0).val
  let c2_i32_132 : BitVec 32 := 2#32
  let v251 : BitVec 32 := Scalar.subi arg0 c2_i32_132
  let c6_i32_166 : BitVec 32 := 6#32
  ![v251.toNat, 6]
def k0_off97 (i : grid0.Coords) : Fin 4 → Nat :=
  let arg0 : BitVec 32 := BitVec.ofNat 32 (i 0).val
  let c2_i32_132 : BitVec 32 := 2#32
  let v251 : BitVec 32 := Scalar.subi arg0 c2_i32_132
  let c6_i32_165 : BitVec 32 := 6#32
  let c0_i32_171 : BitVec 32 := 0#32
  let c0_i32_172 : BitVec 32 := 0#32
  ![v251.toNat, 6, 0, 0]
def k0_off98 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off99 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c6_175 : Index := 6#32
  let c0_176 : Index := 0#32
  let c0_177 : Index := 0#32
  ![v308.toNat, 6, 0, 0]
def k0_off100 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c96 : Index := 96#32
  let c0_178 : Index := 0#32
  ![v312.toNat, 96, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_147 : BitVec 32 := 7#32
  let v273 : BitVec 1 := Scalar.cmpi .ne v2 c7_i32_147
  let v274 : BitVec 32 := Scalar.extui v273
  let c0_i32_148 : BitVec 32 := 0#32
  let v275 : BitVec 1 := Scalar.cmpi .ne v274 c0_i32_148
  v275

def k0_off101 (i : grid0.Coords) : Fin 2 → Nat :=
  let arg0 : BitVec 32 := BitVec.ofNat 32 (i 0).val
  let c2_i32_132 : BitVec 32 := 2#32
  let v251 : BitVec 32 := Scalar.subi arg0 c2_i32_132
  let c7_i32_166 : BitVec 32 := 7#32
  ![v251.toNat, 7]
def k0_off102 (i : grid0.Coords) : Fin 4 → Nat :=
  let arg0 : BitVec 32 := BitVec.ofNat 32 (i 0).val
  let c2_i32_132 : BitVec 32 := 2#32
  let v251 : BitVec 32 := Scalar.subi arg0 c2_i32_132
  let c7_i32_165 : BitVec 32 := 7#32
  let c0_i32_171 : BitVec 32 := 0#32
  let c0_i32_172 : BitVec 32 := 0#32
  ![v251.toNat, 7, 0, 0]
def k0_off103 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off104 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c7_175 : Index := 7#32
  let c0_176 : Index := 0#32
  let c0_177 : Index := 0#32
  ![v308.toNat, 7, 0, 0]
def k0_off105 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c112 : Index := 112#32
  let c0_178 : Index := 0#32
  ![v312.toNat, 112, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v276 : BitVec 1 := Scalar.cmpi .ne v2 c8_i32_149
  let v277 : BitVec 32 := Scalar.extui v276
  let c0_i32_150 : BitVec 32 := 0#32
  let v278 : BitVec 1 := Scalar.cmpi .ne v277 c0_i32_150
  v278

def k0_off106 (i : grid0.Coords) : Fin 2 → Nat :=
  let arg0 : BitVec 32 := BitVec.ofNat 32 (i 0).val
  let c2_i32_132 : BitVec 32 := 2#32
  let v251 : BitVec 32 := Scalar.subi arg0 c2_i32_132
  let c8_i32_166 : BitVec 32 := 8#32
  ![v251.toNat, 8]
def k0_off107 (i : grid0.Coords) : Fin 4 → Nat :=
  let arg0 : BitVec 32 := BitVec.ofNat 32 (i 0).val
  let c2_i32_132 : BitVec 32 := 2#32
  let v251 : BitVec 32 := Scalar.subi arg0 c2_i32_132
  let c8_i32_165 : BitVec 32 := 8#32
  let c0_i32_171 : BitVec 32 := 0#32
  let c0_i32_172 : BitVec 32 := 0#32
  ![v251.toNat, 8, 0, 0]
def k0_off108 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off109 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c8 : Index := 8#32
  let c0_175 : Index := 0#32
  let c0_176 : Index := 0#32
  ![v308.toNat, 8, 0, 0]
def k0_off110 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c128_177 : Index := 128#32
  let c0_178 : Index := 0#32
  ![v312.toNat, 128, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_151 : BitVec 32 := 9#32
  let v279 : BitVec 1 := Scalar.cmpi .ne v2 c9_i32_151
  let v280 : BitVec 32 := Scalar.extui v279
  let c0_i32_152 : BitVec 32 := 0#32
  let v281 : BitVec 1 := Scalar.cmpi .ne v280 c0_i32_152
  v281

def k0_off111 (i : grid0.Coords) : Fin 2 → Nat :=
  let arg0 : BitVec 32 := BitVec.ofNat 32 (i 0).val
  let c2_i32_132 : BitVec 32 := 2#32
  let v251 : BitVec 32 := Scalar.subi arg0 c2_i32_132
  let c9_i32_166 : BitVec 32 := 9#32
  ![v251.toNat, 9]
def k0_off112 (i : grid0.Coords) : Fin 4 → Nat :=
  let arg0 : BitVec 32 := BitVec.ofNat 32 (i 0).val
  let c2_i32_132 : BitVec 32 := 2#32
  let v251 : BitVec 32 := Scalar.subi arg0 c2_i32_132
  let c9_i32_165 : BitVec 32 := 9#32
  let c0_i32_171 : BitVec 32 := 0#32
  let c0_i32_172 : BitVec 32 := 0#32
  ![v251.toNat, 9, 0, 0]
def k0_off113 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off114 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c9 : Index := 9#32
  let c0_175 : Index := 0#32
  let c0_176 : Index := 0#32
  ![v308.toNat, 9, 0, 0]
def k0_off115 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c144 : Index := 144#32
  let c0_177 : Index := 0#32
  ![v312.toNat, 144, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_153 : BitVec 32 := 10#32
  let v282 : BitVec 1 := Scalar.cmpi .ne v2 c10_i32_153
  let v283 : BitVec 32 := Scalar.extui v282
  let c0_i32_154 : BitVec 32 := 0#32
  let v284 : BitVec 1 := Scalar.cmpi .ne v283 c0_i32_154
  v284

def k0_off116 (i : grid0.Coords) : Fin 2 → Nat :=
  let arg0 : BitVec 32 := BitVec.ofNat 32 (i 0).val
  let c2_i32_132 : BitVec 32 := 2#32
  let v251 : BitVec 32 := Scalar.subi arg0 c2_i32_132
  let c10_i32_166 : BitVec 32 := 10#32
  ![v251.toNat, 10]
def k0_off117 (i : grid0.Coords) : Fin 4 → Nat :=
  let arg0 : BitVec 32 := BitVec.ofNat 32 (i 0).val
  let c2_i32_132 : BitVec 32 := 2#32
  let v251 : BitVec 32 := Scalar.subi arg0 c2_i32_132
  let c10_i32_165 : BitVec 32 := 10#32
  let c0_i32_171 : BitVec 32 := 0#32
  let c0_i32_172 : BitVec 32 := 0#32
  ![v251.toNat, 10, 0, 0]
def k0_off118 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off119 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c10 : Index := 10#32
  let c0_175 : Index := 0#32
  let c0_176 : Index := 0#32
  ![v308.toNat, 10, 0, 0]
def k0_off120 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c160 : Index := 160#32
  let c0_177 : Index := 0#32
  ![v312.toNat, 160, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_155 : BitVec 32 := 11#32
  let v285 : BitVec 1 := Scalar.cmpi .ne v2 c11_i32_155
  let v286 : BitVec 32 := Scalar.extui v285
  let c0_i32_156 : BitVec 32 := 0#32
  let v287 : BitVec 1 := Scalar.cmpi .ne v286 c0_i32_156
  v287

def k0_off121 (i : grid0.Coords) : Fin 2 → Nat :=
  let arg0 : BitVec 32 := BitVec.ofNat 32 (i 0).val
  let c2_i32_132 : BitVec 32 := 2#32
  let v251 : BitVec 32 := Scalar.subi arg0 c2_i32_132
  let c11_i32_166 : BitVec 32 := 11#32
  ![v251.toNat, 11]
def k0_off122 (i : grid0.Coords) : Fin 4 → Nat :=
  let arg0 : BitVec 32 := BitVec.ofNat 32 (i 0).val
  let c2_i32_132 : BitVec 32 := 2#32
  let v251 : BitVec 32 := Scalar.subi arg0 c2_i32_132
  let c11_i32_165 : BitVec 32 := 11#32
  let c0_i32_171 : BitVec 32 := 0#32
  let c0_i32_172 : BitVec 32 := 0#32
  ![v251.toNat, 11, 0, 0]
def k0_off123 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off124 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c11 : Index := 11#32
  let c0_175 : Index := 0#32
  let c0_176 : Index := 0#32
  ![v308.toNat, 11, 0, 0]
def k0_off125 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c176 : Index := 176#32
  let c0_177 : Index := 0#32
  ![v312.toNat, 176, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_157 : BitVec 32 := 12#32
  let v288 : BitVec 1 := Scalar.cmpi .ne v2 c12_i32_157
  let v289 : BitVec 32 := Scalar.extui v288
  let c0_i32_158 : BitVec 32 := 0#32
  let v290 : BitVec 1 := Scalar.cmpi .ne v289 c0_i32_158
  v290

def k0_off126 (i : grid0.Coords) : Fin 2 → Nat :=
  let arg0 : BitVec 32 := BitVec.ofNat 32 (i 0).val
  let c2_i32_132 : BitVec 32 := 2#32
  let v251 : BitVec 32 := Scalar.subi arg0 c2_i32_132
  let c12_i32_166 : BitVec 32 := 12#32
  ![v251.toNat, 12]
def k0_off127 (i : grid0.Coords) : Fin 4 → Nat :=
  let arg0 : BitVec 32 := BitVec.ofNat 32 (i 0).val
  let c2_i32_132 : BitVec 32 := 2#32
  let v251 : BitVec 32 := Scalar.subi arg0 c2_i32_132
  let c12_i32_165 : BitVec 32 := 12#32
  let c0_i32_171 : BitVec 32 := 0#32
  let c0_i32_172 : BitVec 32 := 0#32
  ![v251.toNat, 12, 0, 0]
def k0_off128 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off129 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c12 : Index := 12#32
  let c0_175 : Index := 0#32
  let c0_176 : Index := 0#32
  ![v308.toNat, 12, 0, 0]
def k0_off130 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c192 : Index := 192#32
  let c0_177 : Index := 0#32
  ![v312.toNat, 192, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_159 : BitVec 32 := 13#32
  let v291 : BitVec 1 := Scalar.cmpi .ne v2 c13_i32_159
  let v292 : BitVec 32 := Scalar.extui v291
  let c0_i32_160 : BitVec 32 := 0#32
  let v293 : BitVec 1 := Scalar.cmpi .ne v292 c0_i32_160
  v293

def k0_off131 (i : grid0.Coords) : Fin 2 → Nat :=
  let arg0 : BitVec 32 := BitVec.ofNat 32 (i 0).val
  let c2_i32_132 : BitVec 32 := 2#32
  let v251 : BitVec 32 := Scalar.subi arg0 c2_i32_132
  let c13_i32_166 : BitVec 32 := 13#32
  ![v251.toNat, 13]
def k0_off132 (i : grid0.Coords) : Fin 4 → Nat :=
  let arg0 : BitVec 32 := BitVec.ofNat 32 (i 0).val
  let c2_i32_132 : BitVec 32 := 2#32
  let v251 : BitVec 32 := Scalar.subi arg0 c2_i32_132
  let c13_i32_165 : BitVec 32 := 13#32
  let c0_i32_171 : BitVec 32 := 0#32
  let c0_i32_172 : BitVec 32 := 0#32
  ![v251.toNat, 13, 0, 0]
def k0_off133 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off134 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c13 : Index := 13#32
  let c0_175 : Index := 0#32
  let c0_176 : Index := 0#32
  ![v308.toNat, 13, 0, 0]
def k0_off135 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c208 : Index := 208#32
  let c0_177 : Index := 0#32
  ![v312.toNat, 208, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_161 : BitVec 32 := 14#32
  let v294 : BitVec 1 := Scalar.cmpi .ne v2 c14_i32_161
  let v295 : BitVec 32 := Scalar.extui v294
  let c0_i32_162 : BitVec 32 := 0#32
  let v296 : BitVec 1 := Scalar.cmpi .ne v295 c0_i32_162
  v296

def k0_off136 (i : grid0.Coords) : Fin 2 → Nat :=
  let arg0 : BitVec 32 := BitVec.ofNat 32 (i 0).val
  let c2_i32_132 : BitVec 32 := 2#32
  let v251 : BitVec 32 := Scalar.subi arg0 c2_i32_132
  let c14_i32_166 : BitVec 32 := 14#32
  ![v251.toNat, 14]
def k0_off137 (i : grid0.Coords) : Fin 4 → Nat :=
  let arg0 : BitVec 32 := BitVec.ofNat 32 (i 0).val
  let c2_i32_132 : BitVec 32 := 2#32
  let v251 : BitVec 32 := Scalar.subi arg0 c2_i32_132
  let c14_i32_165 : BitVec 32 := 14#32
  let c0_i32_171 : BitVec 32 := 0#32
  let c0_i32_172 : BitVec 32 := 0#32
  ![v251.toNat, 14, 0, 0]
def k0_off138 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off139 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c14 : Index := 14#32
  let c0_175 : Index := 0#32
  let c0_176 : Index := 0#32
  ![v308.toNat, 14, 0, 0]
def k0_off140 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c224 : Index := 224#32
  let c0_177 : Index := 0#32
  ![v312.toNat, 224, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_163 : BitVec 32 := 15#32
  let v297 : BitVec 1 := Scalar.cmpi .ne v2 c15_i32_163
  let v298 : BitVec 32 := Scalar.extui v297
  let c0_i32_164 : BitVec 32 := 0#32
  let v299 : BitVec 1 := Scalar.cmpi .ne v298 c0_i32_164
  v299

def k0_off141 (i : grid0.Coords) : Fin 2 → Nat :=
  let arg0 : BitVec 32 := BitVec.ofNat 32 (i 0).val
  let c2_i32_132 : BitVec 32 := 2#32
  let v251 : BitVec 32 := Scalar.subi arg0 c2_i32_132
  let c15_i32_166 : BitVec 32 := 15#32
  ![v251.toNat, 15]
def k0_off142 (i : grid0.Coords) : Fin 4 → Nat :=
  let arg0 : BitVec 32 := BitVec.ofNat 32 (i 0).val
  let c2_i32_132 : BitVec 32 := 2#32
  let v251 : BitVec 32 := Scalar.subi arg0 c2_i32_132
  let c15_i32_165 : BitVec 32 := 15#32
  let c0_i32_171 : BitVec 32 := 0#32
  let c0_i32_172 : BitVec 32 := 0#32
  ![v251.toNat, 15, 0, 0]
def k0_off143 (i : grid0.Coords) : Fin 3 → Nat :=
  let arg0 : BitVec 32 := BitVec.ofNat 32 (i 0).val
  let c2_i32_132 : BitVec 32 := 2#32
  let v251 : BitVec 32 := Scalar.subi arg0 c2_i32_132
  let c0_i32_173 : BitVec 32 := 0#32
  let c0_i32_174 : BitVec 32 := 0#32
  ![v251.toNat, 0, 0]
def k0_off144 (i : grid0.Coords) : Fin 4 → Nat :=
  let arg0 : BitVec 32 := BitVec.ofNat 32 (i 0).val
  let c2_i32_132 : BitVec 32 := 2#32
  let v251 : BitVec 32 := Scalar.subi arg0 c2_i32_132
  let v308 : Index := Scalar.indexCast v251
  let c15 : Index := 15#32
  let c0_175 : Index := 0#32
  let c0_176 : Index := 0#32
  ![v308.toNat, 15, 0, 0]
def k0_off145 (i : grid0.Coords) : Fin 3 → Nat :=
  let arg0 : BitVec 32 := BitVec.ofNat 32 (i 0).val
  let c2_i32_132 : BitVec 32 := 2#32
  let v251 : BitVec 32 := Scalar.subi arg0 c2_i32_132
  let v312 : Index := Scalar.indexCast v251
  let c240 : Index := 240#32
  let c0_177 : Index := 0#32
  ![v312.toNat, 240, 0]
def k0_cond51 (i : grid0.Coords) : BitVec 1 :=
  let arg0 : BitVec 32 := BitVec.ofNat 32 (i 0).val
  let c0_i32_128 : BitVec 32 := 0#32
  let v245 : BitVec 1 := Scalar.cmpi .sgt arg0 c0_i32_128
  let v246 : BitVec 32 := Scalar.extui v245
  let c0_i32_129 : BitVec 32 := 0#32
  let v247 : BitVec 1 := Scalar.cmpi .ne v246 c0_i32_129
  v247

def k0_off146 (i : grid0.Coords) (d0 : Dev nD) : Fin 3 → Nat :=
  let arg0 : BitVec 32 := BitVec.ofNat 32 (i 0).val
  let c1_i32_132 : BitVec 32 := 1#32
  let v251 : BitVec 32 := Scalar.subi arg0 c1_i32_132
  let v253 : Index := Scalar.indexCast v251
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_133 : BitVec 32 := 16#32
  let v252 : BitVec 32 := Scalar.muli v2 c16_i32_133
  let v254 : Index := Scalar.indexCast v252
  let c0_134 : Index := 0#32
  ![v253.toNat, v254.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_137 : BitVec 32 := 0#32
  let v260 : BitVec 1 := Scalar.cmpi .ne v2 c0_i32_137
  let v261 : BitVec 32 := Scalar.extui v260
  let c0_i32_138 : BitVec 32 := 0#32
  let v262 : BitVec 1 := Scalar.cmpi .ne v261 c0_i32_138
  v262

def k0_off147 (i : grid0.Coords) : Fin 2 → Nat :=
  let arg0 : BitVec 32 := BitVec.ofNat 32 (i 0).val
  let c1_i32_132 : BitVec 32 := 1#32
  let v251 : BitVec 32 := Scalar.subi arg0 c1_i32_132
  let c0_i32_208 : BitVec 32 := 0#32
  ![v251.toNat, 0]
def k0_off148 (i : grid0.Coords) : Fin 4 → Nat :=
  let arg0 : BitVec 32 := BitVec.ofNat 32 (i 0).val
  let c1_i32_132 : BitVec 32 := 1#32
  let v251 : BitVec 32 := Scalar.subi arg0 c1_i32_132
  let c0_i32_207 : BitVec 32 := 0#32
  let c0_i32_213 : BitVec 32 := 0#32
  let c0_i32_214 : BitVec 32 := 0#32
  ![v251.toNat, 0, 0, 0]
def k0_off149 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_215 : BitVec 32 := 0#32
  let c0_i32_216 : BitVec 32 := 0#32
  ![v251.toNat, 0, 0]
def k0_off150 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c0_228 : Index := 0#32
  let c0_229 : Index := 0#32
  let c0_230 : Index := 0#32
  ![v383.toNat, 0, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v263 : BitVec 1 := Scalar.cmpi .ne v2 c1_i32_139
  let v264 : BitVec 32 := Scalar.extui v263
  let c0_i32_140 : BitVec 32 := 0#32
  let v265 : BitVec 1 := Scalar.cmpi .ne v264 c0_i32_140
  v265

def k0_off151 (i : grid0.Coords) : Fin 2 → Nat :=
  let arg0 : BitVec 32 := BitVec.ofNat 32 (i 0).val
  let c1_i32_132 : BitVec 32 := 1#32
  let v251 : BitVec 32 := Scalar.subi arg0 c1_i32_132
  let c1_i32_208 : BitVec 32 := 1#32
  ![v251.toNat, 1]
def k0_off152 (i : grid0.Coords) : Fin 4 → Nat :=
  let arg0 : BitVec 32 := BitVec.ofNat 32 (i 0).val
  let c1_i32_132 : BitVec 32 := 1#32
  let v251 : BitVec 32 := Scalar.subi arg0 c1_i32_132
  let c1_i32_207 : BitVec 32 := 1#32
  let c0_i32_213 : BitVec 32 := 0#32
  let c0_i32_214 : BitVec 32 := 0#32
  ![v251.toNat, 1, 0, 0]
def k0_off153 (i : grid0.Coords) : Fin 3 → Nat :=
  let arg0 : BitVec 32 := BitVec.ofNat 32 (i 0).val
  let c1_i32_132 : BitVec 32 := 1#32
  let v251 : BitVec 32 := Scalar.subi arg0 c1_i32_132
  let c16_i32_215 : BitVec 32 := 16#32
  let c0_i32_216 : BitVec 32 := 0#32
  ![v251.toNat, 16, 0]
def k0_off154 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c1_228 : Index := 1#32
  let c0_229 : Index := 0#32
  let c0_230 : Index := 0#32
  ![v383.toNat, 1, 0, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_141 : BitVec 32 := 2#32
  let v266 : BitVec 1 := Scalar.cmpi .ne v2 c2_i32_141
  let v267 : BitVec 32 := Scalar.extui v266
  let c0_i32_142 : BitVec 32 := 0#32
  let v268 : BitVec 1 := Scalar.cmpi .ne v267 c0_i32_142
  v268

def k0_off155 (i : grid0.Coords) : Fin 2 → Nat :=
  let arg0 : BitVec 32 := BitVec.ofNat 32 (i 0).val
  let c1_i32_132 : BitVec 32 := 1#32
  let v251 : BitVec 32 := Scalar.subi arg0 c1_i32_132
  let c2_i32_208 : BitVec 32 := 2#32
  ![v251.toNat, 2]
def k0_off156 (i : grid0.Coords) : Fin 4 → Nat :=
  let arg0 : BitVec 32 := BitVec.ofNat 32 (i 0).val
  let c1_i32_132 : BitVec 32 := 1#32
  let v251 : BitVec 32 := Scalar.subi arg0 c1_i32_132
  let c2_i32_207 : BitVec 32 := 2#32
  let c0_i32_213 : BitVec 32 := 0#32
  let c0_i32_214 : BitVec 32 := 0#32
  ![v251.toNat, 2, 0, 0]
def k0_off157 (i : grid0.Coords) : Fin 3 → Nat :=
  let arg0 : BitVec 32 := BitVec.ofNat 32 (i 0).val
  let c1_i32_132 : BitVec 32 := 1#32
  let v251 : BitVec 32 := Scalar.subi arg0 c1_i32_132
  let c32_i32 : BitVec 32 := 32#32
  let c0_i32_215 : BitVec 32 := 0#32
  ![v251.toNat, 32, 0]
def k0_off158 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c2_227 : Index := 2#32
  let c0_228 : Index := 0#32
  let c0_229 : Index := 0#32
  ![v383.toNat, 2, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_143 : BitVec 32 := 3#32
  let v269 : BitVec 1 := Scalar.cmpi .ne v2 c3_i32_143
  let v270 : BitVec 32 := Scalar.extui v269
  let c0_i32_144 : BitVec 32 := 0#32
  let v271 : BitVec 1 := Scalar.cmpi .ne v270 c0_i32_144
  v271

def k0_off159 (i : grid0.Coords) : Fin 2 → Nat :=
  let arg0 : BitVec 32 := BitVec.ofNat 32 (i 0).val
  let c1_i32_132 : BitVec 32 := 1#32
  let v251 : BitVec 32 := Scalar.subi arg0 c1_i32_132
  let c3_i32_208 : BitVec 32 := 3#32
  ![v251.toNat, 3]
def k0_off160 (i : grid0.Coords) : Fin 4 → Nat :=
  let arg0 : BitVec 32 := BitVec.ofNat 32 (i 0).val
  let c1_i32_132 : BitVec 32 := 1#32
  let v251 : BitVec 32 := Scalar.subi arg0 c1_i32_132
  let c3_i32_207 : BitVec 32 := 3#32
  let c0_i32_213 : BitVec 32 := 0#32
  let c0_i32_214 : BitVec 32 := 0#32
  ![v251.toNat, 3, 0, 0]
def k0_off161 (i : grid0.Coords) : Fin 3 → Nat :=
  let arg0 : BitVec 32 := BitVec.ofNat 32 (i 0).val
  let c1_i32_132 : BitVec 32 := 1#32
  let v251 : BitVec 32 := Scalar.subi arg0 c1_i32_132
  let c48_i32 : BitVec 32 := 48#32
  let c0_i32_215 : BitVec 32 := 0#32
  ![v251.toNat, 48, 0]
def k0_off162 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c3_227 : Index := 3#32
  let c0_228 : Index := 0#32
  let c0_229 : Index := 0#32
  ![v383.toNat, 3, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v272 : BitVec 1 := Scalar.cmpi .ne v2 c4_i32_145
  let v273 : BitVec 32 := Scalar.extui v272
  let c0_i32_146 : BitVec 32 := 0#32
  let v274 : BitVec 1 := Scalar.cmpi .ne v273 c0_i32_146
  v274

def k0_off163 (i : grid0.Coords) : Fin 2 → Nat :=
  let arg0 : BitVec 32 := BitVec.ofNat 32 (i 0).val
  let c1_i32_132 : BitVec 32 := 1#32
  let v251 : BitVec 32 := Scalar.subi arg0 c1_i32_132
  let c4_i32_208 : BitVec 32 := 4#32
  ![v251.toNat, 4]
def k0_off164 (i : grid0.Coords) : Fin 4 → Nat :=
  let arg0 : BitVec 32 := BitVec.ofNat 32 (i 0).val
  let c1_i32_132 : BitVec 32 := 1#32
  let v251 : BitVec 32 := Scalar.subi arg0 c1_i32_132
  let c4_i32_207 : BitVec 32 := 4#32
  let c0_i32_213 : BitVec 32 := 0#32
  let c0_i32_214 : BitVec 32 := 0#32
  ![v251.toNat, 4, 0, 0]
def k0_off165 (i : grid0.Coords) : Fin 3 → Nat :=
  let arg0 : BitVec 32 := BitVec.ofNat 32 (i 0).val
  let c1_i32_132 : BitVec 32 := 1#32
  let v251 : BitVec 32 := Scalar.subi arg0 c1_i32_132
  let c64_i32 : BitVec 32 := 64#32
  let c0_i32_215 : BitVec 32 := 0#32
  ![v251.toNat, 64, 0]
def k0_off166 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c4_227 : Index := 4#32
  let c0_228 : Index := 0#32
  let c0_229 : Index := 0#32
  ![v383.toNat, 4, 0, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_147 : BitVec 32 := 5#32
  let v275 : BitVec 1 := Scalar.cmpi .ne v2 c5_i32_147
  let v276 : BitVec 32 := Scalar.extui v275
  let c0_i32_148 : BitVec 32 := 0#32
  let v277 : BitVec 1 := Scalar.cmpi .ne v276 c0_i32_148
  v277

def k0_off167 (i : grid0.Coords) : Fin 2 → Nat :=
  let arg0 : BitVec 32 := BitVec.ofNat 32 (i 0).val
  let c1_i32_132 : BitVec 32 := 1#32
  let v251 : BitVec 32 := Scalar.subi arg0 c1_i32_132
  let c5_i32_208 : BitVec 32 := 5#32
  ![v251.toNat, 5]
def k0_off168 (i : grid0.Coords) : Fin 4 → Nat :=
  let arg0 : BitVec 32 := BitVec.ofNat 32 (i 0).val
  let c1_i32_132 : BitVec 32 := 1#32
  let v251 : BitVec 32 := Scalar.subi arg0 c1_i32_132
  let c5_i32_207 : BitVec 32 := 5#32
  let c0_i32_213 : BitVec 32 := 0#32
  let c0_i32_214 : BitVec 32 := 0#32
  ![v251.toNat, 5, 0, 0]
def k0_off169 (i : grid0.Coords) : Fin 3 → Nat :=
  let arg0 : BitVec 32 := BitVec.ofNat 32 (i 0).val
  let c1_i32_132 : BitVec 32 := 1#32
  let v251 : BitVec 32 := Scalar.subi arg0 c1_i32_132
  let c80_i32 : BitVec 32 := 80#32
  let c0_i32_215 : BitVec 32 := 0#32
  ![v251.toNat, 80, 0]
def k0_off170 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c5_227 : Index := 5#32
  let c0_228 : Index := 0#32
  let c0_229 : Index := 0#32
  ![v383.toNat, 5, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_149 : BitVec 32 := 6#32
  let v278 : BitVec 1 := Scalar.cmpi .ne v2 c6_i32_149
  let v279 : BitVec 32 := Scalar.extui v278
  let c0_i32_150 : BitVec 32 := 0#32
  let v280 : BitVec 1 := Scalar.cmpi .ne v279 c0_i32_150
  v280

def k0_off171 (i : grid0.Coords) : Fin 2 → Nat :=
  let arg0 : BitVec 32 := BitVec.ofNat 32 (i 0).val
  let c1_i32_132 : BitVec 32 := 1#32
  let v251 : BitVec 32 := Scalar.subi arg0 c1_i32_132
  let c6_i32_208 : BitVec 32 := 6#32
  ![v251.toNat, 6]
def k0_off172 (i : grid0.Coords) : Fin 4 → Nat :=
  let arg0 : BitVec 32 := BitVec.ofNat 32 (i 0).val
  let c1_i32_132 : BitVec 32 := 1#32
  let v251 : BitVec 32 := Scalar.subi arg0 c1_i32_132
  let c6_i32_207 : BitVec 32 := 6#32
  let c0_i32_213 : BitVec 32 := 0#32
  let c0_i32_214 : BitVec 32 := 0#32
  ![v251.toNat, 6, 0, 0]
def k0_off173 (i : grid0.Coords) : Fin 3 → Nat :=
  let arg0 : BitVec 32 := BitVec.ofNat 32 (i 0).val
  let c1_i32_132 : BitVec 32 := 1#32
  let v251 : BitVec 32 := Scalar.subi arg0 c1_i32_132
  let c96_i32 : BitVec 32 := 96#32
  let c0_i32_215 : BitVec 32 := 0#32
  ![v251.toNat, 96, 0]
def k0_off174 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c6_227 : Index := 6#32
  let c0_228 : Index := 0#32
  let c0_229 : Index := 0#32
  ![v383.toNat, 6, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_151 : BitVec 32 := 7#32
  let v281 : BitVec 1 := Scalar.cmpi .ne v2 c7_i32_151
  let v282 : BitVec 32 := Scalar.extui v281
  let c0_i32_152 : BitVec 32 := 0#32
  let v283 : BitVec 1 := Scalar.cmpi .ne v282 c0_i32_152
  v283

def k0_off175 (i : grid0.Coords) : Fin 2 → Nat :=
  let arg0 : BitVec 32 := BitVec.ofNat 32 (i 0).val
  let c1_i32_132 : BitVec 32 := 1#32
  let v251 : BitVec 32 := Scalar.subi arg0 c1_i32_132
  let c7_i32_208 : BitVec 32 := 7#32
  ![v251.toNat, 7]
def k0_off176 (i : grid0.Coords) : Fin 4 → Nat :=
  let arg0 : BitVec 32 := BitVec.ofNat 32 (i 0).val
  let c1_i32_132 : BitVec 32 := 1#32
  let v251 : BitVec 32 := Scalar.subi arg0 c1_i32_132
  let c7_i32_207 : BitVec 32 := 7#32
  let c0_i32_213 : BitVec 32 := 0#32
  let c0_i32_214 : BitVec 32 := 0#32
  ![v251.toNat, 7, 0, 0]
def k0_off177 (i : grid0.Coords) : Fin 3 → Nat :=
  let arg0 : BitVec 32 := BitVec.ofNat 32 (i 0).val
  let c1_i32_132 : BitVec 32 := 1#32
  let v251 : BitVec 32 := Scalar.subi arg0 c1_i32_132
  let c112_i32 : BitVec 32 := 112#32
  let c0_i32_215 : BitVec 32 := 0#32
  ![v251.toNat, 112, 0]
def k0_off178 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c7_227 : Index := 7#32
  let c0_228 : Index := 0#32
  let c0_229 : Index := 0#32
  ![v383.toNat, 7, 0, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_153 : BitVec 32 := 8#32
  let v284 : BitVec 1 := Scalar.cmpi .ne v2 c8_i32_153
  let v285 : BitVec 32 := Scalar.extui v284
  let c0_i32_154 : BitVec 32 := 0#32
  let v286 : BitVec 1 := Scalar.cmpi .ne v285 c0_i32_154
  v286

def k0_off179 (i : grid0.Coords) : Fin 2 → Nat :=
  let arg0 : BitVec 32 := BitVec.ofNat 32 (i 0).val
  let c1_i32_132 : BitVec 32 := 1#32
  let v251 : BitVec 32 := Scalar.subi arg0 c1_i32_132
  let c8_i32_208 : BitVec 32 := 8#32
  ![v251.toNat, 8]
def k0_off180 (i : grid0.Coords) : Fin 4 → Nat :=
  let arg0 : BitVec 32 := BitVec.ofNat 32 (i 0).val
  let c1_i32_132 : BitVec 32 := 1#32
  let v251 : BitVec 32 := Scalar.subi arg0 c1_i32_132
  let c8_i32_207 : BitVec 32 := 8#32
  let c0_i32_213 : BitVec 32 := 0#32
  let c0_i32_214 : BitVec 32 := 0#32
  ![v251.toNat, 8, 0, 0]
def k0_off181 (i : grid0.Coords) : Fin 3 → Nat :=
  let arg0 : BitVec 32 := BitVec.ofNat 32 (i 0).val
  let c1_i32_132 : BitVec 32 := 1#32
  let v251 : BitVec 32 := Scalar.subi arg0 c1_i32_132
  let c128_i32 : BitVec 32 := 128#32
  let c0_i32_215 : BitVec 32 := 0#32
  ![v251.toNat, 128, 0]
def k0_off182 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c8 : Index := 8#32
  let c0_227 : Index := 0#32
  let c0_228 : Index := 0#32
  ![v383.toNat, 8, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_155 : BitVec 32 := 9#32
  let v287 : BitVec 1 := Scalar.cmpi .ne v2 c9_i32_155
  let v288 : BitVec 32 := Scalar.extui v287
  let c0_i32_156 : BitVec 32 := 0#32
  let v289 : BitVec 1 := Scalar.cmpi .ne v288 c0_i32_156
  v289

def k0_off183 (i : grid0.Coords) : Fin 2 → Nat :=
  let arg0 : BitVec 32 := BitVec.ofNat 32 (i 0).val
  let c1_i32_132 : BitVec 32 := 1#32
  let v251 : BitVec 32 := Scalar.subi arg0 c1_i32_132
  let c9_i32_208 : BitVec 32 := 9#32
  ![v251.toNat, 9]
def k0_off184 (i : grid0.Coords) : Fin 4 → Nat :=
  let arg0 : BitVec 32 := BitVec.ofNat 32 (i 0).val
  let c1_i32_132 : BitVec 32 := 1#32
  let v251 : BitVec 32 := Scalar.subi arg0 c1_i32_132
  let c9_i32_207 : BitVec 32 := 9#32
  let c0_i32_213 : BitVec 32 := 0#32
  let c0_i32_214 : BitVec 32 := 0#32
  ![v251.toNat, 9, 0, 0]
def k0_off185 (i : grid0.Coords) : Fin 3 → Nat :=
  let arg0 : BitVec 32 := BitVec.ofNat 32 (i 0).val
  let c1_i32_132 : BitVec 32 := 1#32
  let v251 : BitVec 32 := Scalar.subi arg0 c1_i32_132
  let c144_i32 : BitVec 32 := 144#32
  let c0_i32_215 : BitVec 32 := 0#32
  ![v251.toNat, 144, 0]
def k0_off186 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c9 : Index := 9#32
  let c0_227 : Index := 0#32
  let c0_228 : Index := 0#32
  ![v383.toNat, 9, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v290 : BitVec 1 := Scalar.cmpi .ne v2 c10_i32_157
  let v291 : BitVec 32 := Scalar.extui v290
  let c0_i32_158 : BitVec 32 := 0#32
  let v292 : BitVec 1 := Scalar.cmpi .ne v291 c0_i32_158
  v292

def k0_off187 (i : grid0.Coords) : Fin 2 → Nat :=
  let arg0 : BitVec 32 := BitVec.ofNat 32 (i 0).val
  let c1_i32_132 : BitVec 32 := 1#32
  let v251 : BitVec 32 := Scalar.subi arg0 c1_i32_132
  let c10_i32_208 : BitVec 32 := 10#32
  ![v251.toNat, 10]
def k0_off188 (i : grid0.Coords) : Fin 4 → Nat :=
  let arg0 : BitVec 32 := BitVec.ofNat 32 (i 0).val
  let c1_i32_132 : BitVec 32 := 1#32
  let v251 : BitVec 32 := Scalar.subi arg0 c1_i32_132
  let c10_i32_207 : BitVec 32 := 10#32
  let c0_i32_213 : BitVec 32 := 0#32
  let c0_i32_214 : BitVec 32 := 0#32
  ![v251.toNat, 10, 0, 0]
def k0_off189 (i : grid0.Coords) : Fin 3 → Nat :=
  let arg0 : BitVec 32 := BitVec.ofNat 32 (i 0).val
  let c1_i32_132 : BitVec 32 := 1#32
  let v251 : BitVec 32 := Scalar.subi arg0 c1_i32_132
  let c160_i32 : BitVec 32 := 160#32
  let c0_i32_215 : BitVec 32 := 0#32
  ![v251.toNat, 160, 0]
def k0_off190 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c10 : Index := 10#32
  let c0_227 : Index := 0#32
  let c0_228 : Index := 0#32
  ![v383.toNat, 10, 0, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_159 : BitVec 32 := 11#32
  let v293 : BitVec 1 := Scalar.cmpi .ne v2 c11_i32_159
  let v294 : BitVec 32 := Scalar.extui v293
  let c0_i32_160 : BitVec 32 := 0#32
  let v295 : BitVec 1 := Scalar.cmpi .ne v294 c0_i32_160
  v295

def k0_off191 (i : grid0.Coords) : Fin 2 → Nat :=
  let arg0 : BitVec 32 := BitVec.ofNat 32 (i 0).val
  let c1_i32_132 : BitVec 32 := 1#32
  let v251 : BitVec 32 := Scalar.subi arg0 c1_i32_132
  let c11_i32_208 : BitVec 32 := 11#32
  ![v251.toNat, 11]
def k0_off192 (i : grid0.Coords) : Fin 4 → Nat :=
  let arg0 : BitVec 32 := BitVec.ofNat 32 (i 0).val
  let c1_i32_132 : BitVec 32 := 1#32
  let v251 : BitVec 32 := Scalar.subi arg0 c1_i32_132
  let c11_i32_207 : BitVec 32 := 11#32
  let c0_i32_213 : BitVec 32 := 0#32
  let c0_i32_214 : BitVec 32 := 0#32
  ![v251.toNat, 11, 0, 0]
def k0_off193 (i : grid0.Coords) : Fin 3 → Nat :=
  let arg0 : BitVec 32 := BitVec.ofNat 32 (i 0).val
  let c1_i32_132 : BitVec 32 := 1#32
  let v251 : BitVec 32 := Scalar.subi arg0 c1_i32_132
  let c176_i32 : BitVec 32 := 176#32
  let c0_i32_215 : BitVec 32 := 0#32
  ![v251.toNat, 176, 0]
def k0_off194 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c11 : Index := 11#32
  let c0_227 : Index := 0#32
  let c0_228 : Index := 0#32
  ![v383.toNat, 11, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_161 : BitVec 32 := 12#32
  let v296 : BitVec 1 := Scalar.cmpi .ne v2 c12_i32_161
  let v297 : BitVec 32 := Scalar.extui v296
  let c0_i32_162 : BitVec 32 := 0#32
  let v298 : BitVec 1 := Scalar.cmpi .ne v297 c0_i32_162
  v298

def k0_off195 (i : grid0.Coords) : Fin 2 → Nat :=
  let arg0 : BitVec 32 := BitVec.ofNat 32 (i 0).val
  let c1_i32_132 : BitVec 32 := 1#32
  let v251 : BitVec 32 := Scalar.subi arg0 c1_i32_132
  let c12_i32_208 : BitVec 32 := 12#32
  ![v251.toNat, 12]
def k0_off196 (i : grid0.Coords) : Fin 4 → Nat :=
  let arg0 : BitVec 32 := BitVec.ofNat 32 (i 0).val
  let c1_i32_132 : BitVec 32 := 1#32
  let v251 : BitVec 32 := Scalar.subi arg0 c1_i32_132
  let c12_i32_207 : BitVec 32 := 12#32
  let c0_i32_213 : BitVec 32 := 0#32
  let c0_i32_214 : BitVec 32 := 0#32
  ![v251.toNat, 12, 0, 0]
def k0_off197 (i : grid0.Coords) : Fin 3 → Nat :=
  let arg0 : BitVec 32 := BitVec.ofNat 32 (i 0).val
  let c1_i32_132 : BitVec 32 := 1#32
  let v251 : BitVec 32 := Scalar.subi arg0 c1_i32_132
  let c192_i32 : BitVec 32 := 192#32
  let c0_i32_215 : BitVec 32 := 0#32
  ![v251.toNat, 192, 0]
def k0_off198 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c12 : Index := 12#32
  let c0_227 : Index := 0#32
  let c0_228 : Index := 0#32
  ![v383.toNat, 12, 0, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_163 : BitVec 32 := 13#32
  let v299 : BitVec 1 := Scalar.cmpi .ne v2 c13_i32_163
  let v300 : BitVec 32 := Scalar.extui v299
  let c0_i32_164 : BitVec 32 := 0#32
  let v301 : BitVec 1 := Scalar.cmpi .ne v300 c0_i32_164
  v301

def k0_off199 (i : grid0.Coords) : Fin 2 → Nat :=
  let arg0 : BitVec 32 := BitVec.ofNat 32 (i 0).val
  let c1_i32_132 : BitVec 32 := 1#32
  let v251 : BitVec 32 := Scalar.subi arg0 c1_i32_132
  let c13_i32_208 : BitVec 32 := 13#32
  ![v251.toNat, 13]
def k0_off200 (i : grid0.Coords) : Fin 4 → Nat :=
  let arg0 : BitVec 32 := BitVec.ofNat 32 (i 0).val
  let c1_i32_132 : BitVec 32 := 1#32
  let v251 : BitVec 32 := Scalar.subi arg0 c1_i32_132
  let c13_i32_207 : BitVec 32 := 13#32
  let c0_i32_213 : BitVec 32 := 0#32
  let c0_i32_214 : BitVec 32 := 0#32
  ![v251.toNat, 13, 0, 0]
def k0_off201 (i : grid0.Coords) : Fin 3 → Nat :=
  let arg0 : BitVec 32 := BitVec.ofNat 32 (i 0).val
  let c1_i32_132 : BitVec 32 := 1#32
  let v251 : BitVec 32 := Scalar.subi arg0 c1_i32_132
  let c208_i32 : BitVec 32 := 208#32
  let c0_i32_215 : BitVec 32 := 0#32
  ![v251.toNat, 208, 0]
def k0_off202 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c13 : Index := 13#32
  let c0_227 : Index := 0#32
  let c0_228 : Index := 0#32
  ![v383.toNat, 13, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_165 : BitVec 32 := 14#32
  let v302 : BitVec 1 := Scalar.cmpi .ne v2 c14_i32_165
  let v303 : BitVec 32 := Scalar.extui v302
  let c0_i32_166 : BitVec 32 := 0#32
  let v304 : BitVec 1 := Scalar.cmpi .ne v303 c0_i32_166
  v304

def k0_off203 (i : grid0.Coords) : Fin 2 → Nat :=
  let arg0 : BitVec 32 := BitVec.ofNat 32 (i 0).val
  let c1_i32_132 : BitVec 32 := 1#32
  let v251 : BitVec 32 := Scalar.subi arg0 c1_i32_132
  let c14_i32_208 : BitVec 32 := 14#32
  ![v251.toNat, 14]
def k0_off204 (i : grid0.Coords) : Fin 4 → Nat :=
  let arg0 : BitVec 32 := BitVec.ofNat 32 (i 0).val
  let c1_i32_132 : BitVec 32 := 1#32
  let v251 : BitVec 32 := Scalar.subi arg0 c1_i32_132
  let c14_i32_207 : BitVec 32 := 14#32
  let c0_i32_213 : BitVec 32 := 0#32
  let c0_i32_214 : BitVec 32 := 0#32
  ![v251.toNat, 14, 0, 0]
def k0_off205 (i : grid0.Coords) : Fin 3 → Nat :=
  let arg0 : BitVec 32 := BitVec.ofNat 32 (i 0).val
  let c1_i32_132 : BitVec 32 := 1#32
  let v251 : BitVec 32 := Scalar.subi arg0 c1_i32_132
  let c224_i32 : BitVec 32 := 224#32
  let c0_i32_215 : BitVec 32 := 0#32
  ![v251.toNat, 224, 0]
def k0_off206 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c14 : Index := 14#32
  let c0_227 : Index := 0#32
  let c0_228 : Index := 0#32
  ![v383.toNat, 14, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_167 : BitVec 32 := 15#32
  let v305 : BitVec 1 := Scalar.cmpi .ne v2 c15_i32_167
  let v306 : BitVec 32 := Scalar.extui v305
  let c0_i32_168 : BitVec 32 := 0#32
  let v307 : BitVec 1 := Scalar.cmpi .ne v306 c0_i32_168
  v307

def k0_off207 (i : grid0.Coords) : Fin 2 → Nat :=
  let arg0 : BitVec 32 := BitVec.ofNat 32 (i 0).val
  let c1_i32_132 : BitVec 32 := 1#32
  let v251 : BitVec 32 := Scalar.subi arg0 c1_i32_132
  let c15_i32_208 : BitVec 32 := 15#32
  ![v251.toNat, 15]
def k0_off208 (i : grid0.Coords) : Fin 4 → Nat :=
  let arg0 : BitVec 32 := BitVec.ofNat 32 (i 0).val
  let c1_i32_132 : BitVec 32 := 1#32
  let v251 : BitVec 32 := Scalar.subi arg0 c1_i32_132
  let c15_i32_207 : BitVec 32 := 15#32
  let c0_i32_213 : BitVec 32 := 0#32
  let c0_i32_214 : BitVec 32 := 0#32
  ![v251.toNat, 15, 0, 0]
def k0_off209 (i : grid0.Coords) : Fin 3 → Nat :=
  let arg0 : BitVec 32 := BitVec.ofNat 32 (i 0).val
  let c1_i32_132 : BitVec 32 := 1#32
  let v251 : BitVec 32 := Scalar.subi arg0 c1_i32_132
  let c240_i32 : BitVec 32 := 240#32
  let c0_i32_215 : BitVec 32 := 0#32
  ![v251.toNat, 240, 0]
def k0_off210 (i : grid0.Coords) : Fin 4 → Nat :=
  let arg0 : BitVec 32 := BitVec.ofNat 32 (i 0).val
  let c1_i32_132 : BitVec 32 := 1#32
  let v251 : BitVec 32 := Scalar.subi arg0 c1_i32_132
  let v383 : Index := Scalar.indexCast v251
  let c15 : Index := 15#32
  let c0_227 : Index := 0#32
  let c0_228 : Index := 0#32
  ![v383.toNat, 15, 0, 0]
def k0_off211 (i : grid0.Coords) : Fin 3 → Nat :=
  let arg0 : BitVec 32 := BitVec.ofNat 32 (i 0).val
  let c1_i32_132 : BitVec 32 := 1#32
  let v251 : BitVec 32 := Scalar.subi arg0 c1_i32_132
  let v316 : Index := Scalar.indexCast v251
  let c0_173 : Index := 0#32
  let c0_174 : Index := 0#32
  ![v316.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_175 : BitVec 32 := 0#32
  let v320 : BitVec 1 := Scalar.cmpi .ne v2 c0_i32_175
  let v321 : BitVec 32 := Scalar.extui v320
  let c0_i32_176 : BitVec 32 := 0#32
  let v322 : BitVec 1 := Scalar.cmpi .ne v321 c0_i32_176
  v322

def k0_off212 (i : grid0.Coords) : Fin 2 → Nat :=
  let arg0 : BitVec 32 := BitVec.ofNat 32 (i 0).val
  let c1_i32_132 : BitVec 32 := 1#32
  let v251 : BitVec 32 := Scalar.subi arg0 c1_i32_132
  let c0_i32_207 : BitVec 32 := 0#32
  ![v251.toNat, 0]
def k0_off213 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off214 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off215 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev33 : Nat :=
  let c0_i32_210 : BitVec 32 := 0#32
  let c0_i32_208 : BitVec 32 := 0#32
  let c1_i32_209 : BitVec 32 := 1#32
  let v368 : BitVec 32 := Scalar.muli c0_i32_208 c1_i32_209
  let v369 : BitVec 32 := Scalar.addi c0_i32_210 v368
  v369.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_177 : BitVec 32 := 1#32
  let v323 : BitVec 1 := Scalar.cmpi .ne v2 c1_i32_177
  let v324 : BitVec 32 := Scalar.extui v323
  let c0_i32_178 : BitVec 32 := 0#32
  let v325 : BitVec 1 := Scalar.cmpi .ne v324 c0_i32_178
  v325

def k0_off216 (i : grid0.Coords) : Fin 2 → Nat :=
  let arg0 : BitVec 32 := BitVec.ofNat 32 (i 0).val
  let c1_i32_132 : BitVec 32 := 1#32
  let v251 : BitVec 32 := Scalar.subi arg0 c1_i32_132
  let c1_i32_207 : BitVec 32 := 1#32
  ![v251.toNat, 1]
def k0_off217 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off218 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off219 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev34 : Nat :=
  let c0_i32_210 : BitVec 32 := 0#32
  let c1_i32_208 : BitVec 32 := 1#32
  let c1_i32_209 : BitVec 32 := 1#32
  let v368 : BitVec 32 := Scalar.muli c1_i32_208 c1_i32_209
  let v369 : BitVec 32 := Scalar.addi c0_i32_210 v368
  v369.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v326 : BitVec 1 := Scalar.cmpi .ne v2 c2_i32_179
  let v327 : BitVec 32 := Scalar.extui v326
  let c0_i32_180 : BitVec 32 := 0#32
  let v328 : BitVec 1 := Scalar.cmpi .ne v327 c0_i32_180
  v328

def k0_off220 (i : grid0.Coords) : Fin 2 → Nat :=
  let arg0 : BitVec 32 := BitVec.ofNat 32 (i 0).val
  let c1_i32_132 : BitVec 32 := 1#32
  let v251 : BitVec 32 := Scalar.subi arg0 c1_i32_132
  let c2_i32_207 : BitVec 32 := 2#32
  ![v251.toNat, 2]
def k0_off221 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off222 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off223 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev35 : Nat :=
  let c0_i32_210 : BitVec 32 := 0#32
  let c2_i32_208 : BitVec 32 := 2#32
  let c1_i32_209 : BitVec 32 := 1#32
  let v368 : BitVec 32 := Scalar.muli c2_i32_208 c1_i32_209
  let v369 : BitVec 32 := Scalar.addi c0_i32_210 v368
  v369.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_181 : BitVec 32 := 3#32
  let v329 : BitVec 1 := Scalar.cmpi .ne v2 c3_i32_181
  let v330 : BitVec 32 := Scalar.extui v329
  let c0_i32_182 : BitVec 32 := 0#32
  let v331 : BitVec 1 := Scalar.cmpi .ne v330 c0_i32_182
  v331

def k0_off224 (i : grid0.Coords) : Fin 2 → Nat :=
  let arg0 : BitVec 32 := BitVec.ofNat 32 (i 0).val
  let c1_i32_132 : BitVec 32 := 1#32
  let v251 : BitVec 32 := Scalar.subi arg0 c1_i32_132
  let c3_i32_207 : BitVec 32 := 3#32
  ![v251.toNat, 3]
def k0_off225 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off226 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off227 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev36 : Nat :=
  let c0_i32_210 : BitVec 32 := 0#32
  let c3_i32_208 : BitVec 32 := 3#32
  let c1_i32_209 : BitVec 32 := 1#32
  let v368 : BitVec 32 := Scalar.muli c3_i32_208 c1_i32_209
  let v369 : BitVec 32 := Scalar.addi c0_i32_210 v368
  v369.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v332 : BitVec 1 := Scalar.cmpi .ne v2 c4_i32_183
  let v333 : BitVec 32 := Scalar.extui v332
  let c0_i32_184 : BitVec 32 := 0#32
  let v334 : BitVec 1 := Scalar.cmpi .ne v333 c0_i32_184
  v334

def k0_off228 (i : grid0.Coords) : Fin 2 → Nat :=
  let arg0 : BitVec 32 := BitVec.ofNat 32 (i 0).val
  let c1_i32_132 : BitVec 32 := 1#32
  let v251 : BitVec 32 := Scalar.subi arg0 c1_i32_132
  let c4_i32_207 : BitVec 32 := 4#32
  ![v251.toNat, 4]
def k0_off229 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off230 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off231 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev37 : Nat :=
  let c0_i32_210 : BitVec 32 := 0#32
  let c4_i32_208 : BitVec 32 := 4#32
  let c1_i32_209 : BitVec 32 := 1#32
  let v368 : BitVec 32 := Scalar.muli c4_i32_208 c1_i32_209
  let v369 : BitVec 32 := Scalar.addi c0_i32_210 v368
  v369.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_185 : BitVec 32 := 5#32
  let v335 : BitVec 1 := Scalar.cmpi .ne v2 c5_i32_185
  let v336 : BitVec 32 := Scalar.extui v335
  let c0_i32_186 : BitVec 32 := 0#32
  let v337 : BitVec 1 := Scalar.cmpi .ne v336 c0_i32_186
  v337

def k0_off232 (i : grid0.Coords) : Fin 2 → Nat :=
  let arg0 : BitVec 32 := BitVec.ofNat 32 (i 0).val
  let c1_i32_132 : BitVec 32 := 1#32
  let v251 : BitVec 32 := Scalar.subi arg0 c1_i32_132
  let c5_i32_207 : BitVec 32 := 5#32
  ![v251.toNat, 5]
def k0_off233 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off234 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off235 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev38 : Nat :=
  let c0_i32_210 : BitVec 32 := 0#32
  let c5_i32_208 : BitVec 32 := 5#32
  let c1_i32_209 : BitVec 32 := 1#32
  let v368 : BitVec 32 := Scalar.muli c5_i32_208 c1_i32_209
  let v369 : BitVec 32 := Scalar.addi c0_i32_210 v368
  v369.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_187 : BitVec 32 := 6#32
  let v338 : BitVec 1 := Scalar.cmpi .ne v2 c6_i32_187
  let v339 : BitVec 32 := Scalar.extui v338
  let c0_i32_188 : BitVec 32 := 0#32
  let v340 : BitVec 1 := Scalar.cmpi .ne v339 c0_i32_188
  v340

def k0_off236 (i : grid0.Coords) : Fin 2 → Nat :=
  let arg0 : BitVec 32 := BitVec.ofNat 32 (i 0).val
  let c1_i32_132 : BitVec 32 := 1#32
  let v251 : BitVec 32 := Scalar.subi arg0 c1_i32_132
  let c6_i32_207 : BitVec 32 := 6#32
  ![v251.toNat, 6]
def k0_off237 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off238 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off239 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev39 : Nat :=
  let c0_i32_210 : BitVec 32 := 0#32
  let c6_i32_208 : BitVec 32 := 6#32
  let c1_i32_209 : BitVec 32 := 1#32
  let v368 : BitVec 32 := Scalar.muli c6_i32_208 c1_i32_209
  let v369 : BitVec 32 := Scalar.addi c0_i32_210 v368
  v369.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_189 : BitVec 32 := 7#32
  let v341 : BitVec 1 := Scalar.cmpi .ne v2 c7_i32_189
  let v342 : BitVec 32 := Scalar.extui v341
  let c0_i32_190 : BitVec 32 := 0#32
  let v343 : BitVec 1 := Scalar.cmpi .ne v342 c0_i32_190
  v343

def k0_off240 (i : grid0.Coords) : Fin 2 → Nat :=
  let arg0 : BitVec 32 := BitVec.ofNat 32 (i 0).val
  let c1_i32_132 : BitVec 32 := 1#32
  let v251 : BitVec 32 := Scalar.subi arg0 c1_i32_132
  let c7_i32_207 : BitVec 32 := 7#32
  ![v251.toNat, 7]
def k0_off241 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off242 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off243 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev40 : Nat :=
  let c0_i32_210 : BitVec 32 := 0#32
  let c7_i32_208 : BitVec 32 := 7#32
  let c1_i32_209 : BitVec 32 := 1#32
  let v368 : BitVec 32 := Scalar.muli c7_i32_208 c1_i32_209
  let v369 : BitVec 32 := Scalar.addi c0_i32_210 v368
  v369.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_191 : BitVec 32 := 8#32
  let v344 : BitVec 1 := Scalar.cmpi .ne v2 c8_i32_191
  let v345 : BitVec 32 := Scalar.extui v344
  let c0_i32_192 : BitVec 32 := 0#32
  let v346 : BitVec 1 := Scalar.cmpi .ne v345 c0_i32_192
  v346

def k0_off244 (i : grid0.Coords) : Fin 2 → Nat :=
  let arg0 : BitVec 32 := BitVec.ofNat 32 (i 0).val
  let c1_i32_132 : BitVec 32 := 1#32
  let v251 : BitVec 32 := Scalar.subi arg0 c1_i32_132
  let c8_i32_207 : BitVec 32 := 8#32
  ![v251.toNat, 8]
def k0_off245 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off246 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off247 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev41 : Nat :=
  let c0_i32_210 : BitVec 32 := 0#32
  let c8_i32_208 : BitVec 32 := 8#32
  let c1_i32_209 : BitVec 32 := 1#32
  let v368 : BitVec 32 := Scalar.muli c8_i32_208 c1_i32_209
  let v369 : BitVec 32 := Scalar.addi c0_i32_210 v368
  v369.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_193 : BitVec 32 := 9#32
  let v347 : BitVec 1 := Scalar.cmpi .ne v2 c9_i32_193
  let v348 : BitVec 32 := Scalar.extui v347
  let c0_i32_194 : BitVec 32 := 0#32
  let v349 : BitVec 1 := Scalar.cmpi .ne v348 c0_i32_194
  v349

def k0_off248 (i : grid0.Coords) : Fin 2 → Nat :=
  let arg0 : BitVec 32 := BitVec.ofNat 32 (i 0).val
  let c1_i32_132 : BitVec 32 := 1#32
  let v251 : BitVec 32 := Scalar.subi arg0 c1_i32_132
  let c9_i32_207 : BitVec 32 := 9#32
  ![v251.toNat, 9]
def k0_off249 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off250 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off251 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev42 : Nat :=
  let c0_i32_210 : BitVec 32 := 0#32
  let c9_i32_208 : BitVec 32 := 9#32
  let c1_i32_209 : BitVec 32 := 1#32
  let v368 : BitVec 32 := Scalar.muli c9_i32_208 c1_i32_209
  let v369 : BitVec 32 := Scalar.addi c0_i32_210 v368
  v369.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_195 : BitVec 32 := 10#32
  let v350 : BitVec 1 := Scalar.cmpi .ne v2 c10_i32_195
  let v351 : BitVec 32 := Scalar.extui v350
  let c0_i32_196 : BitVec 32 := 0#32
  let v352 : BitVec 1 := Scalar.cmpi .ne v351 c0_i32_196
  v352

def k0_off252 (i : grid0.Coords) : Fin 2 → Nat :=
  let arg0 : BitVec 32 := BitVec.ofNat 32 (i 0).val
  let c1_i32_132 : BitVec 32 := 1#32
  let v251 : BitVec 32 := Scalar.subi arg0 c1_i32_132
  let c10_i32_207 : BitVec 32 := 10#32
  ![v251.toNat, 10]
def k0_off253 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off254 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off255 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev43 : Nat :=
  let c0_i32_210 : BitVec 32 := 0#32
  let c10_i32_208 : BitVec 32 := 10#32
  let c1_i32_209 : BitVec 32 := 1#32
  let v368 : BitVec 32 := Scalar.muli c10_i32_208 c1_i32_209
  let v369 : BitVec 32 := Scalar.addi c0_i32_210 v368
  v369.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_197 : BitVec 32 := 11#32
  let v353 : BitVec 1 := Scalar.cmpi .ne v2 c11_i32_197
  let v354 : BitVec 32 := Scalar.extui v353
  let c0_i32_198 : BitVec 32 := 0#32
  let v355 : BitVec 1 := Scalar.cmpi .ne v354 c0_i32_198
  v355

def k0_off256 (i : grid0.Coords) : Fin 2 → Nat :=
  let arg0 : BitVec 32 := BitVec.ofNat 32 (i 0).val
  let c1_i32_132 : BitVec 32 := 1#32
  let v251 : BitVec 32 := Scalar.subi arg0 c1_i32_132
  let c11_i32_207 : BitVec 32 := 11#32
  ![v251.toNat, 11]
def k0_off257 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off258 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off259 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev44 : Nat :=
  let c0_i32_210 : BitVec 32 := 0#32
  let c11_i32_208 : BitVec 32 := 11#32
  let c1_i32_209 : BitVec 32 := 1#32
  let v368 : BitVec 32 := Scalar.muli c11_i32_208 c1_i32_209
  let v369 : BitVec 32 := Scalar.addi c0_i32_210 v368
  v369.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_199 : BitVec 32 := 12#32
  let v356 : BitVec 1 := Scalar.cmpi .ne v2 c12_i32_199
  let v357 : BitVec 32 := Scalar.extui v356
  let c0_i32_200 : BitVec 32 := 0#32
  let v358 : BitVec 1 := Scalar.cmpi .ne v357 c0_i32_200
  v358

def k0_off260 (i : grid0.Coords) : Fin 2 → Nat :=
  let arg0 : BitVec 32 := BitVec.ofNat 32 (i 0).val
  let c1_i32_132 : BitVec 32 := 1#32
  let v251 : BitVec 32 := Scalar.subi arg0 c1_i32_132
  let c12_i32_207 : BitVec 32 := 12#32
  ![v251.toNat, 12]
def k0_off261 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off262 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off263 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev45 : Nat :=
  let c0_i32_210 : BitVec 32 := 0#32
  let c12_i32_208 : BitVec 32 := 12#32
  let c1_i32_209 : BitVec 32 := 1#32
  let v368 : BitVec 32 := Scalar.muli c12_i32_208 c1_i32_209
  let v369 : BitVec 32 := Scalar.addi c0_i32_210 v368
  v369.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_201 : BitVec 32 := 13#32
  let v359 : BitVec 1 := Scalar.cmpi .ne v2 c13_i32_201
  let v360 : BitVec 32 := Scalar.extui v359
  let c0_i32_202 : BitVec 32 := 0#32
  let v361 : BitVec 1 := Scalar.cmpi .ne v360 c0_i32_202
  v361

def k0_off264 (i : grid0.Coords) : Fin 2 → Nat :=
  let arg0 : BitVec 32 := BitVec.ofNat 32 (i 0).val
  let c1_i32_132 : BitVec 32 := 1#32
  let v251 : BitVec 32 := Scalar.subi arg0 c1_i32_132
  let c13_i32_207 : BitVec 32 := 13#32
  ![v251.toNat, 13]
def k0_off265 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off266 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off267 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev46 : Nat :=
  let c0_i32_210 : BitVec 32 := 0#32
  let c13_i32_208 : BitVec 32 := 13#32
  let c1_i32_209 : BitVec 32 := 1#32
  let v368 : BitVec 32 := Scalar.muli c13_i32_208 c1_i32_209
  let v369 : BitVec 32 := Scalar.addi c0_i32_210 v368
  v369.toNat
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v362 : BitVec 1 := Scalar.cmpi .ne v2 c14_i32_203
  let v363 : BitVec 32 := Scalar.extui v362
  let c0_i32_204 : BitVec 32 := 0#32
  let v364 : BitVec 1 := Scalar.cmpi .ne v363 c0_i32_204
  v364

def k0_off268 (i : grid0.Coords) : Fin 2 → Nat :=
  let arg0 : BitVec 32 := BitVec.ofNat 32 (i 0).val
  let c1_i32_132 : BitVec 32 := 1#32
  let v251 : BitVec 32 := Scalar.subi arg0 c1_i32_132
  let c14_i32_207 : BitVec 32 := 14#32
  ![v251.toNat, 14]
def k0_off269 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off270 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off271 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev47 : Nat :=
  let c0_i32_210 : BitVec 32 := 0#32
  let c14_i32_208 : BitVec 32 := 14#32
  let c1_i32_209 : BitVec 32 := 1#32
  let v368 : BitVec 32 := Scalar.muli c14_i32_208 c1_i32_209
  let v369 : BitVec 32 := Scalar.addi c0_i32_210 v368
  v369.toNat
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_205 : BitVec 32 := 15#32
  let v365 : BitVec 1 := Scalar.cmpi .ne v2 c15_i32_205
  let v366 : BitVec 32 := Scalar.extui v365
  let c0_i32_206 : BitVec 32 := 0#32
  let v367 : BitVec 1 := Scalar.cmpi .ne v366 c0_i32_206
  v367

def k0_off272 (i : grid0.Coords) : Fin 2 → Nat :=
  let arg0 : BitVec 32 := BitVec.ofNat 32 (i 0).val
  let c1_i32_132 : BitVec 32 := 1#32
  let v251 : BitVec 32 := Scalar.subi arg0 c1_i32_132
  let c15_i32_207 : BitVec 32 := 15#32
  ![v251.toNat, 15]
def k0_off273 (i : grid0.Coords) (d0 : Dev nD) : Fin 2 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v251.toNat, v2.toNat]
def k0_off274 (i : grid0.Coords) (d0 : Dev nD) : Fin 4 → Nat :=
  let arg0 : BitVec 32 := BitVec.ofNat 32 (i 0).val
  let c1_i32_132 : BitVec 32 := 1#32
  let v251 : BitVec 32 := Scalar.subi arg0 c1_i32_132
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_211 : BitVec 32 := 0#32
  let c0_i32_212 : BitVec 32 := 0#32
  ![v251.toNat, v2.toNat, 0, 0]
def k0_off275 (i : grid0.Coords) : Fin 3 → Nat :=
  let arg0 : BitVec 32 := BitVec.ofNat 32 (i 0).val
  let c1_i32_132 : BitVec 32 := 1#32
  let v251 : BitVec 32 := Scalar.subi arg0 c1_i32_132
  let c0_i32_213 : BitVec 32 := 0#32
  let c0_i32_214 : BitVec 32 := 0#32
  ![v251.toNat, 0, 0]
def k0_dev48 : Nat :=
  let c0_i32_210 : BitVec 32 := 0#32
  let c15_i32_208 : BitVec 32 := 15#32
  let c1_i32_209 : BitVec 32 := 1#32
  let v368 : BitVec 32 := Scalar.muli c15_i32_208 c1_i32_209
  let v369 : BitVec 32 := Scalar.addi c0_i32_210 v368
  v369.toNat
def k0_cond84 (i : grid0.Coords) : BitVec 1 :=
  let arg0 : BitVec 32 := BitVec.ofNat 32 (i 0).val
  let c3_i32_130 : BitVec 32 := 3#32
  let v248 : BitVec 1 := Scalar.cmpi .eq arg0 c3_i32_130
  let v249 : BitVec 32 := Scalar.extui v248
  let c0_i32_131 : BitVec 32 := 0#32
  let v250 : BitVec 1 := Scalar.cmpi .ne v249 c0_i32_131
  v250

def k0_off276 (d0 : Dev nD) : Fin 3 → Nat :=
  let c3_133 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_132 : BitVec 32 := 16#32
  let v251 : BitVec 32 := Scalar.muli v2 c16_i32_132
  let v252 : Index := Scalar.indexCast v251
  let c0_134 : Index := 0#32
  ![3, v252.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_177 : BitVec 32 := 0#32
  let v316 : BitVec 1 := Scalar.cmpi .ne v2 c0_i32_177
  let v317 : BitVec 32 := Scalar.extui v316
  let c0_i32_178 : BitVec 32 := 0#32
  let v318 : BitVec 1 := Scalar.cmpi .ne v317 c0_i32_178
  v318

def k0_off277 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off278 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev49 : Nat :=
  let c0_i32_280 : BitVec 32 := 0#32
  let c0_i32_278 : BitVec 32 := 0#32
  let c1_i32_279 : BitVec 32 := 1#32
  let v460 : BitVec 32 := Scalar.muli c0_i32_278 c1_i32_279
  let v461 : BitVec 32 := Scalar.addi c0_i32_280 v460
  v461.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_179 : BitVec 32 := 1#32
  let v319 : BitVec 1 := Scalar.cmpi .ne v2 c1_i32_179
  let v320 : BitVec 32 := Scalar.extui v319
  let c0_i32_180 : BitVec 32 := 0#32
  let v321 : BitVec 1 := Scalar.cmpi .ne v320 c0_i32_180
  v321

def k0_off279 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off280 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev50 : Nat :=
  let c0_i32_280 : BitVec 32 := 0#32
  let c1_i32_278 : BitVec 32 := 1#32
  let c1_i32_279 : BitVec 32 := 1#32
  let v460 : BitVec 32 := Scalar.muli c1_i32_278 c1_i32_279
  let v461 : BitVec 32 := Scalar.addi c0_i32_280 v460
  v461.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_181 : BitVec 32 := 2#32
  let v322 : BitVec 1 := Scalar.cmpi .ne v2 c2_i32_181
  let v323 : BitVec 32 := Scalar.extui v322
  let c0_i32_182 : BitVec 32 := 0#32
  let v324 : BitVec 1 := Scalar.cmpi .ne v323 c0_i32_182
  v324

def k0_off281 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off282 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev51 : Nat :=
  let c0_i32_280 : BitVec 32 := 0#32
  let c2_i32_278 : BitVec 32 := 2#32
  let c1_i32_279 : BitVec 32 := 1#32
  let v460 : BitVec 32 := Scalar.muli c2_i32_278 c1_i32_279
  let v461 : BitVec 32 := Scalar.addi c0_i32_280 v460
  v461.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_183 : BitVec 32 := 3#32
  let v325 : BitVec 1 := Scalar.cmpi .ne v2 c3_i32_183
  let v326 : BitVec 32 := Scalar.extui v325
  let c0_i32_184 : BitVec 32 := 0#32
  let v327 : BitVec 1 := Scalar.cmpi .ne v326 c0_i32_184
  v327

def k0_off283 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off284 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev52 : Nat :=
  let c0_i32_280 : BitVec 32 := 0#32
  let c3_i32_278 : BitVec 32 := 3#32
  let c1_i32_279 : BitVec 32 := 1#32
  let v460 : BitVec 32 := Scalar.muli c3_i32_278 c1_i32_279
  let v461 : BitVec 32 := Scalar.addi c0_i32_280 v460
  v461.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_185 : BitVec 32 := 4#32
  let v328 : BitVec 1 := Scalar.cmpi .ne v2 c4_i32_185
  let v329 : BitVec 32 := Scalar.extui v328
  let c0_i32_186 : BitVec 32 := 0#32
  let v330 : BitVec 1 := Scalar.cmpi .ne v329 c0_i32_186
  v330

def k0_off285 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off286 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev53 : Nat :=
  let c0_i32_280 : BitVec 32 := 0#32
  let c4_i32_278 : BitVec 32 := 4#32
  let c1_i32_279 : BitVec 32 := 1#32
  let v460 : BitVec 32 := Scalar.muli c4_i32_278 c1_i32_279
  let v461 : BitVec 32 := Scalar.addi c0_i32_280 v460
  v461.toNat
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_187 : BitVec 32 := 5#32
  let v331 : BitVec 1 := Scalar.cmpi .ne v2 c5_i32_187
  let v332 : BitVec 32 := Scalar.extui v331
  let c0_i32_188 : BitVec 32 := 0#32
  let v333 : BitVec 1 := Scalar.cmpi .ne v332 c0_i32_188
  v333

def k0_off287 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off288 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev54 : Nat :=
  let c0_i32_280 : BitVec 32 := 0#32
  let c5_i32_278 : BitVec 32 := 5#32
  let c1_i32_279 : BitVec 32 := 1#32
  let v460 : BitVec 32 := Scalar.muli c5_i32_278 c1_i32_279
  let v461 : BitVec 32 := Scalar.addi c0_i32_280 v460
  v461.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_189 : BitVec 32 := 6#32
  let v334 : BitVec 1 := Scalar.cmpi .ne v2 c6_i32_189
  let v335 : BitVec 32 := Scalar.extui v334
  let c0_i32_190 : BitVec 32 := 0#32
  let v336 : BitVec 1 := Scalar.cmpi .ne v335 c0_i32_190
  v336

def k0_off289 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off290 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev55 : Nat :=
  let c0_i32_280 : BitVec 32 := 0#32
  let c6_i32_278 : BitVec 32 := 6#32
  let c1_i32_279 : BitVec 32 := 1#32
  let v460 : BitVec 32 := Scalar.muli c6_i32_278 c1_i32_279
  let v461 : BitVec 32 := Scalar.addi c0_i32_280 v460
  v461.toNat
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_191 : BitVec 32 := 7#32
  let v337 : BitVec 1 := Scalar.cmpi .ne v2 c7_i32_191
  let v338 : BitVec 32 := Scalar.extui v337
  let c0_i32_192 : BitVec 32 := 0#32
  let v339 : BitVec 1 := Scalar.cmpi .ne v338 c0_i32_192
  v339

def k0_off291 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off292 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev56 : Nat :=
  let c0_i32_280 : BitVec 32 := 0#32
  let c7_i32_278 : BitVec 32 := 7#32
  let c1_i32_279 : BitVec 32 := 1#32
  let v460 : BitVec 32 := Scalar.muli c7_i32_278 c1_i32_279
  let v461 : BitVec 32 := Scalar.addi c0_i32_280 v460
  v461.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_193 : BitVec 32 := 8#32
  let v340 : BitVec 1 := Scalar.cmpi .ne v2 c8_i32_193
  let v341 : BitVec 32 := Scalar.extui v340
  let c0_i32_194 : BitVec 32 := 0#32
  let v342 : BitVec 1 := Scalar.cmpi .ne v341 c0_i32_194
  v342

def k0_off293 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off294 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev57 : Nat :=
  let c0_i32_280 : BitVec 32 := 0#32
  let c8_i32_278 : BitVec 32 := 8#32
  let c1_i32_279 : BitVec 32 := 1#32
  let v460 : BitVec 32 := Scalar.muli c8_i32_278 c1_i32_279
  let v461 : BitVec 32 := Scalar.addi c0_i32_280 v460
  v461.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_195 : BitVec 32 := 9#32
  let v343 : BitVec 1 := Scalar.cmpi .ne v2 c9_i32_195
  let v344 : BitVec 32 := Scalar.extui v343
  let c0_i32_196 : BitVec 32 := 0#32
  let v345 : BitVec 1 := Scalar.cmpi .ne v344 c0_i32_196
  v345

def k0_off295 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off296 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev58 : Nat :=
  let c0_i32_280 : BitVec 32 := 0#32
  let c9_i32_278 : BitVec 32 := 9#32
  let c1_i32_279 : BitVec 32 := 1#32
  let v460 : BitVec 32 := Scalar.muli c9_i32_278 c1_i32_279
  let v461 : BitVec 32 := Scalar.addi c0_i32_280 v460
  v461.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_197 : BitVec 32 := 10#32
  let v346 : BitVec 1 := Scalar.cmpi .ne v2 c10_i32_197
  let v347 : BitVec 32 := Scalar.extui v346
  let c0_i32_198 : BitVec 32 := 0#32
  let v348 : BitVec 1 := Scalar.cmpi .ne v347 c0_i32_198
  v348

def k0_off297 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off298 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev59 : Nat :=
  let c0_i32_280 : BitVec 32 := 0#32
  let c10_i32_278 : BitVec 32 := 10#32
  let c1_i32_279 : BitVec 32 := 1#32
  let v460 : BitVec 32 := Scalar.muli c10_i32_278 c1_i32_279
  let v461 : BitVec 32 := Scalar.addi c0_i32_280 v460
  v461.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_199 : BitVec 32 := 11#32
  let v349 : BitVec 1 := Scalar.cmpi .ne v2 c11_i32_199
  let v350 : BitVec 32 := Scalar.extui v349
  let c0_i32_200 : BitVec 32 := 0#32
  let v351 : BitVec 1 := Scalar.cmpi .ne v350 c0_i32_200
  v351

def k0_off299 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off300 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev60 : Nat :=
  let c0_i32_280 : BitVec 32 := 0#32
  let c11_i32_278 : BitVec 32 := 11#32
  let c1_i32_279 : BitVec 32 := 1#32
  let v460 : BitVec 32 := Scalar.muli c11_i32_278 c1_i32_279
  let v461 : BitVec 32 := Scalar.addi c0_i32_280 v460
  v461.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_201 : BitVec 32 := 12#32
  let v352 : BitVec 1 := Scalar.cmpi .ne v2 c12_i32_201
  let v353 : BitVec 32 := Scalar.extui v352
  let c0_i32_202 : BitVec 32 := 0#32
  let v354 : BitVec 1 := Scalar.cmpi .ne v353 c0_i32_202
  v354

def k0_off301 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off302 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev61 : Nat :=
  let c0_i32_280 : BitVec 32 := 0#32
  let c12_i32_278 : BitVec 32 := 12#32
  let c1_i32_279 : BitVec 32 := 1#32
  let v460 : BitVec 32 := Scalar.muli c12_i32_278 c1_i32_279
  let v461 : BitVec 32 := Scalar.addi c0_i32_280 v460
  v461.toNat
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_203 : BitVec 32 := 13#32
  let v355 : BitVec 1 := Scalar.cmpi .ne v2 c13_i32_203
  let v356 : BitVec 32 := Scalar.extui v355
  let c0_i32_204 : BitVec 32 := 0#32
  let v357 : BitVec 1 := Scalar.cmpi .ne v356 c0_i32_204
  v357

def k0_off303 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off304 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev62 : Nat :=
  let c0_i32_280 : BitVec 32 := 0#32
  let c13_i32_278 : BitVec 32 := 13#32
  let c1_i32_279 : BitVec 32 := 1#32
  let v460 : BitVec 32 := Scalar.muli c13_i32_278 c1_i32_279
  let v461 : BitVec 32 := Scalar.addi c0_i32_280 v460
  v461.toNat
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_205 : BitVec 32 := 14#32
  let v358 : BitVec 1 := Scalar.cmpi .ne v2 c14_i32_205
  let v359 : BitVec 32 := Scalar.extui v358
  let c0_i32_206 : BitVec 32 := 0#32
  let v360 : BitVec 1 := Scalar.cmpi .ne v359 c0_i32_206
  v360

def k0_off305 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off306 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev63 : Nat :=
  let c0_i32_280 : BitVec 32 := 0#32
  let c14_i32_278 : BitVec 32 := 14#32
  let c1_i32_279 : BitVec 32 := 1#32
  let v460 : BitVec 32 := Scalar.muli c14_i32_278 c1_i32_279
  let v461 : BitVec 32 := Scalar.addi c0_i32_280 v460
  v461.toNat
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_207 : BitVec 32 := 15#32
  let v361 : BitVec 1 := Scalar.cmpi .ne v2 c15_i32_207
  let v362 : BitVec 32 := Scalar.extui v361
  let c0_i32_208 : BitVec 32 := 0#32
  let v363 : BitVec 1 := Scalar.cmpi .ne v362 c0_i32_208
  v363

def k0_off307 (d0 : Dev nD) : Fin 2 → Nat :=
  let c3_i32_275 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off308 (d0 : Dev nD) : Fin 4 → Nat :=
  let c3_i32_274 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let c0_i32_282 : BitVec 32 := 0#32
  ![3, v2.toNat, 0, 0]
def k0_dev64 : Nat :=
  let c0_i32_280 : BitVec 32 := 0#32
  let c15_i32_278 : BitVec 32 := 15#32
  let c1_i32_279 : BitVec 32 := 1#32
  let v460 : BitVec 32 := Scalar.muli c15_i32_278 c1_i32_279
  let v461 : BitVec 32 := Scalar.addi c0_i32_280 v460
  v461.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S4x256x1024 : Shape := ⟨3, ![4, 256, 1024]⟩
abbrev S1024x16384 : Shape := ⟨2, ![1024, 16384]⟩
abbrev S4x1024x128x128 : Shape := ⟨4, ![4, 1024, 128, 128]⟩
abbrev S16384x1024 : Shape := ⟨2, ![16384, 1024]⟩
abbrev S4x256x16384 : Shape := ⟨3, ![4, 256, 16384]⟩
abbrev S4x256x128x128 : Shape := ⟨4, ![4, 256, 128, 128]⟩
abbrev S4x128x256x1024 : Shape := ⟨4, ![4, 128, 256, 1024]⟩
abbrev S_ : Shape := ⟨0, ![]⟩
abbrev S4x128x256 : Shape := ⟨3, ![4, 128, 256]⟩
abbrev S4x128x256x1 : Shape := ⟨4, ![4, 128, 256, 1]⟩
abbrev S4x128x128x256 : Shape := ⟨4, ![4, 128, 128, 256]⟩
abbrev S4x256x128x1 : Shape := ⟨4, ![4, 256, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S4x1024x128x128, .f32⟩
  | .hbm, ⟨3, _⟩ => ⟨S4x1024x128x128, .f32⟩
  | .hbm, ⟨4, _⟩ => ⟨S16384x1024, .f32⟩
  | .hbm, ⟨5, _⟩ => ⟨S4x256x16384, .f32⟩
  | .hbm, ⟨6, _⟩ => ⟨S4x256x128x128, .f32⟩
  | .hbm, ⟨7, _⟩ => ⟨S4x128x256x1024, .f32⟩
  | .hbm, ⟨8, _⟩ => ⟨S_, .f32⟩
  | .hbm, ⟨9, _⟩ => ⟨S4x128x256x1024, .f32⟩
  | .hbm, ⟨10, _⟩ => ⟨S4x128x256x1024, .f32⟩
  | .hbm, ⟨11, _⟩ => ⟨S_, .f32⟩
  | .hbm, ⟨12, _⟩ => ⟨S4x128x256, .f32⟩
  | .hbm, ⟨13, _⟩ => ⟨S4x128x256x1, .f32⟩
  | .hbm, ⟨14, _⟩ => ⟨S4x128x256x1024, .f32⟩
  | .hbm, ⟨15, _⟩ => ⟨S4x128x256x1024, .f32⟩
  | .hbm, ⟨16, _⟩ => ⟨S4x128x256x1024, .f32⟩
  | .hbm, ⟨17, _⟩ => ⟨S_, .f32⟩
  | .hbm, ⟨18, _⟩ => ⟨S4x128x256, .f32⟩
  | .hbm, ⟨19, _⟩ => ⟨S4x128x256x1, .f32⟩
  | .hbm, ⟨20, _⟩ => ⟨S4x128x128x256, .f32⟩
  | .hbm, ⟨21, _⟩ => ⟨S4x256x128x128, .f32⟩
  | .hbm, ⟨22, _⟩ => ⟨S4x256x128x1, .f32⟩
  | .hbm, ⟨23, _⟩ => ⟨S4x256x128x128, .f32⟩
  | .hbm, ⟨24, _⟩ => ⟨S4x256x128x128, .f32⟩
  | .hbm, ⟨25, _⟩ => ⟨S4x256x16384, .f32⟩
  | .hbm, ⟨26, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Slots.lean ====
/-
# The pieces of the exchange buffers

The kernel keeps four buffers for the exchange: two landing buffers of 4 × 16 slots (one slot for each batch and
each sender), the staged partial sums (4 × 256 rows, 16 rows for each receiver) and the reduced chunks
(4 × 16 rows). This module names the slices which the transfers use, and says which elements each of them has.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.ValueLayout

@[expose] public section

noncomputable section

namespace Cert.RsAg

open Cert.KernelIdeal Cert.KernelIdeal.Gen
open Idealize.ShloMosaic Idealize.ShloMosaic.TcCoe
open Idealize.ShloMosaic.ValueIdx

/-! ## The slices -/

theorem slot_inb (g : Fin 4) (p : Fin 16) : ∀ a, (![g.val, p.val, 0, 0] : Fin 4 → ℕ) a + S1x1x16x1024.size a ≤ S4x16x16x1024.size a := by
  revert g p; decide
theorem rows_inb (g : Fin 4) (d : Fin 16) : ∀ a, (![g.val, 16 * d.val, 0] : Fin 3 → ℕ) a + S1x16x1024.size a ≤ S4x256x1024.size a := by
  revert g d; decide
theorem slab_inb (g : Fin 4) : ∀ a, (![g.val, 0, 0] : Fin 3 → ℕ) a + S1x16x1024.size a ≤ S4x16x1024.size a := by
  revert g; decide
theorem big_inb (g : Fin 4) : ∀ a, (![g.val, 0, 0] : Fin 3 → ℕ) a + S1x256x1024.size a ≤ S4x256x1024.size a := by
  revert g; decide
theorem sem_inb (g : Fin 4) (p : Fin 16) : ∀ a, (![g.val, p.val] : Fin 2 → ℕ) a + S1x1.size a ≤ S4x16.size a := by
  revert g p; decide

/-- The rectangle of slot `p` of batch `g` in a landing buffer. -/
abbrev slotR (g : Fin 4) (p : Fin 16) : Rect S4x16x16x1024 := Rect.unit ![g.val, p.val, 0, 0] S1x1x16x1024.size (slot_inb g p)
/-- The rectangle of receiver `d`'s rows of batch `g`. -/
abbrev rowsR (g : Fin 4) (d : Fin 16) : Rect S4x256x1024 := Rect.unit ![g.val, 16 * d.val, 0] S1x16x1024.size (rows_inb g d)
/-- The rectangle of batch `g` among the reduced chunks. -/
abbrev slabR (g : Fin 4) : Rect S4x16x1024 := Rect.unit ![g.val, 0, 0] S1x16x1024.size (slab_inb g)
/-- The rectangle of batch `g` in a buffer of 256 rows. -/
abbrev bigR (g : Fin 4) : Rect S4x256x1024 := Rect.unit ![g.val, 0, 0] S1x256x1024.size (big_inb g)

/-- Slot `p` of batch `g` of the first exchange. -/
abbrev rsM (g : Fin 4) (p : Fin 16) : Memref sig .tc .vmem S16x1024 .bf16 :=
  ((Memref.whole cc0_scratch0).slice (slotR g p) (fun _ => rfl)).squeeze S16x1024 squeezes_S1x1x16x1024_S16x1024
/-- Slot `p` of batch `g` of the second exchange. -/
abbrev agM (g : Fin 4) (p : Fin 16) : Memref sig .tc .vmem S16x1024 .bf16 :=
  ((Memref.whole cc0_scratch1).slice (slotR g p) (fun _ => rfl)).squeeze S16x1024 squeezes_S1x1x16x1024_S16x1024
/-- Receiver `d`'s rows of batch `g` of the staged partial sums. -/
abbrev stM (g : Fin 4) (d : Fin 16) : Memref sig .tc .vmem S16x1024 .bf16 :=
  ((Memref.whole cc0_scratch2).slice (rowsR g d) (fun _ => rfl)).squeeze S16x1024 squeezes_S1x16x1024_S16x1024
/-- Batch `g` of the reduced chunks. -/
abbrev sgM (g : Fin 4) : Memref sig .tc .vmem S16x1024 .bf16 :=
  ((Memref.whole cc0_scratch3).slice (slabR g) (fun _ => rfl)).squeeze S16x1024 squeezes_S1x16x1024_S16x1024

/-! ## Where an index of a slice lies -/

theorem slot_emb (g : Fin 4) (p : Fin 16) (h : S16x1024.numel = S1x1x16x1024.numel) (r : Fin 16) (k : Fin 1024) :
    (slotR g p).emb (Shape.reshapeEquiv h (ix2 r k)) = ix4 g p r k := by
  rw [show Shape.reshapeEquiv h (ix2 r k) = ix4 (⟨0, Nat.one_pos⟩ : Fin 1) (⟨0, Nat.one_pos⟩ : Fin 1) r k from reshapeEquiv_ix2_11ab h r k]
  funext a
  refine Fin.ext ?_
  rw [Rect.emb_apply]
  match a with
  | ⟨0, _⟩ => show g.val + 1 * 0 = g.val; omega
  | ⟨1, _⟩ => show p.val + 1 * 0 = p.val; omega
  | ⟨2, _⟩ => show 0 + 1 * r.val = r.val; omega
  | ⟨3, _⟩ => show 0 + 1 * k.val = k.val; omega

/-- Row `r` of receiver `d`'s rows. -/
def rowOf (d : Fin 16) (r : Fin 16) : Fin 256 := ⟨16 * d.val + r.val, by omega⟩

theorem rows_emb (g : Fin 4) (d : Fin 16) (h : S16x1024.numel = S1x16x1024.numel) (r : Fin 16) (k : Fin 1024) :
    (rowsR g d).emb (Shape.reshapeEquiv h (ix2 r k)) = ix3 g (rowOf d r) k := by
  rw [show Shape.reshapeEquiv h (ix2 r k) = ix3 (⟨0, Nat.one_pos⟩ : Fin 1) r k from reshapeEquiv_ix2_1ab h r k]
  funext a
  refine Fin.ext ?_
  rw [Rect.emb_apply]
  match a with
  | ⟨0, _⟩ => show g.val + 1 * 0 = g.val; omega
  | ⟨1, _⟩ => show 16 * d.val + 1 * r.val = 16 * d.val + r.val; omega
  | ⟨2, _⟩ => show 0 + 1 * k.val = k.val; omega

theorem slab_emb (g : Fin 4) (h : S16x1024.numel = S1x16x1024.numel) (r : Fin 16) (k : Fin 1024) :
    (slabR g).emb (Shape.reshapeEquiv h (ix2 r k)) = ix3 g r k := by
  rw [show Shape.reshapeEquiv h (ix2 r k) = ix3 (⟨0, Nat.one_pos⟩ : Fin 1) r k from reshapeEquiv_ix2_1ab h r k]
  funext a
  refine Fin.ext ?_
  rw [Rect.emb_apply]
  match a with
  | ⟨0, _⟩ => show g.val + 1 * 0 = g.val; omega
  | ⟨1, _⟩ => show 0 + 1 * r.val = r.val; omega
  | ⟨2, _⟩ => show 0 + 1 * k.val = k.val; omega

theorem rsM_emb (g : Fin 4) (p : Fin 16) (r : Fin 16) (k : Fin 1024) : (rsM g p).view.emb (ix2 r k) = ix4 g p r k := slot_emb g p _ r k
theorem agM_emb (g : Fin 4) (p : Fin 16) (r : Fin 16) (k : Fin 1024) : (agM g p).view.emb (ix2 r k) = ix4 g p r k := slot_emb g p _ r k
theorem stM_emb (g : Fin 4) (d : Fin 16) (r : Fin 16) (k : Fin 1024) : (stM g d).view.emb (ix2 r k) = ix3 g (rowOf d r) k := rows_emb g d _ r k
theorem sgM_emb (g : Fin 4) (r : Fin 16) (k : Fin 1024) : (sgM g).view.emb (ix2 r k) = ix3 g r k := slab_emb g _ r k

/-! ## The elements of each slice -/

/-- The elements of slot `p` of batch `g`. -/
def slotS (g : Fin 4) (p : Fin 16) : Finset S4x16x16x1024.Idx := Finset.univ.filter fun x => (x 0).val = g.val ∧ (x 1).val = p.val
/-- The elements of receiver `d`'s rows of batch `g`. -/
def rowsS (g : Fin 4) (d : Fin 16) : Finset S4x256x1024.Idx := Finset.univ.filter fun x => (x 0).val = g.val ∧ (x 1).val / 16 = d.val
/-- The elements of batch `g` among the reduced chunks. -/
def slabS (g : Fin 4) : Finset S4x16x1024.Idx := Finset.univ.filter fun x => (x 0).val = g.val
/-- The elements of batch `g` of a buffer of 256 rows. -/
def bigS (g : Fin 4) : Finset S4x256x1024.Idx := Finset.univ.filter fun x => (x 0).val = g.val

theorem mem_slotS {g : Fin 4} {p : Fin 16} {x : S4x16x16x1024.Idx} : x ∈ slotS g p ↔ (x 0).val = g.val ∧ (x 1).val = p.val := by simp [slotS]
theorem mem_rowsS {g : Fin 4} {d : Fin 16} {x : S4x256x1024.Idx} : x ∈ rowsS g d ↔ (x 0).val = g.val ∧ (x 1).val / 16 = d.val := by simp [rowsS]
theorem mem_slabS {g : Fin 4} {x : S4x16x1024.Idx} : x ∈ slabS g ↔ (x 0).val = g.val := by simp [slabS]
theorem mem_bigS {g : Fin 4} {x : S4x256x1024.Idx} : x ∈ bigS g ↔ (x 0).val = g.val := by simp [bigS]

theorem ix4_of_val {a b c d : ℕ} {g : Fin a} {p : Fin b} (x : (⟨4, ![a, b, c, d]⟩ : Shape).Idx) (h0 : (x 0).val = g.val) (h1 : (x 1).val = p.val) :
    ix4 g p (x 2) (x 3) = x := by
  obtain rfl : g = x 0 := Fin.ext h0.symm
  obtain rfl : p = x 1 := Fin.ext h1.symm
  exact (eq_ix4 x).symm
theorem ix3_of_val {a b c : ℕ} {g : Fin a} {p : Fin b} (x : (⟨3, ![a, b, c]⟩ : Shape).Idx) (h0 : (x 0).val = g.val) (h1 : (x 1).val = p.val) :
    ix3 g p (x 2) = x := by
  obtain rfl : g = x 0 := Fin.ext h0.symm
  obtain rfl : p = x 1 := Fin.ext h1.symm
  exact (eq_ix3 x).symm

theorem set_of_emb4 {v : View sig .tc .vmem S16x1024 .bf16} (I : Finset v.ty.Idx)
    (h1 : ∀ r k, v.emb (ix2 r k) ∈ I) (h2 : ∀ x ∈ I, ∃ r k, v.emb (ix2 r k) = x) : v.set = I := by
  ext x
  constructor
  · intro hx
    obtain ⟨y, -, rfl⟩ := Finset.mem_map.mp hx
    rw [eq_ix2 y]; exact h1 _ _
  · intro hx
    obtain ⟨r, k, rfl⟩ := h2 x hx
    exact View.emb_mem_set _ _

theorem rsM_set (g : Fin 4) (p : Fin 16) : (rsM g p).view.set = slotS g p :=
  set_of_emb4 (v := (rsM g p).view) (slotS g p) (fun r k => by rw [rsM_emb]; exact mem_slotS.2 ⟨rfl, rfl⟩)
    (fun x hx => by obtain ⟨h0, h1⟩ := mem_slotS.1 hx; exact ⟨x 2, x 3, (rsM_emb g p (x 2) (x 3)).trans (ix4_of_val x h0 h1)⟩)
theorem agM_set (g : Fin 4) (p : Fin 16) : (agM g p).view.set = slotS g p :=
  set_of_emb4 (v := (agM g p).view) (slotS g p) (fun r k => by rw [agM_emb]; exact mem_slotS.2 ⟨rfl, rfl⟩)
    (fun x hx => by obtain ⟨h0, h1⟩ := mem_slotS.1 hx; exact ⟨x 2, x 3, (agM_emb g p (x 2) (x 3)).trans (ix4_of_val x h0 h1)⟩)
theorem sgM_set (g : Fin 4) : (sgM g).view.set = slabS g :=
  set_of_emb4 (v := (sgM g).view) (slabS g) (fun r k => by rw [sgM_emb]; exact mem_slabS.2 rfl)
    (fun x hx => by exact ⟨x 1, x 2, (sgM_emb g (x 1) (x 2)).trans (ix3_of_val x (mem_slabS.1 hx) rfl)⟩)

/-- The place of row `y` of the 256 within its receiver's rows. -/
def inRow (y : Fin 256) : Fin 16 := ⟨y.val % 16, Nat.mod_lt _ (by decide)⟩
/-- The receiver of row `y` of the 256. -/
def ownerOf (y : Fin 256) : Fin 16 := ⟨y.val / 16, by omega⟩

theorem rowOf_inRow (y : Fin 256) : rowOf (ownerOf y) (inRow y) = y := Fin.ext (Nat.div_add_mod y.val 16)
theorem ownerOf_rowOf (d r : Fin 16) : ownerOf (rowOf d r) = d := Fin.ext (by show (16 * d.val + r.val) / 16 = d.val; omega)
theorem inRow_rowOf (d r : Fin 16) : inRow (rowOf d r) = r := Fin.ext (by show (16 * d.val + r.val) % 16 = r.val; omega)

theorem stM_set (g : Fin 4) (d : Fin 16) : (stM g d).view.set = rowsS g d :=
  set_of_emb4 (v := (stM g d).view) (rowsS g d)
    (fun r k => by rw [stM_emb]; exact mem_rowsS.2 ⟨rfl, congrArg Fin.val (ownerOf_rowOf d r)⟩)
    (fun x hx => by
      obtain ⟨h0, h1⟩ := mem_rowsS.1 hx
      exact ⟨inRow (x 1), x 2, (stM_emb g d (inRow (x 1)) (x 2)).trans (ix3_of_val x h0 (by
        show (x 1).val = 16 * d.val + (x 1).val % 16; omega))⟩)

theorem slotR_set (g : Fin 4) (p : Fin 16) : (slotR g p).set = slotS g p := by
  rw [← rsM_set]; exact (View.set_slice_whole cc0_scratch0 _).symm.trans (View.set_reshape _ _).symm
theorem rowsR_set (g : Fin 4) (d : Fin 16) : (rowsR g d).set = rowsS g d := by
  rw [← stM_set]; exact (View.set_slice_whole cc0_scratch2 _).symm.trans (View.set_reshape _ _).symm
theorem slabR_set (g : Fin 4) : (slabR g).set = slabS g := by
  rw [← sgM_set]; exact (View.set_slice_whole cc0_scratch3 _).symm.trans (View.set_reshape _ _).symm
theorem bigR_set (g : Fin 4) : (bigR g).set = bigS g := by
  ext x
  rw [Rect.mem_set_unit, mem_bigS]
  constructor
  · intro h
    have := h 0
    change g.val ≤ (x 0).val ∧ (x 0).val < g.val + 1 at this; omega
  · intro h a
    match a with
    | ⟨0, _⟩ => show g.val ≤ (x 0).val ∧ (x 0).val < g.val + 1; omega
    | ⟨1, _⟩ => show 0 ≤ (x 1).val ∧ (x 1).val < 0 + 256; have h : (x 1).val < 256 := (x 1).isLt; omega
    | ⟨2, _⟩ => show 0 ≤ (x 2).val ∧ (x 2).val < 0 + 1024; have h : (x 2).val < 1024 := (x 2).isLt; omega

/-! ## The slices of one buffer are disjoint and cover it -/

theorem slotS_disj (a b : Fin 4 × Fin 16) (h : a ≠ b) : Disjoint (slotS a.1 a.2) (slotS b.1 b.2) :=
  Finset.disjoint_left.2 fun x hx hy => by
    obtain ⟨h0, h1⟩ := mem_slotS.1 hx; obtain ⟨h2, h3⟩ := mem_slotS.1 hy
    exact h (Prod.ext (Fin.ext (h0.symm.trans h2)) (Fin.ext (h1.symm.trans h3)))
theorem slotS_cover : (Finset.univ : Finset (Fin 4 × Fin 16)).biUnion (fun a => slotS a.1 a.2) = Finset.univ := by
  ext x; simp only [Finset.mem_biUnion, Finset.mem_univ, true_and, iff_true]
  exact ⟨(x 0, x 1), mem_slotS.2 ⟨rfl, rfl⟩⟩
theorem slabS_disj (a b : Fin 4) (h : a ≠ b) : Disjoint (slabS a) (slabS b) :=
  Finset.disjoint_left.2 fun x hx hy => h (Fin.ext ((mem_slabS.1 hx).symm.trans (mem_slabS.1 hy)))
theorem slabS_cover : (Finset.univ : Finset (Fin 4)).biUnion slabS = Finset.univ := by
  ext x; simp only [Finset.mem_biUnion, Finset.mem_univ, true_and, iff_true]
  exact ⟨x 0, mem_slabS.2 rfl⟩
theorem bigS_disj (a b : Fin 4) (h : a ≠ b) : Disjoint (bigS a) (bigS b) :=
  Finset.disjoint_left.2 fun x hx hy => h (Fin.ext ((mem_bigS.1 hx).symm.trans (mem_bigS.1 hy)))
theorem bigS_cover : (Finset.univ : Finset (Fin 4)).biUnion bigS = Finset.univ := by
  ext x; simp only [Finset.mem_biUnion, Finset.mem_univ, true_and, iff_true]
  exact ⟨x 0, mem_bigS.2 rfl⟩
theorem rowsS_disj (g : Fin 4) (a b : Fin 16) (h : a ≠ b) : Disjoint (rowsS g a) (rowsS g b) :=
  Finset.disjoint_left.2 fun x hx hy => h (Fin.ext ((mem_rowsS.1 hx).2.symm.trans (mem_rowsS.1 hy).2))
theorem rowsS_cover (g : Fin 4) : (Finset.univ : Finset (Fin 16)).biUnion (rowsS g) = bigS g := by
  ext x; simp only [Finset.mem_biUnion, Finset.mem_univ, true_and, mem_bigS, mem_rowsS]
  exact ⟨fun ⟨_, h, _⟩ => h, fun h => ⟨ownerOf (x 1), h, rfl⟩⟩

end Cert.RsAg
-- ==== Proof.Cells.lean ====
/-
# The protocol of the exchange

Every device has one barrier cell and 4 × 4 × 16 transfer cells: for each batch and each peer, the staging
semaphore of the first exchange (kind 0), its receive semaphore (kind 1), and the same two of the second exchange
(kinds 2 and 3). A transfer cell has one duty, paid by the peer's transfer (kinds 1 and 3) or by the transfer to the
peer (kinds 0 and 2). The barrier cell has one duty for each of the other devices.

What each landing hands over:

* kind 1: the slot of the sender holds the sender's staged rows for this device;
* kind 3: the slot of the sender holds the sender's reduced chunk;
* kind 0: the staged rows come back;
* kind 2: the share of the reduced chunk comes back;
* the barrier: the payer's slots for this device, at any contents.
-/
module

public import proofs.«01_k».proof.Proof.Slots
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ghost state: the launch's part and the protocol's part -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A transfer cell's name within its device: kind, batch, peer. -/
abbrev CK : Type := Fin 4 × Fin 4 × Fin 16

/-- The barrier semaphore. -/
abbrev barS : Sem sig := (SemArray.scalar (sig.barrier 0 rfl) : Sems sig S_).sem

/-- The transfer semaphore of kind `k`, batch `g`, peer `d`. -/
def dsem (k : Fin 4) (g : Fin 4) (d : Fin 16) : DmaSem sig := (⟨9 + 64 * k.val + 16 * g.val + d.val, by omega⟩ : Fin 265)

theorem dsem_inj {k k' g g' : Fin 4} {d d' : Fin 16} (h : dsem k g d = dsem k' g' d') : k = k' ∧ g = g' ∧ d = d' := by
  have h' : 9 + 64 * k.val + 16 * g.val + d.val = 9 + 64 * k'.val + 16 * g'.val + d'.val := congrArg Fin.val h
  refine ⟨Fin.ext ?_, Fin.ext ?_, Fin.ext ?_⟩ <;> omega

abbrev csem : Option CK → SemLoc sig
  | none => .reg barS
  | some (k, g, d) => .dma (dsem k g d)

abbrev kcell (ck : Dev nD × Option CK) : GSem nD τ sig := ((ck.1 : Thread nD τ), csem ck.2)

theorem csem_inj : Function.Injective csem := by
  intro a b h
  match a, b, h with
  | none, none, _ => rfl
  | some (k, g, d), some (k', g', d'), h =>
    obtain ⟨rfl, rfl, rfl⟩ := dsem_inj (SemLoc.dma.inj h)
    rfl

theorem tc_inj {c c' : Dev nD} (h : (c : Thread nD τ) = (c' : Thread nD τ)) : c = c' := congrArg Prod.fst h

theorem kcell_inj : Function.Injective kcell := by
  rintro ⟨c, a⟩ ⟨c', a'⟩ h
  exact Prod.ext (tc_inj (congrArg Prod.fst h)) (csem_inj (congrArg Prod.snd h))

abbrev barCell (c : Dev nD) : GSem nD τ sig := kcell (c, none)
abbrev xCell (c : Dev nD) (k g : Fin 4) (d : Fin 16) : GSem nD τ sig := kcell (c, some (k, g, d))

/-- The name of a cell of the protocol (nothing for any other semaphore). -/
def nameOf : GSem nD τ sig → Option (Dev nD × Option CK) := Function.partialInv kcell
theorem nameOf_kcell (ck : Dev nD × Option CK) : nameOf (kcell ck) = some ck := Function.partialInv_left kcell_inj ck

/-! The kernel's four semaphore arrays. -/

theorem sem_kind0 (g : Fin 4) (d : Fin 16) : ((cc0_scratch6.slice (Rect.unit (s := S4x16) ![g.val, d.val] S1x1.size (sem_inb g d))).squeeze S_ squeezes_S1x1_S_).sem = dsem 0 g d := by
  revert g d; decide
theorem sem_kind1 (g : Fin 4) (d : Fin 16) : ((cc0_scratch7.slice (Rect.unit (s := S4x16) ![g.val, d.val] S1x1.size (sem_inb g d))).squeeze S_ squeezes_S1x1_S_).sem = dsem 1 g d := by
  revert g d; decide
theorem sem_kind2 (g : Fin 4) (d : Fin 16) : ((cc0_scratch8.slice (Rect.unit (s := S4x16) ![g.val, d.val] S1x1.size (sem_inb g d))).squeeze S_ squeezes_S1x1_S_).sem = dsem 2 g d := by
  revert g d; decide
theorem sem_kind3 (g : Fin 4) (d : Fin 16) : ((cc0_scratch9.slice (Rect.unit (s := S4x16) ![g.val, d.val] S1x1.size (sem_inb g d))).squeeze S_ squeezes_S1x1_S_).sem = dsem 3 g d := by
  revert g d; decide

/-- What one transfer credits. -/
abbrev N : ℕ := (rsM 0 0).view.dmaCredit
theorem N_pos : 0 < N := View.dmaCredit_pos _ (by decide)
theorem rsM_credit (g : Fin 4) (p : Fin 16) : (rsM g p).view.dmaCredit = N := rfl
theorem agM_credit (g : Fin 4) (p : Fin 16) : (agM g p).view.dmaCredit = N := rfl
theorem stM_credit (g : Fin 4) (p : Fin 16) : (stM g p).view.dmaCredit = N := rfl
theorem sgM_credit (g : Fin 4) : (sgM g).view.dmaCredit = N := rfl

/-! ## Contents -/

/-- What each device stages for the first exchange and what it sends in the second. -/
structure Vals (F : FTy → Type) where
  stg : Dev nD → S4x256x1024.Idx → Elt F .bf16
  ags : Dev nD → S4x16x1024.Idx → Elt F .bf16

/-- The first landing buffer of device `e`: in slot `p` the rows which `p` staged for `e`. -/
def Vals.rsB (v : Vals F) (e : Dev nD) : S4x16x16x1024.Idx → Elt F .bf16 := fun x => v.stg (x 1) (ix3 (x 0) (rowOf e (x 2)) (x 3))
/-- The second landing buffer: in slot `p` the chunk which `p` reduced. -/
def Vals.agB (v : Vals F) : S4x16x16x1024.Idx → Elt F .bf16 := fun x => v.ags (x 1) (ix3 (x 0) (x 2) (x 3))

/-- Share `d` of the reduced chunk, lent to the transfer to device `d`. -/
abbrev sh (d : Fin 16) : PosShare TreeShare := Transfers.shareTok fullShare 16 d

def rsP (e : Dev nD) (g : Fin 4) (p : Fin 16) (f : S4x16x16x1024.Idx → Elt F .bf16) : sProp 𝕄 := (e : Thread nD τ).loc cc0_scratch0 ↦[slotS g p]{fullShare} f
def agP (e : Dev nD) (g : Fin 4) (p : Fin 16) (f : S4x16x16x1024.Idx → Elt F .bf16) : sProp 𝕄 := (e : Thread nD τ).loc cc0_scratch1 ↦[slotS g p]{fullShare} f
def stP (e : Dev nD) (g : Fin 4) (d : Fin 16) (f : S4x256x1024.Idx → Elt F .bf16) : sProp 𝕄 := (e : Thread nD τ).loc cc0_scratch2 ↦[rowsS g d]{fullShare} f
def sgP (e : Dev nD) (g : Fin 4) (q : PosShare TreeShare) (f : S4x16x1024.Idx → Elt F .bf16) : sProp 𝕄 := (e : Thread nD τ).loc cc0_scratch3 ↦[slabS g]{q} f

omit [FloatOps F] [Named F] in
theorem rsP_eq (e : Dev nD) (g p f) : rsP (F := F) e g p f = ((rsM g p).view.loc (e : Thread nD τ) ↦[(rsM g p).view.set]{fullShare} f : sProp 𝕄) := by
  rw [rsM_set]; rfl
omit [FloatOps F] [Named F] in
theorem agP_eq (e : Dev nD) (g p f) : agP (F := F) e g p f = ((agM g p).view.loc (e : Thread nD τ) ↦[(agM g p).view.set]{fullShare} f : sProp 𝕄) := by
  rw [agM_set]; rfl
omit [FloatOps F] [Named F] in
theorem stP_eq (e : Dev nD) (g d f) : stP (F := F) e g d f = ((stM g d).view.loc (e : Thread nD τ) ↦[(stM g d).view.set]{fullShare} f : sProp 𝕄) := by
  rw [stM_set]; rfl
omit [FloatOps F] [Named F] in
theorem sgP_eq (e : Dev nD) (g q f) : sgP (F := F) e g q f = ((sgM g).view.loc (e : Thread nD τ) ↦[(sgM g).view.set]{q} f : sProp 𝕄) := by
  rw [sgM_set]; rfl

variable (v : Vals F)

omit [FloatOps F] [Named F] in
/-- A transfer of staged rows leaves the slot at the landing buffer's contents. -/
theorem rs_landed (c d : Dev nD) (g : Fin 4) (fd : S4x16x16x1024.Idx → Elt F .bf16) :
    ((rsM g c).view.loc (d : Thread nD τ) ↦[(rsM g c).view.set]{fullShare} ((rsM g c).view.write (Elt F) fd ((stM g d).view.read (Elt F) (v.stg c)) Finset.univ) : sProp 𝕄)
      = rsP d g c (v.rsB d) := by
  rw [rsP_eq]
  refine pointsTo_congr fun i hi => ?_
  obtain ⟨y, -, rfl⟩ := Finset.mem_map.mp hi
  rw [View.write_emb_of_mem _ _ (Finset.mem_univ y), eq_ix2 y]
  show (v.stg c) ((stM g d).view.emb (ix2 (y 0) (y 1))) = v.rsB d ((rsM g c).view.emb (ix2 (y 0) (y 1)))
  exact (congrArg (v.stg c) (stM_emb g d (y 0) (y 1))).trans (congrArg (v.rsB d) (rsM_emb g c (y 0) (y 1))).symm

omit [FloatOps F] [Named F] in
/-- A transfer of a reduced chunk leaves the slot at the landing buffer's contents. -/
theorem ag_landed (c d : Dev nD) (g : Fin 4) (fd : S4x16x16x1024.Idx → Elt F .bf16) :
    ((agM g c).view.loc (d : Thread nD τ) ↦[(agM g c).view.set]{fullShare} ((agM g c).view.write (Elt F) fd ((sgM g).view.read (Elt F) (v.ags c)) Finset.univ) : sProp 𝕄)
      = agP d g c v.agB := by
  rw [agP_eq]
  refine pointsTo_congr fun i hi => ?_
  obtain ⟨y, -, rfl⟩ := Finset.mem_map.mp hi
  rw [View.write_emb_of_mem _ _ (Finset.mem_univ y), eq_ix2 y]
  show (v.ags c) ((sgM g).view.emb (ix2 (y 0) (y 1))) = v.agB ((agM g c).view.emb (ix2 (y 0) (y 1)))
  exact (congrArg (v.ags c) (sgM_emb g (y 0) (y 1))).trans (congrArg v.agB (agM_emb g c (y 0) (y 1))).symm

/-! ## The schedule -/

/-- The slots which device `p` gives to device `e` at the barrier. -/
def barPay (e p : Dev nD) : sProp 𝕄 :=
  bigSep Finset.univ fun g : Fin 4 => iprop((∃ f, rsP (F := F) p g e f) ∗ ∃ f, agP (F := F) p g e f)

/-- What a landing on cell `(k, g, d)` of device `e` hands over. -/
def xPay (e : Dev nD) (k g : Fin 4) (d : Fin 16) : sProp 𝕄 :=
  if k = 0 then stP e g d (v.stg e) else if k = 1 then rsP e g d (v.rsB e) else if k = 2 then sgP e g (sh d) (v.ags e) else agP e g d v.agB

def payOf (p : Dev nD) : Option (Dev nD × Option CK) → sProp 𝕄
  | some (e, none) => barPay (F := F) e p
  | some (e, some (k, g, d)) => xPay v e k g d
  | none => iprop(emp)

def dutiesOf : Option (Dev nD × Option CK) → Finset (Dev nD)
  | some (e, none) => Finset.univ.erase e
  | some (e, some (_, _, d)) => if d = e then ∅ else {d}
  | none => ∅

def amountOf' : Option (Dev nD × Option CK) → ℕ
  | some (_, none) => 1
  | _ => N

theorem amountOf'_pos (o) : 0 < amountOf' o := by
  match o with
  | some (_, none) => exact Nat.one_pos
  | some (_, some _) => exact N_pos
  | none => exact N_pos

/-- One round: the duties, what each contributes and what it hands over. -/
def rd : Rounds.Schedule (GSem nD τ sig) (Dev nD) 𝕄 where
  duties g r := if r = 0 then dutiesOf (nameOf g) else ∅
  unitless _ := False
  amount g _ _ := amountOf' (nameOf g)
  payload g _ p := payOf v p (nameOf g)
  amount_pos g _ _ _ := amountOf'_pos _

instance barPay_storable (e p : Dev nD) : BI.Storable (upEmb : UEmb _ 𝕄) (barPay (F := F) e p) := by unfold barPay rsP agP; infer_instance
instance xPay_storable (e : Dev nD) (k g d) : BI.Storable (upEmb : UEmb _ 𝕄) (xPay v e k g d) := by
  unfold xPay rsP agP stP sgP; (repeat' split) <;> infer_instance

instance rd_payload_storable (g : GSem nD τ sig) (r : ℕ) (d : Dev nD) : BI.Storable (upEmb : UEmb _ 𝕄) ((rd v).payload g r d) := by
  show BI.Storable upEmb (payOf v d (nameOf g))
  match nameOf g with
  | some (e, none) => exact barPay_storable e d
  | some (e, some (k, g, d)) => exact xPay_storable v e k g d
  | none => show BI.Storable upEmb iprop(emp); infer_instance

section Sched
variable (c : Dev nD) (k g : Fin 4) (d : Fin 16)

omit [FloatOps F] [Named F]

theorem duties_bar : (rd v).duties (barCell c) 0 = Finset.univ.erase c := by
  show dutiesOf (nameOf (kcell (c, none))) = _; rw [nameOf_kcell]; rfl
theorem duties_x (h : d ≠ c) : (rd v).duties (xCell c k g d) 0 = {d} := by
  show dutiesOf (nameOf (kcell (c, some (k, g, d)))) = _; rw [nameOf_kcell]; exact if_neg h
theorem duties_self : (rd v).duties (xCell c k g c) 0 = ∅ := by
  show dutiesOf (nameOf (kcell (c, some (k, g, c)))) = _; rw [nameOf_kcell]; exact if_pos rfl
theorem duties_later (g : GSem nD τ sig) : ∀ r, 1 ≤ r → (rd v).duties g r = ∅ := fun r hr => if_neg (by omega)
theorem duties_x_self_all : ∀ r, 0 ≤ r → (rd v).duties (xCell c k g c) r = ∅ := fun r _ => by
  by_cases h : r = 0
  · subst h; exact duties_self v c k g
  · exact if_neg h
theorem amount_bar (p : Dev nD) : (rd v).amount (barCell c) 0 p = 1 := by
  show amountOf' (nameOf (kcell (c, none))) = _; rw [nameOf_kcell]; rfl
theorem amount_x (p : Dev nD) : (rd v).amount (xCell c k g d) 0 p = N := by
  show amountOf' (nameOf (kcell (c, some (k, g, d)))) = _; rw [nameOf_kcell]; rfl
theorem payload_bar (p : Dev nD) : (rd v).payload (barCell c) 0 p = barPay c p := by
  show payOf v p (nameOf (kcell (c, none))) = _; rw [nameOf_kcell]; rfl
theorem payload_x (p : Dev nD) : (rd v).payload (xCell c k g d) 0 p = xPay v c k g d := by
  show payOf v p (nameOf (kcell (c, some (k, g, d)))) = _; rw [nameOf_kcell]; rfl
theorem expect_bar : (rd v).expect (barCell c) 0 = 15 := by
  unfold Schedule.expect Schedule.amountOf
  rw [duties_bar, Finset.sum_congr rfl fun p _ => amount_bar v c p, Finset.sum_const, Finset.card_erase_of_mem (Finset.mem_univ _),
    Finset.card_univ, Fintype.card_fin, smul_eq_mul]
  rfl
theorem expect_x (h : d ≠ c) : (rd v).expect (xCell c k g d) 0 = N := by
  unfold Schedule.expect Schedule.amountOf; rw [duties_x v c k g d h, Finset.sum_singleton, amount_x]
theorem rest_x (h : d ≠ c) : bigSep ((rd v).duties (xCell c k g d) 0 \ ∅) (fun p => (rd v).payload (xCell c k g d) 0 p) = xPay v c k g d := by
  rw [Finset.sdiff_empty, duties_x v c k g d h, bigSep_singleton, payload_x]
theorem rest_bar : bigSep ((rd v).duties (barCell c) 0 \ ∅) (fun p => (rd v).payload (barCell c) 0 p) = bigSep (Finset.univ.erase c) (fun p => barPay c p) := by
  rw [Finset.sdiff_empty, duties_bar]; exact bigSep_congr fun p _ => payload_bar v c p

theorem xPay0 : xPay v c 0 g d = stP c g d (v.stg c) := if_pos rfl
theorem xPay1 : xPay v c 1 g d = rsP c g d (v.rsB c) := rfl
theorem xPay2 : xPay v c 2 g d = sgP c g (sh d) (v.ags c) := rfl
theorem xPay3 : xPay v c 3 g d = agP c g d v.agB := rfl

end Sched

/-! ## The order of the payments

A device's payments come in nine phases of sixteen: the barrier signals, then the transfers of batches 0 and 1 of the
first exchange, batch 0 of the second, batch 2 of the first, and so on. Payment `16 * s + d` of phase `s` goes to
device `d`; a device makes none to itself. -/

/-- The cell which payment `n` of device `c` credits. -/
def payCell (c : Dev nD) (n : ℕ) : GSem nD τ sig :=
  let d : Dev nD := ⟨n % 16, Nat.mod_lt _ (by decide)⟩
  match n / 16 with
  | 0 => barCell d
  | 1 => xCell d 1 0 c
  | 2 => xCell d 1 1 c
  | 3 => xCell d 3 0 c
  | 4 => xCell d 1 2 c
  | 5 => xCell d 3 1 c
  | 6 => xCell d 1 3 c
  | 7 => xCell d 3 2 c
  | _ => xCell d 3 3 c
/-- The units which it credits. -/
def payAmt (n : ℕ) : ℕ := if n / 16 = 0 then 1 else N

/-- What device `c` still owes when it has made the payments below `n`. -/
def owe (c : Dev nD) (n : ℕ) : CellTallies nD τ sig Unit :=
  ∑ j ∈ (Finset.Ico n 144).filter (fun j => j % 16 ≠ c.val), tallyAt (payCell c j) () (payAmt j)

theorem owe_end (c : Dev nD) : owe c 144 = 0 := by unfold owe; rw [Finset.Ico_self]; rfl
theorem owe_skip (c : Dev nD) (n : ℕ) (h : n % 16 = c.val) : owe c n = owe c (n + 1) := by
  unfold owe
  refine Finset.sum_congr ?_ fun _ _ => rfl
  ext j; simp only [Finset.mem_filter, Finset.mem_Ico]
  constructor
  · rintro ⟨⟨h1, h2⟩, h3⟩
    refine ⟨⟨?_, h2⟩, h3⟩
    rcases Nat.eq_or_lt_of_le h1 with rfl | h4
    · exact absurd h h3
    · exact h4
  · rintro ⟨⟨h1, h2⟩, h3⟩; exact ⟨⟨by omega, h2⟩, h3⟩
theorem owe_step (c : Dev nD) (n : ℕ) (hn : n < 144) (h : n % 16 ≠ c.val) : owe c n = owe c (n + 1) + tallyAt (payCell c n) () (payAmt n) := by
  unfold owe
  have : (Finset.Ico n 144).filter (fun j => j % 16 ≠ c.val) = insert n ((Finset.Ico (n + 1) 144).filter (fun j => j % 16 ≠ c.val)) := by
    ext j; simp only [Finset.mem_filter, Finset.mem_Ico, Finset.mem_insert]
    constructor
    · rintro ⟨⟨h1, h2⟩, h3⟩
      rcases Nat.eq_or_lt_of_le h1 with rfl | h4
      · exact .inl rfl
      · exact .inr ⟨⟨h4, h2⟩, h3⟩
    · rintro (rfl | ⟨⟨h1, h2⟩, h3⟩)
      · exact ⟨⟨le_refl _, hn⟩, h⟩
      · exact ⟨⟨by omega, h2⟩, h3⟩
  rw [this, Finset.sum_insert (fun h => by simp at h), add_comm]

/-! ## The levels -/

/-- The phase in which the transfer cell of kind `k`, batch `g` is paid; the staging cells have none. -/
def levelOf : Option (Dev nD × Option CK) → ℕ
  | some (_, none) => 1
  | some (_, some (1, 0, _)) => 2
  | some (_, some (1, 1, _)) => 3
  | some (_, some (3, 0, _)) => 4
  | some (_, some (1, 2, _)) => 5
  | some (_, some (3, 1, _)) => 6
  | some (_, some (1, 3, _)) => 7
  | some (_, some (3, 2, _)) => 8
  | some (_, some (3, 3, _)) => 9
  | _ => 0

def L (g : GSem nD τ sig) : Finset Unit := if g.1.2 = .tc then {()} else ∅
def lv (g : GSem nD τ sig) (_ : Unit) : ℕ := levelOf (nameOf g)

theorem L_of_ne (g : GSem nD τ sig) (h : g.1.2 ≠ .tc) : L g = ∅ := if_neg h
theorem L_tc (c : Dev nD) (sm : SemLoc sig) : L ((c : Thread nD τ), sm) = {()} := if_pos rfl

theorem payCell_tc (c : Dev nD) (n : ℕ) : L (payCell c n) = {()} := by
  unfold payCell; dsimp only; split <;> exact if_pos rfl

theorem lv_payCell (c : Dev nD) (n : ℕ) (hn : n < 144) (u : Unit) : lv (payCell c n) u = n / 16 + 1 := by
  have h : n / 16 < 9 := by omega
  unfold lv payCell; dsimp only
  generalize n / 16 = s at h
  match s, h with
  | 0, _ | 1, _ | 2, _ | 3, _ | 4, _ | 5, _ | 6, _ | 7, _ | 8, _ => all_goals (show levelOf (nameOf (kcell _)) = _; rw [nameOf_kcell]; rfl)

theorem owe_pos {c : Dev nD} {n : ℕ} {g : GSem nD τ sig} {u : Unit} (h : 0 < owe c n g u) :
    ∃ j, n ≤ j ∧ j < 144 ∧ j % 16 ≠ c.val ∧ g = payCell c j := by
  by_contra hn
  have h0 : owe c n g u = 0 := by
    unfold owe
    rw [Finset.sum_apply, Finsupp.finset_sum_apply]
    refine Finset.sum_eq_zero fun j hj => ?_
    obtain ⟨h1, h2⟩ := Finset.mem_filter.1 hj
    obtain ⟨h3, h4⟩ := Finset.mem_Ico.1 h1
    rw [tallyAt_apply]
    exact if_neg fun h' => hn ⟨j, h3, h4, h2, h'.1⟩
  omega

omit [FloatOps F] [Named F] in
/-- A device may wait on a cell of a level below all that it still owes. -/
theorem mayWait (c : Dev nD) (sm : SemLoc sig) (n : ℕ) (h : lv ((c : Thread nD τ), sm) () ≤ n / 16) :
    (levAts L lv : sProp 𝕄) ⊢ MayWait (c : Thread nD τ) sm () (owe c n) :=
  MayOwe.of_cut (L := L) (lev := lv) (n / 16) (fun p hp => by rw [Finset.mem_singleton.mp hp, L_tc]; exact Finset.mem_singleton_self _)
    (fun g u hg => by obtain ⟨j, -, -, -, rfl⟩ := owe_pos hg; rw [payCell_tc]; exact Finset.mem_singleton_self _)
    (fun p hp => by rw [Finset.mem_singleton.mp hp]; exact h)
    (fun g u hg => by
      obtain ⟨j, h1, h2, -, rfl⟩ := owe_pos hg
      rw [lv_payCell c j h2]
      have := Nat.div_le_div_right (c := 16) h1
      omega)

end Cert.RsAg
-- ==== Proof.Rules.lean ====
/-
# The transfers' rules at the protocol's cells

What every device knows throughout (`Known`), what it owes (`Owing`), the families of the transfers' states over the
peers (`fam`), and the rule of each single operation: a transfer of either exchange, a wait on a transfer cell,
a barrier signal and the barrier wait.
-/
module

public import proofs.«01_k».proof.Proof.Cells

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program of device `c`'s kernel. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (v : Vals F) (K : Dev nD × Option CK → ℕ)

/-! Separating conjunctions over a set, in the notation of the proofs below. -/

theorem star_elim {M : Type} [URA M] {I : Type} [DecidableEq I] {s : Finset I} {i : I} (h : i ∈ s) (Φ : I → sProp M) : (bigSep s Φ : sProp M) ⊢ Φ i :=
  bigSep_elim h
theorem star_insert {M : Type} [URA M] {I : Type} [DecidableEq I] {s : Finset I} {i : I} (h : i ∉ s) (Φ : I → sProp M) :
    bigSep (insert i s) Φ = iprop(Φ i ∗ bigSep s Φ) := bigSep_insert h

/-- What every device knows: the cells' invariants, that every cell is at round 0 at least, and the levels. -/
def Known : sProp 𝕄 :=
  iprop((bigSep Finset.univ fun ck => cellInv ER (rd v) (K ck) (kcell ck)) ∗ (bigSep Finset.univ fun ck => reached ER (kcell ck) 0) ∗ levAts L lv)

instance known_persistent : BI.Persistent (Known v K) := by unfold Known; infer_instance

omit [FloatOps F] [Named F] in
theorem known_inv (ck : Dev nD × Option CK) : Known v K ⊢ cellInv ER (rd v) (K ck) (kcell ck) := by
  unfold Known
  iintro ⟨H, -, -⟩
  iapply (star_elim (Finset.mem_univ ck) (fun ck => cellInv ER (rd v) (K ck) (kcell ck))) $$ H
omit [FloatOps F] [Named F] in
theorem known_reached (ck : Dev nD × Option CK) : Known v K ⊢ reached ER (kcell ck) 0 := by
  unfold Known
  iintro ⟨-, H, -⟩
  iapply (star_elim (Finset.mem_univ ck) (fun ck => (reached ER (kcell ck) 0 : sProp 𝕄))) $$ H
/-- The devices other than `d`. -/
def others (d : Dev nD) : Finset (Dev nD) := Finset.univ.erase d
theorem univ_insert (d : Dev nD) : (Finset.univ : Finset (Dev nD)) = insert d (others d) := (Finset.insert_erase (Finset.mem_univ d)).symm
theorem notMem_others (d : Dev nD) : d ∉ others d := Finset.notMem_erase d _

theorem lv_cell (c : Dev nD) (ck : Option CK) : lv (kcell (c, ck)) () = levelOf (some (c, ck)) := by
  unfold lv; rw [nameOf_kcell]

omit [FloatOps F] [Named F] in
theorem known_mayWait (c : Dev nD) (ck : Option CK) (n : ℕ) (h : levelOf (some (c, ck)) ≤ n / 16) :
    Known v K ⊢ MayWait (c : Thread nD τ) (csem ck) () (owe c n) := by
  have h1 := mayWait (F := F) c (csem ck) n ((le_of_eq (lv_cell c ck)).trans h)
  unfold Known
  iintro ⟨-, -, H⟩
  iapply h1; iexact H

/-- What device `c` owes when it has made the payments below `n`, whatever it has waited for. -/
def Owing (c : Dev nD) (n : ℕ) : sProp 𝕄 := iprop(∃ W, owes (c : Thread nD τ) (owe c n) W)

/-! ## One state per peer -/

/-- The peers below `n` are in state `B`, the others in state `A`; the device itself has no state. -/
def fam (c : Dev nD) (A B : Dev nD → sProp 𝕄) (n : ℕ) : sProp 𝕄 :=
  bigSep Finset.univ fun e : Dev nD => if e = c then iprop(emp) else if e.val < n then B e else A e

omit [FloatOps F] [Named F] in
theorem fam_self (c : Dev nD) (A B : Dev nD → sProp 𝕄) : fam c A B c.val = fam c A B (c.val + 1) := by
  unfold fam
  refine bigSep_congr fun e _ => ?_
  by_cases h : e = c
  · rw [if_pos h, if_pos h]
  · rw [if_neg h, if_neg h]
    have h' : e.val ≠ c.val := fun h' => h (Fin.ext h')
    by_cases h2 : e.val < c.val
    · rw [if_pos h2, if_pos (by omega)]
    · rw [if_neg h2, if_neg (by omega)]

omit [FloatOps F] [Named F] in
theorem fam_take (c : Dev nD) (A B : Dev nD → sProp 𝕄) (d : Dev nD) (h : d ≠ c) :
    fam c A B d.val ⊢ iprop(A d ∗ (B d -∗ fam c A B (d.val + 1))) := by
  unfold fam
  rw [univ_insert d, star_insert (notMem_others d), star_insert (notMem_others d), if_neg h, if_neg h,
    if_neg (lt_irrefl _), if_pos (Nat.lt_succ_self _)]
  rw [bigSep_congr (s := others d) (Φ := fun e : Dev nD => if e = c then iprop(emp) else if e.val < d.val then B e else A e)
    (Ψ := fun e : Dev nD => if e = c then iprop(emp) else if e.val < d.val + 1 then B e else A e) (fun e he => by
      have hne : e.val ≠ d.val := fun h' => (Finset.mem_erase.1 he).1 (Fin.ext h')
      by_cases h2 : e.val < d.val
      · rw [if_pos h2, if_pos (Nat.lt_succ_of_lt h2)]
      · rw [if_neg h2, if_neg (fun h3 => h2 (lt_of_le_of_ne (Nat.lt_succ_iff.1 h3) hne))])]
  iintro ⟨H1, H2⟩
  isplitl [H1]; · iexact H1
  iintro H; isplitl [H] <;> iassumption

omit [FloatOps F] [Named F] in
theorem fam_zero (c : Dev nD) (A B : Dev nD → sProp 𝕄) : fam c A B 0 = bigSep (others c) A := by
  unfold fam
  rw [univ_insert c, star_insert (notMem_others c), if_pos rfl]
  rw [bigSep_congr (s := others c) (Ψ := A) (fun e he => by
      rw [if_neg (Finset.mem_erase.1 he).1, if_neg (by omega)])]
  exact BI.Entails.antisymm (emp_sep (PROP := sProp 𝕄)).1 (emp_sep (PROP := sProp 𝕄)).2
omit [FloatOps F] [Named F] in
theorem fam_full (c : Dev nD) (A B : Dev nD → sProp 𝕄) : fam c A B 16 = bigSep (others c) B := by
  unfold fam
  rw [univ_insert c, star_insert (notMem_others c), if_pos rfl]
  rw [bigSep_congr (s := others c) (Ψ := B) (fun e he => by
      rw [if_neg (Finset.mem_erase.1 he).1, if_pos (by have : e.val < 16 := e.isLt; omega)])]
  exact BI.Entails.antisymm (emp_sep (PROP := sProp 𝕄)).1 (emp_sep (PROP := sProp 𝕄)).2

/-! ## The rules -/

section
variable (c d : Dev nD) (hdc : d ≠ c) (g : Fin 4) (n : ℕ)

include hdc

omit [FloatOps F] [Named F] in
theorem mod_ne (hm : n % 16 = d.val) : n % 16 ≠ c.val := fun h => hdc (Fin.ext (hm.symm.trans h))

/-- A transfer of the first exchange. -/
theorem wp_rs_send {α : Type} {Q : α → sProp 𝕄} {k : PUnit → Prog (TpuEff nD τ sig (Elt F) Λ₀ .tc) α}
    {e : Dev nD} (he : e = d) {sS sR : DmaSem sig} (hS : sS = dsem 0 g d) (hR : sR = dsem 1 g c)
    {src dst : Memref sig .tc .vmem S16x1024 .bf16} (hsrc' : src = stM g d) (hdst' : dst = rsM g c)
    {hsc : (dst : Memref sig (Dev.tc e : Thread nD τ).2.kind .vmem S16x1024 .bf16).view.ref.isScScratch = false}
    {hsrc : src.view.WordExact} {hdst : dst.view.WordExact}
    {hsem : DmaTarget.Typed .vmem (.dma sR) (.remote (Dev.tc e : Thread nD τ) (dst : Memref sig .tc .vmem S16x1024 .bf16) (.dma sS) hsc)}
    (hn : n < 144) (hm : n % 16 = d.val) (hcell : payCell c n = xCell d 1 g c) (hamt : payAmt n = N) :
    iprop(Known v K ∗ stP c g d (v.stg c) ∗ (∃ f, rsP (F := F) d g c f) ∗ Owing (F := F) c n
        ∗ dutyTok ER (xCell c 0 g d) 0 d ∗ dutyTok ER (xCell d 1 g c) 0 c)
      ⊢ iprop(((cred (tallyAt (xCell c 0 g d) () N) ∗ Owing (F := F) c (n + 1)) -∗ Wp c (k ⟨⟩) Q)
          -∗ Wp c (.op (.enqueueDma src (.remote (Dev.tc e : Thread nD τ) dst (.dma sS) hsc) (.dma sR) hsrc hdst hsem) k) Q) := by
  subst he hS hR hsrc' hdst'
  have hstep := owe_step c n hn (mod_ne c e hdc n hm)
  rw [hcell, hamt] at hstep
  iintro ⟨#HK, Hst, ⟨%f, Hrs⟩, HO, Ht1, Ht2⟩ Hk
  unfold Owing
  icases HO with ⟨%W, HO⟩
  ihave Hst := (Entails.of_eq (stP_eq (F := F) c g e (v.stg c))) $$ Hst
  ihave Hrs := (Entails.of_eq (rsP_eq (F := F) e g c f)) $$ Hrs
  have h1 : e ∈ (rd v).duties ((c : Thread nD τ), SemLoc.dma (dsem 0 g e)) 0 := by
    rw [show (rd v).duties ((c : Thread nD τ), SemLoc.dma (dsem 0 g e)) 0 = _ from duties_x v c 0 g e hdc]
    exact Finset.mem_singleton_self _
  have h2 : c ∈ (rd v).duties ((e : Thread nD τ), SemLoc.dma (dsem 1 g c)) 0 := by
    rw [show (rd v).duties ((e : Thread nD τ), SemLoc.dma (dsem 1 g c)) 0 = _ from duties_x v e 1 g c hdc.symm]
    exact Finset.mem_singleton_self _
  have h3 : ((stM g e).view.loc (c : Thread nD τ) ↦[(stM g e).view.set]{fullShare} (v.stg c) : sProp 𝕄)
      ⊢ (rd v).payload ((c : Thread nD τ), SemLoc.dma (dsem 0 g e)) 0 e :=
    Entails.of_eq ((stP_eq c g e (v.stg c)).symm.trans ((xPay0 v c g e).symm.trans (payload_x v c 0 g e e).symm))
  have h4 : ((rsM g c).view.loc (e : Thread nD τ) ↦[(rsM g c).view.set]{fullShare} ((rsM g c).view.write (Elt F) f ((stM g e).view.read (Elt F) (v.stg c)) Finset.univ) : sProp 𝕄)
      ⊢ (rd v).payload ((e : Thread nD τ), SemLoc.dma (dsem 1 g c)) 0 c :=
    Entails.of_eq ((rs_landed v c e g f).trans ((xPay1 v e g c).symm.trans (payload_x v e 1 g c c).symm))
  have R := Rounds.wp_send_pointsTo 𝒱₀ ER (rd v) (c : Thread nD τ) none (κ₁ := K (c, some (0, g, e))) (κ₂ := K (e, some (1, g, c)))
    (Γ := .empty) (hsrc := hsrc) (hdst := hdst) (hsem := hsem) (k := k) (Q := Q) (defs := defs₀ (F := F)) (q := fullShare)
    (r₁ := 0) (r₂ := 0) (d₁ := e) (d₂ := c) (fd := f) (fs := v.stg c) h1 h2
    () () N rfl (amount_x v c 0 g e e) (amount_x v e 1 g c c) (owe c (n + 1)) hstep (W := W) h3 h4 (Es := Set.univ)
  iapply R
    $$ [Hst Hrs HO Ht1 Ht2]
  · isplitr; · iapply (known_inv v K (c, some (0, g, e))); iexact HK
    isplitr; · iapply (known_inv v K (e, some (1, g, c))); iexact HK
    isplitl [Hst]; · iexact Hst
    isplitl [Hrs]; · iexact Hrs
    isplitl [HO]; · iexact HO
    isplitl [Ht1]; · iexact Ht1
    isplitr; · iapply (known_reached v K (c, some (0, g, e))); iexact HK
    isplitl [Ht2]; · iexact Ht2
    iapply (known_reached v K (e, some (1, g, c))); iexact HK
  iintro ⟨Hc, HO⟩
  iapply Hk
  isplitl [Hc]; · iexact Hc
  iexists W; iexact HO

/-- A transfer of the second exchange. -/
theorem wp_ag_send {α : Type} {Q : α → sProp 𝕄} {k : PUnit → Prog (TpuEff nD τ sig (Elt F) Λ₀ .tc) α}
    {e : Dev nD} (he : e = d) {sS sR : DmaSem sig} (hS : sS = dsem 2 g d) (hR : sR = dsem 3 g c)
    {src dst : Memref sig .tc .vmem S16x1024 .bf16} (hsrc' : src = sgM g) (hdst' : dst = agM g c)
    {hsc : (dst : Memref sig (Dev.tc e : Thread nD τ).2.kind .vmem S16x1024 .bf16).view.ref.isScScratch = false}
    {hsrc : src.view.WordExact} {hdst : dst.view.WordExact}
    {hsem : DmaTarget.Typed .vmem (.dma sR) (.remote (Dev.tc e : Thread nD τ) (dst : Memref sig .tc .vmem S16x1024 .bf16) (.dma sS) hsc)}
    (hn : n < 144) (hm : n % 16 = d.val) (hcell : payCell c n = xCell d 3 g c) (hamt : payAmt n = N) :
    iprop(Known v K ∗ sgP c g (sh d) (v.ags c) ∗ (∃ f, agP (F := F) d g c f) ∗ Owing (F := F) c n
        ∗ dutyTok ER (xCell c 2 g d) 0 d ∗ dutyTok ER (xCell d 3 g c) 0 c)
      ⊢ iprop(((cred (tallyAt (xCell c 2 g d) () N) ∗ Owing (F := F) c (n + 1)) -∗ Wp c (k ⟨⟩) Q)
          -∗ Wp c (.op (.enqueueDma src (.remote (Dev.tc e : Thread nD τ) dst (.dma sS) hsc) (.dma sR) hsrc hdst hsem) k) Q) := by
  subst he hS hR hsrc' hdst'
  have hstep := owe_step c n hn (mod_ne c e hdc n hm)
  rw [hcell, hamt] at hstep
  iintro ⟨#HK, Hst, ⟨%f, Hrs⟩, HO, Ht1, Ht2⟩ Hk
  unfold Owing
  icases HO with ⟨%W, HO⟩
  ihave Hst := (Entails.of_eq (sgP_eq (F := F) c g (sh e) (v.ags c))) $$ Hst
  ihave Hrs := (Entails.of_eq (agP_eq (F := F) e g c f)) $$ Hrs
  have h1 : e ∈ (rd v).duties ((c : Thread nD τ), SemLoc.dma (dsem 2 g e)) 0 := by
    rw [show (rd v).duties ((c : Thread nD τ), SemLoc.dma (dsem 2 g e)) 0 = _ from duties_x v c 2 g e hdc]
    exact Finset.mem_singleton_self _
  have h2 : c ∈ (rd v).duties ((e : Thread nD τ), SemLoc.dma (dsem 3 g c)) 0 := by
    rw [show (rd v).duties ((e : Thread nD τ), SemLoc.dma (dsem 3 g c)) 0 = _ from duties_x v e 3 g c hdc.symm]
    exact Finset.mem_singleton_self _
  have h3 : ((sgM g).view.loc (c : Thread nD τ) ↦[(sgM g).view.set]{sh e} (v.ags c) : sProp 𝕄)
      ⊢ (rd v).payload ((c : Thread nD τ), SemLoc.dma (dsem 2 g e)) 0 e :=
    Entails.of_eq ((sgP_eq c g (sh e) (v.ags c)).symm.trans ((xPay2 v c g e).symm.trans (payload_x v c 2 g e e).symm))
  have h4 : ((agM g c).view.loc (e : Thread nD τ) ↦[(agM g c).view.set]{fullShare} ((agM g c).view.write (Elt F) f ((sgM g).view.read (Elt F) (v.ags c)) Finset.univ) : sProp 𝕄)
      ⊢ (rd v).payload ((e : Thread nD τ), SemLoc.dma (dsem 3 g c)) 0 c :=
    Entails.of_eq ((ag_landed v c e g f).trans ((xPay3 v e g c).symm.trans (payload_x v e 3 g c c).symm))
  have R := Rounds.wp_send_pointsTo 𝒱₀ ER (rd v) (c : Thread nD τ) none (κ₁ := K (c, some (2, g, e))) (κ₂ := K (e, some (3, g, c)))
    (Γ := .empty) (hsrc := hsrc) (hdst := hdst) (hsem := hsem) (k := k) (Q := Q) (defs := defs₀ (F := F)) (q := sh e)
    (r₁ := 0) (r₂ := 0) (d₁ := e) (d₂ := c) (fd := f) (fs := v.ags c) h1 h2
    () () N rfl (amount_x v c 2 g e e) (amount_x v e 3 g c c) (owe c (n + 1)) hstep (W := W) h3 h4 (Es := Set.univ)
  iapply R
    $$ [Hst Hrs HO Ht1 Ht2]
  · isplitr; · iapply (known_inv v K (c, some (2, g, e))); iexact HK
    isplitr; · iapply (known_inv v K (e, some (3, g, c))); iexact HK
    isplitl [Hst]; · iexact Hst
    isplitl [Hrs]; · iexact Hrs
    isplitl [HO]; · iexact HO
    isplitl [Ht1]; · iexact Ht1
    isplitr; · iapply (known_reached v K (c, some (2, g, e))); iexact HK
    isplitl [Ht2]; · iexact Ht2
    iapply (known_reached v K (e, some (3, g, c))); iexact HK
  iintro ⟨Hc, HO⟩
  iapply Hk
  isplitl [Hc]; · iexact Hc
  iexists W; iexact HO

/-- A wait on a transfer cell: what the landing hands over, and the cell closed at zero. -/
theorem wp_x_wait {α : Type} {Q : α → sProp 𝕄} {k : PUnit → Prog (TpuEff nD τ sig (Elt F) Λ₀ .tc) α}
    (kd : Fin 4) {sm : DmaSem sig} (hsm : sm = dsem kd g d)
    {src dst : Memref sig .tc .vmem S16x1024 .bf16} (hcr : dst.view.dmaCredit = N)
    {hsrc : src.view.WordExact} {hdst : dst.view.WordExact}
    (hlev : levelOf (some (c, some (kd, g, d))) ≤ n / 16) :
    iprop(Known v K ∗ cred (tallyAt (xCell c kd g d) () N) ∗ Owing (F := F) c n ∗ atPos ER (xCell c kd g d) 0 ∅ 0)
      ⊢ iprop(((xPay v c kd g d ∗ semVal (xCell c kd g d) 0 ∗ Owing (F := F) c n) -∗ Wp c (k ⟨⟩) Q)
          -∗ Wp c (.op (.waitDma2 sm src dst hsrc hdst) k) Q) := by
  subst hsm
  iintro ⟨#HK, Hc, HO, Hat⟩ Hk
  unfold Owing
  icases HO with ⟨%W, HO⟩
  iapply (Rounds.wp_wait_rest_token 𝒱₀ ER (rd v) (c : Thread nD τ) none (κ := K (c, some (kd, g, d)))
      (wpE_waitDma2_eq 𝒱₀ (c : Thread nD τ) none Set.univ) (Set.mem_univ _) () (O := owe c n) (W := W) (R := 0) (m := 0) (T := ∅)
      (by rw [Nat.zero_add, hcr]; exact (expect_x v c kd g d hdc).symm)) $$ [Hc HO Hat]
  · isplitr; · iapply (known_inv v K (c, some (kd, g, d))); iexact HK
    isplitl [Hc]; · rw [hcr]; iexact Hc
    isplitl [HO]; · iexact HO
    isplitr
    · iapply (known_mayWait v K c (some (kd, g, d)) n hlev); iexact HK
    iexact Hat
  iintro ⟨HO, Hat, -, Hpay⟩
  ihave Hp := (Entails.of_eq (rest_x v c kd g d hdc)) $$ Hpay
  imod (Rounds.cell_close ER (rd v) (Set.mem_univ (K (c, some (kd, g, d)))) (fun h => h) (R := 0 + 1) (duties_later v (xCell c kd g d))) $$ [Hat] with Hz
  · isplitr; · iapply (known_inv v K (c, some (kd, g, d))); iexact HK
    iexact Hat
  iapply Hk
  isplitl [Hp]; · iexact Hp
  isplitl [Hz]; · iexact Hz
  iexists _; iexact HO

/-- A barrier signal to device `d`, with this device's slots for it. -/
theorem wp_bar_signal {α : Type} {Q : α → sProp 𝕄} {k : PUnit → Prog (TpuEff nD τ sig (Elt F) Λ₀ .tc) α}
    {e : Dev nD} (he : e = d) {s : Sem sig} (hs : s = barS) {amt : ℤ} (hamt : amt = ((1 : ℕ) : ℤ)) (hm : n = d.val) :
    iprop(Known v K ∗ Owing (F := F) c n ∗ dutyTok ER (barCell d) 0 c ∗ barPay (F := F) d c)
      ⊢ iprop((Owing (F := F) c (n + 1) -∗ Wp c (k ⟨⟩) Q)
          -∗ Wp c (.op (.semSignal (Dev.tc e : Thread nD τ) s amt) k) Q) := by
  subst he hs hamt hm
  have hstep := owe_step c e.val (by have : e.val < 16 := e.isLt; omega) (mod_ne c e hdc e.val (Nat.mod_eq_of_lt e.isLt))
  have hcell : payCell c e.val = barCell e := by
    have h0 : e.val / 16 = 0 := Nat.div_eq_of_lt e.isLt
    have h1 : (⟨e.val % 16, Nat.mod_lt _ (by decide)⟩ : Dev nD) = e := Fin.ext (Nat.mod_eq_of_lt e.isLt)
    unfold payCell; rw [h0, h1]; rfl
  have hamt : payAmt e.val = 1 := if_pos (Nat.div_eq_of_lt e.isLt)
  rw [hcell, hamt] at hstep
  iintro ⟨#HK, HO, Ht, Hp⟩ Hk
  unfold Owing
  icases HO with ⟨%W, HO⟩
  iapply (Rounds.wp_signal 𝒱₀ ER (rd v) (c : Thread nD τ) none (dst := (e : Thread nD τ)) (κ := K (e, none))
      (d := c) (by rw [show (((e : Thread nD τ), SemLoc.reg barS) : GSem nD τ sig) = barCell e from rfl, duties_bar]; exact Finset.mem_erase.2 ⟨hdc.symm, Finset.mem_univ _⟩)
      (amount_bar v e c) () (owe c (e.val + 1)) hstep)
    $$ [HO Ht Hp]
  · isplitr; · iapply (known_inv v K (e, none)); iexact HK
    isplitl [HO]; · iexact HO
    isplitl [Ht]; · iexact Ht
    isplitl [Hp]; · rw [show (rd v).payload ((e : Thread nD τ), SemLoc.reg barS) 0 c = _ from payload_bar v e c]; iexact Hp
    iapply (known_reached v K (e, none)); iexact HK
  iintro HO
  iapply Hk
  iexists W; iexact HO

end

/-- The barrier wait: every other device's slots for this one, and the cell closed at zero. -/
theorem wp_bar_wait (c : Dev nD) {α : Type} {Q : α → sProp 𝕄} {k : PUnit → Prog (TpuEff nD τ sig (Elt F) Λ₀ .tc) α}
    {amt : ℤ} (hamt : amt = ((15 : ℕ) : ℤ)) :
    iprop(Known v K ∗ cred (tallyAt (barCell c) () 15) ∗ Owing (F := F) c 16 ∗ atPos ER (barCell c) 0 ∅ 0)
      ⊢ iprop(((bigSep (others c) (fun p => barPay (F := F) c p) ∗ semVal (barCell c) 0 ∗ Owing (F := F) c 16) -∗ Wp c (k ⟨⟩) Q)
          -∗ Wp c (.op (.semWait barS amt) k) Q) := by
  subst hamt
  iintro ⟨#HK, Hc, HO, Hat⟩ Hk
  unfold Owing
  icases HO with ⟨%W, HO⟩
  iapply (Rounds.wp_wait_rest_token 𝒱₀ ER (rd v) (c : Thread nD τ) none (κ := K (c, none))
      (wpE_semWait_eq 𝒱₀ (c : Thread nD τ) none Set.univ) (Set.mem_univ _) () (O := owe c 16) (W := W) (R := 0) (m := 0) (T := ∅)
      (by rw [Nat.zero_add]; exact (expect_bar v c).symm)) $$ [Hc HO Hat]
  · isplitr; · iapply (known_inv v K (c, none)); iexact HK
    isplitl [Hc]; · iexact Hc
    isplitl [HO]; · iexact HO
    isplitr
    · iapply (known_mayWait v K c none 16 (le_refl _)); iexact HK
    iexact Hat
  iintro ⟨HO, Hat, -, Hpay⟩
  ihave Hp := (Entails.of_eq (rest_bar v c)) $$ Hpay
  imod (Rounds.cell_close ER (rd v) (Set.mem_univ (K (c, none))) (fun h => h) (R := 0 + 1) (duties_later v (barCell c))) $$ [Hat] with Hz
  · isplitr; · iapply (known_inv v K (c, none)); iexact HK
    iexact Hat
  iapply Hk
  isplitl [Hp]; · iexact Hp
  isplitl [Hz]; · iexact Hz
  iexists _; iexact HO

end Cert.RsAg
-- ==== Proof.Access.lean ====
/-
# The loads and stores of the exchanges

Each load and store which the exchanges make, by the buffer it goes to: the landing buffers' slots, the running sum,
the output block's rows and the chunk to send.
-/
module

public import proofs.«01_k».proof.Proof.Rules

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The value of slot `p` of batch `g`. -/
def slotV {α : Type} (f : S4x16x16x1024.Idx → α) (g : Fin 4) (p : Fin 16) : S1x1x16x1024.Idx → α := fun j => f (ix4 g p (j 2) (j 3))
/-- The value of receiver `d`'s rows of batch `g`. -/
def rowsV {α : Type} (f : S4x256x1024.Idx → α) (g : Fin 4) (d : Fin 16) : S1x16x1024.Idx → α := fun j => f (ix3 g (rowOf d (j 1)) (j 2))
/-- The value of batch `g`. -/
def bigV {α : Type} (f : S4x256x1024.Idx → α) (g : Fin 4) : S1x256x1024.Idx → α := fun j => f (ix3 g (j 1) (j 2))

/-- The running sum. -/
def accP (c : Dev nD) (a : S16x1024.Idx → Elt F .f32) : sProp 𝕄 := (c : Thread nD τ).loc cc0_scratch4 ↦[Finset.univ]{fullShare} a
/-- The output block. -/
def outP (c : Dev nD) (f : S4x256x1024.Idx → Elt F .f32) : sProp 𝕄 := (c : Thread nD τ).loc cc0_stg5_0 ↦[Finset.univ]{fullShare} f
/-- One batch of the staged partial sums. -/
def bigP (c : Dev nD) (g : Fin 4) (f : S4x256x1024.Idx → Elt F .bf16) : sProp 𝕄 := (c : Thread nD τ).loc cc0_scratch2 ↦[bigS g]{fullShare} f

theorem slot_pt (g : Fin 4) (p : Fin 16) (j : (slotR g p).shape.Idx) : (slotR g p).emb j = ix4 g p (j 2) (j 3) := by
  have h0 : (j 0).val < 1 := (j 0).isLt
  have h1 : (j 1).val < 1 := (j 1).isLt
  funext a
  refine Fin.ext ?_
  rw [Rect.emb_apply]
  match a with
  | ⟨0, _⟩ => show g.val + 1 * (j 0).val = g.val; omega
  | ⟨1, _⟩ => show p.val + 1 * (j 1).val = p.val; omega
  | ⟨2, _⟩ => show 0 + 1 * (j 2).val = (j 2).val; omega
  | ⟨3, _⟩ => show 0 + 1 * (j 3).val = (j 3).val; omega

theorem rows_pt (g : Fin 4) (d : Fin 16) (j : (rowsR g d).shape.Idx) : (rowsR g d).emb j = ix3 g (rowOf d (j 1)) (j 2) := by
  have h0 : (j 0).val < 1 := (j 0).isLt
  funext a
  refine Fin.ext ?_
  rw [Rect.emb_apply]
  match a with
  | ⟨0, _⟩ => show g.val + 1 * (j 0).val = g.val; omega
  | ⟨1, _⟩ => show 16 * d.val + 1 * (j 1).val = 16 * d.val + (j 1).val; omega
  | ⟨2, _⟩ => show 0 + 1 * (j 2).val = (j 2).val; omega

theorem slab_pt (g : Fin 4) (j : (slabR g).shape.Idx) : (slabR g).emb j = ix3 g (j 1) (j 2) := by
  have h0 : (j 0).val < 1 := (j 0).isLt
  funext a
  refine Fin.ext ?_
  rw [Rect.emb_apply]
  match a with
  | ⟨0, _⟩ => show g.val + 1 * (j 0).val = g.val; omega
  | ⟨1, _⟩ => show 0 + 1 * (j 1).val = (j 1).val; omega
  | ⟨2, _⟩ => show 0 + 1 * (j 2).val = (j 2).val; omega

theorem big_pt (g : Fin 4) (j : (bigR g).shape.Idx) : (bigR g).emb j = ix3 g (j 1) (j 2) := by
  have h0 : (j 0).val < 1 := (j 0).isLt
  funext a
  refine Fin.ext ?_
  rw [Rect.emb_apply]
  match a with
  | ⟨0, _⟩ => show g.val + 1 * (j 0).val = g.val; omega
  | ⟨1, _⟩ => show 0 + 1 * (j 1).val = (j 1).val; omega
  | ⟨2, _⟩ => show 0 + 1 * (j 2).val = (j 2).val; omega

/-- A load of a slot of the first landing buffer. -/
theorem wp_ld_rs (c : Dev nD) {α : Type} {Q : α → sProp 𝕄} (g : Fin 4) (d : Fin 16) (f : S4x16x16x1024.Idx → Elt F .bf16) {hl} {k : _ → Prog (TpuEff nD τ sig (Elt F) Λ₀ .tc) α} :
    rsP c g d f ⊢ iprop((rsP c g d f -∗ Wp c (k (slotV f g d)) Q) -∗ Wp c (.op (.load (Memref.whole cc0_scratch0) (slotR g d).toLoadRect hl) k) Q) := by
  have h : (Memref.whole cc0_scratch0 : Memref sig .tc _ _ _).view.setOn (slotR g d).set ⊆ slotS g d := by
    rw [← slotR_set]; exact le_of_eq (by rw [View.setOn, View.emb_whole]; simp)
  have hv : (Memref.whole cc0_scratch0 : Memref sig .tc _ _ _).view.readAt (Elt F) (slotR g d).toLoadRect f = slotV f g d := funext fun j => congrArg f (slot_pt g d j)
  have H := wp_load 𝒱₀ (c : Thread nD τ) none Set.univ (defs := defs₀ (F := F)) (Γ := .empty) (m := Memref.whole cc0_scratch0) (r := (slotR g d).toLoadRect) (hl := hl) (k := k) (Q := Q)
    (q := fullShare) (f := f) h
  rw [hv] at H
  exact H

/-- A load of a slot of the second landing buffer. -/
theorem wp_ld_ag (c : Dev nD) {α : Type} {Q : α → sProp 𝕄} (g : Fin 4) (d : Fin 16) (f : S4x16x16x1024.Idx → Elt F .bf16) {hl} {k : _ → Prog (TpuEff nD τ sig (Elt F) Λ₀ .tc) α} :
    agP c g d f ⊢ iprop((agP c g d f -∗ Wp c (k (slotV f g d)) Q) -∗ Wp c (.op (.load (Memref.whole cc0_scratch1) (slotR g d).toLoadRect hl) k) Q) := by
  have h : (Memref.whole cc0_scratch1 : Memref sig .tc _ _ _).view.setOn (slotR g d).set ⊆ slotS g d := by
    rw [← slotR_set]; exact le_of_eq (by rw [View.setOn, View.emb_whole]; simp)
  have hv : (Memref.whole cc0_scratch1 : Memref sig .tc _ _ _).view.readAt (Elt F) (slotR g d).toLoadRect f = slotV f g d := funext fun j => congrArg f (slot_pt g d j)
  have H := wp_load 𝒱₀ (c : Thread nD τ) none Set.univ (defs := defs₀ (F := F)) (Γ := .empty) (m := Memref.whole cc0_scratch1) (r := (slotR g d).toLoadRect) (hl := hl) (k := k) (Q := Q)
    (q := fullShare) (f := f) h
  rw [hv] at H
  exact H

/-- A load of a device's rows of the output block. -/
theorem wp_ld_rows (c : Dev nD) {α : Type} {Q : α → sProp 𝕄} (g : Fin 4) (d : Fin 16) (f : S4x256x1024.Idx → Elt F .f32) {hl} {k : _ → Prog (TpuEff nD τ sig (Elt F) Λ₀ .tc) α} :
    outP c f ⊢ iprop((outP c f -∗ Wp c (k (rowsV f g d)) Q) -∗ Wp c (.op (.load (Memref.whole cc0_stg5_0) (rowsR g d).toLoadRect hl) k) Q) := by
  have h : (Memref.whole cc0_stg5_0 : Memref sig .tc _ _ _).view.setOn (rowsR g d).set ⊆ Finset.univ := Finset.subset_univ _
  have hv : (Memref.whole cc0_stg5_0 : Memref sig .tc _ _ _).view.readAt (Elt F) (rowsR g d).toLoadRect f = rowsV f g d := funext fun j => congrArg f (rows_pt g d j)
  have H := wp_load 𝒱₀ (c : Thread nD τ) none Set.univ (defs := defs₀ (F := F)) (Γ := .empty) (m := Memref.whole cc0_stg5_0) (r := (rowsR g d).toLoadRect) (hl := hl) (k := k) (Q := Q)
    (q := fullShare) (f := f) h
  rw [hv] at H
  exact H

/-- A load of a batch of the output block. -/
theorem wp_ld_out (c : Dev nD) {α : Type} {Q : α → sProp 𝕄} (g : Fin 4) (f : S4x256x1024.Idx → Elt F .f32) {hl} {k : _ → Prog (TpuEff nD τ sig (Elt F) Λ₀ .tc) α} :
    outP c f ⊢ iprop((outP c f -∗ Wp c (k (bigV f g)) Q) -∗ Wp c (.op (.load (Memref.whole cc0_stg5_0) (bigR g).toLoadRect hl) k) Q) := by
  have h : (Memref.whole cc0_stg5_0 : Memref sig .tc _ _ _).view.setOn (bigR g).set ⊆ Finset.univ := Finset.subset_univ _
  have hv : (Memref.whole cc0_stg5_0 : Memref sig .tc _ _ _).view.readAt (Elt F) (bigR g).toLoadRect f = bigV f g := funext fun j => congrArg f (big_pt g j)
  have H := wp_load 𝒱₀ (c : Thread nD τ) none Set.univ (defs := defs₀ (F := F)) (Γ := .empty) (m := Memref.whole cc0_stg5_0) (r := (bigR g).toLoadRect) (hl := hl) (k := k) (Q := Q)
    (q := fullShare) (f := f) h
  rw [hv] at H
  exact H

/-- A load of a batch of the staged sums. -/
theorem wp_ld_stg (c : Dev nD) {α : Type} {Q : α → sProp 𝕄} (g : Fin 4) (f : S4x256x1024.Idx → Elt F .bf16) {hl} {k : _ → Prog (TpuEff nD τ sig (Elt F) Λ₀ .tc) α} :
    bigP c g f ⊢ iprop((bigP c g f -∗ Wp c (k (bigV f g)) Q) -∗ Wp c (.op (.load (Memref.whole cc0_scratch2) (bigR g).toLoadRect hl) k) Q) := by
  have h : (Memref.whole cc0_scratch2 : Memref sig .tc _ _ _).view.setOn (bigR g).set ⊆ bigS g := by
    rw [← bigR_set]; exact le_of_eq (by rw [View.setOn, View.emb_whole]; simp)
  have hv : (Memref.whole cc0_scratch2 : Memref sig .tc _ _ _).view.readAt (Elt F) (bigR g).toLoadRect f = bigV f g := funext fun j => congrArg f (big_pt g j)
  have H := wp_load 𝒱₀ (c : Thread nD τ) none Set.univ (defs := defs₀ (F := F)) (Γ := .empty) (m := Memref.whole cc0_scratch2) (r := (bigR g).toLoadRect) (hl := hl) (k := k) (Q := Q)
    (q := fullShare) (f := f) h
  rw [hv] at H
  exact H

/-- A load of a batch's chunk to send. -/
theorem wp_ld_slab (c : Dev nD) {α : Type} {Q : α → sProp 𝕄} (g : Fin 4) (f : S4x16x1024.Idx → Elt F .bf16) {hl} {k : _ → Prog (TpuEff nD τ sig (Elt F) Λ₀ .tc) α} :
    sgP c g fullShare f ⊢ iprop((sgP c g fullShare f -∗ Wp c (k (fun j => f (ix3 g (j 1) (j 2)))) Q) -∗ Wp c (.op (.load (Memref.whole cc0_scratch3) (slabR g).toLoadRect hl) k) Q) := by
  have h : (Memref.whole cc0_scratch3 : Memref sig .tc _ _ _).view.setOn (slabR g).set ⊆ slabS g := by
    rw [← slabR_set]; exact le_of_eq (by rw [View.setOn, View.emb_whole]; simp)
  have hv : (Memref.whole cc0_scratch3 : Memref sig .tc _ _ _).view.readAt (Elt F) (slabR g).toLoadRect f = fun j => f (ix3 g (j 1) (j 2)) := funext fun j => congrArg f (slab_pt g j)
  have H := wp_load 𝒱₀ (c : Thread nD τ) none Set.univ (defs := defs₀ (F := F)) (Γ := .empty) (m := Memref.whole cc0_scratch3) (r := (slabR g).toLoadRect) (hl := hl) (k := k) (Q := Q)
    (q := fullShare) (f := f) h
  rw [hv] at H
  exact H

/-- A load of the running sum. -/
theorem wp_ld_acc (c : Dev nD) {α : Type} {Q : α → sProp 𝕄} (f : S16x1024.Idx → Elt F .f32) {inb : ∀ a, (![0, 0] : Fin 2 → ℕ) a + S16x1024.size a ≤ S16x1024.size a} {hl} {k : _ → Prog (TpuEff nD τ sig (Elt F) Λ₀ .tc) α} :
    accP c f ⊢ iprop((accP c f -∗ Wp c (k (f)) Q) -∗ Wp c (.op (.load (Memref.whole cc0_scratch4) (Rect.unit (s := S16x1024) ![0, 0] S16x1024.size inb).toLoadRect hl) k) Q) := by
  have h : (Memref.whole cc0_scratch4 : Memref sig .tc _ _ _).view.setOn (Rect.unit (s := S16x1024) ![0, 0] S16x1024.size inb).set ⊆ Finset.univ := Finset.subset_univ _
  have hv : (Memref.whole cc0_scratch4 : Memref sig .tc _ _ _).view.readAt (Elt F) (Rect.unit (s := S16x1024) ![0, 0] S16x1024.size inb).toLoadRect f = f := Memref.readAt_unit_zero (Elt F) cc0_scratch4 (by decide) inb f
  have H := wp_load 𝒱₀ (c : Thread nD τ) none Set.univ (defs := defs₀ (F := F)) (Γ := .empty) (m := Memref.whole cc0_scratch4) (r := (Rect.unit (s := S16x1024) ![0, 0] S16x1024.size inb).toLoadRect) (hl := hl) (k := k) (Q := Q)
    (q := fullShare) (f := f) h
  rw [hv] at H
  exact H

/-- A store of the running sum. -/
theorem wp_st_acc (c : Dev nD) {α : Type} {Q : α → sProp 𝕄} (f w : S16x1024.Idx → Elt F .f32) {inb : ∀ a, (![0, 0] : Fin 2 → ℕ) a + S16x1024.size a ≤ S16x1024.size a} {hx hm} {k : _ → Prog (TpuEff nD τ sig (Elt F) Λ₀ .tc) α} :
    accP c f ⊢ iprop((accP c w -∗ Wp c (k ⟨⟩) Q) -∗ Wp c (.op (.store (Memref.whole cc0_scratch4) (Rect.unit (s := S16x1024) ![0, 0] S16x1024.size inb) w Finset.univ hx hm) k) Q) := by
  have hw : ((Memref.whole cc0_scratch4).access (Rect.unit (s := S16x1024) ![0, 0] S16x1024.size inb) : View sig _ _ _ _).write (Elt F) f w Finset.univ = w :=
    Memref.write_access_unit_zero_univ (Elt F) cc0_scratch4 (by decide) inb f w
  have H : accP c f ⊢ iprop((accP c (((Memref.whole cc0_scratch4).access (Rect.unit (s := S16x1024) ![0, 0] S16x1024.size inb) : View sig _ _ _ _).write (Elt F) f w Finset.univ) -∗ Wp c (k ⟨⟩) Q) -∗ Wp c (.op (.store (Memref.whole cc0_scratch4) (Rect.unit (s := S16x1024) ![0, 0] S16x1024.size inb) w Finset.univ hx hm) k) Q) :=
    wp_store 𝒱₀ (c : Thread nD τ) none Set.univ (defs := defs₀ (F := F)) (Γ := .empty) (m := Memref.whole cc0_scratch4) (r := Rect.unit (s := S16x1024) ![0, 0] S16x1024.size inb) (hx := hx) (hm := hm) (k := k) (Q := Q)
    (f := f) (w := w) (S := Finset.univ) (Finset.subset_univ _)
  rw [hw] at H
  exact H

/-- A store to a device's rows of the output block. -/
theorem wp_st_rows (c : Dev nD) {α : Type} {Q : α → sProp 𝕄} (g : Fin 4) (d : Fin 16) (f : S4x256x1024.Idx → Elt F .f32) (w : S1x16x1024.Idx → Elt F .f32) {hx hm} {k : _ → Prog (TpuEff nD τ sig (Elt F) Λ₀ .tc) α} :
    outP c f ⊢ iprop((∀ f' : S4x256x1024.Idx → Elt F .f32, ⌜(∀ j, f' (ix3 g (rowOf d (j 1)) (j 2)) = w j) ∧ ∀ x, x ∉ rowsS g d → f' x = f x⌝ -∗ outP c f' -∗ Wp c (k ⟨⟩) Q)
      -∗ Wp c (.op (.store (Memref.whole cc0_stg5_0) (rowsR g d) w Finset.univ hx hm) k) Q) := by
  have hs : ((Memref.whole cc0_stg5_0 : Memref sig .tc _ _ _).access (rowsR g d)).setOn Finset.univ ⊆ Finset.univ := Finset.subset_univ _
  have H : outP c f ⊢ iprop((outP c (((Memref.whole cc0_stg5_0 : Memref sig .tc _ _ _).access (rowsR g d)).write (Elt F) f w Finset.univ) -∗ Wp c (k ⟨⟩) Q) -∗ Wp c (.op (.store (Memref.whole cc0_stg5_0) (rowsR g d) w Finset.univ hx hm) k) Q) :=
    wp_store 𝒱₀ (c : Thread nD τ) none Set.univ (defs := defs₀ (F := F)) (Γ := .empty) (m := Memref.whole cc0_stg5_0) (r := rowsR g d) (hx := hx) (hm := hm) (k := k) (Q := Q)
      (f := f) (w := w) (S := Finset.univ) hs
  have hw : (∀ j, ((Memref.whole cc0_stg5_0 : Memref sig .tc _ _ _).access (rowsR g d)).write (Elt F) f w Finset.univ (ix3 g (rowOf d (j 1)) (j 2)) = w j)
      ∧ ∀ x, x ∉ rowsS g d → ((Memref.whole cc0_stg5_0 : Memref sig .tc _ _ _).access (rowsR g d)).write (Elt F) f w Finset.univ x = f x := by
    refine ⟨fun j => ?_, fun x hxn => ?_⟩
    · have he : ix3 g (rowOf d (j 1)) (j 2) = ((Memref.whole cc0_stg5_0 : Memref sig .tc _ _ _).access (rowsR g d)).emb j := (rows_pt g d j).symm
      have h0 : ((Memref.whole cc0_stg5_0 : Memref sig .tc _ _ _).access (rowsR g d)).write (Elt F) f w Finset.univ (((Memref.whole cc0_stg5_0 : Memref sig .tc _ _ _).access (rowsR g d)).emb j) = w j := by
        rw [View.write_emb_of_mem _ _ (Finset.mem_univ j)]; rfl
      generalize ((Memref.whole cc0_stg5_0 : Memref sig .tc _ _ _).access (rowsR g d)).write (Elt F) f w Finset.univ = G at *
      exact (congrArg G he).trans h0
    · refine View.write_of_not_mem _ _ _ fun hmem => hxn ?_
      rw [← rowsR_set, ← View.set_slice_whole cc0_stg5_0]; exact hmem
  iintro H1 Hk
  iapply H $$ H1
  iintro H1
  iapply Hk $$ [] H1
  ipureintro
  exact hw

/-- A store to a batch of the output block. -/
theorem wp_st_out (c : Dev nD) {α : Type} {Q : α → sProp 𝕄} (g : Fin 4) (f : S4x256x1024.Idx → Elt F .f32) (w : S1x256x1024.Idx → Elt F .f32) {hx hm} {k : _ → Prog (TpuEff nD τ sig (Elt F) Λ₀ .tc) α} :
    outP c f ⊢ iprop((∀ f' : S4x256x1024.Idx → Elt F .f32, ⌜(∀ j, f' (ix3 g (j 1) (j 2)) = w j) ∧ ∀ x, x ∉ bigS g → f' x = f x⌝ -∗ outP c f' -∗ Wp c (k ⟨⟩) Q)
      -∗ Wp c (.op (.store (Memref.whole cc0_stg5_0) (bigR g) w Finset.univ hx hm) k) Q) := by
  have hs : ((Memref.whole cc0_stg5_0 : Memref sig .tc _ _ _).access (bigR g)).setOn Finset.univ ⊆ Finset.univ := Finset.subset_univ _
  have H : outP c f ⊢ iprop((outP c (((Memref.whole cc0_stg5_0 : Memref sig .tc _ _ _).access (bigR g)).write (Elt F) f w Finset.univ) -∗ Wp c (k ⟨⟩) Q) -∗ Wp c (.op (.store (Memref.whole cc0_stg5_0) (bigR g) w Finset.univ hx hm) k) Q) :=
    wp_store 𝒱₀ (c : Thread nD τ) none Set.univ (defs := defs₀ (F := F)) (Γ := .empty) (m := Memref.whole cc0_stg5_0) (r := bigR g) (hx := hx) (hm := hm) (k := k) (Q := Q)
      (f := f) (w := w) (S := Finset.univ) hs
  have hw : (∀ j, ((Memref.whole cc0_stg5_0 : Memref sig .tc _ _ _).access (bigR g)).write (Elt F) f w Finset.univ (ix3 g (j 1) (j 2)) = w j)
      ∧ ∀ x, x ∉ bigS g → ((Memref.whole cc0_stg5_0 : Memref sig .tc _ _ _).access (bigR g)).write (Elt F) f w Finset.univ x = f x := by
    refine ⟨fun j => ?_, fun x hxn => ?_⟩
    · have he : ix3 g (j 1) (j 2) = ((Memref.whole cc0_stg5_0 : Memref sig .tc _ _ _).access (bigR g)).emb j := (big_pt g j).symm
      have h0 : ((Memref.whole cc0_stg5_0 : Memref sig .tc _ _ _).access (bigR g)).write (Elt F) f w Finset.univ (((Memref.whole cc0_stg5_0 : Memref sig .tc _ _ _).access (bigR g)).emb j) = w j := by
        rw [View.write_emb_of_mem _ _ (Finset.mem_univ j)]; rfl
      generalize ((Memref.whole cc0_stg5_0 : Memref sig .tc _ _ _).access (bigR g)).write (Elt F) f w Finset.univ = G at *
      exact (congrArg G he).trans h0
    · refine View.write_of_not_mem _ _ _ fun hmem => hxn ?_
      rw [← bigR_set, ← View.set_slice_whole cc0_stg5_0]; exact hmem
  iintro H1 Hk
  iapply H $$ H1
  iintro H1
  iapply Hk $$ [] H1
  ipureintro
  exact hw

/-- A store to a batch of the staged sums. -/
theorem wp_st_stg (c : Dev nD) {α : Type} {Q : α → sProp 𝕄} (g : Fin 4) (f : S4x256x1024.Idx → Elt F .bf16) (w : S1x256x1024.Idx → Elt F .bf16) {hx hm} {k : _ → Prog (TpuEff nD τ sig (Elt F) Λ₀ .tc) α} :
    bigP c g f ⊢ iprop((∀ f' : S4x256x1024.Idx → Elt F .bf16, ⌜(∀ j, f' (ix3 g (j 1) (j 2)) = w j) ∧ ∀ x, x ∉ bigS g → f' x = f x⌝ -∗ bigP c g f' -∗ Wp c (k ⟨⟩) Q)
      -∗ Wp c (.op (.store (Memref.whole cc0_scratch2) (bigR g) w Finset.univ hx hm) k) Q) := by
  have hs : ((Memref.whole cc0_scratch2 : Memref sig .tc _ _ _).access (bigR g)).setOn Finset.univ ⊆ bigS g := by
    rw [← bigR_set]; exact le_of_eq (View.set_slice_whole cc0_scratch2 _)
  have H : bigP c g f ⊢ iprop((bigP c g (((Memref.whole cc0_scratch2 : Memref sig .tc _ _ _).access (bigR g)).write (Elt F) f w Finset.univ) -∗ Wp c (k ⟨⟩) Q) -∗ Wp c (.op (.store (Memref.whole cc0_scratch2) (bigR g) w Finset.univ hx hm) k) Q) :=
    wp_store 𝒱₀ (c : Thread nD τ) none Set.univ (defs := defs₀ (F := F)) (Γ := .empty) (m := Memref.whole cc0_scratch2) (r := bigR g) (hx := hx) (hm := hm) (k := k) (Q := Q)
      (f := f) (w := w) (S := bigS g) hs
  have hw : (∀ j, ((Memref.whole cc0_scratch2 : Memref sig .tc _ _ _).access (bigR g)).write (Elt F) f w Finset.univ (ix3 g (j 1) (j 2)) = w j)
      ∧ ∀ x, x ∉ bigS g → ((Memref.whole cc0_scratch2 : Memref sig .tc _ _ _).access (bigR g)).write (Elt F) f w Finset.univ x = f x := by
    refine ⟨fun j => ?_, fun x hxn => ?_⟩
    · have he : ix3 g (j 1) (j 2) = ((Memref.whole cc0_scratch2 : Memref sig .tc _ _ _).access (bigR g)).emb j := (big_pt g j).symm
      have h0 : ((Memref.whole cc0_scratch2 : Memref sig .tc _ _ _).access (bigR g)).write (Elt F) f w Finset.univ (((Memref.whole cc0_scratch2 : Memref sig .tc _ _ _).access (bigR g)).emb j) = w j := by
        rw [View.write_emb_of_mem _ _ (Finset.mem_univ j)]; rfl
      generalize ((Memref.whole cc0_scratch2 : Memref sig .tc _ _ _).access (bigR g)).write (Elt F) f w Finset.univ = G at *
      exact (congrArg G he).trans h0
    · refine View.write_of_not_mem _ _ _ fun hmem => hxn ?_
      rw [← bigR_set, ← View.set_slice_whole cc0_scratch2]; exact hmem
  iintro H1 Hk
  iapply H $$ H1
  iintro H1
  iapply Hk $$ [] H1
  ipureintro
  exact hw

/-- A store to a batch's chunk to send. -/
theorem wp_st_slab (c : Dev nD) {α : Type} {Q : α → sProp 𝕄} (g : Fin 4) (f : S4x16x1024.Idx → Elt F .bf16) (w : S1x16x1024.Idx → Elt F .bf16) {hx hm} {k : _ → Prog (TpuEff nD τ sig (Elt F) Λ₀ .tc) α} :
    sgP c g fullShare f ⊢ iprop((∀ f' : S4x16x1024.Idx → Elt F .bf16, ⌜(∀ j, f' (ix3 g (j 1) (j 2)) = w j) ∧ ∀ x, x ∉ slabS g → f' x = f x⌝ -∗ sgP c g fullShare f' -∗ Wp c (k ⟨⟩) Q)
      -∗ Wp c (.op (.store (Memref.whole cc0_scratch3) (slabR g) w Finset.univ hx hm) k) Q) := by
  have hs : ((Memref.whole cc0_scratch3 : Memref sig .tc _ _ _).access (slabR g)).setOn Finset.univ ⊆ slabS g := by
    rw [← slabR_set]; exact le_of_eq (View.set_slice_whole cc0_scratch3 _)
  have H : sgP c g fullShare f ⊢ iprop((sgP c g fullShare (((Memref.whole cc0_scratch3 : Memref sig .tc _ _ _).access (slabR g)).write (Elt F) f w Finset.univ) -∗ Wp c (k ⟨⟩) Q) -∗ Wp c (.op (.store (Memref.whole cc0_scratch3) (slabR g) w Finset.univ hx hm) k) Q) :=
    wp_store 𝒱₀ (c : Thread nD τ) none Set.univ (defs := defs₀ (F := F)) (Γ := .empty) (m := Memref.whole cc0_scratch3) (r := slabR g) (hx := hx) (hm := hm) (k := k) (Q := Q)
      (f := f) (w := w) (S := slabS g) hs
  have hw : (∀ j, ((Memref.whole cc0_scratch3 : Memref sig .tc _ _ _).access (slabR g)).write (Elt F) f w Finset.univ (ix3 g (j 1) (j 2)) = w j)
      ∧ ∀ x, x ∉ slabS g → ((Memref.whole cc0_scratch3 : Memref sig .tc _ _ _).access (slabR g)).write (Elt F) f w Finset.univ x = f x := by
    refine ⟨fun j => ?_, fun x hxn => ?_⟩
    · have he : ix3 g (j 1) (j 2) = ((Memref.whole cc0_scratch3 : Memref sig .tc _ _ _).access (slabR g)).emb j := (slab_pt g j).symm
      have h0 : ((Memref.whole cc0_scratch3 : Memref sig .tc _ _ _).access (slabR g)).write (Elt F) f w Finset.univ (((Memref.whole cc0_scratch3 : Memref sig .tc _ _ _).access (slabR g)).emb j) = w j := by
        rw [View.write_emb_of_mem _ _ (Finset.mem_univ j)]; rfl
      generalize ((Memref.whole cc0_scratch3 : Memref sig .tc _ _ _).access (slabR g)).write (Elt F) f w Finset.univ = G at *
      exact (congrArg G he).trans h0
    · refine View.write_of_not_mem _ _ _ fun hmem => hxn ?_
      rw [← slabR_set, ← View.set_slice_whole cc0_scratch3]; exact hmem
  iintro H1 Hk
  iapply H $$ H1
  iintro H1
  iapply Hk $$ [] H1
  ipureintro
  exact hw

end Cert.RsAg
-- ==== Proof.Steps.lean ====
/-
# One step of each exchange, for one peer

The kernel's loops over the peers are unrolled, each iteration guarded by the test that the peer is not the device
itself. Each lemma here is one such iteration: with the peers below `d` done, it leaves the peers below `d + 1` done.
-/
module

public import proofs.«01_k».proof.Proof.Access

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)

/-! ## The states of one peer -/

/-- Before the transfer of the first exchange to `e`: the staged rows, `e`'s slot, and the two rights to pay. -/
def rsA (c : Dev nD) (g : Fin 4) (e : Dev nD) : sProp 𝕄 :=
  iprop(stP c g e (v.stg c) ∗ (∃ f, rsP (F := F) e g c f) ∗ dutyTok ER (xCell c 0 g e) 0 e ∗ dutyTok ER (xCell e 1 g c) 0 c)
/-- After it: the credit of its source's release. -/
def rsB (c : Dev nD) (g : Fin 4) (e : Dev nD) : sProp 𝕄 := cred (tallyAt (xCell c 0 g e) () N)
/-- Before the waits of the first exchange on `e`. -/
def rsW (c : Dev nD) (g : Fin 4) (e : Dev nD) : sProp 𝕄 :=
  iprop(cred (tallyAt (xCell c 1 g e) () N) ∗ atPos ER (xCell c 1 g e) 0 ∅ 0 ∗ cred (tallyAt (xCell c 0 g e) () N) ∗ atPos ER (xCell c 0 g e) 0 ∅ 0)
/-- After them. -/
def rsD (c : Dev nD) (g : Fin 4) (e : Dev nD) : sProp 𝕄 :=
  iprop(rsP c g e (v.rsB c) ∗ semVal (xCell c 1 g e) 0 ∗ stP c g e (v.stg c) ∗ semVal (xCell c 0 g e) 0)
/-- Before the transfer of the second exchange to `e`. -/
def agA (c : Dev nD) (g : Fin 4) (e : Dev nD) : sProp 𝕄 :=
  iprop(sgP c g (sh e) (v.ags c) ∗ (∃ f, agP (F := F) e g c f) ∗ dutyTok ER (xCell c 2 g e) 0 e ∗ dutyTok ER (xCell e 3 g c) 0 c)
/-- After it. -/
def agB (c : Dev nD) (g : Fin 4) (e : Dev nD) : sProp 𝕄 := cred (tallyAt (xCell c 2 g e) () N)
/-- Before the waits of the second exchange on `e`. -/
def agW (c : Dev nD) (g : Fin 4) (e : Dev nD) : sProp 𝕄 :=
  iprop(cred (tallyAt (xCell c 3 g e) () N) ∗ atPos ER (xCell c 3 g e) 0 ∅ 0 ∗ cred (tallyAt (xCell c 2 g e) () N) ∗ atPos ER (xCell c 2 g e) 0 ∅ 0)
/-- After them. -/
def agD (c : Dev nD) (g : Fin 4) (e : Dev nD) : sProp 𝕄 :=
  iprop(agP c g e v.agB ∗ semVal (xCell c 3 g e) 0 ∗ sgP c g (sh e) (v.ags c) ∗ semVal (xCell c 2 g e) 0)

/-- Where the payments of the first exchange's batch `g` start, and those of the second's. -/
def rsBase (g : Fin 4) : ℕ := 16 * (![1, 2, 4, 6] : Fin 4 → ℕ) g
def agBase (g : Fin 4) : ℕ := 16 * (![3, 5, 7, 8] : Fin 4 → ℕ) g

theorem payCell_of (c : Dev nD) (q : ℕ) (d : Dev nD) :
    payCell c (16 * q + d.val) = (match q with | 0 => barCell d | 1 => xCell d 1 0 c | 2 => xCell d 1 1 c | 3 => xCell d 3 0 c | 4 => xCell d 1 2 c | 5 => xCell d 3 1 c | 6 => xCell d 1 3 c | 7 => xCell d 3 2 c | _ => xCell d 3 3 c) := by
  have hd : d.val < 16 := d.isLt
  have h0 : (16 * q + d.val) / 16 = q := by omega
  have h1 : (⟨(16 * q + d.val) % 16, Nat.mod_lt _ (by decide)⟩ : Dev nD) = d := Fin.ext (show (16 * q + d.val) % 16 = d.val by omega)
  unfold payCell
  rw [h0, h1]
  rcases q with _|_|_|_|_|_|_|_|_ <;> rfl

theorem rs_pay (c : Dev nD) (g : Fin 4) (d : Dev nD) : rsBase g + d.val < 144 ∧ (rsBase g + d.val) % 16 = d.val ∧ payCell c (rsBase g + d.val) = xCell d 1 g c ∧ payAmt (rsBase g + d.val) = N := by
  have hd : d.val < 16 := d.isLt
  refine ⟨?_, ?_, ?_, ?_⟩
  · match g with | 0 => show 16 * 1 + d.val < 144; omega
                 | 1 => show 16 * 2 + d.val < 144; omega
                 | 2 => show 16 * 4 + d.val < 144; omega
                 | 3 => show 16 * 6 + d.val < 144; omega
  · show (16 * _ + d.val) % 16 = d.val; omega
  · unfold rsBase; rw [payCell_of]
    match g with | 0 => rfl | 1 => rfl | 2 => rfl | 3 => rfl
  · refine if_neg ?_
    match g with | 0 => show ¬ (16 * 1 + d.val) / 16 = 0; omega
                 | 1 => show ¬ (16 * 2 + d.val) / 16 = 0; omega
                 | 2 => show ¬ (16 * 4 + d.val) / 16 = 0; omega
                 | 3 => show ¬ (16 * 6 + d.val) / 16 = 0; omega

theorem ag_pay (c : Dev nD) (g : Fin 4) (d : Dev nD) : agBase g + d.val < 144 ∧ (agBase g + d.val) % 16 = d.val ∧ payCell c (agBase g + d.val) = xCell d 3 g c ∧ payAmt (agBase g + d.val) = N := by
  have hd : d.val < 16 := d.isLt
  refine ⟨?_, ?_, ?_, ?_⟩
  · match g with | 0 => show 16 * 3 + d.val < 144; omega
                 | 1 => show 16 * 5 + d.val < 144; omega
                 | 2 => show 16 * 7 + d.val < 144; omega
                 | 3 => show 16 * 8 + d.val < 144; omega
  · show (16 * _ + d.val) % 16 = d.val; omega
  · unfold agBase; rw [payCell_of]
    match g with | 0 => rfl | 1 => rfl | 2 => rfl | 3 => rfl
  · refine if_neg ?_
    match g with | 0 => show ¬ (16 * 3 + d.val) / 16 = 0; omega
                 | 1 => show ¬ (16 * 5 + d.val) / 16 = 0; omega
                 | 2 => show ¬ (16 * 7 + d.val) / 16 = 0; omega
                 | 3 => show ¬ (16 * 8 + d.val) / 16 = 0; omega

theorem owing_skip (c : Dev nD) (n : ℕ) (h : n % 16 = c.val) : Owing (F := F) c n = Owing (F := F) c (n + 1) := by
  unfold Owing; rw [owe_skip c n h]

/-- A part of the program, then the rest. -/
theorem wp_call (c : Dev nD) {α β : Type} {p : Pr β} {k : β → Pr α} {P : sProp 𝕄} {Q' : β → sProp 𝕄} {Q : α → sProp 𝕄}
    (hp : P ⊢ Wp c p Q') (hk : ∀ r, Q' r ⊢ Wp c (k r) Q) : P ⊢ Wp c (p >>= k) Q := by
  rw [Wp, wp_bind]; exact hp.trans (wp_mono _ _ _ hk)

/-! ## The steps -/

section

/-- A barrier signal. -/
theorem step_signal (c : Dev nD) {α : Type} {Q : α → sProp 𝕄} {k : Pr α} {R : sProp 𝕄} (d : ℕ) (hd : d < 16) {A : Dev nD → sProp 𝕄}
    (hA : ∀ e, A e = iprop(dutyTok ER (barCell e) 0 c ∗ barPay (F := F) e c))
    {cond : BitVec 1} (hc : cond = 1#1 ↔ (⟨d, hd⟩ : Dev nD) ≠ c) {dev : ℕ} (hdev : dev = d) {hlt : cond = 1#1 → dev < nD}
    (hk : iprop(Known v K ∗ R ∗ fam c A (fun _ => iprop(emp)) (d + 1) ∗ Owing (F := F) c (d + 1)) ⊢ Wp c k Q) :
    iprop(Known v K ∗ R ∗ fam c A (fun _ => iprop(emp)) d ∗ Owing (F := F) c d) ⊢ Wp c (do
      if h : cond = 1#1 then do
        semSignalWord (⟨dev, hlt h⟩ : Dev nD) barS 1#32
        pure ⟨⟩
      else do
        pure ⟨⟩
      k) Q := by
  subst hdev
  by_cases h : cond = 1#1
  · have hdc := hc.1 h
    simp only [dif_pos h, Prog.lift, Prog.bind_op, Prog.bind_ret, Prog.pure_eq_ret, semSignalWord]
    iintro ⟨#HK, HR, HF, HO⟩
    ihave HF := (fam_take c A (fun _ => iprop(emp)) (⟨dev, hd⟩ : Dev nD) hdc) $$ HF
    icases HF with ⟨HA, HF⟩
    ihave HA := (Entails.of_eq (hA _)) $$ HA
    icases HA with ⟨Ht, Hp⟩
    iapply (wp_bar_signal v K c (⟨dev, hd⟩ : Dev nD) hdc dev rfl rfl rfl rfl) $$ [HO Ht Hp]
    · isplitr; · iexact HK
      isplitl [HO]; · iexact HO
      isplitl [Ht]; · iexact Ht
      iexact Hp
    iintro HO
    iapply hk
    isplitr; · iexact HK
    isplitl [HR]; · iexact HR
    isplitl [HF]; · iapply HF; iempintro
    iexact HO
  · have hdc : (⟨dev, hd⟩ : Dev nD) = c := by by_contra hne; exact h (hc.2 hne)
    simp only [dif_neg h, Prog.bind_ret, Prog.pure_eq_ret]
    have e1 := fam_self c A (fun _ => iprop(emp))
    rw [show c.val = dev from congrArg Fin.val hdc.symm] at e1
    rw [e1, owing_skip c dev ((Nat.mod_eq_of_lt hd).trans (congrArg Fin.val hdc))]
    exact hk

/-- A transfer of the first exchange. -/
theorem step_rs_send (c : Dev nD) {α : Type} {Q : α → sProp 𝕄} {k : Pr α} {R : sProp 𝕄} (g : Fin 4) (d : ℕ) (hd : d < 16)
    {cond : BitVec 1} (hc : cond = 1#1 ↔ (⟨d, hd⟩ : Dev nD) ≠ c) {dev : ℕ} (hdev : dev = d) {hlt : cond = 1#1 → dev < nD}
    {o1 o2 : Fin 2 → ℕ} {o3 : Fin 4 → ℕ} {o4 : Fin 3 → ℕ}
    (h1 : o1 = ![g.val, d]) (h2 : o2 = ![g.val, c.val]) (h3 : o3 = ![g.val, c.val, 0, 0]) (h4 : o4 = ![g.val, 16 * d, 0])
    {i1 : cond = 1#1 → ∀ a, o1 a + S1x1.size a ≤ S4x16.size a} {i2 : cond = 1#1 → ∀ a, o2 a + S1x1.size a ≤ S4x16.size a}
    {i3 : cond = 1#1 → ∀ a, o3 a + S1x1x16x1024.size a ≤ S4x16x16x1024.size a} {i4 : cond = 1#1 → ∀ a, o4 a + S1x16x1024.size a ≤ S4x256x1024.size a}
    {w4 : (h : cond = 1#1) → (((Memref.whole cc0_scratch2).slice (Rect.unit (s := S4x256x1024) o4 S1x16x1024.size (i4 h)) (fun _ => rfl)).squeeze S16x1024 squeezes_S1x16x1024_S16x1024 : Memref sig .tc .vmem S16x1024 .bf16).view.WordExact}
    {w3 : (h : cond = 1#1) → (((Memref.whole cc0_scratch0).slice (Rect.unit (s := S4x16x16x1024) o3 S1x1x16x1024.size (i3 h)) (fun _ => rfl)).squeeze S16x1024 squeezes_S1x1x16x1024_S16x1024 : Memref sig .tc .vmem S16x1024 .bf16).view.WordExact}
    (hk : iprop(Known v K ∗ R ∗ fam c (rsA v c g) (rsB c g) (d + 1) ∗ Owing (F := F) c (rsBase g + (d + 1))) ⊢ Wp c k Q) :
    iprop(Known v K ∗ R ∗ fam c (rsA v c g) (rsB c g) d ∗ Owing (F := F) c (rsBase g + d)) ⊢ Wp c (do
      if h : cond = 1#1 then do
        let v253 : DmaSems sig S1x1 := cc0_scratch6.slice (Rect.unit (s := S4x16) o1 S1x1.size (i1 h))
        let v254 : DmaSems sig S_ := v253.squeeze S_ squeezes_S1x1_S_
        let v255 : DmaSems sig S1x1 := cc0_scratch7.slice (Rect.unit (s := S4x16) o2 S1x1.size (i2 h))
        let v256 : DmaSems sig S_ := v255.squeeze S_ squeezes_S1x1_S_
        let v257 : Memref sig .tc .vmem S1x1x16x1024 .bf16 := (Memref.whole cc0_scratch0).slice (Rect.unit (s := S4x16x16x1024) o3 S1x1x16x1024.size (i3 h)) (fun _ => rfl)
        let v258 : Memref sig .tc .vmem S16x1024 .bf16 := v257.squeeze S16x1024 squeezes_S1x1x16x1024_S16x1024
        let v259 : Memref sig .tc .vmem S1x16x1024 .bf16 := (Memref.whole cc0_scratch2).slice (Rect.unit (s := S4x256x1024) o4 S1x16x1024.size (i4 h)) (fun _ => rfl)
        let v260 : Memref sig .tc .vmem S16x1024 .bf16 := v259.squeeze S16x1024 squeezes_S1x16x1024_S16x1024
        Prog.lift (.enqueueDma v260 (.remote (Dev.tc (⟨dev, hlt h⟩ : Dev nD)) v258 (.dma v254.sem)) (.dma v256.sem) (w4 h) (w3 h) ⟨⟨rfl, Or.inl rfl⟩, trivial⟩)
        pure ⟨⟩
      else do
        pure ⟨⟩
      k) Q := by
  subst hdev h1 h2 h3 h4
  obtain ⟨p1, p2, p3, p4⟩ := rs_pay c g (⟨dev, hd⟩ : Dev nD)
  by_cases h : cond = 1#1
  · have hdc := hc.1 h
    simp only [dif_pos h, Prog.lift, Prog.bind_op, Prog.bind_ret, Prog.pure_eq_ret]
    iintro ⟨#HK, HR, HF, HO⟩
    ihave HF := (fam_take c (rsA v c g) (rsB c g) (⟨dev, hd⟩ : Dev nD) hdc) $$ HF
    icases HF with ⟨HA, HF⟩
    unfold rsA
    icases HA with ⟨Hs, Hr, Ht1, Ht2⟩
    iapply (wp_rs_send v K c (⟨dev, hd⟩ : Dev nD) hdc g (rsBase g + dev) rfl (sem_kind0 g (⟨dev, hd⟩ : Dev nD)) (sem_kind1 g c) rfl rfl p1 p2 p3 p4) $$ [Hs Hr HO Ht1 Ht2]
    · isplitr; · iexact HK
      isplitl [Hs]; · iexact Hs
      isplitl [Hr]; · iexact Hr
      isplitl [HO]; · iexact HO
      isplitl [Ht1]; · iexact Ht1
      iexact Ht2
    iintro ⟨Hc, HO⟩
    iapply hk
    isplitr; · iexact HK
    isplitl [HR]; · iexact HR
    isplitl [HF Hc]; · unfold rsB; iapply HF; iexact Hc
    iexact HO
  · have hdc : (⟨dev, hd⟩ : Dev nD) = c := by by_contra hne; exact h (hc.2 hne)
    simp only [dif_neg h, Prog.bind_ret, Prog.pure_eq_ret]
    have e1 := fam_self c (rsA v c g) (rsB c g)
    rw [show c.val = dev from congrArg Fin.val hdc.symm] at e1
    rw [e1, owing_skip c (rsBase g + dev) (p2.trans (congrArg Fin.val hdc))]
    exact hk

/-- A transfer of the second exchange. -/
theorem step_ag_send (c : Dev nD) {α : Type} {Q : α → sProp 𝕄} {k : Pr α} {R : sProp 𝕄} (g : Fin 4) (d : ℕ) (hd : d < 16)
    {cond : BitVec 1} (hc : cond = 1#1 ↔ (⟨d, hd⟩ : Dev nD) ≠ c) {dev : ℕ} (hdev : dev = d) {hlt : cond = 1#1 → dev < nD}
    {o1 o2 : Fin 2 → ℕ} {o3 : Fin 4 → ℕ} {o4 : Fin 3 → ℕ}
    (h1 : o1 = ![g.val, d]) (h2 : o2 = ![g.val, c.val]) (h3 : o3 = ![g.val, c.val, 0, 0]) (h4 : o4 = ![g.val, 0, 0])
    {i1 : cond = 1#1 → ∀ a, o1 a + S1x1.size a ≤ S4x16.size a} {i2 : cond = 1#1 → ∀ a, o2 a + S1x1.size a ≤ S4x16.size a}
    {i3 : cond = 1#1 → ∀ a, o3 a + S1x1x16x1024.size a ≤ S4x16x16x1024.size a} {i4 : cond = 1#1 → ∀ a, o4 a + S1x16x1024.size a ≤ S4x16x1024.size a}
    {w4 : (h : cond = 1#1) → (((Memref.whole cc0_scratch3).slice (Rect.unit (s := S4x16x1024) o4 S1x16x1024.size (i4 h)) (fun _ => rfl)).squeeze S16x1024 squeezes_S1x16x1024_S16x1024 : Memref sig .tc .vmem S16x1024 .bf16).view.WordExact}
    {w3 : (h : cond = 1#1) → (((Memref.whole cc0_scratch1).slice (Rect.unit (s := S4x16x16x1024) o3 S1x1x16x1024.size (i3 h)) (fun _ => rfl)).squeeze S16x1024 squeezes_S1x1x16x1024_S16x1024 : Memref sig .tc .vmem S16x1024 .bf16).view.WordExact}
    (hk : iprop(Known v K ∗ R ∗ fam c (agA v c g) (agB c g) (d + 1) ∗ Owing (F := F) c (agBase g + (d + 1))) ⊢ Wp c k Q) :
    iprop(Known v K ∗ R ∗ fam c (agA v c g) (agB c g) d ∗ Owing (F := F) c (agBase g + d)) ⊢ Wp c (do
      if h : cond = 1#1 then do
        let v253 : DmaSems sig S1x1 := cc0_scratch8.slice (Rect.unit (s := S4x16) o1 S1x1.size (i1 h))
        let v254 : DmaSems sig S_ := v253.squeeze S_ squeezes_S1x1_S_
        let v255 : DmaSems sig S1x1 := cc0_scratch9.slice (Rect.unit (s := S4x16) o2 S1x1.size (i2 h))
        let v256 : DmaSems sig S_ := v255.squeeze S_ squeezes_S1x1_S_
        let v257 : Memref sig .tc .vmem S1x1x16x1024 .bf16 := (Memref.whole cc0_scratch1).slice (Rect.unit (s := S4x16x16x1024) o3 S1x1x16x1024.size (i3 h)) (fun _ => rfl)
        let v258 : Memref sig .tc .vmem S16x1024 .bf16 := v257.squeeze S16x1024 squeezes_S1x1x16x1024_S16x1024
        let v259 : Memref sig .tc .vmem S1x16x1024 .bf16 := (Memref.whole cc0_scratch3).slice (Rect.unit (s := S4x16x1024) o4 S1x16x1024.size (i4 h)) (fun _ => rfl)
        let v260 : Memref sig .tc .vmem S16x1024 .bf16 := v259.squeeze S16x1024 squeezes_S1x16x1024_S16x1024
        Prog.lift (.enqueueDma v260 (.remote (Dev.tc (⟨dev, hlt h⟩ : Dev nD)) v258 (.dma v254.sem)) (.dma v256.sem) (w4 h) (w3 h) ⟨⟨rfl, Or.inl rfl⟩, trivial⟩)
        pure ⟨⟩
      else do
        pure ⟨⟩
      k) Q := by
  subst hdev h1 h2 h3 h4
  obtain ⟨p1, p2, p3, p4⟩ := ag_pay c g (⟨dev, hd⟩ : Dev nD)
  by_cases h : cond = 1#1
  · have hdc := hc.1 h
    simp only [dif_pos h, Prog.lift, Prog.bind_op, Prog.bind_ret, Prog.pure_eq_ret]
    iintro ⟨#HK, HR, HF, HO⟩
    ihave HF := (fam_take c (agA v c g) (agB c g) (⟨dev, hd⟩ : Dev nD) hdc) $$ HF
    icases HF with ⟨HA, HF⟩
    unfold agA
    icases HA with ⟨Hs, Hr, Ht1, Ht2⟩
    iapply (wp_ag_send v K c (⟨dev, hd⟩ : Dev nD) hdc g (agBase g + dev) rfl (sem_kind2 g (⟨dev, hd⟩ : Dev nD)) (sem_kind3 g c) rfl rfl p1 p2 p3 p4) $$ [Hs Hr HO Ht1 Ht2]
    · isplitr; · iexact HK
      isplitl [Hs]; · iexact Hs
      isplitl [Hr]; · iexact Hr
      isplitl [HO]; · iexact HO
      isplitl [Ht1]; · iexact Ht1
      iexact Ht2
    iintro ⟨Hc, HO⟩
    iapply hk
    isplitr; · iexact HK
    isplitl [HR]; · iexact HR
    isplitl [HF Hc]; · unfold agB; iapply HF; iexact Hc
    iexact HO
  · have hdc : (⟨dev, hd⟩ : Dev nD) = c := by by_contra hne; exact h (hc.2 hne)
    simp only [dif_neg h, Prog.bind_ret, Prog.pure_eq_ret]
    have e1 := fam_self c (agA v c g) (agB c g)
    rw [show c.val = dev from congrArg Fin.val hdc.symm] at e1
    rw [e1, owing_skip c (agBase g + dev) (p2.trans (congrArg Fin.val hdc))]
    exact hk

/-- The waits of the first exchange on one peer and the addition of what it sent. -/
theorem red_core (c : Dev nD) {α : Type} {Q : α → sProp 𝕄} {R : sProp 𝕄} (g : Fin 4) (d : Dev nD) (hdc : d ≠ c) (n : ℕ) (a : S16x1024.Idx → Elt F .f32)
    (hl1 : levelOf (some (c, some (1, g, d))) ≤ n / 16) (hl0 : levelOf (some (c, some (0, g, d))) ≤ n / 16)
    {pay : Vec F S16x1024 .f32 → Vec F S1x1x16x1024 .bf16 → Vec F S16x1024 .f32}
    {o1 : Fin 2 → ℕ} {o3 o5 : Fin 4 → ℕ} {o4 : Fin 3 → ℕ}
    (h1 : o1 = ![g.val, d.val]) (h3 : o3 = ![g.val, d.val, 0, 0]) (h5 : o5 = ![g.val, d.val, 0, 0]) (h4 : o4 = ![g.val, 16 * d.val, 0])
    {i1 : ∀ a, o1 a + S1x1.size a ≤ S4x16.size a}
    {i3 : ∀ a, o3 a + S1x1x16x1024.size a ≤ S4x16x16x1024.size a} {i5 : ∀ a, o5 a + S1x1x16x1024.size a ≤ S4x16x16x1024.size a} {i4 : ∀ a, o4 a + S1x16x1024.size a ≤ S4x256x1024.size a}
    {w4 : (((Memref.whole cc0_scratch2).slice (Rect.unit (s := S4x256x1024) o4 S1x16x1024.size i4) (fun _ => rfl)).squeeze S16x1024 squeezes_S1x16x1024_S16x1024 : Memref sig .tc .vmem S16x1024 .bf16).view.WordExact}
    {w3 : (((Memref.whole cc0_scratch0).slice (Rect.unit (s := S4x16x16x1024) o3 S1x1x16x1024.size i3) (fun _ => rfl)).squeeze S16x1024 squeezes_S1x1x16x1024_S16x1024 : Memref sig .tc .vmem S16x1024 .bf16).view.WordExact}
    {q : PUnit → Pr α} {la lb lc hx hm}
    (hk : iprop(Known v K ∗ R ∗ rsD v c g d ∗ accP c (pay a (slotV (v.rsB c) g d)) ∗ Owing (F := F) c n) ⊢ Wp c (q ⟨⟩) Q) :
    iprop(Known v K ∗ R ∗ rsW (F := F) c g d ∗ accP c a ∗ Owing (F := F) c n) ⊢ Wp c
      (.op (.waitDma2 ((cc0_scratch7.slice (Rect.unit (s := S4x16) o1 S1x1.size i1)).squeeze S_ squeezes_S1x1_S_).sem
          (((Memref.whole cc0_scratch2).slice (Rect.unit (s := S4x256x1024) o4 S1x16x1024.size i4) (fun _ => rfl)).squeeze S16x1024 squeezes_S1x16x1024_S16x1024)
          (((Memref.whole cc0_scratch0).slice (Rect.unit (s := S4x16x16x1024) o3 S1x1x16x1024.size i3) (fun _ => rfl)).squeeze S16x1024 squeezes_S1x1x16x1024_S16x1024) w4 w3) fun _ =>
       .op (.waitDma2 ((cc0_scratch6.slice (Rect.unit (s := S4x16) o1 S1x1.size i1)).squeeze S_ squeezes_S1x1_S_).sem
          (((Memref.whole cc0_scratch0).slice (Rect.unit (s := S4x16x16x1024) o3 S1x1x16x1024.size i3) (fun _ => rfl)).squeeze S16x1024 squeezes_S1x1x16x1024_S16x1024)
          (((Memref.whole cc0_scratch2).slice (Rect.unit (s := S4x256x1024) o4 S1x16x1024.size i4) (fun _ => rfl)).squeeze S16x1024 squeezes_S1x16x1024_S16x1024) w3 w4) fun _ =>
       .op (.load (Memref.whole cc0_scratch4) (Rect.unit (s := S16x1024) ![0, 0] S16x1024.size inb_S16x1024_S16x1024_0_0).toLoadRect la) fun v382 =>
       .op (.load (Memref.whole cc0_scratch0) (Rect.unit (s := S4x16x16x1024) o5 S1x1x16x1024.size i5).toLoadRect lb) fun v384 =>
       .op (.load (Memref.whole cc0_scratch4) (Rect.unit (s := S16x1024) ![0, 0] S16x1024.size inb_S16x1024_S16x1024_0_0).toLoadRect lc) fun _ =>
       .op (.store (Memref.whole cc0_scratch4) (Rect.unit (s := S16x1024) ![0, 0] S16x1024.size inb_S16x1024_S16x1024_0_0) (pay v382 v384) Finset.univ hx hm) q) Q := by
  subst h1 h3 h4 h5
  unfold rsW
  iintro ⟨#HK, HR, ⟨Hc1, Ha1, Hc0, Ha0⟩, HA, HO⟩
  iapply (wp_x_wait v K c d hdc g n 1 (sem_kind1 g d) (rsM_credit g d) hl1) $$ [Hc1 Ha1 HO]
  · isplitr; · iexact HK
    isplitl [Hc1]; · iexact Hc1
    isplitl [HO]; · iexact HO
    iexact Ha1
  iintro ⟨Hr, Hz1, HO⟩
  ihave Hr := (Entails.of_eq (xPay1 v c g d)) $$ Hr
  iapply (wp_x_wait v K c d hdc g n 0 (sem_kind0 g d) (stM_credit g d) hl0) $$ [Hc0 Ha0 HO]
  · isplitr; · iexact HK
    isplitl [Hc0]; · iexact Hc0
    isplitl [HO]; · iexact HO
    iexact Ha0
  iintro ⟨Hs, Hz0, HO⟩
  ihave Hs := (Entails.of_eq (xPay0 v c g d)) $$ Hs
  iapply (wp_ld_acc c a) $$ HA; iintro HA
  iapply (wp_ld_rs c g d (v.rsB c)) $$ Hr; iintro Hr
  iapply (wp_ld_acc c a) $$ HA; iintro HA
  iapply (wp_st_acc c a (pay a (slotV (v.rsB c) g d))) $$ HA; iintro HA
  iapply hk
  isplitr; · iexact HK
  isplitl [HR]; · iexact HR
  isplitl [Hr Hz1 Hs Hz0]
  · unfold rsD
    isplitl [Hr]; · iexact Hr
    isplitl [Hz1]; · iexact Hz1
    isplitl [Hs]; · iexact Hs
    iexact Hz0
  isplitl [HA]; · iexact HA
  iexact HO

/-- The running sum of batch `g` when the peers below `n` are added. -/
def accS (a : S16x1024.Idx → Elt F .f32) (c : Dev nD) (g : Fin 4) : ℕ → S16x1024.Idx → Elt F .f32
  | 0 => a
  | n + 1 => if h : n < 16 then (if (⟨n, h⟩ : Dev nD) = c then accS a c g n else k0_pay19 (accS a c g n) (slotV (v.rsB c) g ⟨n, h⟩)) else accS a c g n

theorem accS_self (a : S16x1024.Idx → Elt F .f32) (c : Dev nD) (g : Fin 4) (n : ℕ) (h : n < 16) (hc : (⟨n, h⟩ : Dev nD) = c) : accS v a c g (n + 1) = accS v a c g n := by
  rw [accS, dif_pos h, if_pos hc]
theorem accS_other (a : S16x1024.Idx → Elt F .f32) (c : Dev nD) (g : Fin 4) (n : ℕ) (h : n < 16) (hc : (⟨n, h⟩ : Dev nD) ≠ c) :
    accS v a c g (n + 1) = k0_pay19 (accS v a c g n) (slotV (v.rsB c) g ⟨n, h⟩) := by
  rw [accS, dif_pos h, if_neg hc]

/-- The waits of the first exchange on one peer and the addition of what it sent. -/
theorem step_red (c : Dev nD) {α : Type} {Q : α → sProp 𝕄} {k : Pr α} {R : sProp 𝕄} (g : Fin 4) (d : ℕ) (hd : d < 16) (n : ℕ) (a : S16x1024.Idx → Elt F .f32)
    (hl1 : levelOf (some (c, some (1, g, ⟨d, hd⟩))) ≤ n / 16) (hl0 : levelOf (some (c, some (0, g, ⟨d, hd⟩))) ≤ n / 16)
    {pay : Vec F S16x1024 .f32 → Vec F S1x1x16x1024 .bf16 → Vec F S16x1024 .f32} (hpay : pay = k0_pay19)
    {cond : BitVec 1} (hc : cond = 1#1 ↔ (⟨d, hd⟩ : Dev nD) ≠ c)
    {o1 : Fin 2 → ℕ} {o3 o5 : Fin 4 → ℕ} {o4 : Fin 3 → ℕ}
    (h1 : o1 = ![g.val, d]) (h3 : o3 = ![g.val, d, 0, 0]) (h4 : o4 = ![g.val, 16 * d, 0]) (h5 : o5 = ![g.val, d, 0, 0])
    {i1 : cond = 1#1 → ∀ a, o1 a + S1x1.size a ≤ S4x16.size a}
    {i3 : cond = 1#1 → ∀ a, o3 a + S1x1x16x1024.size a ≤ S4x16x16x1024.size a} {i5 : cond = 1#1 → ∀ a, o5 a + S1x1x16x1024.size a ≤ S4x16x16x1024.size a} {i4 : cond = 1#1 → ∀ a, o4 a + S1x16x1024.size a ≤ S4x256x1024.size a}
    {w4 : (h : cond = 1#1) → (((Memref.whole cc0_scratch2).slice (Rect.unit (s := S4x256x1024) o4 S1x16x1024.size (i4 h)) (fun _ => rfl)).squeeze S16x1024 squeezes_S1x16x1024_S16x1024 : Memref sig .tc .vmem S16x1024 .bf16).view.WordExact}
    {w3 : (h : cond = 1#1) → (((Memref.whole cc0_scratch0).slice (Rect.unit (s := S4x16x16x1024) o3 S1x1x16x1024.size (i3 h)) (fun _ => rfl)).squeeze S16x1024 squeezes_S1x1x16x1024_S16x1024 : Memref sig .tc .vmem S16x1024 .bf16).view.WordExact}
    (hk : iprop(Known v K ∗ R ∗ fam c (rsW (F := F) c g) (rsD v c g) (d + 1) ∗ accP c (accS v a c g (d + 1)) ∗ Owing (F := F) c n) ⊢ Wp c k Q) :
    iprop(Known v K ∗ R ∗ fam c (rsW (F := F) c g) (rsD v c g) d ∗ accP c (accS v a c g d) ∗ Owing (F := F) c n) ⊢ Wp c (do
      if h : cond = 1#1 then do
        let v370 : DmaSems sig S1x1 := cc0_scratch7.slice (Rect.unit (s := S4x16) o1 S1x1.size (i1 h))
        let v371 : DmaSems sig S_ := v370.squeeze S_ squeezes_S1x1_S_
        let v372 : Memref sig .tc .vmem S1x1x16x1024 .bf16 := (Memref.whole cc0_scratch0).slice (Rect.unit (s := S4x16x16x1024) o3 S1x1x16x1024.size (i3 h)) (fun _ => rfl)
        let v373 : Memref sig .tc .vmem S16x1024 .bf16 := v372.squeeze S16x1024 squeezes_S1x1x16x1024_S16x1024
        let v374 : Memref sig .tc .vmem S1x16x1024 .bf16 := (Memref.whole cc0_scratch2).slice (Rect.unit (s := S4x256x1024) o4 S1x16x1024.size (i4 h)) (fun _ => rfl)
        let v375 : Memref sig .tc .vmem S16x1024 .bf16 := v374.squeeze S16x1024 squeezes_S1x16x1024_S16x1024
        Prog.lift (.waitDma2 v371.sem v375 v373 (w4 h) (w3 h))
        let v376 : DmaSems sig S1x1 := cc0_scratch6.slice (Rect.unit (s := S4x16) o1 S1x1.size (i1 h))
        let v377 : DmaSems sig S_ := v376.squeeze S_ squeezes_S1x1_S_
        let v378 : Memref sig .tc .vmem S1x16x1024 .bf16 := (Memref.whole cc0_scratch2).slice (Rect.unit (s := S4x256x1024) o4 S1x16x1024.size (i4 h)) (fun _ => rfl)
        let v379 : Memref sig .tc .vmem S16x1024 .bf16 := v378.squeeze S16x1024 squeezes_S1x16x1024_S16x1024
        let v380 : Memref sig .tc .vmem S1x1x16x1024 .bf16 := (Memref.whole cc0_scratch0).slice (Rect.unit (s := S4x16x16x1024) o3 S1x1x16x1024.size (i3 h)) (fun _ => rfl)
        let v381 : Memref sig .tc .vmem S16x1024 .bf16 := v380.squeeze S16x1024 squeezes_S1x1x16x1024_S16x1024
        Prog.lift (.waitDma2 v377.sem v381 v379 (w3 h) (w4 h))
        let v382 : Vec F S16x1024 .f32 ← Prog.lift (.load (Memref.whole cc0_scratch4) (Rect.unit (s := S16x1024) ![0, 0] S16x1024.size inb_S16x1024_S16x1024_0_0).toLoadRect (View.loadsAt_vmem h_S16x1024))
        let v384 : Vec F S1x1x16x1024 .bf16 ← Prog.lift (.load (Memref.whole cc0_scratch0) (Rect.unit (s := S4x16x16x1024) o5 S1x1x16x1024.size (i5 h)).toLoadRect (View.loadsAt_vmem h_S1x1x16x1024))
        let v388 : Vec F S16x1024 .f32 ← Prog.lift (.load (Memref.whole cc0_scratch4) (Rect.unit (s := S16x1024) ![0, 0] S16x1024.size inb_S16x1024_S16x1024_0_0).toLoadRect (View.loadsAt_vmem h_S16x1024))
        Prog.lift (.store (Memref.whole cc0_scratch4) (Rect.unit (s := S16x1024) ![0, 0] S16x1024.size inb_S16x1024_S16x1024_0_0) (pay v382 v384) Finset.univ (View.stores_vmem_bits_univ h_S16x1024 rfl) (.inl rfl))
        pure ⟨⟩
      else do
        pure ⟨⟩
      k) Q := by
  by_cases h : cond = 1#1
  · have hdc := hc.1 h
    simp only [dif_pos h, Prog.lift, Prog.bind_op, Prog.bind_ret, Prog.pure_eq_ret]
    iintro ⟨#HK, HR, HF, HA, HO⟩
    ihave HF := (fam_take c (rsW (F := F) c g) (rsD v c g) (⟨d, hd⟩ : Dev nD) hdc) $$ HF
    icases HF with ⟨HW, HF⟩
    iapply (red_core v K c (R := iprop(R ∗ (rsD v c g ⟨d, hd⟩ -∗ fam c (rsW (F := F) c g) (rsD v c g) (d + 1)))) g (⟨d, hd⟩ : Dev nD) hdc n (accS v a c g d) hl1 hl0 h1 h3 h5 h4 ?_) $$ [HR HF HW HA HO]
    · iintro ⟨#HK, ⟨HR, HF⟩, HD, HA, HO⟩
      iapply hk
      isplitr; · iexact HK
      isplitl [HR]; · iexact HR
      isplitl [HF HD]; · iapply HF; iexact HD
      isplitl [HA]; · rw [accS_other v a c g d hd hdc, ← hpay]; iexact HA
      iexact HO
    · isplitr; · iexact HK
      isplitl [HR HF]
      · isplitl [HR]; · iexact HR
        iexact HF
      isplitl [HW]; · iexact HW
      isplitl [HA]; · iexact HA
      iexact HO
  · have hdc : (⟨d, hd⟩ : Dev nD) = c := by by_contra hne; exact h (hc.2 hne)
    simp only [dif_neg h, Prog.bind_ret, Prog.pure_eq_ret]
    have e1 := fam_self c (rsW (F := F) c g) (rsD v c g)
    rw [show c.val = d from congrArg Fin.val hdc.symm] at e1
    rw [e1, ← accS_self v a c g d hd hdc]
    exact hk

/-- The same, the body a part of its own. -/
theorem step_red_call (c : Dev nD) {α : Type} {Q : α → sProp 𝕄} {k : Pr α} {R : sProp 𝕄} (g : Fin 4) (d : ℕ) (hd : d < 16) (n : ℕ) (a : S16x1024.Idx → Elt F .f32)
    {p : Pr PUnit} {cond : BitVec 1} (hc : cond = 1#1 ↔ (⟨d, hd⟩ : Dev nD) ≠ c)
    (hp : ∀ (R : sProp 𝕄) (hdc : (⟨d, hd⟩ : Dev nD) ≠ c) (a : S16x1024.Idx → Elt F .f32), iprop(Known v K ∗ R ∗ rsW (F := F) c g ⟨d, hd⟩ ∗ accP c a ∗ Owing (F := F) c n)
      ⊢ Wp c p (fun _ => iprop(Known v K ∗ R ∗ rsD v c g ⟨d, hd⟩ ∗ accP c (k0_pay19 a (slotV (v.rsB c) g ⟨d, hd⟩)) ∗ Owing (F := F) c n)))
    (hk : iprop(Known v K ∗ R ∗ fam c (rsW (F := F) c g) (rsD v c g) (d + 1) ∗ accP c (accS v a c g (d + 1)) ∗ Owing (F := F) c n) ⊢ Wp c k Q) :
    iprop(Known v K ∗ R ∗ fam c (rsW (F := F) c g) (rsD v c g) d ∗ accP c (accS v a c g d) ∗ Owing (F := F) c n) ⊢ Wp c (do
      if h : cond = 1#1 then do
        p
        pure ⟨⟩
      else do
        pure ⟨⟩
      k) Q := by
  by_cases h : cond = 1#1
  · have hdc := hc.1 h
    simp only [dif_pos h, Prog.bind_ret, Prog.pure_eq_ret]
    have H := wp_call c (hp (iprop(R ∗ (rsD v c g ⟨d, hd⟩ -∗ fam c (rsW (F := F) c g) (rsD v c g) (d + 1)))) hdc (accS v a c g d)) (k := fun _ => k) (Q := Q) (fun _ => by
      iintro ⟨#HK, ⟨HR, HF⟩, HD, HA, HO⟩
      iapply hk
      isplitr; · iexact HK
      isplitl [HR]; · iexact HR
      isplitl [HF HD]; · iapply HF; iexact HD
      isplitl [HA]; · rw [accS_other v a c g d hd hdc]; iexact HA
      iexact HO)
    iintro ⟨#HK, HR, HF, HA, HO⟩
    ihave HF := (fam_take c (rsW (F := F) c g) (rsD v c g) (⟨d, hd⟩ : Dev nD) hdc) $$ HF
    icases HF with ⟨HW, HF⟩
    iapply H
    isplitr; · iexact HK
    isplitl [HR HF]
    · isplitl [HR]; · iexact HR
      iexact HF
    isplitl [HW]; · iexact HW
    isplitl [HA]; · iexact HA
    iexact HO
  · have hdc : (⟨d, hd⟩ : Dev nD) = c := by by_contra hne; exact h (hc.2 hne)
    simp only [dif_neg h, Prog.bind_ret, Prog.pure_eq_ret]
    have e1 := fam_self c (rsW (F := F) c g) (rsD v c g)
    rw [show c.val = d from congrArg Fin.val hdc.symm] at e1
    rw [e1, ← accS_self v a c g d hd hdc]
    exact hk

/-! ## What is known of the output block -/

/-- Of batch `γ`: the other devices' rows are final as far as the count `nF` goes (in the order of batches, then
devices); the device's own rows are final below `nO`, and hold its partial sums from there to `nA`. -/
def OutK (c : Dev nD) (ob ou : S4x256x1024.Idx → Elt F .f32) (nA nO nF : ℕ) (f : S4x256x1024.Idx → Elt F .f32) : Prop :=
  (∀ (γ : Fin 4) (e : Fin 16) (r : Fin 16) (k : Fin 1024), e ≠ c → 16 * γ.val + e.val < nF → f (ix3 γ (rowOf e r) k) = ou (ix3 γ (rowOf e r) k))
  ∧ (∀ (γ : Fin 4) (r : Fin 16) (k : Fin 1024), γ.val < nO → f (ix3 γ (rowOf c r) k) = ou (ix3 γ (rowOf c r) k))
  ∧ ∀ (γ : Fin 4) (r : Fin 16) (k : Fin 1024), nO ≤ γ.val → γ.val < nA → f (ix3 γ (rowOf c r) k) = ob (ix3 γ (rowOf c r) k)

def OutS (c : Dev nD) (ob ou : S4x256x1024.Idx → Elt F .f32) (nA nO nF : ℕ) : sProp 𝕄 := iprop(∃ f, ⌜OutK c ob ou nA nO nF f⌝ ∗ outP c f)

theorem rowOf_inj {d e r s : Fin 16} (h : rowOf d r = rowOf e s) : d = e ∧ r = s := by
  have h' : 16 * d.val + r.val = 16 * e.val + s.val := congrArg Fin.val h
  exact ⟨Fin.ext (by omega), Fin.ext (by omega)⟩

theorem notMem_rows {g γ : Fin 4} {d e : Fin 16} (r : Fin 16) (k : Fin 1024) (h : ¬(γ = g ∧ e = d)) : (ix3 γ (rowOf e r) k : S4x256x1024.Idx) ∉ rowsS g d := by
  intro hm
  obtain ⟨h0, h1⟩ := mem_rowsS.1 hm
  have h1' : (16 * e.val + r.val) / 16 = d.val := h1
  exact h ⟨Fin.ext h0, Fin.ext (by omega)⟩

omit [FloatOps F] [Named F] in
theorem OutK.skip {c : Dev nD} {ob ou f : S4x256x1024.Idx → Elt F .f32} {nA nO : ℕ} {g : Fin 4} (h : OutK c ob ou nA nO (16 * g.val + c.val) f) :
    OutK c ob ou nA nO (16 * g.val + (c.val + 1)) f := by
  refine ⟨fun γ e r k he hn => h.1 γ e r k he ?_, h.2.1, h.2.2⟩
  have h1 : e.val ≠ c.val := fun hh => he (Fin.ext hh)
  have h2 : e.val < 16 := e.isLt
  have h3 : c.val < 16 := c.isLt
  omega

omit [FloatOps F] [Named F] in
theorem OutK.fill {c : Dev nD} {ob ou f f' : S4x256x1024.Idx → Elt F .f32} {nA nO : ℕ} {g : Fin 4} {d : Fin 16} (hdc : d ≠ c) (h : OutK c ob ou nA nO (16 * g.val + d.val) f)
    {w : S1x16x1024.Idx → Elt F .f32} (hw : ∀ j : S1x16x1024.Idx, w j = ou (ix3 g (rowOf d (j 1)) (j 2)))
    (h1 : ∀ j : S1x16x1024.Idx, f' (ix3 g (rowOf d (j 1)) (j 2)) = w j) (h2 : ∀ x, x ∉ rowsS g d → f' x = f x) :
    OutK c ob ou nA nO (16 * g.val + (d.val + 1)) f' := by
  refine ⟨fun γ e r k he hn => ?_, fun γ r k hn => ?_, fun γ r k hn hn' => ?_⟩
  · by_cases hh : γ = g ∧ e = d
    · obtain ⟨rfl, rfl⟩ := hh
      exact (h1 (ix3 (0 : Fin 1) r k)).trans (hw (ix3 (0 : Fin 1) r k))
    · rw [h2 _ (notMem_rows r k hh)]
      refine h.1 γ e r k he ?_
      have h4 : e.val < 16 := e.isLt
      have h5 : d.val < 16 := d.isLt
      rcases Nat.lt_or_ge (16 * γ.val + e.val) (16 * g.val + d.val) with h6 | h6
      · exact h6
      · exact absurd ⟨Fin.ext (by omega), Fin.ext (by omega)⟩ hh
  · rw [h2 _ (notMem_rows r k (fun hh => hdc hh.2.symm))]; exact h.2.1 γ r k hn
  · rw [h2 _ (notMem_rows r k (fun hh => hdc hh.2.symm))]; exact h.2.2 γ r k hn hn'

/-- The waits of the second exchange on one peer and the store of the chunk which it sent. -/
theorem step_ag_store (c : Dev nD) {α : Type} {Q : α → sProp 𝕄} {k : Pr α} {R : sProp 𝕄} (g : Fin 4) (d : ℕ) (hd : d < 16) (n : ℕ) (ob ou : S4x256x1024.Idx → Elt F .f32) (nA nO : ℕ)
    (hou : ∀ (g : Fin 4) (d : Fin 16), d ≠ c → ∀ j : S1x16x1024.Idx, k0_pay1 (slotV v.agB g d) j = ou (ix3 g (rowOf d (j 1)) (j 2)))
    (hl1 : levelOf (some (c, some (3, g, ⟨d, hd⟩))) ≤ n / 16) (hl0 : levelOf (some (c, some (2, g, ⟨d, hd⟩))) ≤ n / 16)
    {pay : Vec F S1x1x16x1024 .bf16 → Vec F S1x16x1024 .f32} (hpay : pay = k0_pay1)
    {cond : BitVec 1} (hc : cond = 1#1 ↔ (⟨d, hd⟩ : Dev nD) ≠ c)
    {o1 : Fin 2 → ℕ} {o3 o5 : Fin 4 → ℕ} {o4 o6 : Fin 3 → ℕ}
    (h1 : o1 = ![g.val, d]) (h3 : o3 = ![g.val, d, 0, 0]) (h4 : o4 = ![g.val, 0, 0]) (h5 : o5 = ![g.val, d, 0, 0]) (h6 : o6 = ![g.val, 16 * d, 0])
    {i1 : cond = 1#1 → ∀ a, o1 a + S1x1.size a ≤ S4x16.size a}
    {i3 : cond = 1#1 → ∀ a, o3 a + S1x1x16x1024.size a ≤ S4x16x16x1024.size a} {i5 : cond = 1#1 → ∀ a, o5 a + S1x1x16x1024.size a ≤ S4x16x16x1024.size a} {i4 : cond = 1#1 → ∀ a, o4 a + S1x16x1024.size a ≤ S4x16x1024.size a}
    {w4 : (h : cond = 1#1) → (((Memref.whole cc0_scratch3).slice (Rect.unit (s := S4x16x1024) o4 S1x16x1024.size (i4 h)) (fun _ => rfl)).squeeze S16x1024 squeezes_S1x16x1024_S16x1024 : Memref sig .tc .vmem S16x1024 .bf16).view.WordExact}
    {w3 : (h : cond = 1#1) → (((Memref.whole cc0_scratch1).slice (Rect.unit (s := S4x16x16x1024) o3 S1x1x16x1024.size (i3 h)) (fun _ => rfl)).squeeze S16x1024 squeezes_S1x1x16x1024_S16x1024 : Memref sig .tc .vmem S16x1024 .bf16).view.WordExact}
    {i6 : cond = 1#1 → ∀ a, o6 a + S1x16x1024.size a ≤ S4x256x1024.size a}
    (hk : iprop(Known v K ∗ R ∗ fam c (agW (F := F) c g) (agD v c g) (d + 1) ∗ OutS c ob ou nA nO (16 * g.val + (d + 1)) ∗ Owing (F := F) c n) ⊢ Wp c k Q) :
    iprop(Known v K ∗ R ∗ fam c (agW (F := F) c g) (agD v c g) d ∗ OutS c ob ou nA nO (16 * g.val + d) ∗ Owing (F := F) c n) ⊢ Wp c (do
      if h : cond = 1#1 then do
        let v302 : DmaSems sig S1x1 := cc0_scratch9.slice (Rect.unit (s := S4x16) o1 S1x1.size (i1 h))
        let v303 : DmaSems sig S_ := v302.squeeze S_ squeezes_S1x1_S_
        let v304 : Memref sig .tc .vmem S1x1x16x1024 .bf16 := (Memref.whole cc0_scratch1).slice (Rect.unit (s := S4x16x16x1024) o3 S1x1x16x1024.size (i3 h)) (fun _ => rfl)
        let v305 : Memref sig .tc .vmem S16x1024 .bf16 := v304.squeeze S16x1024 squeezes_S1x1x16x1024_S16x1024
        let v306 : Memref sig .tc .vmem S1x16x1024 .bf16 := (Memref.whole cc0_scratch3).slice (Rect.unit (s := S4x16x1024) o4 S1x16x1024.size (i4 h)) (fun _ => rfl)
        let v307 : Memref sig .tc .vmem S16x1024 .bf16 := v306.squeeze S16x1024 squeezes_S1x16x1024_S16x1024
        Prog.lift (.waitDma2 v303.sem v307 v305 (w4 h) (w3 h))
        let v309 : Vec F S1x1x16x1024 .bf16 ← Prog.lift (.load (Memref.whole cc0_scratch1) (Rect.unit (s := S4x16x16x1024) o5 S1x1x16x1024.size (i5 h)).toLoadRect (View.loadsAt_vmem h_S1x1x16x1024))
        let v313 : Vec F S1x16x1024 .f32 ← Prog.lift (.load (Memref.whole cc0_stg5_0) (Rect.unit (s := S4x256x1024) o6 S1x16x1024.size (i6 h)).toLoadRect (View.loadsAt_vmem h_S1x16x1024))
        Prog.lift (.store (Memref.whole cc0_stg5_0) (Rect.unit (s := S4x256x1024) o6 S1x16x1024.size (i6 h)) (pay v309) Finset.univ (View.stores_vmem_bits_univ h_S1x16x1024 rfl) (.inl rfl))
        let v316 : DmaSems sig S1x1 := cc0_scratch8.slice (Rect.unit (s := S4x16) o1 S1x1.size (i1 h))
        let v317 : DmaSems sig S_ := v316.squeeze S_ squeezes_S1x1_S_
        let v318 : Memref sig .tc .vmem S1x16x1024 .bf16 := (Memref.whole cc0_scratch3).slice (Rect.unit (s := S4x16x1024) o4 S1x16x1024.size (i4 h)) (fun _ => rfl)
        let v319 : Memref sig .tc .vmem S16x1024 .bf16 := v318.squeeze S16x1024 squeezes_S1x16x1024_S16x1024
        let v320 : Memref sig .tc .vmem S1x1x16x1024 .bf16 := (Memref.whole cc0_scratch1).slice (Rect.unit (s := S4x16x16x1024) o3 S1x1x16x1024.size (i3 h)) (fun _ => rfl)
        let v321 : Memref sig .tc .vmem S16x1024 .bf16 := v320.squeeze S16x1024 squeezes_S1x1x16x1024_S16x1024
        Prog.lift (.waitDma2 v317.sem v321 v319 (w3 h) (w4 h))
        pure ⟨⟩
      else do
        pure ⟨⟩
      k) Q := by
  subst h1 h3 h4 h5 h6 hpay
  by_cases h : cond = 1#1
  · have hdc := hc.1 h
    simp only [dif_pos h, Prog.lift, Prog.bind_op, Prog.bind_ret, Prog.pure_eq_ret]
    iintro ⟨#HK, HR, HF, HA, HO⟩
    ihave HF := (fam_take c (agW (F := F) c g) (agD v c g) (⟨d, hd⟩ : Dev nD) hdc) $$ HF
    icases HF with ⟨HW, HF⟩
    unfold agW OutS
    icases HW with ⟨Hc3, Ha3, Hc2, Ha2⟩
    icases HA with ⟨%f, %hf, HA⟩
    iapply (wp_x_wait v K c (⟨d, hd⟩ : Dev nD) hdc g n 3 (sem_kind3 g ⟨d, hd⟩) (agM_credit g ⟨d, hd⟩) hl1) $$ [Hc3 Ha3 HO]
    · isplitr; · iexact HK
      isplitl [Hc3]; · iexact Hc3
      isplitl [HO]; · iexact HO
      iexact Ha3
    iintro ⟨Hr, Hz3, HO⟩
    ihave Hr := (Entails.of_eq (xPay3 v c g (⟨d, hd⟩ : Dev nD))) $$ Hr
    iapply (wp_ld_ag c g (⟨d, hd⟩ : Dev nD) v.agB) $$ Hr; iintro Hr
    iapply (wp_ld_rows c g (⟨d, hd⟩ : Dev nD) f) $$ HA; iintro HA
    iapply (wp_st_rows c g (⟨d, hd⟩ : Dev nD) f (k0_pay1 (slotV v.agB g ⟨d, hd⟩))) $$ HA
    iintro %f' %hf' HA
    iapply (wp_x_wait v K c (⟨d, hd⟩ : Dev nD) hdc g n 2 (sem_kind2 g ⟨d, hd⟩) (sgM_credit g) hl0) $$ [Hc2 Ha2 HO]
    · isplitr; · iexact HK
      isplitl [Hc2]; · iexact Hc2
      isplitl [HO]; · iexact HO
      iexact Ha2
    iintro ⟨Hs, Hz2, HO⟩
    ihave Hs := (Entails.of_eq (xPay2 v c g (⟨d, hd⟩ : Dev nD))) $$ Hs
    iapply hk
    isplitr; · iexact HK
    isplitl [HR]; · iexact HR
    isplitl [HF Hr Hz3 Hs Hz2]
    · iapply HF
      unfold agD
      isplitl [Hr]; · iexact Hr
      isplitl [Hz3]; · iexact Hz3
      isplitl [Hs]; · iexact Hs
      iexact Hz2
    isplitl [HA]
    · unfold OutS
      iexists f'
      isplitr
      · ipureintro; exact OutK.fill hdc hf (hou g ⟨d, hd⟩ hdc) hf'.1 hf'.2
      iexact HA
    iexact HO
  · have hdc : (⟨d, hd⟩ : Dev nD) = c := by by_contra hne; exact h (hc.2 hne)
    have hcd : c.val = d := congrArg Fin.val hdc.symm
    simp only [dif_neg h, Prog.bind_ret, Prog.pure_eq_ret]
    have e1 := fam_self c (agW (F := F) c g) (agD v c g)
    rw [hcd] at e1
    rw [e1]
    iintro ⟨#HK, HR, HF, HA, HO⟩
    unfold OutS
    icases HA with ⟨%f, %hf, HA⟩
    iapply hk
    isplitr; · iexact HK
    isplitl [HR]; · iexact HR
    isplitl [HF]; · iexact HF
    isplitl [HA]
    · unfold OutS
      iexists f
      isplitr
      · ipureintro
        have := OutK.skip (g := g) (c := c) (ob := ob) (ou := ou) (nA := nA) (nO := nO) (f := f)
        rw [hcd] at this
        exact this hf
      iexact HA
    iexact HO

end
end Cert.RsAg
-- ==== Proof.Own.lean ====
/-
# The states of a batch, and the steps between the loops

What a device holds of each batch before, between and after the two exchanges' transfers and waits; and the steps by
which the running sum is started and read, and the finished sum stored and lent to the second exchange.
-/
module

public import proofs.«01_k».proof.Proof.Steps
public import Idealize.ShloMosaic.Lib.Ring

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)

theorem star_sep {M : Type} [URA M] {I : Type} (s : Finset I) (Φ Ψ : I → sProp M) : iprop(bigSep s Φ ∗ bigSep s Ψ) = bigSep s (fun i => iprop(Φ i ∗ Ψ i)) :=
  (bigSep_sep s Φ Ψ).symm

/-! ## The states of a batch -/

/-- The rights to pay for the transfer of the first exchange to `e`. -/
def rsTok (c : Dev nD) (g : Fin 4) (e : Dev nD) : sProp 𝕄 := iprop(dutyTok ER (xCell c 0 g e) 0 e ∗ dutyTok ER (xCell e 1 g c) 0 c)
/-- The right to wait for `e`'s transfer and for the release of the rows staged for `e`. -/
def rsWt (c : Dev nD) (g : Fin 4) (e : Dev nD) : sProp 𝕄 :=
  iprop(cred (tallyAt (xCell c 1 g e) () N) ∗ atPos ER (xCell c 1 g e) 0 ∅ 0 ∗ atPos ER (xCell c 0 g e) 0 ∅ 0)
def agTok (c : Dev nD) (g : Fin 4) (e : Dev nD) : sProp 𝕄 := iprop(dutyTok ER (xCell c 2 g e) 0 e ∗ dutyTok ER (xCell e 3 g c) 0 c)
def agWt (c : Dev nD) (g : Fin 4) (e : Dev nD) : sProp 𝕄 :=
  iprop(cred (tallyAt (xCell c 3 g e) () N) ∗ atPos ER (xCell c 3 g e) 0 ∅ 0 ∗ atPos ER (xCell c 2 g e) 0 ∅ 0)
/-- The shares of the reduced chunk which no transfer takes. -/
def sgRest (c : Dev nD) (g : Fin 4) : sProp 𝕄 := iprop(sgP c g (Transfers.shareDrop fullShare 16) (v.ags c) ∗ sgP c g (sh c) (v.ags c))

/-- The first exchange of batch `g`: before its transfers, after them, after its waits. -/
def RS (c : Dev nD) (g : Fin 4) : ℕ → sProp 𝕄
  | 0 => iprop(bigSep (others c) (fun e => iprop(rsTok (F := F) c g e ∗ ∃ f, rsP (F := F) e g c f)) ∗ bigSep (others c) (rsWt (F := F) c g) ∗ ∃ f, bigP (F := F) c g f)
  | 1 => iprop(bigSep (others c) (rsB (F := F) c g) ∗ bigSep (others c) (rsWt (F := F) c g) ∗ stP c g c (v.stg c))
  | _ => iprop(bigSep (others c) (rsD v c g) ∗ stP c g c (v.stg c))
/-- The second exchange of batch `g`: before its transfers, after them, after its waits. -/
def AG (c : Dev nD) (g : Fin 4) : ℕ → sProp 𝕄
  | 0 => iprop(bigSep (others c) (fun e => iprop(agTok (F := F) c g e ∗ ∃ f, agP (F := F) e g c f)) ∗ bigSep (others c) (agWt (F := F) c g) ∗ ∃ f, sgP (F := F) c g fullShare f)
  | 1 => iprop(bigSep (others c) (agB (F := F) c g) ∗ bigSep (others c) (agWt (F := F) c g) ∗ sgRest v c g)
  | _ => iprop(bigSep (others c) (agD v c g) ∗ sgRest v c g)

omit [FloatOps F] [Named F] in
/-- The staged batch is its receivers' rows. -/
theorem big_rows (c : Dev nD) (g : Fin 4) (f : S4x256x1024.Idx → Elt F .bf16) :
    bigP c g f ⊢ iprop(stP c g c f ∗ bigSep (others c) (fun e => stP c g e f)) := by
  have h := Entails.of_eq (Idealize.ShloMosaic.Ring.pointsTo_sub_blocks (Val := Elt F) (Ix := Unit) (Name := ℕ) (U := UU) (Lvl := ℕ) (ℓ := (c : Thread nD τ).loc cc0_scratch2) (q := fullShare) (I := fun d : Fin 16 => rowsS g d) (rowsS_disj g) (S := bigS g) (rowsS_cover g) f)
  refine BI.Entails.trans h ?_
  rw [univ_insert c, star_insert (notMem_others c)]
  exact .refl _

omit [FloatOps F] [Named F] in
theorem rs_ready (c : Dev nD) (g : Fin 4) :
    iprop(bigSep (others c) (fun e => iprop(rsTok (F := F) c g e ∗ ∃ f, rsP (F := F) e g c f)) ∗ bigP c g (v.stg c))
      ⊢ iprop(fam c (rsA v c g) (rsB c g) 0 ∗ stP c g c (v.stg c)) := by
  iintro ⟨HT, HB⟩
  ihave HB := (big_rows c g (v.stg c)) $$ HB
  icases HB with ⟨HS, HB⟩
  isplitl [HT HB]
  · rw [fam_zero]
    have h : iprop(bigSep (others c) (fun e => iprop(rsTok (F := F) c g e ∗ ∃ f, rsP (F := F) e g c f)) ∗ bigSep (others c) (fun e => stP c g e (v.stg c))) ⊢ bigSep (others c) (rsA v c g) := by
      rw [star_sep]
      refine bigSep_mono fun e _ => show iprop((rsTok (F := F) c g e ∗ ∃ f, rsP (F := F) e g c f) ∗ stP c g e (v.stg c)) ⊢ rsA v c g e from ?_
      unfold rsA rsTok
      iintro ⟨⟨⟨H1, H2⟩, H3⟩, H4⟩
      isplitl [H4]; · iexact H4
      isplitl [H3]; · iexact H3
      isplitl [H1]; · iexact H1
      iexact H2
    iapply h
    isplitl [HT]; · iexact HT
    iexact HB
  iexact HS

omit [FloatOps F] [Named F] in
theorem rs_waits (c : Dev nD) (g : Fin 4) :
    iprop(bigSep (others c) (rsB (F := F) c g) ∗ bigSep (others c) (rsWt (F := F) c g)) ⊢ fam c (rsW (F := F) c g) (rsD v c g) 0 := by
  rw [fam_zero, star_sep]
  refine bigSep_mono fun e _ => show iprop(rsB (F := F) c g e ∗ rsWt (F := F) c g e) ⊢ rsW (F := F) c g e from ?_
  unfold rsW rsB rsWt
  iintro ⟨H0, H1, H2, H3⟩
  isplitl [H1]; · iexact H1
  isplitl [H2]; · iexact H2
  isplitl [H0]; · iexact H0
  iexact H3

omit [FloatOps F] [Named F] in
theorem ag_waits (c : Dev nD) (g : Fin 4) :
    iprop(bigSep (others c) (agB (F := F) c g) ∗ bigSep (others c) (agWt (F := F) c g)) ⊢ fam c (agW (F := F) c g) (agD v c g) 0 := by
  rw [fam_zero, star_sep]
  refine bigSep_mono fun e _ => show iprop(agB (F := F) c g e ∗ agWt (F := F) c g e) ⊢ agW (F := F) c g e from ?_
  unfold agW agB agWt
  iintro ⟨H0, H1, H2, H3⟩
  isplitl [H1]; · iexact H1
  isplitl [H2]; · iexact H2
  isplitl [H0]; · iexact H0
  iexact H3

omit [FloatOps F] [Named F] in
/-- The reduced chunk is its shares. -/
theorem slab_shares (c : Dev nD) (g : Fin 4) (f : S4x16x1024.Idx → Elt F .bf16) :
    sgP c g fullShare f ⊢ iprop((sgP c g (Transfers.shareDrop fullShare 16) f ∗ sgP c g (sh c) f) ∗ bigSep (others c) (fun e => sgP c g (sh e) f)) := by
  have h := (Transfers.pointsTo_toks (Val := Elt F) (Ix := Unit) (Name := ℕ) (U := UU) (Lvl := ℕ) (ℓ := (c : Thread nD τ).loc cc0_scratch3) (S := slabS g) (f := f) fullShare 16).1
  rw [univ_insert c, star_insert (notMem_others c)] at h
  refine BI.Entails.trans h (show iprop(sgP c g (Transfers.shareDrop fullShare 16) f ∗ sgP c g (sh c) f ∗ bigSep (others c) (fun e => sgP c g (sh e) f)) ⊢ _ from ?_)
  iintro ⟨H1, H2, H3⟩
  isplitl [H1 H2]
  · isplitl [H1]; · iexact H1
    iexact H2
  iexact H3

omit [FloatOps F] [Named F] in
theorem ag_ready (c : Dev nD) (g : Fin 4) :
    iprop(bigSep (others c) (fun e => iprop(agTok (F := F) c g e ∗ ∃ f, agP (F := F) e g c f)) ∗ sgP c g fullShare (v.ags c))
      ⊢ iprop(fam c (agA v c g) (agB c g) 0 ∗ sgRest v c g) := by
  iintro ⟨HT, HB⟩
  ihave HB := (slab_shares c g (v.ags c)) $$ HB
  icases HB with ⟨HS, HB⟩
  isplitl [HT HB]
  · rw [fam_zero]
    have h : iprop(bigSep (others c) (fun e => iprop(agTok (F := F) c g e ∗ ∃ f, agP (F := F) e g c f)) ∗ bigSep (others c) (fun e => sgP c g (sh e) (v.ags c))) ⊢ bigSep (others c) (agA v c g) := by
      rw [star_sep]
      refine bigSep_mono fun e _ => show iprop((agTok (F := F) c g e ∗ ∃ f, agP (F := F) e g c f) ∗ sgP c g (sh e) (v.ags c)) ⊢ agA v c g e from ?_
      unfold agA agTok
      iintro ⟨⟨⟨H1, H2⟩, H3⟩, H4⟩
      isplitl [H4]; · iexact H4
      isplitl [H3]; · iexact H3
      isplitl [H1]; · iexact H1
      iexact H2
    iapply h
    isplitl [HT]; · iexact HT
    iexact HB
  unfold sgRest; iexact HS

/-! ## The device's own rows of the output -/

section
omit [FloatOps F] [Named F]

/-- The device's own partial sums are read from the output block. -/
theorem rows_own {c : Dev nD} {ob ou f : S4x256x1024.Idx → Elt F .f32} {nA nO nF : ℕ} {g : Fin 4} (h : OutK c ob ou nA nO nF f) (hO : nO ≤ g.val) (hA : g.val < nA) :
    rowsV f g c = rowsV ob g c := funext fun j => h.2.2 g (j 1) (j 2) hO hA

/-- The device's own rows of the batch are stored. -/
theorem OutK.fin {c : Dev nD} {ob ou f f' : S4x256x1024.Idx → Elt F .f32} {nA nF : ℕ} {g : Fin 4} (h : OutK c ob ou nA g.val nF f)
    {w : S1x16x1024.Idx → Elt F .f32} (hw : ∀ j : S1x16x1024.Idx, w j = ou (ix3 g (rowOf c (j 1)) (j 2)))
    (h1 : ∀ j : S1x16x1024.Idx, f' (ix3 g (rowOf c (j 1)) (j 2)) = w j) (h2 : ∀ x, x ∉ rowsS g c → f' x = f x) :
    OutK c ob ou nA (g.val + 1) nF f' := by
  refine ⟨fun γ e r k he hn => ?_, fun γ r k hn => ?_, fun γ r k hn hn' => ?_⟩
  · rw [h2 _ (notMem_rows r k (fun hh => he hh.2))]; exact h.1 γ e r k he hn
  · by_cases hh : γ = g
    · subst hh; exact (h1 (ix3 (0 : Fin 1) r k)).trans (hw (ix3 (0 : Fin 1) r k))
    · rw [h2 _ (notMem_rows r k (fun h' => hh h'.1))]
      exact h.2.1 γ r k (by have : γ.val ≠ g.val := fun h' => hh (Fin.ext h'); omega)
  · rw [h2 _ (notMem_rows r k (fun h' => by have := congrArg Fin.val h'.1; omega))]; exact h.2.2 γ r k (by omega) hn'

theorem mem_big {g γ : Fin 4} {r : Fin 256} {k : Fin 1024} (h : γ ≠ g) : (ix3 γ r k : S4x256x1024.Idx) ∉ bigS g := by
  intro hm
  exact h (Fin.ext (mem_bigS.1 hm))

/-- A batch of partial sums is stored. -/
theorem OutK.big {c : Dev nD} {ob ou f f' : S4x256x1024.Idx → Elt F .f32} {nO nF : ℕ} {g : Fin 4} (h : OutK c ob ou g.val nO nF f) (hO : nO ≤ g.val) (hF : nF ≤ 16 * g.val)
    {w : S1x256x1024.Idx → Elt F .f32} (hw : ∀ j : S1x256x1024.Idx, w j = ob (ix3 g (j 1) (j 2)))
    (h1 : ∀ j : S1x256x1024.Idx, f' (ix3 g (j 1) (j 2)) = w j) (h2 : ∀ x, x ∉ bigS g → f' x = f x) :
    OutK c ob ou (g.val + 1) nO nF f' := by
  refine ⟨fun γ e r k he hn => ?_, fun γ r k hn => ?_, fun γ r k hn hn' => ?_⟩
  · rw [h2 _ (mem_big (fun hh => by have := congrArg Fin.val hh; omega))]; exact h.1 γ e r k he hn
  · rw [h2 _ (mem_big (fun hh => by have := congrArg Fin.val hh; omega))]; exact h.2.1 γ r k hn
  · by_cases hh : γ = g
    · subst hh; exact (h1 (ix3 (0 : Fin 1) (rowOf c r) k)).trans (hw (ix3 (0 : Fin 1) (rowOf c r) k))
    · rw [h2 _ (mem_big hh)]; exact h.2.2 γ r k hn (by have : γ.val ≠ g.val := fun h' => hh (Fin.ext h'); omega)

end

/-! ## The steps between the loops -/

/-- The running sum starts at the device's own partial sums. -/
theorem step_init (c : Dev nD) {α : Type} {Q : α → sProp 𝕄} {R : sProp 𝕄} (g : Fin 4) (n : ℕ) (ob ou : S4x256x1024.Idx → Elt F .f32) (nA nO nF : ℕ)
    (hO : nO ≤ g.val) (hA : g.val < nA) {P : sProp 𝕄} {k : Pr α}
    {o : Fin 3 → ℕ} (h : o = ![g.val, 16 * c.val, 0]) {io : ∀ a, o a + S1x16x1024.size a ≤ S4x256x1024.size a} {inb : ∀ a, (![0, 0] : Fin 2 → ℕ) a + S16x1024.size a ≤ S16x1024.size a}
    {pay : Vec F S1x16x1024 .f32 → Vec F S16x1024 .f32} {la lb hx hm}
    (hk : iprop(Known v K ∗ (R ∗ OutS c ob ou nA nO nF) ∗ P ∗ accP c (pay (rowsV ob g c)) ∗ Owing (F := F) c n) ⊢ Wp c k Q) :
    iprop(Known v K ∗ R ∗ P ∗ (∃ f, accP (F := F) c f) ∗ OutS c ob ou nA nO nF ∗ Owing (F := F) c n) ⊢ Wp c (do
      let v255 : Vec F S1x16x1024 .f32 ← Prog.lift (.load (Memref.whole cc0_stg5_0) (Rect.unit (s := S4x256x1024) o S1x16x1024.size io).toLoadRect la)
      let v257 : Vec F S16x1024 .f32 ← Prog.lift (.load (Memref.whole cc0_scratch4) (Rect.unit (s := S16x1024) ![0, 0] S16x1024.size inb).toLoadRect lb)
      Prog.lift (.store (Memref.whole cc0_scratch4) (Rect.unit (s := S16x1024) ![0, 0] S16x1024.size inb) (pay v255) Finset.univ hx hm)
      k) Q := by
  subst h
  simp only [Prog.lift, Prog.bind_op, Prog.bind_ret, Prog.pure_eq_ret]
  iintro ⟨#HK, HR, HP, HA, HS, HO⟩
  icases HA with ⟨%f0, HA⟩
  unfold OutS
  icases HS with ⟨%f, %hf, HS⟩
  iapply (wp_ld_rows c g c f) $$ HS; iintro HS
  iapply (wp_ld_acc c f0) $$ HA; iintro HA
  iapply (wp_st_acc c f0 (pay (rowsV f g c))) $$ HA; iintro HA
  ihave HA := (Entails.of_eq (congrArg (fun w => accP c (pay w)) (rows_own hf hO hA))) $$ HA
  iapply hk
  isplitr; · iexact HK
  isplitl [HR HS]
  · isplitl [HR]; · iexact HR
    unfold OutS; iexists f; isplitr; · ipureintro; exact hf
    iexact HS
  isplitl [HP]; · iexact HP
  isplitl [HA]; · iexact HA
  iexact HO

/-- The finished sum is read. -/
theorem step_sum (c : Dev nD) {α : Type} {Q : α → sProp 𝕄} {R : sProp 𝕄} (g : Fin 4) (n : ℕ) (ob ou : S4x256x1024.Idx → Elt F .f32) (nA nO nF : ℕ)
    {P : sProp 𝕄} (a : S16x1024.Idx → Elt F .f32) {k : Vec F S16x1024 .f32 → Vec F S1x16x1024 .f32 → Pr α}
    {o : Fin 3 → ℕ} (h : o = ![g.val, 16 * c.val, 0]) {io : ∀ a, o a + S1x16x1024.size a ≤ S4x256x1024.size a} {inb : ∀ a, (![0, 0] : Fin 2 → ℕ) a + S16x1024.size a ≤ S16x1024.size a}
    {la lb}
    (hk : ∀ w, iprop(Known v K ∗ (R ∗ OutS c ob ou nA nO nF) ∗ P ∗ accP c a ∗ Owing (F := F) c n) ⊢ Wp c (k a w) Q) :
    iprop(Known v K ∗ (R ∗ OutS c ob ou nA nO nF) ∗ P ∗ accP c a ∗ Owing (F := F) c n) ⊢ Wp c (do
      let v308 : Vec F S16x1024 .f32 ← Prog.lift (.load (Memref.whole cc0_scratch4) (Rect.unit (s := S16x1024) ![0, 0] S16x1024.size inb).toLoadRect lb)
      let v312 : Vec F S1x16x1024 .f32 ← Prog.lift (.load (Memref.whole cc0_stg5_0) (Rect.unit (s := S4x256x1024) o S1x16x1024.size io).toLoadRect la)
      k v308 v312) Q := by
  subst h
  simp only [Prog.lift, Prog.bind_op, Prog.bind_ret, Prog.pure_eq_ret]
  iintro ⟨#HK, ⟨HR, HS⟩, HP, HA, HO⟩
  unfold OutS
  icases HS with ⟨%f, %hf, HS⟩
  iapply (wp_ld_acc c a) $$ HA; iintro HA
  iapply (wp_ld_rows c g c f) $$ HS; iintro HS
  iapply (hk (rowsV f g c))
  isplitr; · iexact HK
  isplitl [HR HS]
  · isplitl [HR]; · iexact HR
    unfold OutS; iexists f; isplitr; · ipureintro; exact hf
    iexact HS
  isplitl [HP]; · iexact HP
  isplitl [HA]; · iexact HA
  iexact HO

/-- The finished sum is stored in the output block and in the buffer of the second exchange, which is then lent to
the transfers. -/
theorem step_own (c : Dev nD) {α : Type} {Q : α → sProp 𝕄} {R : sProp 𝕄} (g : Fin 4) (ob ou : S4x256x1024.Idx → Elt F .f32) (nA nF : ℕ)
    {k : Pr α} (w : S1x16x1024.Idx → Elt F .f32) (u : S1x16x1024.Idx → Elt F .bf16)
    (hw : ∀ j : S1x16x1024.Idx, w j = ou (ix3 g (rowOf c (j 1)) (j 2))) (hu : ∀ j : S1x16x1024.Idx, u j = v.ags c (ix3 g (j 1) (j 2)))
    {o o2 : Fin 3 → ℕ} (h : o = ![g.val, 16 * c.val, 0]) (h2 : o2 = ![g.val, 0, 0]) {io : ∀ a, o a + S1x16x1024.size a ≤ S4x256x1024.size a} {io2 : ∀ a, o2 a + S1x16x1024.size a ≤ S4x16x1024.size a}
    {la hx hm hx' hm'}
    (hk : iprop(Known v K ∗ (R ∗ OutS c ob ou nA (g.val + 1) nF ∗ sgRest v c g) ∗ fam c (agA v c g) (agB c g) 0 ∗ Owing (F := F) c (agBase g + 0)) ⊢ Wp c k Q) :
    iprop(Known v K ∗ R ∗ (bigSep (others c) (fun e => iprop(agTok (F := F) c g e ∗ ∃ f, agP (F := F) e g c f)) ∗ ∃ f, sgP (F := F) c g fullShare f) ∗ OutS c ob ou nA g.val nF ∗ Owing (F := F) c (agBase g + 0)) ⊢ Wp c (do
      Prog.lift (.store (Memref.whole cc0_stg5_0) (Rect.unit (s := S4x256x1024) o S1x16x1024.size io) w Finset.univ hx hm)
      let v317 : Vec F S1x16x1024 .bf16 ← Prog.lift (.load (Memref.whole cc0_scratch3) (Rect.unit (s := S4x16x1024) o2 S1x16x1024.size io2).toLoadRect la)
      Prog.lift (.store (Memref.whole cc0_scratch3) (Rect.unit (s := S4x16x1024) o2 S1x16x1024.size io2) u Finset.univ hx' hm')
      k) Q := by
  subst h h2
  simp only [Prog.lift, Prog.bind_op, Prog.bind_ret, Prog.pure_eq_ret]
  iintro ⟨#HK, HR, ⟨HT, HG⟩, HS, HO⟩
  icases HG with ⟨%f0, HG⟩
  unfold OutS
  icases HS with ⟨%f, %hf, HS⟩
  iapply (wp_st_rows c g c f w) $$ HS
  iintro %f' %hf' HS
  iapply (wp_ld_slab c g f0) $$ HG; iintro HG
  iapply (wp_st_slab c g f0 u) $$ HG
  iintro %f1 %hf1 HG
  have he : sgP c g fullShare f1 = sgP c g fullShare (v.ags c) := pointsTo_congr fun x hx => by
    have hx0 := mem_slabS.1 hx
    have hx1 : x = ix3 g (x 1) (x 2) := by rw [← show x 0 = g from Fin.ext hx0]; exact eq_ix3 x
    have h3 := (hf1.1 (ix3 (0 : Fin 1) (x 1) (x 2))).trans (hu (ix3 (0 : Fin 1) (x 1) (x 2)))
    rw [hx1]; exact h3
  ihave HG := (Entails.of_eq he) $$ HG
  ihave HT := (ag_ready v c g) $$ [HT HG]
  · isplitl [HT]; · iexact HT
    iexact HG
  icases HT with ⟨HF, HG⟩
  iapply hk
  isplitr; · iexact HK
  isplitl [HR HS HG]
  · isplitl [HR]; · iexact HR
    isplitl [HS]
    · unfold OutS; iexists f'; isplitr; · ipureintro; exact OutK.fin hf hw hf'.1 hf'.2
      iexact HS
    iexact HG
  isplitl [HF]; · iexact HF
  iexact HO

end Cert.RsAg
-- ==== Proof.Phases.lean ====
/-
# The states of a batch, opened and closed

Passing from the pieces which the loops take and leave to the states of a batch, and back.
-/
module

public import proofs.«01_k».proof.Proof.Own

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)

/-- The end of the body. -/
theorem wp_done (c : Dev nD) {P : sProp 𝕄} {Q : PUnit → sProp 𝕄} (h : P ⊢ Q ⟨⟩) : P ⊢ Wp c (pure ⟨⟩) Q := by
  rw [Wp, Prog.pure_eq_ret, wp_ret]; exact h.trans fupd_intro

variable (c : Dev nD) (g : Fin 4)

omit [FloatOps F] [Named F] in
/-- After the transfers of the first exchange. -/
theorem rs_sent : iprop(fam c (rsA v c g) (rsB c g) 16 ∗ bigSep (others c) (rsWt (F := F) c g) ∗ stP c g c (v.stg c)) ⊢ RS v c g 1 := by
  rw [fam_full]; exact .refl
omit [FloatOps F] [Named F] in
/-- After those of the second. -/
theorem ag_sent : iprop(fam c (agA v c g) (agB c g) 16 ∗ bigSep (others c) (agWt (F := F) c g) ∗ sgRest v c g) ⊢ AG v c g 1 := by
  rw [fam_full]; exact .refl
omit [FloatOps F] [Named F] in
/-- After the waits of the first exchange. -/
theorem rs_got : iprop(fam c (rsW (F := F) c g) (rsD v c g) 16 ∗ stP c g c (v.stg c)) ⊢ RS v c g 2 := by
  rw [fam_full]; exact .refl
omit [FloatOps F] [Named F] in
/-- After those of the second. -/
theorem ag_got : iprop(fam c (agW (F := F) c g) (agD v c g) 16 ∗ sgRest v c g) ⊢ AG v c g 2 := by
  rw [fam_full]; exact .refl
omit [FloatOps F] [Named F] in
/-- Before the waits of the first exchange. -/
theorem rs_open : RS v c g 1 ⊢ iprop(fam c (rsW (F := F) c g) (rsD v c g) 0 ∗ stP c g c (v.stg c)) := by
  show iprop(bigSep (others c) (rsB (F := F) c g) ∗ bigSep (others c) (rsWt (F := F) c g) ∗ stP c g c (v.stg c)) ⊢ _
  iintro ⟨H1, H2, H3⟩
  isplitl [H1 H2]
  · iapply (rs_waits v c g)
    isplitl [H1]; · iexact H1
    iexact H2
  iexact H3
omit [FloatOps F] [Named F] in
/-- Before those of the second. -/
theorem ag_open : AG v c g 1 ⊢ iprop(fam c (agW (F := F) c g) (agD v c g) 0 ∗ sgRest v c g) := by
  show iprop(bigSep (others c) (agB (F := F) c g) ∗ bigSep (others c) (agWt (F := F) c g) ∗ sgRest v c g) ⊢ _
  iintro ⟨H1, H2, H3⟩
  isplitl [H1 H2]
  · iapply (ag_waits v c g)
    isplitl [H1]; · iexact H1
    iexact H2
  iexact H3

/-! ## Before the barrier -/

/-- A batch before the barrier: everything but the peers' slots. -/
def bareRS : sProp 𝕄 := iprop(bigSep (others c) (rsTok (F := F) c g) ∗ bigSep (others c) (rsWt (F := F) c g) ∗ ∃ f, bigP (F := F) c g f)
def bareAG : sProp 𝕄 := iprop(bigSep (others c) (agTok (F := F) c g) ∗ bigSep (others c) (agWt (F := F) c g) ∗ ∃ f, sgP (F := F) c g fullShare f)

omit [FloatOps F] [Named F] in
/-- The barrier brings the slots of one batch. -/
theorem bare_open : iprop(bigSep (others c) (fun p => iprop((∃ f, rsP (F := F) p g c f) ∗ ∃ f, agP (F := F) p g c f)) ∗ bareRS (F := F) c g ∗ bareAG (F := F) c g)
    ⊢ iprop(RS v c g 0 ∗ AG v c g 0) := by
  show _ ⊢ iprop((bigSep (others c) (fun e => iprop(rsTok (F := F) c g e ∗ ∃ f, rsP (F := F) e g c f)) ∗ bigSep (others c) (rsWt (F := F) c g) ∗ ∃ f, bigP (F := F) c g f)
    ∗ (bigSep (others c) (fun e => iprop(agTok (F := F) c g e ∗ ∃ f, agP (F := F) e g c f)) ∗ bigSep (others c) (agWt (F := F) c g) ∗ ∃ f, sgP (F := F) c g fullShare f))
  rw [← star_sep, ← star_sep, ← star_sep]
  unfold bareRS bareAG
  iintro ⟨⟨H1, H2⟩, ⟨H3, H4, H5⟩, ⟨H6, H7, H8⟩⟩
  isplitl [H1 H3 H4 H5]
  · isplitl [H1 H3]
    · isplitl [H3]; · iexact H3
      iexact H1
    isplitl [H4]; · iexact H4
    iexact H5
  isplitl [H2 H6]
  · isplitl [H6]; · iexact H6
    iexact H2
  isplitl [H7]; · iexact H7
  iexact H8

theorem star_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem star_comm4 {M I : Type} [URA M] (s : Finset I) (Φ : I → Fin 4 → sProp M) :
    bigSep s (fun p => bigSep Finset.univ (Φ p)) = bigSep Finset.univ (fun g => bigSep s fun p => Φ p g) := by
  rw [star_fin4, star_sep, star_sep, star_sep]
  exact bigSep_congr fun p _ => star_fin4 (Φ p)

omit [FloatOps F] [Named F] in
/-- The barrier brings the peers' slots. -/
theorem bar_open : iprop(bigSep (others c) (fun p => barPay (F := F) c p) ∗ bigSep Finset.univ (fun g : Fin 4 => iprop(bareRS (F := F) c g ∗ bareAG (F := F) c g)))
    ⊢ iprop((RS v c 0 0 ∗ AG v c 0 0) ∗ (RS v c 1 0 ∗ AG v c 1 0) ∗ (RS v c 2 0 ∗ AG v c 2 0) ∗ (RS v c 3 0 ∗ AG v c 3 0)) := by
  have h : bigSep (others c) (fun p => barPay (F := F) c p)
      = bigSep Finset.univ (fun g : Fin 4 => bigSep (others c) (fun p => iprop((∃ f, rsP (F := F) p g c f) ∗ ∃ f, agP (F := F) p g c f))) := by
    unfold barPay; exact star_comm4 _ _
  rw [h, star_sep]
  refine BI.Entails.trans (bigSep_mono fun g _ => bare_open v c g) ?_
  rw [star_fin4]; exact .refl _

end Cert.RsAg
-- ==== Proof.Credits.lean ====
/-
# The credit at the launch

What all the devices owe a cell before any payment is what the cell's owner may wait for: fifteen units on the barrier
cell, one transfer on every receive cell of a peer.
-/
module

public import proofs.«01_k».proof.Proof.Phases

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A conjunction over an option: the case of none, and the others. -/
theorem star_option {M : Type} [URA M] {I : Type} [DecidableEq I] [Fintype I] (Φ : Option I → sProp M) :
    bigSep Finset.univ Φ = iprop(Φ none ∗ bigSep Finset.univ fun i => Φ (some i)) := by
  have h : (Finset.univ : Finset (Option I)) = insert none (Finset.univ.map Function.Embedding.some) := by
    ext x; cases x <;> simp
  rw [h, star_insert (by simp), bigSep_map]; rfl

theorem payCell_dev (c : Dev nD) (n : ℕ) : (payCell c n).1.1.val = n % 16 := by
  unfold payCell; dsimp only; split <;> rfl

/-- A device's payments go to different cells. -/
theorem payCell_inj (c : Dev nD) {i j : ℕ} (hi : i < 144) (hj : j < 144) (h : payCell c i = payCell c j) : i = j := by
  have h1 : i / 16 + 1 = j / 16 + 1 := by rw [← lv_payCell c i hi (), ← lv_payCell c j hj (), h]
  have h2 : i % 16 = j % 16 := by rw [← payCell_dev c i, ← payCell_dev c j, h]
  omega

theorem owe_at (c : Dev nD) (n : ℕ) (hn : n < 144) (hc : n % 16 ≠ c.val) : owe c 0 (payCell c n) () = payAmt n := by
  unfold owe
  rw [Finset.sum_apply, Finsupp.finset_sum_apply, Finset.sum_eq_single n]
  · rw [tallyAt_apply]; exact if_pos ⟨rfl, rfl⟩
  · intro j hj hne
    obtain ⟨h1, -⟩ := Finset.mem_filter.1 hj
    rw [tallyAt_apply]
    exact if_neg fun h => hne (payCell_inj c (Finset.mem_Ico.1 h1).2 hn h.1.symm)
  · intro h
    exact absurd (Finset.mem_filter.2 ⟨Finset.mem_Ico.2 ⟨Nat.zero_le _, hn⟩, hc⟩) h

theorem owe_none (c : Dev nD) (g : GSem nD τ sig) (h : ∀ j, j < 144 → j % 16 ≠ c.val → g ≠ payCell c j) : owe c 0 g () = 0 := by
  by_contra hn
  obtain ⟨j, -, h2, h3, h4⟩ := owe_pos (Nat.pos_of_ne_zero hn)
  exact h j h2 h3 h4

theorem owe_bar (d c : Dev nD) : owe d 0 (barCell c) () = if d = c then 0 else 1 := by
  by_cases h : d = c
  · subst h
    rw [if_pos rfl]
    refine owe_none d _ fun j _ hj he => hj ?_
    rw [← payCell_dev d j, ← he]
  · rw [if_neg h]
    have hp : barCell c = payCell d c.val := by
      unfold payCell
      rw [Nat.div_eq_of_lt c.isLt]
      exact congrArg barCell (Fin.ext (Nat.mod_eq_of_lt c.isLt).symm)
    have hm : c.val % 16 = c.val := Nat.mod_eq_of_lt c.isLt
    rw [hp, owe_at d c.val (by have hc : c.val < 16 := c.isLt; omega) (fun h' => h (Fin.ext (by omega)))]
    unfold payAmt
    exact if_pos (Nat.div_eq_of_lt c.isLt)

/-- The phase in which a receive cell of kind 1 or 3 is paid. -/
def phaseOf (k g : Fin 4) : ℕ :=
  if k = 1 then (match g with | 0 => 1 | 1 => 2 | 2 => 4 | _ => 6) else (match g with | 0 => 3 | 1 => 5 | 2 => 7 | _ => 8)

theorem payCell_phase (d c : Dev nD) (k g : Fin 4) (hk : k = 1 ∨ k = 3) : payCell d (16 * phaseOf k g + c.val) = xCell c k g d := by
  have h1 : (16 * phaseOf k g + c.val) / 16 = phaseOf k g := by have hc : c.val < 16 := c.isLt; omega
  have h2 : (⟨(16 * phaseOf k g + c.val) % 16, Nat.mod_lt _ (by decide)⟩ : Dev nD) = c := Fin.ext (by have hc : c.val < 16 := c.isLt; show (16 * phaseOf k g + c.val) % 16 = c.val; omega)
  unfold payCell
  rw [h1, h2]
  rcases hk with rfl | rfl <;> fin_cases g <;> rfl

theorem phaseOf_lt (k g : Fin 4) : 1 ≤ phaseOf k g ∧ phaseOf k g < 9 := by revert k g; decide

/-- Only the peer named by a transfer cell pays it. -/
theorem payCell_peer (d c e : Dev nD) (k g : Fin 4) (n : ℕ) (h : xCell c k g e = payCell d n) : d = e := by
  unfold payCell at h
  dsimp only at h
  split at h <;> (have h' := (Prod.mk.inj (kcell_inj h)).2; first | exact ((Prod.mk.inj (Prod.mk.inj (Option.some.inj h')).2).2).symm | exact absurd h' (by simp))

theorem owe_x (d c e : Dev nD) (k g : Fin 4) (hk : k = 1 ∨ k = 3) (hce : e ≠ c) : owe d 0 (xCell c k g e) () = if d = e then N else 0 := by
  by_cases h : d = e
  · subst h
    rw [if_pos rfl, ← payCell_phase d c k g hk]
    have hp := phaseOf_lt k g
    have hc : c.val < 16 := c.isLt
    rw [owe_at d _ (by omega) (fun h' => hce (Fin.ext (by omega)))]
    unfold payAmt
    exact if_neg (by omega)
  · rw [if_neg h]
    exact owe_none d _ fun j _ _ he => h (payCell_peer d c e k g j he)

theorem launch_bar (c : Dev nD) :
    tallyOn (barCell c) (launchCredit (Pipeline.owing fun d => owe d 0) 0 (barCell c)) = (tallyAt (barCell c) () 15 : CellTallies nD τ sig Unit) := by
  unfold tallyAt
  refine congrArg _ (Finsupp.ext fun u => ?_)
  cases u
  rw [Pipeline.launchCredit_owing, Finsupp.single_eq_same, Finset.sum_congr rfl fun d _ => owe_bar d c]
  revert c; decide

theorem launch_x (c e : Dev nD) (k g : Fin 4) (hk : k = 1 ∨ k = 3) (hce : e ≠ c) :
    tallyOn (xCell c k g e) (launchCredit (Pipeline.owing fun d => owe d 0) 0 (xCell c k g e)) = (tallyAt (xCell c k g e) () N : CellTallies nD τ sig Unit) := by
  unfold tallyAt
  refine congrArg _ (Finsupp.ext fun u => ?_)
  cases u
  rw [Pipeline.launchCredit_owing, Finsupp.single_eq_same, Finset.sum_congr rfl fun d _ => owe_x d c e k g hk hce,
    Finset.sum_ite_eq' Finset.univ e fun _ => N, if_pos (Finset.mem_univ _)]

omit [FloatOps F] [Named F] in
theorem pick {A₀ A₁ A₂ A₃ B₁ B₃ : sProp 𝕄} (h₁ : A₁ ⊢ B₁) (h₃ : A₃ ⊢ B₃) : iprop(A₀ ∗ A₁ ∗ A₂ ∗ A₃) ⊢ iprop(B₁ ∗ B₃) := by
  iintro ⟨-, H1, -, H3⟩
  isplitl [H1]
  · iapply h₁ $$ H1
  · iapply h₃ $$ H3

omit [FloatOps F] [Named F] in
/-- The credit of one device, cell by cell. -/
theorem creds (c : Dev nD) :
    (Pipeline.launchCred (fun d => owe d 0) c : sProp 𝕄)
      ⊢ iprop(cred (tallyAt (barCell c) () 15)
        ∗ (bigSep Finset.univ fun g : Fin 4 => bigSep (others c) fun e => cred (tallyAt (xCell c 1 g e) () N))
        ∗ bigSep Finset.univ fun g : Fin 4 => bigSep (others c) fun e => cred (tallyAt (xCell c 3 g e) () N)) := by
  unfold Pipeline.launchCred
  refine BI.Entails.trans (bigSep_subset (Finset.subset_univ (Finset.univ.map ⟨csem, csem_inj⟩))) ?_
  rw [bigSep_map, star_option]
  refine BI.sep_mono (Entails.of_eq (congrArg cred (launch_bar c))) ?_
  rw [bigSep_univ_prod, star_fin4]
  refine pick ?_ ?_
  · rw [bigSep_univ_prod]
    refine bigSep_mono fun g _ => (bigSep_subset (Finset.subset_univ (others c))).trans (bigSep_mono fun e he => ?_)
    exact Entails.of_eq (congrArg cred (launch_x c e 1 g (.inl rfl) (Finset.ne_of_mem_erase he)))
  · rw [bigSep_univ_prod]
    refine bigSep_mono fun g _ => (bigSep_subset (Finset.subset_univ (others c))).trans (bigSep_mono fun e he => ?_)
    exact Entails.of_eq (congrArg cred (launch_x c e 3 g (.inr rfl) (Finset.ne_of_mem_erase he)))

end Cert.RsAg

end
-- ==== Proof.Offsets.lean ====
/-
# The kernel's offsets and guards in plain form

At the grid point of number `g + 1` the kernel sums batch `g`, and at that of number `g + 2` it stores what the second
exchange brought of batch `g`: the offsets in those two parts are those of batch `g`. A guard holds exactly on the devices
other than the peer it is for.
-/
module

public import proofs.«01_k».proof.Proof.Own

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)

/-- The kernel's own position. -/
def v2w (c : Dev nD) : BitVec 32 := Scalar.remsi (Scalar.divsi (Dev.word c) 1#32) 16#32

theorem condV : ∀ d c : Dev nD, Scalar.cmpi .ne (Scalar.extui (Scalar.cmpi .ne (v2w c) (BitVec.ofNat 32 d.val)) : BitVec 32) 0#32 = 1#1 ↔ d ≠ c := by decide

theorem lvAll (x : Option (Dev nD × Option CK)) : levelOf x ≤ (agBase 3 + 16) / 16 := by
  have h : (agBase 3 + 16) / 16 = 9 := rfl
  rw [h]; unfold levelOf; split <;> decide

omit [FloatOps F] [Named F] in
theorem pure_elim {φ : Prop} {X Y : sProp 𝕄} (h : φ → X ⊢ Y) : iprop(⌜φ⌝ ∗ X) ⊢ Y := by
  iintro ⟨%hφ, H⟩
  iapply (h hφ) $$ H

theorem wp_pure_ret (c : Dev nD) {β : Type} (r : β) {X : sProp 𝕄} {φ : β → Prop} (h : φ r) : X ⊢ Wp c (pure r) (fun r => iprop(⌜φ r⌝ ∗ X)) := by
  rw [Wp, Prog.pure_eq_ret, wp_ret]
  have h' : X ⊢ iprop(⌜φ r⌝ ∗ X) := by
    iintro H; isplitr; · ipureintro; exact h
    iexact H
  exact h'.trans fupd_intro
theorem wp_if_pos (c : Dev nD) {α : Type} {Q : α → sProp 𝕄} {P : sProp 𝕄} {cond : BitVec 1} (h : cond = 1#1) {t : cond = 1#1 → Pr α} {e : ¬cond = 1#1 → Pr α}
    (hk : P ⊢ Wp c (t h) Q) : P ⊢ Wp c (dite (cond = 1#1) t e) Q := by rw [dif_pos h]; exact hk
theorem wp_if_neg (c : Dev nD) {α : Type} {Q : α → sProp 𝕄} {P : sProp 𝕄} {cond : BitVec 1} (h : ¬cond = 1#1) {t : cond = 1#1 → Pr α} {e : ¬cond = 1#1 → Pr α}
    (hk : P ⊢ Wp c (e h) Q) : P ⊢ Wp c (dite (cond = 1#1) t e) Q := by rw [dif_neg h]; exact hk

theorem cond2 : ∀ c : Dev nD, k0_cond2 c = 1#1 ↔ (⟨0, by decide⟩ : Dev nD) ≠ c := by decide
theorem cond3 : ∀ c : Dev nD, k0_cond3 c = 1#1 ↔ (⟨1, by decide⟩ : Dev nD) ≠ c := by decide
theorem cond4 : ∀ c : Dev nD, k0_cond4 c = 1#1 ↔ (⟨2, by decide⟩ : Dev nD) ≠ c := by decide
theorem cond5 : ∀ c : Dev nD, k0_cond5 c = 1#1 ↔ (⟨3, by decide⟩ : Dev nD) ≠ c := by decide
theorem cond6 : ∀ c : Dev nD, k0_cond6 c = 1#1 ↔ (⟨4, by decide⟩ : Dev nD) ≠ c := by decide
theorem cond7 : ∀ c : Dev nD, k0_cond7 c = 1#1 ↔ (⟨5, by decide⟩ : Dev nD) ≠ c := by decide
theorem cond8 : ∀ c : Dev nD, k0_cond8 c = 1#1 ↔ (⟨6, by decide⟩ : Dev nD) ≠ c := by decide
theorem cond9 : ∀ c : Dev nD, k0_cond9 c = 1#1 ↔ (⟨7, by decide⟩ : Dev nD) ≠ c := by decide
theorem cond10 : ∀ c : Dev nD, k0_cond10 c = 1#1 ↔ (⟨8, by decide⟩ : Dev nD) ≠ c := by decide
theorem cond11 : ∀ c : Dev nD, k0_cond11 c = 1#1 ↔ (⟨9, by decide⟩ : Dev nD) ≠ c := by decide
theorem cond12 : ∀ c : Dev nD, k0_cond12 c = 1#1 ↔ (⟨10, by decide⟩ : Dev nD) ≠ c := by decide
theorem cond13 : ∀ c : Dev nD, k0_cond13 c = 1#1 ↔ (⟨11, by decide⟩ : Dev nD) ≠ c := by decide
theorem cond14 : ∀ c : Dev nD, k0_cond14 c = 1#1 ↔ (⟨12, by decide⟩ : Dev nD) ≠ c := by decide
theorem cond15 : ∀ c : Dev nD, k0_cond15 c = 1#1 ↔ (⟨13, by decide⟩ : Dev nD) ≠ c := by decide
theorem cond16 : ∀ c : Dev nD, k0_cond16 c = 1#1 ↔ (⟨14, by decide⟩ : Dev nD) ≠ c := by decide
theorem cond17 : ∀ c : Dev nD, k0_cond17 c = 1#1 ↔ (⟨15, by decide⟩ : Dev nD) ≠ c := by decide
theorem cond18 : ∀ c : Dev nD, k0_cond18 c = 1#1 ↔ (⟨0, by decide⟩ : Dev nD) ≠ c := by decide
theorem cond19 : ∀ c : Dev nD, k0_cond19 c = 1#1 ↔ (⟨1, by decide⟩ : Dev nD) ≠ c := by decide
theorem cond20 : ∀ c : Dev nD, k0_cond20 c = 1#1 ↔ (⟨2, by decide⟩ : Dev nD) ≠ c := by decide
theorem cond21 : ∀ c : Dev nD, k0_cond21 c = 1#1 ↔ (⟨3, by decide⟩ : Dev nD) ≠ c := by decide
theorem cond22 : ∀ c : Dev nD, k0_cond22 c = 1#1 ↔ (⟨4, by decide⟩ : Dev nD) ≠ c := by decide
theorem cond23 : ∀ c : Dev nD, k0_cond23 c = 1#1 ↔ (⟨5, by decide⟩ : Dev nD) ≠ c := by decide
theorem cond24 : ∀ c : Dev nD, k0_cond24 c = 1#1 ↔ (⟨6, by decide⟩ : Dev nD) ≠ c := by decide
theorem cond25 : ∀ c : Dev nD, k0_cond25 c = 1#1 ↔ (⟨7, by decide⟩ : Dev nD) ≠ c := by decide
theorem cond26 : ∀ c : Dev nD, k0_cond26 c = 1#1 ↔ (⟨8, by decide⟩ : Dev nD) ≠ c := by decide
theorem cond27 : ∀ c : Dev nD, k0_cond27 c = 1#1 ↔ (⟨9, by decide⟩ : Dev nD) ≠ c := by decide
theorem cond28 : ∀ c : Dev nD, k0_cond28 c = 1#1 ↔ (⟨10, by decide⟩ : Dev nD) ≠ c := by decide
theorem cond29 : ∀ c : Dev nD, k0_cond29 c = 1#1 ↔ (⟨11, by decide⟩ : Dev nD) ≠ c := by decide
theorem cond30 : ∀ c : Dev nD, k0_cond30 c = 1#1 ↔ (⟨12, by decide⟩ : Dev nD) ≠ c := by decide
theorem cond31 : ∀ c : Dev nD, k0_cond31 c = 1#1 ↔ (⟨13, by decide⟩ : Dev nD) ≠ c := by decide
theorem cond32 : ∀ c : Dev nD, k0_cond32 c = 1#1 ↔ (⟨14, by decide⟩ : Dev nD) ≠ c := by decide
theorem cond33 : ∀ c : Dev nD, k0_cond33 c = 1#1 ↔ (⟨15, by decide⟩ : Dev nD) ≠ c := by decide
theorem cond35 : ∀ c : Dev nD, k0_cond35 c = 1#1 ↔ (⟨0, by decide⟩ : Dev nD) ≠ c := by decide
theorem cond36 : ∀ c : Dev nD, k0_cond36 c = 1#1 ↔ (⟨1, by decide⟩ : Dev nD) ≠ c := by decide
theorem cond37 : ∀ c : Dev nD, k0_cond37 c = 1#1 ↔ (⟨2, by decide⟩ : Dev nD) ≠ c := by decide
theorem cond38 : ∀ c : Dev nD, k0_cond38 c = 1#1 ↔ (⟨3, by decide⟩ : Dev nD) ≠ c := by decide
theorem cond39 : ∀ c : Dev nD, k0_cond39 c = 1#1 ↔ (⟨4, by decide⟩ : Dev nD) ≠ c := by decide
theorem cond40 : ∀ c : Dev nD, k0_cond40 c = 1#1 ↔ (⟨5, by decide⟩ : Dev nD) ≠ c := by decide
theorem cond41 : ∀ c : Dev nD, k0_cond41 c = 1#1 ↔ (⟨6, by decide⟩ : Dev nD) ≠ c := by decide
theorem cond42 : ∀ c : Dev nD, k0_cond42 c = 1#1 ↔ (⟨7, by decide⟩ : Dev nD) ≠ c := by decide
theorem cond43 : ∀ c : Dev nD, k0_cond43 c = 1#1 ↔ (⟨8, by decide⟩ : Dev nD) ≠ c := by decide
theorem cond44 : ∀ c : Dev nD, k0_cond44 c = 1#1 ↔ (⟨9, by decide⟩ : Dev nD) ≠ c := by decide
theorem cond45 : ∀ c : Dev nD, k0_cond45 c = 1#1 ↔ (⟨10, by decide⟩ : Dev nD) ≠ c := by decide
theorem cond46 : ∀ c : Dev nD, k0_cond46 c = 1#1 ↔ (⟨11, by decide⟩ : Dev nD) ≠ c := by decide
theorem cond47 : ∀ c : Dev nD, k0_cond47 c = 1#1 ↔ (⟨12, by decide⟩ : Dev nD) ≠ c := by decide
theorem cond48 : ∀ c : Dev nD, k0_cond48 c = 1#1 ↔ (⟨13, by decide⟩ : Dev nD) ≠ c := by decide
theorem cond49 : ∀ c : Dev nD, k0_cond49 c = 1#1 ↔ (⟨14, by decide⟩ : Dev nD) ≠ c := by decide
theorem cond50 : ∀ c : Dev nD, k0_cond50 c = 1#1 ↔ (⟨15, by decide⟩ : Dev nD) ≠ c := by decide
theorem cond52 : ∀ c : Dev nD, k0_cond52 c = 1#1 ↔ (⟨0, by decide⟩ : Dev nD) ≠ c := by decide
theorem cond53 : ∀ c : Dev nD, k0_cond53 c = 1#1 ↔ (⟨1, by decide⟩ : Dev nD) ≠ c := by decide
theorem cond54 : ∀ c : Dev nD, k0_cond54 c = 1#1 ↔ (⟨2, by decide⟩ : Dev nD) ≠ c := by decide
theorem cond55 : ∀ c : Dev nD, k0_cond55 c = 1#1 ↔ (⟨3, by decide⟩ : Dev nD) ≠ c := by decide
theorem cond56 : ∀ c : Dev nD, k0_cond56 c = 1#1 ↔ (⟨4, by decide⟩ : Dev nD) ≠ c := by decide
theorem cond57 : ∀ c : Dev nD, k0_cond57 c = 1#1 ↔ (⟨5, by decide⟩ : Dev nD) ≠ c := by decide
theorem cond58 : ∀ c : Dev nD, k0_cond58 c = 1#1 ↔ (⟨6, by decide⟩ : Dev nD) ≠ c := by decide
theorem cond59 : ∀ c : Dev nD, k0_cond59 c = 1#1 ↔ (⟨7, by decide⟩ : Dev nD) ≠ c := by decide
theorem cond60 : ∀ c : Dev nD, k0_cond60 c = 1#1 ↔ (⟨8, by decide⟩ : Dev nD) ≠ c := by decide
theorem cond61 : ∀ c : Dev nD, k0_cond61 c = 1#1 ↔ (⟨9, by decide⟩ : Dev nD) ≠ c := by decide
theorem cond62 : ∀ c : Dev nD, k0_cond62 c = 1#1 ↔ (⟨10, by decide⟩ : Dev nD) ≠ c := by decide
theorem cond63 : ∀ c : Dev nD, k0_cond63 c = 1#1 ↔ (⟨11, by decide⟩ : Dev nD) ≠ c := by decide
theorem cond64 : ∀ c : Dev nD, k0_cond64 c = 1#1 ↔ (⟨12, by decide⟩ : Dev nD) ≠ c := by decide
theorem cond65 : ∀ c : Dev nD, k0_cond65 c = 1#1 ↔ (⟨13, by decide⟩ : Dev nD) ≠ c := by decide
theorem cond66 : ∀ c : Dev nD, k0_cond66 c = 1#1 ↔ (⟨14, by decide⟩ : Dev nD) ≠ c := by decide
theorem cond67 : ∀ c : Dev nD, k0_cond67 c = 1#1 ↔ (⟨15, by decide⟩ : Dev nD) ≠ c := by decide
theorem cond68 : ∀ c : Dev nD, k0_cond68 c = 1#1 ↔ (⟨0, by decide⟩ : Dev nD) ≠ c := by decide
theorem cond69 : ∀ c : Dev nD, k0_cond69 c = 1#1 ↔ (⟨1, by decide⟩ : Dev nD) ≠ c := by decide
theorem cond70 : ∀ c : Dev nD, k0_cond70 c = 1#1 ↔ (⟨2, by decide⟩ : Dev nD) ≠ c := by decide
theorem cond71 : ∀ c : Dev nD, k0_cond71 c = 1#1 ↔ (⟨3, by decide⟩ : Dev nD) ≠ c := by decide
theorem cond72 : ∀ c : Dev nD, k0_cond72 c = 1#1 ↔ (⟨4, by decide⟩ : Dev nD) ≠ c := by decide
theorem cond73 : ∀ c : Dev nD, k0_cond73 c = 1#1 ↔ (⟨5, by decide⟩ : Dev nD) ≠ c := by decide
theorem cond74 : ∀ c : Dev nD, k0_cond74 c = 1#1 ↔ (⟨6, by decide⟩ : Dev nD) ≠ c := by decide
theorem cond75 : ∀ c : Dev nD, k0_cond75 c = 1#1 ↔ (⟨7, by decide⟩ : Dev nD) ≠ c := by decide
theorem cond76 : ∀ c : Dev nD, k0_cond76 c = 1#1 ↔ (⟨8, by decide⟩ : Dev nD) ≠ c := by decide
theorem cond77 : ∀ c : Dev nD, k0_cond77 c = 1#1 ↔ (⟨9, by decide⟩ : Dev nD) ≠ c := by decide
theorem cond78 : ∀ c : Dev nD, k0_cond78 c = 1#1 ↔ (⟨10, by decide⟩ : Dev nD) ≠ c := by decide
theorem cond79 : ∀ c : Dev nD, k0_cond79 c = 1#1 ↔ (⟨11, by decide⟩ : Dev nD) ≠ c := by decide
theorem cond80 : ∀ c : Dev nD, k0_cond80 c = 1#1 ↔ (⟨12, by decide⟩ : Dev nD) ≠ c := by decide
theorem cond81 : ∀ c : Dev nD, k0_cond81 c = 1#1 ↔ (⟨13, by decide⟩ : Dev nD) ≠ c := by decide
theorem cond82 : ∀ c : Dev nD, k0_cond82 c = 1#1 ↔ (⟨14, by decide⟩ : Dev nD) ≠ c := by decide
theorem cond83 : ∀ c : Dev nD, k0_cond83 c = 1#1 ↔ (⟨15, by decide⟩ : Dev nD) ≠ c := by decide
theorem cond101 : ∀ c : Dev nD, k0_cond101 c = 1#1 ↔ (⟨0, by decide⟩ : Dev nD) ≠ c := by decide
theorem cond102 : ∀ c : Dev nD, k0_cond102 c = 1#1 ↔ (⟨1, by decide⟩ : Dev nD) ≠ c := by decide
theorem cond103 : ∀ c : Dev nD, k0_cond103 c = 1#1 ↔ (⟨2, by decide⟩ : Dev nD) ≠ c := by decide
theorem cond104 : ∀ c : Dev nD, k0_cond104 c = 1#1 ↔ (⟨3, by decide⟩ : Dev nD) ≠ c := by decide
theorem cond105 : ∀ c : Dev nD, k0_cond105 c = 1#1 ↔ (⟨4, by decide⟩ : Dev nD) ≠ c := by decide
theorem cond106 : ∀ c : Dev nD, k0_cond106 c = 1#1 ↔ (⟨5, by decide⟩ : Dev nD) ≠ c := by decide
theorem cond107 : ∀ c : Dev nD, k0_cond107 c = 1#1 ↔ (⟨6, by decide⟩ : Dev nD) ≠ c := by decide
theorem cond108 : ∀ c : Dev nD, k0_cond108 c = 1#1 ↔ (⟨7, by decide⟩ : Dev nD) ≠ c := by decide
theorem cond109 : ∀ c : Dev nD, k0_cond109 c = 1#1 ↔ (⟨8, by decide⟩ : Dev nD) ≠ c := by decide
theorem cond110 : ∀ c : Dev nD, k0_cond110 c = 1#1 ↔ (⟨9, by decide⟩ : Dev nD) ≠ c := by decide
theorem cond111 : ∀ c : Dev nD, k0_cond111 c = 1#1 ↔ (⟨10, by decide⟩ : Dev nD) ≠ c := by decide
theorem cond112 : ∀ c : Dev nD, k0_cond112 c = 1#1 ↔ (⟨11, by decide⟩ : Dev nD) ≠ c := by decide
theorem cond113 : ∀ c : Dev nD, k0_cond113 c = 1#1 ↔ (⟨12, by decide⟩ : Dev nD) ≠ c := by decide
theorem cond114 : ∀ c : Dev nD, k0_cond114 c = 1#1 ↔ (⟨13, by decide⟩ : Dev nD) ≠ c := by decide
theorem cond115 : ∀ c : Dev nD, k0_cond115 c = 1#1 ↔ (⟨14, by decide⟩ : Dev nD) ≠ c := by decide
theorem cond116 : ∀ c : Dev nD, k0_cond116 c = 1#1 ↔ (⟨15, by decide⟩ : Dev nD) ≠ c := by decide
theorem off66 : ∀ (i : grid0.Coords) (g : Fin 4), (i 0).val = g.val + 2 → k0_off66 i = ![g.val, 0] := by decide +kernel
theorem off67 : ∀ (i : grid0.Coords) (g : Fin 4), (i 0).val = g.val + 2 → k0_off67 i = ![g.val, 0, 0, 0] := by decide +kernel
theorem off68 : ∀ (i : grid0.Coords) (g : Fin 4), (i 0).val = g.val + 2 → k0_off68 i = ![g.val, 0, 0] := by decide +kernel
theorem off69 : ∀ (i : grid0.Coords) (g : Fin 4), (i 0).val = g.val + 2 → k0_off69 i = ![g.val, 0, 0, 0] := by decide +kernel
theorem off70 : ∀ (i : grid0.Coords) (g : Fin 4), (i 0).val = g.val + 2 → k0_off70 i = ![g.val, 0, 0] := by decide +kernel
theorem off71 : ∀ (i : grid0.Coords) (g : Fin 4), (i 0).val = g.val + 2 → k0_off71 i = ![g.val, 1] := by decide +kernel
theorem off72 : ∀ (i : grid0.Coords) (g : Fin 4), (i 0).val = g.val + 2 → k0_off72 i = ![g.val, 1, 0, 0] := by decide +kernel
theorem off73 : ∀ (i : grid0.Coords) (g : Fin 4), (i 0).val = g.val + 2 → k0_off73 i = ![g.val, 0, 0] := by decide +kernel
theorem off74 : ∀ (i : grid0.Coords) (g : Fin 4), (i 0).val = g.val + 2 → k0_off74 i = ![g.val, 1, 0, 0] := by decide +kernel
theorem off75 : ∀ (i : grid0.Coords) (g : Fin 4), (i 0).val = g.val + 2 → k0_off75 i = ![g.val, 16, 0] := by decide +kernel
theorem off76 : ∀ (i : grid0.Coords) (g : Fin 4), (i 0).val = g.val + 2 → k0_off76 i = ![g.val, 2] := by decide +kernel
theorem off77 : ∀ (i : grid0.Coords) (g : Fin 4), (i 0).val = g.val + 2 → k0_off77 i = ![g.val, 2, 0, 0] := by decide +kernel
theorem off78 : ∀ (i : grid0.Coords) (g : Fin 4), (i 0).val = g.val + 2 → k0_off78 i = ![g.val, 0, 0] := by decide +kernel
theorem off79 : ∀ (i : grid0.Coords) (g : Fin 4), (i 0).val = g.val + 2 → k0_off79 i = ![g.val, 2, 0, 0] := by decide +kernel
theorem off80 : ∀ (i : grid0.Coords) (g : Fin 4), (i 0).val = g.val + 2 → k0_off80 i = ![g.val, 32, 0] := by decide +kernel
theorem off81 : ∀ (i : grid0.Coords) (g : Fin 4), (i 0).val = g.val + 2 → k0_off81 i = ![g.val, 3] := by decide +kernel
theorem off82 : ∀ (i : grid0.Coords) (g : Fin 4), (i 0).val = g.val + 2 → k0_off82 i = ![g.val, 3, 0, 0] := by decide +kernel
theorem off83 : ∀ (i : grid0.Coords) (g : Fin 4), (i 0).val = g.val + 2 → k0_off83 i = ![g.val, 0, 0] := by decide +kernel
theorem off84 : ∀ (i : grid0.Coords) (g : Fin 4), (i 0).val = g.val + 2 → k0_off84 i = ![g.val, 3, 0, 0] := by decide +kernel
theorem off85 : ∀ (i : grid0.Coords) (g : Fin 4), (i 0).val = g.val + 2 → k0_off85 i = ![g.val, 48, 0] := by decide +kernel
theorem off86 : ∀ (i : grid0.Coords) (g : Fin 4), (i 0).val = g.val + 2 → k0_off86 i = ![g.val, 4] := by decide +kernel
theorem off87 : ∀ (i : grid0.Coords) (g : Fin 4), (i 0).val = g.val + 2 → k0_off87 i = ![g.val, 4, 0, 0] := by decide +kernel
theorem off88 : ∀ (i : grid0.Coords) (g : Fin 4), (i 0).val = g.val + 2 → k0_off88 i = ![g.val, 0, 0] := by decide +kernel
theorem off89 : ∀ (i : grid0.Coords) (g : Fin 4), (i 0).val = g.val + 2 → k0_off89 i = ![g.val, 4, 0, 0] := by decide +kernel
theorem off90 : ∀ (i : grid0.Coords) (g : Fin 4), (i 0).val = g.val + 2 → k0_off90 i = ![g.val, 64, 0] := by decide +kernel
theorem off91 : ∀ (i : grid0.Coords) (g : Fin 4), (i 0).val = g.val + 2 → k0_off91 i = ![g.val, 5] := by decide +kernel
theorem off92 : ∀ (i : grid0.Coords) (g : Fin 4), (i 0).val = g.val + 2 → k0_off92 i = ![g.val, 5, 0, 0] := by decide +kernel
theorem off93 : ∀ (i : grid0.Coords) (g : Fin 4), (i 0).val = g.val + 2 → k0_off93 i = ![g.val, 0, 0] := by decide +kernel
theorem off94 : ∀ (i : grid0.Coords) (g : Fin 4), (i 0).val = g.val + 2 → k0_off94 i = ![g.val, 5, 0, 0] := by decide +kernel
theorem off95 : ∀ (i : grid0.Coords) (g : Fin 4), (i 0).val = g.val + 2 → k0_off95 i = ![g.val, 80, 0] := by decide +kernel
theorem off96 : ∀ (i : grid0.Coords) (g : Fin 4), (i 0).val = g.val + 2 → k0_off96 i = ![g.val, 6] := by decide +kernel
theorem off97 : ∀ (i : grid0.Coords) (g : Fin 4), (i 0).val = g.val + 2 → k0_off97 i = ![g.val, 6, 0, 0] := by decide +kernel
theorem off98 : ∀ (i : grid0.Coords) (g : Fin 4), (i 0).val = g.val + 2 → k0_off98 i = ![g.val, 0, 0] := by decide +kernel
theorem off99 : ∀ (i : grid0.Coords) (g : Fin 4), (i 0).val = g.val + 2 → k0_off99 i = ![g.val, 6, 0, 0] := by decide +kernel
theorem off100 : ∀ (i : grid0.Coords) (g : Fin 4), (i 0).val = g.val + 2 → k0_off100 i = ![g.val, 96, 0] := by decide +kernel
theorem off101 : ∀ (i : grid0.Coords) (g : Fin 4), (i 0).val = g.val + 2 → k0_off101 i = ![g.val, 7] := by decide +kernel
theorem off102 : ∀ (i : grid0.Coords) (g : Fin 4), (i 0).val = g.val + 2 → k0_off102 i = ![g.val, 7, 0, 0] := by decide +kernel
theorem off103 : ∀ (i : grid0.Coords) (g : Fin 4), (i 0).val = g.val + 2 → k0_off103 i = ![g.val, 0, 0] := by decide +kernel
theorem off104 : ∀ (i : grid0.Coords) (g : Fin 4), (i 0).val = g.val + 2 → k0_off104 i = ![g.val, 7, 0, 0] := by decide +kernel
theorem off105 : ∀ (i : grid0.Coords) (g : Fin 4), (i 0).val = g.val + 2 → k0_off105 i = ![g.val, 112, 0] := by decide +kernel
theorem off106 : ∀ (i : grid0.Coords) (g : Fin 4), (i 0).val = g.val + 2 → k0_off106 i = ![g.val, 8] := by decide +kernel
theorem off107 : ∀ (i : grid0.Coords) (g : Fin 4), (i 0).val = g.val + 2 → k0_off107 i = ![g.val, 8, 0, 0] := by decide +kernel
theorem off108 : ∀ (i : grid0.Coords) (g : Fin 4), (i 0).val = g.val + 2 → k0_off108 i = ![g.val, 0, 0] := by decide +kernel
theorem off109 : ∀ (i : grid0.Coords) (g : Fin 4), (i 0).val = g.val + 2 → k0_off109 i = ![g.val, 8, 0, 0] := by decide +kernel
theorem off110 : ∀ (i : grid0.Coords) (g : Fin 4), (i 0).val = g.val + 2 → k0_off110 i = ![g.val, 128, 0] := by decide +kernel
theorem off111 : ∀ (i : grid0.Coords) (g : Fin 4), (i 0).val = g.val + 2 → k0_off111 i = ![g.val, 9] := by decide +kernel
theorem off112 : ∀ (i : grid0.Coords) (g : Fin 4), (i 0).val = g.val + 2 → k0_off112 i = ![g.val, 9, 0, 0] := by decide +kernel
theorem off113 : ∀ (i : grid0.Coords) (g : Fin 4), (i 0).val = g.val + 2 → k0_off113 i = ![g.val, 0, 0] := by decide +kernel
theorem off114 : ∀ (i : grid0.Coords) (g : Fin 4), (i 0).val = g.val + 2 → k0_off114 i = ![g.val, 9, 0, 0] := by decide +kernel
theorem off115 : ∀ (i : grid0.Coords) (g : Fin 4), (i 0).val = g.val + 2 → k0_off115 i = ![g.val, 144, 0] := by decide +kernel
theorem off116 : ∀ (i : grid0.Coords) (g : Fin 4), (i 0).val = g.val + 2 → k0_off116 i = ![g.val, 10] := by decide +kernel
theorem off117 : ∀ (i : grid0.Coords) (g : Fin 4), (i 0).val = g.val + 2 → k0_off117 i = ![g.val, 10, 0, 0] := by decide +kernel
theorem off118 : ∀ (i : grid0.Coords) (g : Fin 4), (i 0).val = g.val + 2 → k0_off118 i = ![g.val, 0, 0] := by decide +kernel
theorem off119 : ∀ (i : grid0.Coords) (g : Fin 4), (i 0).val = g.val + 2 → k0_off119 i = ![g.val, 10, 0, 0] := by decide +kernel
theorem off120 : ∀ (i : grid0.Coords) (g : Fin 4), (i 0).val = g.val + 2 → k0_off120 i = ![g.val, 160, 0] := by decide +kernel
theorem off121 : ∀ (i : grid0.Coords) (g : Fin 4), (i 0).val = g.val + 2 → k0_off121 i = ![g.val, 11] := by decide +kernel
theorem off122 : ∀ (i : grid0.Coords) (g : Fin 4), (i 0).val = g.val + 2 → k0_off122 i = ![g.val, 11, 0, 0] := by decide +kernel
theorem off123 : ∀ (i : grid0.Coords) (g : Fin 4), (i 0).val = g.val + 2 → k0_off123 i = ![g.val, 0, 0] := by decide +kernel
theorem off124 : ∀ (i : grid0.Coords) (g : Fin 4), (i 0).val = g.val + 2 → k0_off124 i = ![g.val, 11, 0, 0] := by decide +kernel
theorem off125 : ∀ (i : grid0.Coords) (g : Fin 4), (i 0).val = g.val + 2 → k0_off125 i = ![g.val, 176, 0] := by decide +kernel
theorem off126 : ∀ (i : grid0.Coords) (g : Fin 4), (i 0).val = g.val + 2 → k0_off126 i = ![g.val, 12] := by decide +kernel
theorem off127 : ∀ (i : grid0.Coords) (g : Fin 4), (i 0).val = g.val + 2 → k0_off127 i = ![g.val, 12, 0, 0] := by decide +kernel
theorem off128 : ∀ (i : grid0.Coords) (g : Fin 4), (i 0).val = g.val + 2 → k0_off128 i = ![g.val, 0, 0] := by decide +kernel
theorem off129 : ∀ (i : grid0.Coords) (g : Fin 4), (i 0).val = g.val + 2 → k0_off129 i = ![g.val, 12, 0, 0] := by decide +kernel
theorem off130 : ∀ (i : grid0.Coords) (g : Fin 4), (i 0).val = g.val + 2 → k0_off130 i = ![g.val, 192, 0] := by decide +kernel
theorem off131 : ∀ (i : grid0.Coords) (g : Fin 4), (i 0).val = g.val + 2 → k0_off131 i = ![g.val, 13] := by decide +kernel
theorem off132 : ∀ (i : grid0.Coords) (g : Fin 4), (i 0).val = g.val + 2 → k0_off132 i = ![g.val, 13, 0, 0] := by decide +kernel
theorem off133 : ∀ (i : grid0.Coords) (g : Fin 4), (i 0).val = g.val + 2 → k0_off133 i = ![g.val, 0, 0] := by decide +kernel
theorem off134 : ∀ (i : grid0.Coords) (g : Fin 4), (i 0).val = g.val + 2 → k0_off134 i = ![g.val, 13, 0, 0] := by decide +kernel
theorem off135 : ∀ (i : grid0.Coords) (g : Fin 4), (i 0).val = g.val + 2 → k0_off135 i = ![g.val, 208, 0] := by decide +kernel
theorem off136 : ∀ (i : grid0.Coords) (g : Fin 4), (i 0).val = g.val + 2 → k0_off136 i = ![g.val, 14] := by decide +kernel
theorem off137 : ∀ (i : grid0.Coords) (g : Fin 4), (i 0).val = g.val + 2 → k0_off137 i = ![g.val, 14, 0, 0] := by decide +kernel
theorem off138 : ∀ (i : grid0.Coords) (g : Fin 4), (i 0).val = g.val + 2 → k0_off138 i = ![g.val, 0, 0] := by decide +kernel
theorem off139 : ∀ (i : grid0.Coords) (g : Fin 4), (i 0).val = g.val + 2 → k0_off139 i = ![g.val, 14, 0, 0] := by decide +kernel
theorem off140 : ∀ (i : grid0.Coords) (g : Fin 4), (i 0).val = g.val + 2 → k0_off140 i = ![g.val, 224, 0] := by decide +kernel
theorem off141 : ∀ (i : grid0.Coords) (g : Fin 4), (i 0).val = g.val + 2 → k0_off141 i = ![g.val, 15] := by decide +kernel
theorem off142 : ∀ (i : grid0.Coords) (g : Fin 4), (i 0).val = g.val + 2 → k0_off142 i = ![g.val, 15, 0, 0] := by decide +kernel
theorem off143 : ∀ (i : grid0.Coords) (g : Fin 4), (i 0).val = g.val + 2 → k0_off143 i = ![g.val, 0, 0] := by decide +kernel
theorem off144 : ∀ (i : grid0.Coords) (g : Fin 4), (i 0).val = g.val + 2 → k0_off144 i = ![g.val, 15, 0, 0] := by decide +kernel
theorem off145 : ∀ (i : grid0.Coords) (g : Fin 4), (i 0).val = g.val + 2 → k0_off145 i = ![g.val, 240, 0] := by decide +kernel
theorem off146 : ∀ (i : grid0.Coords) (g : Fin 4) (c : Dev nD), (i 0).val = g.val + 1 → k0_off146 i c = ![g.val, 16 * c.val, 0] := by decide +kernel
theorem off147 : ∀ (i : grid0.Coords) (g : Fin 4), (i 0).val = g.val + 1 → k0_off147 i = ![g.val, 0] := by decide +kernel
theorem off148 : ∀ (i : grid0.Coords) (g : Fin 4), (i 0).val = g.val + 1 → k0_off148 i = ![g.val, 0, 0, 0] := by decide +kernel
theorem off149 : ∀ (i : grid0.Coords) (g : Fin 4), (i 0).val = g.val + 1 → k0_off149 i = ![g.val, 0, 0] := by decide +kernel
theorem off150 : ∀ (i : grid0.Coords) (g : Fin 4), (i 0).val = g.val + 1 → k0_off150 i = ![g.val, 0, 0, 0] := by decide +kernel
theorem off151 : ∀ (i : grid0.Coords) (g : Fin 4), (i 0).val = g.val + 1 → k0_off151 i = ![g.val, 1] := by decide +kernel
theorem off152 : ∀ (i : grid0.Coords) (g : Fin 4), (i 0).val = g.val + 1 → k0_off152 i = ![g.val, 1, 0, 0] := by decide +kernel
theorem off153 : ∀ (i : grid0.Coords) (g : Fin 4), (i 0).val = g.val + 1 → k0_off153 i = ![g.val, 16, 0] := by decide +kernel
theorem off154 : ∀ (i : grid0.Coords) (g : Fin 4), (i 0).val = g.val + 1 → k0_off154 i = ![g.val, 1, 0, 0] := by decide +kernel
theorem off155 : ∀ (i : grid0.Coords) (g : Fin 4), (i 0).val = g.val + 1 → k0_off155 i = ![g.val, 2] := by decide +kernel
theorem off156 : ∀ (i : grid0.Coords) (g : Fin 4), (i 0).val = g.val + 1 → k0_off156 i = ![g.val, 2, 0, 0] := by decide +kernel
theorem off157 : ∀ (i : grid0.Coords) (g : Fin 4), (i 0).val = g.val + 1 → k0_off157 i = ![g.val, 32, 0] := by decide +kernel
theorem off158 : ∀ (i : grid0.Coords) (g : Fin 4), (i 0).val = g.val + 1 → k0_off158 i = ![g.val, 2, 0, 0] := by decide +kernel
theorem off159 : ∀ (i : grid0.Coords) (g : Fin 4), (i 0).val = g.val + 1 → k0_off159 i = ![g.val, 3] := by decide +kernel
theorem off160 : ∀ (i : grid0.Coords) (g : Fin 4), (i 0).val = g.val + 1 → k0_off160 i = ![g.val, 3, 0, 0] := by decide +kernel
theorem off161 : ∀ (i : grid0.Coords) (g : Fin 4), (i 0).val = g.val + 1 → k0_off161 i = ![g.val, 48, 0] := by decide +kernel
theorem off162 : ∀ (i : grid0.Coords) (g : Fin 4), (i 0).val = g.val + 1 → k0_off162 i = ![g.val, 3, 0, 0] := by decide +kernel
theorem off163 : ∀ (i : grid0.Coords) (g : Fin 4), (i 0).val = g.val + 1 → k0_off163 i = ![g.val, 4] := by decide +kernel
theorem off164 : ∀ (i : grid0.Coords) (g : Fin 4), (i 0).val = g.val + 1 → k0_off164 i = ![g.val, 4, 0, 0] := by decide +kernel
theorem off165 : ∀ (i : grid0.Coords) (g : Fin 4), (i 0).val = g.val + 1 → k0_off165 i = ![g.val, 64, 0] := by decide +kernel
theorem off166 : ∀ (i : grid0.Coords) (g : Fin 4), (i 0).val = g.val + 1 → k0_off166 i = ![g.val, 4, 0, 0] := by decide +kernel
theorem off167 : ∀ (i : grid0.Coords) (g : Fin 4), (i 0).val = g.val + 1 → k0_off167 i = ![g.val, 5] := by decide +kernel
theorem off168 : ∀ (i : grid0.Coords) (g : Fin 4), (i 0).val = g.val + 1 → k0_off168 i = ![g.val, 5, 0, 0] := by decide +kernel
theorem off169 : ∀ (i : grid0.Coords) (g : Fin 4), (i 0).val = g.val + 1 → k0_off169 i = ![g.val, 80, 0] := by decide +kernel
theorem off170 : ∀ (i : grid0.Coords) (g : Fin 4), (i 0).val = g.val + 1 → k0_off170 i = ![g.val, 5, 0, 0] := by decide +kernel
theorem off171 : ∀ (i : grid0.Coords) (g : Fin 4), (i 0).val = g.val + 1 → k0_off171 i = ![g.val, 6] := by decide +kernel
theorem off172 : ∀ (i : grid0.Coords) (g : Fin 4), (i 0).val = g.val + 1 → k0_off172 i = ![g.val, 6, 0, 0] := by decide +kernel
theorem off173 : ∀ (i : grid0.Coords) (g : Fin 4), (i 0).val = g.val + 1 → k0_off173 i = ![g.val, 96, 0] := by decide +kernel
theorem off174 : ∀ (i : grid0.Coords) (g : Fin 4), (i 0).val = g.val + 1 → k0_off174 i = ![g.val, 6, 0, 0] := by decide +kernel
theorem off175 : ∀ (i : grid0.Coords) (g : Fin 4), (i 0).val = g.val + 1 → k0_off175 i = ![g.val, 7] := by decide +kernel
theorem off176 : ∀ (i : grid0.Coords) (g : Fin 4), (i 0).val = g.val + 1 → k0_off176 i = ![g.val, 7, 0, 0] := by decide +kernel
theorem off177 : ∀ (i : grid0.Coords) (g : Fin 4), (i 0).val = g.val + 1 → k0_off177 i = ![g.val, 112, 0] := by decide +kernel
theorem off178 : ∀ (i : grid0.Coords) (g : Fin 4), (i 0).val = g.val + 1 → k0_off178 i = ![g.val, 7, 0, 0] := by decide +kernel
theorem off179 : ∀ (i : grid0.Coords) (g : Fin 4), (i 0).val = g.val + 1 → k0_off179 i = ![g.val, 8] := by decide +kernel
theorem off180 : ∀ (i : grid0.Coords) (g : Fin 4), (i 0).val = g.val + 1 → k0_off180 i = ![g.val, 8, 0, 0] := by decide +kernel
theorem off181 : ∀ (i : grid0.Coords) (g : Fin 4), (i 0).val = g.val + 1 → k0_off181 i = ![g.val, 128, 0] := by decide +kernel
theorem off182 : ∀ (i : grid0.Coords) (g : Fin 4), (i 0).val = g.val + 1 → k0_off182 i = ![g.val, 8, 0, 0] := by decide +kernel
theorem off183 : ∀ (i : grid0.Coords) (g : Fin 4), (i 0).val = g.val + 1 → k0_off183 i = ![g.val, 9] := by decide +kernel
theorem off184 : ∀ (i : grid0.Coords) (g : Fin 4), (i 0).val = g.val + 1 → k0_off184 i = ![g.val, 9, 0, 0] := by decide +kernel
theorem off185 : ∀ (i : grid0.Coords) (g : Fin 4), (i 0).val = g.val + 1 → k0_off185 i = ![g.val, 144, 0] := by decide +kernel
theorem off186 : ∀ (i : grid0.Coords) (g : Fin 4), (i 0).val = g.val + 1 → k0_off186 i = ![g.val, 9, 0, 0] := by decide +kernel
theorem off187 : ∀ (i : grid0.Coords) (g : Fin 4), (i 0).val = g.val + 1 → k0_off187 i = ![g.val, 10] := by decide +kernel
theorem off188 : ∀ (i : grid0.Coords) (g : Fin 4), (i 0).val = g.val + 1 → k0_off188 i = ![g.val, 10, 0, 0] := by decide +kernel
theorem off189 : ∀ (i : grid0.Coords) (g : Fin 4), (i 0).val = g.val + 1 → k0_off189 i = ![g.val, 160, 0] := by decide +kernel
theorem off190 : ∀ (i : grid0.Coords) (g : Fin 4), (i 0).val = g.val + 1 → k0_off190 i = ![g.val, 10, 0, 0] := by decide +kernel
theorem off191 : ∀ (i : grid0.Coords) (g : Fin 4), (i 0).val = g.val + 1 → k0_off191 i = ![g.val, 11] := by decide +kernel
theorem off192 : ∀ (i : grid0.Coords) (g : Fin 4), (i 0).val = g.val + 1 → k0_off192 i = ![g.val, 11, 0, 0] := by decide +kernel
theorem off193 : ∀ (i : grid0.Coords) (g : Fin 4), (i 0).val = g.val + 1 → k0_off193 i = ![g.val, 176, 0] := by decide +kernel
theorem off194 : ∀ (i : grid0.Coords) (g : Fin 4), (i 0).val = g.val + 1 → k0_off194 i = ![g.val, 11, 0, 0] := by decide +kernel
theorem off195 : ∀ (i : grid0.Coords) (g : Fin 4), (i 0).val = g.val + 1 → k0_off195 i = ![g.val, 12] := by decide +kernel
theorem off196 : ∀ (i : grid0.Coords) (g : Fin 4), (i 0).val = g.val + 1 → k0_off196 i = ![g.val, 12, 0, 0] := by decide +kernel
theorem off197 : ∀ (i : grid0.Coords) (g : Fin 4), (i 0).val = g.val + 1 → k0_off197 i = ![g.val, 192, 0] := by decide +kernel
theorem off198 : ∀ (i : grid0.Coords) (g : Fin 4), (i 0).val = g.val + 1 → k0_off198 i = ![g.val, 12, 0, 0] := by decide +kernel
theorem off199 : ∀ (i : grid0.Coords) (g : Fin 4), (i 0).val = g.val + 1 → k0_off199 i = ![g.val, 13] := by decide +kernel
theorem off200 : ∀ (i : grid0.Coords) (g : Fin 4), (i 0).val = g.val + 1 → k0_off200 i = ![g.val, 13, 0, 0] := by decide +kernel
theorem off201 : ∀ (i : grid0.Coords) (g : Fin 4), (i 0).val = g.val + 1 → k0_off201 i = ![g.val, 208, 0] := by decide +kernel
theorem off202 : ∀ (i : grid0.Coords) (g : Fin 4), (i 0).val = g.val + 1 → k0_off202 i = ![g.val, 13, 0, 0] := by decide +kernel
theorem off203 : ∀ (i : grid0.Coords) (g : Fin 4), (i 0).val = g.val + 1 → k0_off203 i = ![g.val, 14] := by decide +kernel
theorem off204 : ∀ (i : grid0.Coords) (g : Fin 4), (i 0).val = g.val + 1 → k0_off204 i = ![g.val, 14, 0, 0] := by decide +kernel
theorem off205 : ∀ (i : grid0.Coords) (g : Fin 4), (i 0).val = g.val + 1 → k0_off205 i = ![g.val, 224, 0] := by decide +kernel
theorem off206 : ∀ (i : grid0.Coords) (g : Fin 4), (i 0).val = g.val + 1 → k0_off206 i = ![g.val, 14, 0, 0] := by decide +kernel
theorem off207 : ∀ (i : grid0.Coords) (g : Fin 4), (i 0).val = g.val + 1 → k0_off207 i = ![g.val, 15] := by decide +kernel
theorem off208 : ∀ (i : grid0.Coords) (g : Fin 4), (i 0).val = g.val + 1 → k0_off208 i = ![g.val, 15, 0, 0] := by decide +kernel
theorem off209 : ∀ (i : grid0.Coords) (g : Fin 4), (i 0).val = g.val + 1 → k0_off209 i = ![g.val, 240, 0] := by decide +kernel
theorem off210 : ∀ (i : grid0.Coords) (g : Fin 4), (i 0).val = g.val + 1 → k0_off210 i = ![g.val, 15, 0, 0] := by decide +kernel
theorem off211 : ∀ (i : grid0.Coords) (g : Fin 4), (i 0).val = g.val + 1 → k0_off211 i = ![g.val, 0, 0] := by decide +kernel
theorem off212 : ∀ (i : grid0.Coords) (g : Fin 4), (i 0).val = g.val + 1 → k0_off212 i = ![g.val, 0] := by decide +kernel
theorem off213 : ∀ (i : grid0.Coords) (g : Fin 4) (c : Dev nD), (i 0).val = g.val + 1 → k0_off213 i c = ![g.val, c.val] := by decide +kernel
theorem off214 : ∀ (i : grid0.Coords) (g : Fin 4) (c : Dev nD), (i 0).val = g.val + 1 → k0_off214 i c = ![g.val, c.val, 0, 0] := by decide +kernel
theorem off215 : ∀ (i : grid0.Coords) (g : Fin 4), (i 0).val = g.val + 1 → k0_off215 i = ![g.val, 0, 0] := by decide +kernel
theorem off216 : ∀ (i : grid0.Coords) (g : Fin 4), (i 0).val = g.val + 1 → k0_off216 i = ![g.val, 1] := by decide +kernel
theorem off217 : ∀ (i : grid0.Coords) (g : Fin 4) (c : Dev nD), (i 0).val = g.val + 1 → k0_off217 i c = ![g.val, c.val] := by decide +kernel
theorem off218 : ∀ (i : grid0.Coords) (g : Fin 4) (c : Dev nD), (i 0).val = g.val + 1 → k0_off218 i c = ![g.val, c.val, 0, 0] := by decide +kernel
theorem off219 : ∀ (i : grid0.Coords) (g : Fin 4), (i 0).val = g.val + 1 → k0_off219 i = ![g.val, 0, 0] := by decide +kernel
theorem off220 : ∀ (i : grid0.Coords) (g : Fin 4), (i 0).val = g.val + 1 → k0_off220 i = ![g.val, 2] := by decide +kernel
theorem off221 : ∀ (i : grid0.Coords) (g : Fin 4) (c : Dev nD), (i 0).val = g.val + 1 → k0_off221 i c = ![g.val, c.val] := by decide +kernel
theorem off222 : ∀ (i : grid0.Coords) (g : Fin 4) (c : Dev nD), (i 0).val = g.val + 1 → k0_off222 i c = ![g.val, c.val, 0, 0] := by decide +kernel
theorem off223 : ∀ (i : grid0.Coords) (g : Fin 4), (i 0).val = g.val + 1 → k0_off223 i = ![g.val, 0, 0] := by decide +kernel
theorem off224 : ∀ (i : grid0.Coords) (g : Fin 4), (i 0).val = g.val + 1 → k0_off224 i = ![g.val, 3] := by decide +kernel
theorem off225 : ∀ (i : grid0.Coords) (g : Fin 4) (c : Dev nD), (i 0).val = g.val + 1 → k0_off225 i c = ![g.val, c.val] := by decide +kernel
theorem off226 : ∀ (i : grid0.Coords) (g : Fin 4) (c : Dev nD), (i 0).val = g.val + 1 → k0_off226 i c = ![g.val, c.val, 0, 0] := by decide +kernel
theorem off227 : ∀ (i : grid0.Coords) (g : Fin 4), (i 0).val = g.val + 1 → k0_off227 i = ![g.val, 0, 0] := by decide +kernel
theorem off228 : ∀ (i : grid0.Coords) (g : Fin 4), (i 0).val = g.val + 1 → k0_off228 i = ![g.val, 4] := by decide +kernel
theorem off229 : ∀ (i : grid0.Coords) (g : Fin 4) (c : Dev nD), (i 0).val = g.val + 1 → k0_off229 i c = ![g.val, c.val] := by decide +kernel
theorem off230 : ∀ (i : grid0.Coords) (g : Fin 4) (c : Dev nD), (i 0).val = g.val + 1 → k0_off230 i c = ![g.val, c.val, 0, 0] := by decide +kernel
theorem off231 : ∀ (i : grid0.Coords) (g : Fin 4), (i 0).val = g.val + 1 → k0_off231 i = ![g.val, 0, 0] := by decide +kernel
theorem off232 : ∀ (i : grid0.Coords) (g : Fin 4), (i 0).val = g.val + 1 → k0_off232 i = ![g.val, 5] := by decide +kernel
theorem off233 : ∀ (i : grid0.Coords) (g : Fin 4) (c : Dev nD), (i 0).val = g.val + 1 → k0_off233 i c = ![g.val, c.val] := by decide +kernel
theorem off234 : ∀ (i : grid0.Coords) (g : Fin 4) (c : Dev nD), (i 0).val = g.val + 1 → k0_off234 i c = ![g.val, c.val, 0, 0] := by decide +kernel
theorem off235 : ∀ (i : grid0.Coords) (g : Fin 4), (i 0).val = g.val + 1 → k0_off235 i = ![g.val, 0, 0] := by decide +kernel
theorem off236 : ∀ (i : grid0.Coords) (g : Fin 4), (i 0).val = g.val + 1 → k0_off236 i = ![g.val, 6] := by decide +kernel
theorem off237 : ∀ (i : grid0.Coords) (g : Fin 4) (c : Dev nD), (i 0).val = g.val + 1 → k0_off237 i c = ![g.val, c.val] := by decide +kernel
theorem off238 : ∀ (i : grid0.Coords) (g : Fin 4) (c : Dev nD), (i 0).val = g.val + 1 → k0_off238 i c = ![g.val, c.val, 0, 0] := by decide +kernel
theorem off239 : ∀ (i : grid0.Coords) (g : Fin 4), (i 0).val = g.val + 1 → k0_off239 i = ![g.val, 0, 0] := by decide +kernel
theorem off240 : ∀ (i : grid0.Coords) (g : Fin 4), (i 0).val = g.val + 1 → k0_off240 i = ![g.val, 7] := by decide +kernel
theorem off241 : ∀ (i : grid0.Coords) (g : Fin 4) (c : Dev nD), (i 0).val = g.val + 1 → k0_off241 i c = ![g.val, c.val] := by decide +kernel
theorem off242 : ∀ (i : grid0.Coords) (g : Fin 4) (c : Dev nD), (i 0).val = g.val + 1 → k0_off242 i c = ![g.val, c.val, 0, 0] := by decide +kernel
theorem off243 : ∀ (i : grid0.Coords) (g : Fin 4), (i 0).val = g.val + 1 → k0_off243 i = ![g.val, 0, 0] := by decide +kernel
theorem off244 : ∀ (i : grid0.Coords) (g : Fin 4), (i 0).val = g.val + 1 → k0_off244 i = ![g.val, 8] := by decide +kernel
theorem off245 : ∀ (i : grid0.Coords) (g : Fin 4) (c : Dev nD), (i 0).val = g.val + 1 → k0_off245 i c = ![g.val, c.val] := by decide +kernel
theorem off246 : ∀ (i : grid0.Coords) (g : Fin 4) (c : Dev nD), (i 0).val = g.val + 1 → k0_off246 i c = ![g.val, c.val, 0, 0] := by decide +kernel
theorem off247 : ∀ (i : grid0.Coords) (g : Fin 4), (i 0).val = g.val + 1 → k0_off247 i = ![g.val, 0, 0] := by decide +kernel
theorem off248 : ∀ (i : grid0.Coords) (g : Fin 4), (i 0).val = g.val + 1 → k0_off248 i = ![g.val, 9] := by decide +kernel
theorem off249 : ∀ (i : grid0.Coords) (g : Fin 4) (c : Dev nD), (i 0).val = g.val + 1 → k0_off249 i c = ![g.val, c.val] := by decide +kernel
theorem off250 : ∀ (i : grid0.Coords) (g : Fin 4) (c : Dev nD), (i 0).val = g.val + 1 → k0_off250 i c = ![g.val, c.val, 0, 0] := by decide +kernel
theorem off251 : ∀ (i : grid0.Coords) (g : Fin 4), (i 0).val = g.val + 1 → k0_off251 i = ![g.val, 0, 0] := by decide +kernel
theorem off252 : ∀ (i : grid0.Coords) (g : Fin 4), (i 0).val = g.val + 1 → k0_off252 i = ![g.val, 10] := by decide +kernel
theorem off253 : ∀ (i : grid0.Coords) (g : Fin 4) (c : Dev nD), (i 0).val = g.val + 1 → k0_off253 i c = ![g.val, c.val] := by decide +kernel
theorem off254 : ∀ (i : grid0.Coords) (g : Fin 4) (c : Dev nD), (i 0).val = g.val + 1 → k0_off254 i c = ![g.val, c.val, 0, 0] := by decide +kernel
theorem off255 : ∀ (i : grid0.Coords) (g : Fin 4), (i 0).val = g.val + 1 → k0_off255 i = ![g.val, 0, 0] := by decide +kernel
theorem off256 : ∀ (i : grid0.Coords) (g : Fin 4), (i 0).val = g.val + 1 → k0_off256 i = ![g.val, 11] := by decide +kernel
theorem off257 : ∀ (i : grid0.Coords) (g : Fin 4) (c : Dev nD), (i 0).val = g.val + 1 → k0_off257 i c = ![g.val, c.val] := by decide +kernel
theorem off258 : ∀ (i : grid0.Coords) (g : Fin 4) (c : Dev nD), (i 0).val = g.val + 1 → k0_off258 i c = ![g.val, c.val, 0, 0] := by decide +kernel
theorem off259 : ∀ (i : grid0.Coords) (g : Fin 4), (i 0).val = g.val + 1 → k0_off259 i = ![g.val, 0, 0] := by decide +kernel
theorem off260 : ∀ (i : grid0.Coords) (g : Fin 4), (i 0).val = g.val + 1 → k0_off260 i = ![g.val, 12] := by decide +kernel
theorem off261 : ∀ (i : grid0.Coords) (g : Fin 4) (c : Dev nD), (i 0).val = g.val + 1 → k0_off261 i c = ![g.val, c.val] := by decide +kernel
theorem off262 : ∀ (i : grid0.Coords) (g : Fin 4) (c : Dev nD), (i 0).val = g.val + 1 → k0_off262 i c = ![g.val, c.val, 0, 0] := by decide +kernel
theorem off263 : ∀ (i : grid0.Coords) (g : Fin 4), (i 0).val = g.val + 1 → k0_off263 i = ![g.val, 0, 0] := by decide +kernel
theorem off264 : ∀ (i : grid0.Coords) (g : Fin 4), (i 0).val = g.val + 1 → k0_off264 i = ![g.val, 13] := by decide +kernel
theorem off265 : ∀ (i : grid0.Coords) (g : Fin 4) (c : Dev nD), (i 0).val = g.val + 1 → k0_off265 i c = ![g.val, c.val] := by decide +kernel
theorem off266 : ∀ (i : grid0.Coords) (g : Fin 4) (c : Dev nD), (i 0).val = g.val + 1 → k0_off266 i c = ![g.val, c.val, 0, 0] := by decide +kernel
theorem off267 : ∀ (i : grid0.Coords) (g : Fin 4), (i 0).val = g.val + 1 → k0_off267 i = ![g.val, 0, 0] := by decide +kernel
theorem off268 : ∀ (i : grid0.Coords) (g : Fin 4), (i 0).val = g.val + 1 → k0_off268 i = ![g.val, 14] := by decide +kernel
theorem off269 : ∀ (i : grid0.Coords) (g : Fin 4) (c : Dev nD), (i 0).val = g.val + 1 → k0_off269 i c = ![g.val, c.val] := by decide +kernel
theorem off270 : ∀ (i : grid0.Coords) (g : Fin 4) (c : Dev nD), (i 0).val = g.val + 1 → k0_off270 i c = ![g.val, c.val, 0, 0] := by decide +kernel
theorem off271 : ∀ (i : grid0.Coords) (g : Fin 4), (i 0).val = g.val + 1 → k0_off271 i = ![g.val, 0, 0] := by decide +kernel
theorem off272 : ∀ (i : grid0.Coords) (g : Fin 4), (i 0).val = g.val + 1 → k0_off272 i = ![g.val, 15] := by decide +kernel
theorem off273 : ∀ (i : grid0.Coords) (g : Fin 4) (c : Dev nD), (i 0).val = g.val + 1 → k0_off273 i c = ![g.val, c.val] := by decide +kernel
theorem off274 : ∀ (i : grid0.Coords) (g : Fin 4) (c : Dev nD), (i 0).val = g.val + 1 → k0_off274 i c = ![g.val, c.val, 0, 0] := by decide +kernel
theorem off275 : ∀ (i : grid0.Coords) (g : Fin 4), (i 0).val = g.val + 1 → k0_off275 i = ![g.val, 0, 0] := by decide +kernel
end Cert.RsAg
-- ==== Proof.Heads.lean ====
/-
# The attention of one batch

The kernel computes a device's eight heads one after the other, each into its columns of a scratch buffer, multiplies the
buffer by the device's rows of the output weights, and stages the product for the first exchange.
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)

/-! ## What is computed -/

/-- One head's keys or values. -/
def hd (X : S1x1024x8x128.Idx → Elt F .f32) (h : Fin 8) : S1x1024x1x128.Idx → Elt F .f32 := fun j => X (ix4 (j 0) (j 1) h (j 3))

/-- The attention of one head, as the kernel computes it. -/
def headO (x : S1x256x1024.Idx → Elt F .f32) (wq : S1024x1024.Idx → Elt F .f32) (kk vv : S1x1024x8x128.Idx → Elt F .f32) : Fin 8 → S256x128.Idx → Elt F .bf16
  | 0 => k0_pay90 (k0_pay89 x wq (hd kk 0) (hd vv 0))
  | 1 => k0_pay91 (k0_pay87 x wq) k0_pay88 (hd kk 1) (hd vv 1)
  | 2 => k0_pay94 (k0_pay92 (k0_pay87 x wq) (hd kk 2)) (k0_pay93 (k0_pay87 x wq) k0_pay88 (hd kk 2)) (hd vv 2)
  | 3 => k0_pay95 (k0_pay87 x wq) k0_pay88 (hd kk 3) (hd vv 3)
  | 4 => k0_pay97 k0_pay88 (k0_pay96 (k0_pay87 x wq) (hd kk 4)) (hd vv 4)
  | 5 => k0_pay98 (k0_pay87 x wq) k0_pay88 (hd kk 5) (hd vv 5)
  | 6 => k0_pay100 k0_pay88 (k0_pay99 (k0_pay87 x wq)) (hd kk 6) (hd vv 6)
  | 7 => k0_pay102 (k0_pay101 (k0_pay87 x wq) k0_pay88 (hd kk 7) (hd vv 7))

/-- The column of head `h` at place `k`. -/
def colOf (h : Fin 8) (k : Fin 128) : Fin 1024 := ⟨128 * h.val + k.val, by omega⟩
def headOf (y : Fin 1024) : Fin 8 := ⟨y.val / 128, by omega⟩
def inHead (y : Fin 1024) : Fin 128 := ⟨y.val % 128, Nat.mod_lt _ (by decide)⟩
theorem colOf_inHead (y : Fin 1024) : colOf (headOf y) (inHead y) = y := Fin.ext (Nat.div_add_mod y.val 128)

/-- The heads side by side. -/
def attnV (x : S1x256x1024.Idx → Elt F .f32) (wq : S1024x1024.Idx → Elt F .f32) (kk vv : S1x1024x8x128.Idx → Elt F .f32) : S256x1024.Idx → Elt F .bf16 :=
  fun j => headO x wq kk vv (headOf (j 1)) (ix2 (j 0) (inHead (j 1)))

/-- The batch's partial sums. -/
def oV (x : S1x256x1024.Idx → Elt F .f32) (wq wo : S1024x1024.Idx → Elt F .f32) (kk vv : S1x1024x8x128.Idx → Elt F .f32) : S1x256x1024.Idx → Elt F .f32 :=
  k0_pay103 (attnV x wq kk vv) wo

/-! ## The scratch buffer of the heads -/

def atP (c : Dev nD) (f : S256x1024.Idx → Elt F .bf16) : sProp 𝕄 := (c : Thread nD τ).loc cc0_scratch5 ↦[Finset.univ]{fullShare} f

/-- The first `n` heads are in the buffer. -/
def AtK (x : S1x256x1024.Idx → Elt F .f32) (wq : S1024x1024.Idx → Elt F .f32) (kk vv : S1x1024x8x128.Idx → Elt F .f32) (n : ℕ) (f : S256x1024.Idx → Elt F .bf16) : Prop :=
  ∀ h : Fin 8, h.val < n → ∀ (r : Fin 256) (k : Fin 128), f (ix2 r (colOf h k)) = headO x wq kk vv h (ix2 r k)

def AtS (c : Dev nD) (x : S1x256x1024.Idx → Elt F .f32) (wq : S1024x1024.Idx → Elt F .f32) (kk vv : S1x1024x8x128.Idx → Elt F .f32) (n : ℕ) : sProp 𝕄 :=
  iprop(∃ f, ⌜AtK x wq kk vv n f⌝ ∗ atP c f)

abbrev headR (h : Fin 8) : Rect S256x1024 :=
  Rect.unit (s := S256x1024) ![0, 128 * h.val] S256x128.size (fun a => match a with | 0 => (by decide : 0 + 256 ≤ 256) | 1 => (by show 128 * h.val + 128 ≤ 1024; omega))

theorem head_pt (h : Fin 8) (j : S256x128.Idx) : (headR h).emb j = ix2 (j 0) (colOf h (j 1)) := by
  funext a
  refine Fin.ext ?_
  rw [Rect.emb_apply]
  match a with
  | ⟨0, _⟩ => show 0 + 1 * (j 0).val = (j 0).val; omega
  | ⟨1, _⟩ => show 128 * h.val + 1 * (j 1).val = 128 * h.val + (j 1).val; omega

/-- A load from the heads' buffer whose value nobody reads. -/
theorem wp_ld_at (c : Dev nD) {α : Type} {Q : α → sProp 𝕄} (f : S256x1024.Idx → Elt F .bf16) {r : LoadRect S256x1024} {hl} {k : _ → Prog (TpuEff nD τ sig (Elt F) Λ₀ .tc) α} :
    atP c f ⊢ iprop((atP c f -∗ Wp c (k ((Memref.whole cc0_scratch5 : Memref sig .tc _ _ _).view.readAt (Elt F) r f)) Q) -∗ Wp c (.op (.load (Memref.whole cc0_scratch5) r hl) k) Q) :=
  wp_load 𝒱₀ (c : Thread nD τ) none Set.univ (defs := defs₀ (F := F)) (Γ := .empty) (m := Memref.whole cc0_scratch5) (r := r) (hl := hl) (k := k) (Q := Q)
    (q := fullShare) (f := f) (Finset.subset_univ _)

/-- A store of one head. -/
theorem wp_st_head (c : Dev nD) {α : Type} {Q : α → sProp 𝕄} (h : Fin 8) (f : S256x1024.Idx → Elt F .bf16) (w : S256x128.Idx → Elt F .bf16) {hx hm} {k : _ → Prog (TpuEff nD τ sig (Elt F) Λ₀ .tc) α} :
    atP c f ⊢ iprop((∀ f' : S256x1024.Idx → Elt F .bf16, ⌜(∀ j, f' (ix2 (j 0) (colOf h (j 1))) = w j) ∧ ∀ x : S256x1024.Idx, (x 1).val / 128 ≠ h.val → f' x = f x⌝ -∗ atP c f' -∗ Wp c (k ⟨⟩) Q)
      -∗ Wp c (.op (.store (Memref.whole cc0_scratch5) (headR h) w Finset.univ hx hm) k) Q) := by
  have H : atP c f ⊢ iprop((atP c (((Memref.whole cc0_scratch5 : Memref sig .tc _ _ _).access (headR h)).write (Elt F) f w Finset.univ) -∗ Wp c (k ⟨⟩) Q) -∗ Wp c (.op (.store (Memref.whole cc0_scratch5) (headR h) w Finset.univ hx hm) k) Q) :=
    wp_store 𝒱₀ (c : Thread nD τ) none Set.univ (defs := defs₀ (F := F)) (Γ := .empty) (m := Memref.whole cc0_scratch5) (r := headR h) (hx := hx) (hm := hm) (k := k) (Q := Q)
      (f := f) (w := w) (S := Finset.univ) (Finset.subset_univ _)
  have hw : (∀ j, ((Memref.whole cc0_scratch5 : Memref sig .tc _ _ _).access (headR h)).write (Elt F) f w Finset.univ (ix2 (j 0) (colOf h (j 1))) = w j)
      ∧ ∀ x : S256x1024.Idx, (x 1).val / 128 ≠ h.val → ((Memref.whole cc0_scratch5 : Memref sig .tc _ _ _).access (headR h)).write (Elt F) f w Finset.univ x = f x := by
    refine ⟨fun j => ?_, fun x hxn => ?_⟩
    · have he : ix2 (j 0) (colOf h (j 1)) = ((Memref.whole cc0_scratch5 : Memref sig .tc _ _ _).access (headR h)).emb j := (head_pt h j).symm
      have h0 : ((Memref.whole cc0_scratch5 : Memref sig .tc _ _ _).access (headR h)).write (Elt F) f w Finset.univ (((Memref.whole cc0_scratch5 : Memref sig .tc _ _ _).access (headR h)).emb j) = w j := by
        rw [View.write_emb_of_mem _ _ (Finset.mem_univ j)]; rfl
      generalize ((Memref.whole cc0_scratch5 : Memref sig .tc _ _ _).access (headR h)).write (Elt F) f w Finset.univ = G at *
      exact (congrArg G he).trans h0
    · refine View.write_of_not_mem _ _ _ fun hmem => hxn ?_
      have hmem' : x ∈ (headR h).set := by rw [← View.set_slice_whole cc0_scratch5]; exact hmem
      have h1 := Rect.mem_set_unit.1 hmem' 1
      change 128 * h.val ≤ (x 1).val ∧ (x 1).val < 128 * h.val + 128 at h1
      omega
  iintro H1 Hk
  iapply H $$ H1
  iintro H1
  iapply Hk $$ [] H1
  ipureintro
  exact hw

theorem AtK.next {x : S1x256x1024.Idx → Elt F .f32} {wq : S1024x1024.Idx → Elt F .f32} {kk vv : S1x1024x8x128.Idx → Elt F .f32} {h : Fin 8} {f f' : S256x1024.Idx → Elt F .bf16}
    (hf : AtK x wq kk vv h.val f) {w : S256x128.Idx → Elt F .bf16} (hw : w = headO x wq kk vv h)
    (h1 : ∀ j : S256x128.Idx, f' (ix2 (j 0) (colOf h (j 1))) = w j) (h2 : ∀ x : S256x1024.Idx, (x 1).val / 128 ≠ h.val → f' x = f x) :
    AtK x wq kk vv (h.val + 1) f' := by
  intro e he r k
  by_cases hh : e = h
  · subst hh; exact (h1 (ix2 r k)).trans (congrFun hw _)
  · rw [h2 _ (by
      show (128 * e.val + k.val) / 128 ≠ h.val
      have : e.val ≠ h.val := fun h' => hh (Fin.ext h')
      omega)]
    exact hf e (by have : e.val ≠ h.val := fun h' => hh (Fin.ext h'); omega) r k

theorem AtK.all {x : S1x256x1024.Idx → Elt F .f32} {wq : S1024x1024.Idx → Elt F .f32} {kk vv : S1x1024x8x128.Idx → Elt F .f32} {f : S256x1024.Idx → Elt F .bf16}
    (hf : AtK x wq kk vv 8 f) : f = attnV x wq kk vv := by
  funext j
  have h := hf (headOf (j 1)) (headOf (j 1)).isLt (j 0) (inHead (j 1))
  exact (congrArg f ((eq_ix2 j).trans (congrArg (ix2 (j 0)) (colOf_inHead (j 1)).symm))).trans h

/-! ## The inputs -/

/-- A load from a buffer of known contents. -/
theorem wp_ld_in (c : Dev nD) {α : Type} {Q : α → sProp 𝕄} {sh : Shape} {e : EltTy} (m : Memref sig .tc .vmem sh e) (X : sh.Idx → Elt F e) {r : LoadRect sh} {hl : m.view.LoadsAt r}
    {k : _ → Prog (TpuEff nD τ sig (Elt F) Λ₀ .tc) α} :
    (owns (c : Thread nD τ) m fullShare X : sProp 𝕄) ⊢ iprop((owns (c : Thread nD τ) m fullShare X -∗ Wp c (k (fun j => X (r.idx j))) Q) -∗ Wp c (.op (.load m r hl) k) Q) := by
  unfold owns
  iintro H Hk
  icases H with ⟨%f, %hf, H⟩
  have hv : m.view.readAt (Elt F) r f = fun j => X (r.idx j) := by rw [← hf]; rfl
  have H0 : (m.view.loc (c : Thread nD τ) ↦[m.view.set]{fullShare} f : sProp 𝕄) ⊢ iprop(((m.view.loc (c : Thread nD τ) ↦[m.view.set]{fullShare} f) -∗ Wp c (k (m.view.readAt (Elt F) r f)) Q) -∗ Wp c (.op (.load m r hl) k) Q) :=
    wp_load 𝒱₀ (c : Thread nD τ) none Set.univ (defs := defs₀ (F := F)) (Γ := .empty) (m := m) (r := r) (hl := hl) (k := k) (Q := Q)
      (q := fullShare) (f := f) (View.setOn_subset_set _ _)
  rw [hv] at H0
  iapply H0 $$ H
  iintro H
  iapply Hk
  iexists f; isplitr; · ipureintro; exact hf
  iexact H

/-- The staged inputs. -/
def InsP (c : Dev nD) (m1 : Memref sig .tc .vmem S1x256x1024 .f32) (m2 m3 : Memref sig .tc .vmem S1024x1024 .f32) (m4 m5 : Memref sig .tc .vmem S1x1024x8x128 .f32)
    (x : S1x256x1024.Idx → Elt F .f32) (wq wo : S1024x1024.Idx → Elt F .f32) (kk vv : S1x1024x8x128.Idx → Elt F .f32) : sProp 𝕄 :=
  iprop(owns (c : Thread nD τ) m1 fullShare x ∗ owns (c : Thread nD τ) m2 fullShare wq ∗ owns (c : Thread nD τ) m3 fullShare wo ∗ owns (c : Thread nD τ) m4 fullShare kk ∗ owns (c : Thread nD τ) m5 fullShare vv)

section
variable {m1 : Memref sig .tc .vmem S1x256x1024 .f32} {m2 m3 : Memref sig .tc .vmem S1024x1024 .f32} {m4 m5 : Memref sig .tc .vmem S1x1024x8x128 .f32}
  {x : S1x256x1024.Idx → Elt F .f32} {wq wo : S1024x1024.Idx → Elt F .f32} {kk vv : S1x1024x8x128.Idx → Elt F .f32}

theorem idx_x (o : Fin 3 → ℕ) (ho : o = ![0, 0, 0]) (io : ∀ a, o a + S1x256x1024.size a ≤ S1x256x1024.size a) (j : S1x256x1024.Idx) : (Rect.unit (s := S1x256x1024) o S1x256x1024.size io).toLoadRect.idx j = j := by
  subst ho
  funext a
  refine Fin.ext ?_
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem idx_w (o : Fin 2 → ℕ) (ho : o = ![0, 0]) (io : ∀ a, o a + S1024x1024.size a ≤ S1024x1024.size a) (j : S1024x1024.Idx) : (Rect.unit (s := S1024x1024) o S1024x1024.size io).toLoadRect.idx j = j := by
  subst ho
  funext a
  refine Fin.ext ?_
  match a with
  | ⟨0, _⟩ => show 0 + 1 * (j 0).val = (j 0).val; omega
  | ⟨1, _⟩ => show 0 + 1 * (j 1).val = (j 1).val; omega
theorem idx_k (h : Fin 8) (o : Fin 4 → ℕ) (ho : o = ![0, 0, h.val, 0]) (io : ∀ a, o a + S1x1024x1x128.size a ≤ S1x1024x8x128.size a) (j : S1x1024x1x128.Idx) :
    (Rect.unit (s := S1x1024x8x128) o S1x1024x1x128.size io).toLoadRect.idx j = ix4 (j 0) (j 1) h (j 3) := by
  subst ho
  have h2 : (j 2).val = 0 := by have : (j 2).val < 1 := (j 2).isLt; omega
  funext a
  refine Fin.ext ?_
  match a with
  | ⟨0, _⟩ => show 0 + 1 * (j 0).val = (j 0).val; omega
  | ⟨1, _⟩ => show 0 + 1 * (j 1).val = (j 1).val; omega
  | ⟨2, _⟩ => show h.val + 1 * (j 2).val = h.val; omega
  | ⟨3, _⟩ => show 0 + 1 * (j 3).val = (j 3).val; omega

/-- A load of the queries' inputs. -/
theorem step_ld_x (c : Dev nD) {α : Type} {Q : α → sProp 𝕄} {R : sProp 𝕄} {n : ℕ} {k : Vec F S1x256x1024 .f32 → Pr α} {o : Fin 3 → ℕ} (ho : o = ![0, 0, 0])
    {io : ∀ a, o a + S1x256x1024.size a ≤ S1x256x1024.size a} {la}
    (hk : iprop(R ∗ InsP c m1 m2 m3 m4 m5 x wq wo kk vv ∗ AtS c x wq kk vv n) ⊢ Wp c (k x) Q) :
    iprop(R ∗ InsP c m1 m2 m3 m4 m5 x wq wo kk vv ∗ AtS c x wq kk vv n) ⊢ Wp c (do
      let w : Vec F S1x256x1024 .f32 ← Prog.lift (.load m1 (Rect.unit (s := S1x256x1024) o S1x256x1024.size io).toLoadRect la)
      k w) Q := by
  simp only [Prog.lift, Prog.bind_op, Prog.bind_ret, Prog.pure_eq_ret]
  unfold InsP at *
  iintro ⟨HR, ⟨H1, H2, H3, H4, H5⟩, HA⟩
  have hv : (fun j => x ((Rect.unit (s := S1x256x1024) o S1x256x1024.size io).toLoadRect.idx j)) = x := funext fun j => congrArg x (idx_x o ho io j)
  have HH := wp_ld_in c m1 x (r := (Rect.unit (s := S1x256x1024) o S1x256x1024.size io).toLoadRect) (hl := la) (k := k) (Q := Q)
  rw [hv] at HH
  iapply HH $$ H1
  iintro H1
  iapply hk
  isplitl [HR]; · iexact HR
  isplitl [H1 H2 H3 H4 H5]
  · isplitl [H1]; · iexact H1
    isplitl [H2]; · iexact H2
    isplitl [H3]; · iexact H3
    isplitl [H4]; · iexact H4
    iexact H5
  iexact HA

/-- A load of the query weights. -/
theorem step_ld_wq (c : Dev nD) {α : Type} {Q : α → sProp 𝕄} {R : sProp 𝕄} {n : ℕ} {k : Vec F S1024x1024 .f32 → Pr α} {o : Fin 2 → ℕ} (ho : o = ![0, 0])
    {io : ∀ a, o a + S1024x1024.size a ≤ S1024x1024.size a} {la}
    (hk : iprop(R ∗ InsP c m1 m2 m3 m4 m5 x wq wo kk vv ∗ AtS c x wq kk vv n) ⊢ Wp c (k wq) Q) :
    iprop(R ∗ InsP c m1 m2 m3 m4 m5 x wq wo kk vv ∗ AtS c x wq kk vv n) ⊢ Wp c (do
      let w : Vec F S1024x1024 .f32 ← Prog.lift (.load m2 (Rect.unit (s := S1024x1024) o S1024x1024.size io).toLoadRect la)
      k w) Q := by
  simp only [Prog.lift, Prog.bind_op, Prog.bind_ret, Prog.pure_eq_ret]
  unfold InsP at *
  iintro ⟨HR, ⟨H1, H2, H3, H4, H5⟩, HA⟩
  have hv : (fun j => wq ((Rect.unit (s := S1024x1024) o S1024x1024.size io).toLoadRect.idx j)) = wq := funext fun j => congrArg wq (idx_w o ho io j)
  have HH := wp_ld_in c m2 wq (r := (Rect.unit (s := S1024x1024) o S1024x1024.size io).toLoadRect) (hl := la) (k := k) (Q := Q)
  rw [hv] at HH
  iapply HH $$ H2
  iintro H2
  iapply hk
  isplitl [HR]; · iexact HR
  isplitl [H1 H2 H3 H4 H5]
  · isplitl [H1]; · iexact H1
    isplitl [H2]; · iexact H2
    isplitl [H3]; · iexact H3
    isplitl [H4]; · iexact H4
    iexact H5
  iexact HA

/-- A load of the output weights. -/
theorem step_ld_wo (c : Dev nD) {α : Type} {Q : α → sProp 𝕄} {R : sProp 𝕄} {n : ℕ} {k : Vec F S1024x1024 .f32 → Pr α} {o : Fin 2 → ℕ} (ho : o = ![0, 0])
    {io : ∀ a, o a + S1024x1024.size a ≤ S1024x1024.size a} {la}
    (hk : iprop(R ∗ InsP c m1 m2 m3 m4 m5 x wq wo kk vv ∗ AtS c x wq kk vv n) ⊢ Wp c (k wo) Q) :
    iprop(R ∗ InsP c m1 m2 m3 m4 m5 x wq wo kk vv ∗ AtS c x wq kk vv n) ⊢ Wp c (do
      let w : Vec F S1024x1024 .f32 ← Prog.lift (.load m3 (Rect.unit (s := S1024x1024) o S1024x1024.size io).toLoadRect la)
      k w) Q := by
  simp only [Prog.lift, Prog.bind_op, Prog.bind_ret, Prog.pure_eq_ret]
  unfold InsP at *
  iintro ⟨HR, ⟨H1, H2, H3, H4, H5⟩, HA⟩
  have hv : (fun j => wo ((Rect.unit (s := S1024x1024) o S1024x1024.size io).toLoadRect.idx j)) = wo := funext fun j => congrArg wo (idx_w o ho io j)
  have HH := wp_ld_in c m3 wo (r := (Rect.unit (s := S1024x1024) o S1024x1024.size io).toLoadRect) (hl := la) (k := k) (Q := Q)
  rw [hv] at HH
  iapply HH $$ H3
  iintro H3
  iapply hk
  isplitl [HR]; · iexact HR
  isplitl [H1 H2 H3 H4 H5]
  · isplitl [H1]; · iexact H1
    isplitl [H2]; · iexact H2
    isplitl [H3]; · iexact H3
    isplitl [H4]; · iexact H4
    iexact H5
  iexact HA

/-- A load of one head's keys. -/
theorem step_ld_kk (c : Dev nD) {α : Type} {Q : α → sProp 𝕄} {R : sProp 𝕄} {n : ℕ} (h : Fin 8) {k : Vec F S1x1024x1x128 .f32 → Pr α} {o : Fin 4 → ℕ} (ho : o = ![0, 0, h.val, 0])
    {io : ∀ a, o a + S1x1024x1x128.size a ≤ S1x1024x8x128.size a} {la}
    (hk : iprop(R ∗ InsP c m1 m2 m3 m4 m5 x wq wo kk vv ∗ AtS c x wq kk vv n) ⊢ Wp c (k (hd kk h)) Q) :
    iprop(R ∗ InsP c m1 m2 m3 m4 m5 x wq wo kk vv ∗ AtS c x wq kk vv n) ⊢ Wp c (do
      let w : Vec F S1x1024x1x128 .f32 ← Prog.lift (.load m4 (Rect.unit (s := S1x1024x8x128) o S1x1024x1x128.size io).toLoadRect la)
      k w) Q := by
  simp only [Prog.lift, Prog.bind_op, Prog.bind_ret, Prog.pure_eq_ret]
  unfold InsP at *
  iintro ⟨HR, ⟨H1, H2, H3, H4, H5⟩, HA⟩
  have hv : (fun j => kk ((Rect.unit (s := S1x1024x8x128) o S1x1024x1x128.size io).toLoadRect.idx j)) = (hd kk h) := funext fun j => congrArg kk (idx_k h o ho io j)
  have HH := wp_ld_in c m4 kk (r := (Rect.unit (s := S1x1024x8x128) o S1x1024x1x128.size io).toLoadRect) (hl := la) (k := k) (Q := Q)
  rw [hv] at HH
  iapply HH $$ H4
  iintro H4
  iapply hk
  isplitl [HR]; · iexact HR
  isplitl [H1 H2 H3 H4 H5]
  · isplitl [H1]; · iexact H1
    isplitl [H2]; · iexact H2
    isplitl [H3]; · iexact H3
    isplitl [H4]; · iexact H4
    iexact H5
  iexact HA

/-- A load of one head's values. -/
theorem step_ld_vv (c : Dev nD) {α : Type} {Q : α → sProp 𝕄} {R : sProp 𝕄} {n : ℕ} (h : Fin 8) {k : Vec F S1x1024x1x128 .f32 → Pr α} {o : Fin 4 → ℕ} (ho : o = ![0, 0, h.val, 0])
    {io : ∀ a, o a + S1x1024x1x128.size a ≤ S1x1024x8x128.size a} {la}
    (hk : iprop(R ∗ InsP c m1 m2 m3 m4 m5 x wq wo kk vv ∗ AtS c x wq kk vv n) ⊢ Wp c (k (hd vv h)) Q) :
    iprop(R ∗ InsP c m1 m2 m3 m4 m5 x wq wo kk vv ∗ AtS c x wq kk vv n) ⊢ Wp c (do
      let w : Vec F S1x1024x1x128 .f32 ← Prog.lift (.load m5 (Rect.unit (s := S1x1024x8x128) o S1x1024x1x128.size io).toLoadRect la)
      k w) Q := by
  simp only [Prog.lift, Prog.bind_op, Prog.bind_ret, Prog.pure_eq_ret]
  unfold InsP at *
  iintro ⟨HR, ⟨H1, H2, H3, H4, H5⟩, HA⟩
  have hv : (fun j => vv ((Rect.unit (s := S1x1024x8x128) o S1x1024x1x128.size io).toLoadRect.idx j)) = (hd vv h) := funext fun j => congrArg vv (idx_k h o ho io j)
  have HH := wp_ld_in c m5 vv (r := (Rect.unit (s := S1x1024x8x128) o S1x1024x1x128.size io).toLoadRect) (hl := la) (k := k) (Q := Q)
  rw [hv] at HH
  iapply HH $$ H5
  iintro H5
  iapply hk
  isplitl [HR]; · iexact HR
  isplitl [H1 H2 H3 H4 H5]
  · isplitl [H1]; · iexact H1
    isplitl [H2]; · iexact H2
    isplitl [H3]; · iexact H3
    isplitl [H4]; · iexact H4
    iexact H5
  iexact HA

end

/-- One head is stored. -/
theorem step_head (c : Dev nD) {α : Type} {Q : α → sProp 𝕄} {k : Pr α} {R I : sProp 𝕄} (h : Fin 8) (x : S1x256x1024.Idx → Elt F .f32) (wq : S1024x1024.Idx → Elt F .f32) (kk vv : S1x1024x8x128.Idx → Elt F .f32)
    (w : S256x128.Idx → Elt F .bf16) (hw : w = headO x wq kk vv h) {o : Fin 2 → ℕ} (ho : o = ![0, 128 * h.val])
    {io : ∀ a, o a + S256x128.size a ≤ S256x1024.size a} {la hx hm}
    (hk : iprop(R ∗ I ∗ AtS c x wq kk vv (h.val + 1)) ⊢ Wp c k Q) :
    iprop(R ∗ I ∗ AtS c x wq kk vv h.val) ⊢ Wp c (do
      let v0 : Vec F S256x128 .bf16 ← Prog.lift (.load (Memref.whole cc0_scratch5) (Rect.unit (s := S256x1024) o S256x128.size io).toLoadRect la)
      Prog.lift (.store (Memref.whole cc0_scratch5) (Rect.unit (s := S256x1024) o S256x128.size io) w Finset.univ hx hm)
      k) Q := by
  subst ho
  simp only [Prog.lift, Prog.bind_op, Prog.bind_ret, Prog.pure_eq_ret]
  unfold AtS
  iintro ⟨HR, HI, HA⟩
  icases HA with ⟨%f, %hf, HA⟩
  iapply (wp_ld_at c f) $$ HA; iintro HA
  iapply (wp_st_head c h f w) $$ HA
  iintro %f' %hf' HA
  iapply hk
  isplitl [HR]; · iexact HR
  isplitl [HI]; · iexact HI
  unfold AtS
  iexists f'; isplitr; · ipureintro; exact AtK.next hf hw hf'.1 hf'.2
  iexact HA

/-- The heads are read. -/
theorem step_heads (c : Dev nD) {α : Type} {Q : α → sProp 𝕄} {R I : sProp 𝕄} {x : S1x256x1024.Idx → Elt F .f32} {wq : S1024x1024.Idx → Elt F .f32} {kk vv : S1x1024x8x128.Idx → Elt F .f32}
    {k : Vec F S256x1024 .bf16 → Pr α} {io : ∀ a, (![0, 0] : Fin 2 → ℕ) a + S256x1024.size a ≤ S256x1024.size a} {la}
    (hk : iprop(R ∗ I ∗ AtS c x wq kk vv 8) ⊢ Wp c (k (attnV x wq kk vv)) Q) :
    iprop(R ∗ I ∗ AtS c x wq kk vv 8) ⊢ Wp c (do
      let v0 : Vec F S256x1024 .bf16 ← Prog.lift (.load (Memref.whole cc0_scratch5) (Rect.unit (s := S256x1024) ![0, 0] S256x1024.size io).toLoadRect la)
      k v0) Q := by
  simp only [Prog.lift, Prog.bind_op, Prog.bind_ret, Prog.pure_eq_ret]
  unfold AtS at *
  iintro ⟨HR, HI, HA⟩
  icases HA with ⟨%f, %hf, HA⟩
  have hv : (Memref.whole cc0_scratch5 : Memref sig .tc _ _ _).view.readAt (Elt F) (Rect.unit (s := S256x1024) ![0, 0] S256x1024.size io).toLoadRect f = attnV x wq kk vv :=
    (Memref.readAt_unit_zero (Elt F) cc0_scratch5 (by decide) io f).trans (AtK.all hf)
  have HH := wp_ld_at c f (r := (Rect.unit (s := S256x1024) ![0, 0] S256x1024.size io).toLoadRect) (hl := la) (k := k) (Q := Q)
  rw [hv] at HH
  iapply HH $$ HA; iintro HA
  iapply hk
  isplitl [HR]; · iexact HR
  isplitl [HI]; · iexact HI
  iexists f; isplitr; · ipureintro; exact hf
  iexact HA

/-! ## The product -/

/-- The heads are multiplied by the output weights; the product is stored in the output block and staged, and the staged
rows are lent to the transfers. -/
theorem step_big (c : Dev nD) {α : Type} {Q : α → sProp 𝕄} {R : sProp 𝕄} (g : Fin 4) (n : ℕ) (ob ou : S4x256x1024.Idx → Elt F .f32) (nO nF : ℕ)
    (hO : nO ≤ g.val) (hF : nF ≤ 16 * g.val) {k : Pr α} (w : S1x256x1024.Idx → Elt F .f32) (pay : (S1x256x1024.Idx → Elt F .f32) → S1x256x1024.Idx → Elt F .bf16)
    (hw : ∀ j : S1x256x1024.Idx, w j = ob (ix3 g (j 1) (j 2))) (hu : ∀ j : S1x256x1024.Idx, pay w j = v.stg c (ix3 g (j 1) (j 2)))
    {o : Fin 3 → ℕ} (h : o = ![g.val, 0, 0]) {io : ∀ a, o a + S1x256x1024.size a ≤ S4x256x1024.size a} {la lb lc hx hm hx' hm'}
    (hk : iprop(Known v K ∗ (R ∗ OutS c ob ou (g.val + 1) nO nF ∗ stP c g c (v.stg c)) ∗ fam c (rsA v c g) (rsB c g) 0 ∗ Owing (F := F) c n) ⊢ Wp c k Q) :
    iprop(Known v K ∗ R ∗ (bigSep (others c) (fun e => iprop(rsTok (F := F) c g e ∗ ∃ f, rsP (F := F) e g c f)) ∗ ∃ f, bigP (F := F) c g f) ∗ OutS c ob ou g.val nO nF ∗ Owing (F := F) c n) ⊢ Wp c (do
      let v183 : Vec F S1x256x1024 .f32 ← Prog.lift (.load (Memref.whole cc0_stg5_0) (Rect.unit (s := S4x256x1024) o S1x256x1024.size io).toLoadRect la)
      Prog.lift (.store (Memref.whole cc0_stg5_0) (Rect.unit (s := S4x256x1024) o S1x256x1024.size io) w Finset.univ hx hm)
      let v187 : Vec F S1x256x1024 .f32 ← Prog.lift (.load (Memref.whole cc0_stg5_0) (Rect.unit (s := S4x256x1024) o S1x256x1024.size io).toLoadRect lb)
      let v191 : Vec F S1x256x1024 .bf16 ← Prog.lift (.load (Memref.whole cc0_scratch2) (Rect.unit (s := S4x256x1024) o S1x256x1024.size io).toLoadRect lc)
      Prog.lift (.store (Memref.whole cc0_scratch2) (Rect.unit (s := S4x256x1024) o S1x256x1024.size io) (pay v187) Finset.univ hx' hm')
      k) Q := by
  subst h
  simp only [Prog.lift, Prog.bind_op, Prog.bind_ret, Prog.pure_eq_ret]
  iintro ⟨#HK, HR, ⟨HT, HG⟩, HS, HO⟩
  icases HG with ⟨%f0, HG⟩
  unfold OutS
  icases HS with ⟨%f, %hf, HS⟩
  iapply (wp_ld_out c g f) $$ HS; iintro HS
  iapply (wp_st_out c g f w) $$ HS
  iintro %f' %hf' HS
  iapply (wp_ld_out c g f') $$ HS; iintro HS
  iapply (wp_ld_stg c g f0) $$ HG; iintro HG
  iapply (wp_st_stg c g f0 (pay (bigV f' g))) $$ HG
  iintro %f1 %hf1 HG
  have hb : bigV f' g = w := funext hf'.1
  have he : bigP c g f1 = bigP c g (v.stg c) := pointsTo_congr fun x hx => by
    have hx0 := mem_bigS.1 hx
    have hx1 : x = ix3 g (x 1) (x 2) := by rw [← show x 0 = g from Fin.ext hx0]; exact eq_ix3 x
    have h3 := hf1.1 (ix3 (0 : Fin 1) (x 1) (x 2))
    rw [hb] at h3
    have h4 := h3.trans (hu (ix3 (0 : Fin 1) (x 1) (x 2)))
    rw [hx1]; exact h4
  ihave HG := (Entails.of_eq he) $$ HG
  ihave HT := (rs_ready v c g) $$ [HT HG]
  · isplitl [HT]; · iexact HT
    iexact HG
  icases HT with ⟨HF, HG⟩
  iapply hk
  isplitr; · iexact HK
  isplitl [HR HS HG]
  · isplitl [HR]; · iexact HR
    isplitl [HS]
    · unfold OutS; iexists f'; isplitr; · ipureintro; exact OutK.big hf hO hF hw hf'.1 hf'.2
      iexact HS
    iexact HG
  isplitl [HF]; · iexact HF
  iexact HO

end Cert.RsAg
-- ==== Proof.Values.lean ====
/-
# The contents of the exchange

From the contents `m` of the argument arrays: what each device computes for each batch, what it stages, the chunk it
reduces, and the output block it ends with.
-/
module

public import proofs.«01_k».proof.Proof.Steps
public import proofs.«01_k».proof.Proof.Heads

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

/-- Device `c`'s block of `x` for batch `b`. -/
def xOf (c : Dev nD) (b : Fin 4) : S1x256x1024.Idx → Elt F .f32 := fun j => m ((c : Thread nD τ).loc main_arg0) (ix3 b (j 1) (j 2))
/-- Its query projection. -/
def wqOf (c : Dev nD) : S1024x1024.Idx → Elt F .f32 := fun j => m ((c : Thread nD τ).loc main_arg1) j
/-- Its keys of batch `b`. -/
def kOf (c : Dev nD) (b : Fin 4) : S1x1024x8x128.Idx → Elt F .f32 := fun j => m ((c : Thread nD τ).loc main_arg2) (ix4 b (j 1) (j 2) (j 3))
/-- Its values of batch `b`. -/
def vOf (c : Dev nD) (b : Fin 4) : S1x1024x8x128.Idx → Elt F .f32 := fun j => m ((c : Thread nD τ).loc main_arg3) (ix4 b (j 1) (j 2) (j 3))
/-- Its output projection. -/
def woOf (c : Dev nD) : S1024x1024.Idx → Elt F .f32 := fun j => m ((c : Thread nD τ).loc main_arg4) j

/-- The device's partial result of batch `b`: its heads' share of the output projection. -/
def partOf (c : Dev nD) (b : Fin 4) : S1x256x1024.Idx → Elt F .f32 := oV (xOf m c b) (wqOf m c) (woOf m c) (kOf m c b) (vOf m c b)
/-- All its partial results, in the shape of the output block. -/
def obOf (c : Dev nD) : S4x256x1024.Idx → Elt F .f32 := fun x => partOf m c (x 0) (ix3 0 (x 1) (x 2))
/-- What it stages for the first exchange. -/
def stgOf (c : Dev nD) : S4x256x1024.Idx → Elt F .bf16 := fun x => k0_pay104 (partOf m c (x 0)) (ix3 0 (x 1) (x 2))
/-- The staged contents (what the second exchange sends plays no part in the sums). -/
def stgVals : Vals F := ⟨stgOf m, fun c x => stgOf m c (ix3 (x 0) (rowOf 0 (x 1)) (x 2))⟩
/-- The chunk of batch `g` which device `c` reduces: its own rows and the rows staged for it, in device order. -/
def chunkOf (c : Dev nD) (g : Fin 4) : S16x1024.Idx → Elt F .f32 := accS (stgVals m) (k0_pay18 (rowsV (obOf m c) g c)) c g 16
/-- What it sends in the second exchange. -/
def agsOf (c : Dev nD) : S4x16x1024.Idx → Elt F .bf16 := fun x => k0_pay36 (chunkOf m c (x 0)) (ix3 0 (x 1) (x 2))
/-- The contents of both exchanges. -/
def valsOf : Vals F := ⟨stgOf m, agsOf m⟩
/-- The output block device `c` ends with: its own chunk in its own rows, the received chunks in the others. -/
def ouOf (c : Dev nD) : S4x256x1024.Idx → Elt F .f32 := fun x =>
  if ownerOf (x 1) = c then k0_pay35 (chunkOf m c (x 0)) (ix3 0 (inRow (x 1)) (x 2)) else k0_pay1 (slotV (valsOf m).agB (x 0) (ownerOf (x 1))) (ix3 0 (inRow (x 1)) (x 2))

/-- The sums read the staged contents alone. -/
theorem accS_congr {v v' : Vals F} (h : v.stg = v'.stg) (a : S16x1024.Idx → Elt F .f32) (c : Dev nD) (g : Fin 4) (n : ℕ) : accS v a c g n = accS v' a c g n := by
  induction n with
  | zero => rfl
  | succ n ih =>
    have hb : v.rsB c = v'.rsB c := by unfold Vals.rsB; rw [h]
    rw [accS, accS, ih, hb]

theorem acc_eq (c : Dev nD) (g : Fin 4) : accS (valsOf m) (k0_pay18 (rowsV (obOf m c) g c)) c g 16 = chunkOf m c g := accS_congr rfl _ _ _ _

theorem first3 {n p : ℕ} (j : (Shape.mk 3 ![1, n, p]).Idx) : (ix3 0 (j 1) (j 2) : (Shape.mk 3 ![1, n, p]).Idx) = j := by
  funext a
  match a with
  | ⟨0, _⟩ => exact Fin.ext (by have h : (j 0).val < 1 := (j 0).isLt; show 0 = (j 0).val; omega)
  | ⟨1, _⟩ => rfl
  | ⟨2, _⟩ => rfl

theorem ou_other (c : Dev nD) (g : Fin 4) (d : Fin 16) (hd : d ≠ c) (r : Fin 16) (k : Fin 1024) :
    ouOf m c (ix3 g (rowOf d r) k) = k0_pay1 (slotV (valsOf m).agB g d) (ix3 0 r k) := by
  show (if ownerOf (rowOf d r) = c then k0_pay35 (chunkOf m c g) (ix3 0 (inRow (rowOf d r)) k) else k0_pay1 (slotV (valsOf m).agB g (ownerOf (rowOf d r))) (ix3 0 (inRow (rowOf d r)) k)) = _
  rw [ownerOf_rowOf, inRow_rowOf, if_neg hd]

theorem ou_own (c : Dev nD) (g : Fin 4) (r : Fin 16) (k : Fin 1024) : ouOf m c (ix3 g (rowOf c r) k) = k0_pay35 (chunkOf m c g) (ix3 0 r k) := by
  show (if ownerOf (rowOf c r) = c then k0_pay35 (chunkOf m c g) (ix3 0 (inRow (rowOf c r)) k) else k0_pay1 (slotV (valsOf m).agB g (ownerOf (rowOf c r))) (ix3 0 (inRow (rowOf c r)) k)) = _
  rw [ownerOf_rowOf, inRow_rowOf, if_pos rfl]

theorem vals_other (c : Dev nD) (g : Fin 4) (d : Fin 16) (hd : d ≠ c) (j : S1x16x1024.Idx) : k0_pay1 (slotV (valsOf m).agB g d) j = ouOf m c (ix3 g (rowOf d (j 1)) (j 2)) :=
  (congrArg _ (first3 j).symm).trans (ou_other m c g d hd (j 1) (j 2)).symm

theorem vals_own (c : Dev nD) (g : Fin 4) (j : S1x16x1024.Idx) : k0_pay35 (accS (valsOf m) (k0_pay18 (rowsV (obOf m c) g c)) c g 16) j = ouOf m c (ix3 g (rowOf c (j 1)) (j 2)) := by
  rw [acc_eq]
  exact (congrArg _ (first3 j).symm).trans (ou_own m c g (j 1) (j 2)).symm

theorem vals_sent (c : Dev nD) (g : Fin 4) (j : S1x16x1024.Idx) : k0_pay36 (accS (valsOf m) (k0_pay18 (rowsV (obOf m c) g c)) c g 16) j = (valsOf m).ags c (ix3 g (j 1) (j 2)) := by
  rw [acc_eq]
  show _ = k0_pay36 (chunkOf m c g) (ix3 0 (j 1) (j 2))
  rw [first3 j]

theorem vals_part (c : Dev nD) (b : Fin 4) (j : S1x256x1024.Idx) : oV (xOf m c b) (wqOf m c) (woOf m c) (kOf m c b) (vOf m c b) j = obOf m c (ix3 b (j 1) (j 2)) := by
  show partOf m c b j = partOf m c b (ix3 0 (j 1) (j 2))
  rw [first3 j]

theorem vals_staged (c : Dev nD) (b : Fin 4) (j : S1x256x1024.Idx) : k0_pay104 (oV (xOf m c b) (wqOf m c) (woOf m c) (kOf m c b) (vOf m c b)) j = (valsOf m).stg c (ix3 b (j 1) (j 2)) := by
  show k0_pay104 (partOf m c b) j = k0_pay104 (partOf m c b) (ix3 0 (j 1) (j 2))
  rw [first3 j]

end Cert.RsAg

end
-- ==== Proof.Attn.lean ====
/-
# The eight heads of one batch
-/
module

public import proofs.«01_k».proof.Proof.Heads

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The heads from 0 on, to 1. -/
theorem part30_spec (c : Dev nD) (x : S1x256x1024.Idx → Elt F .f32) (wq wo : S1024x1024.Idx → Elt F .f32) (kk vv : S1x1024x8x128.Idx → Elt F .f32) (R : sProp 𝕄) :
    iprop(R ∗ InsP c arg1 arg2 arg3 arg4 arg5 x wq wo kk vv ∗ AtS c x wq kk vv 0) ⊢ Wp c (k0_part30 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (k0_pay87 x wq) (k0_pay88 (F := F)) (k0_pay89 x wq (hd kk 0) (hd vv 0)))
      (fun r => iprop(⌜r = ⟨k0_pay92 (k0_pay87 x wq) (hd kk 2), k0_pay93 (k0_pay87 x wq) (k0_pay88 (F := F)) (hd kk 2)⟩⌝ ∗ R ∗ InsP c arg1 arg2 arg3 arg4 arg5 x wq wo kk vv ∗ AtS c x wq kk vv 2)) := by
  rw [k0_part30_eq_skeleton]; unfold k0_part30_skel
  refine step_head c 0 x wq kk vv _ rfl rfl ?_
  refine step_ld_kk c 1 rfl ?_
  refine step_ld_vv c 1 rfl ?_
  refine step_head c 1 x wq kk vv _ rfl rfl ?_
  refine step_ld_kk c 2 rfl ?_
  exact wp_pure_ret c _ rfl

set_option maxHeartbeats 8000000 in
/-- The heads from 2 on, to 3. -/
theorem part31_spec (c : Dev nD) (x : S1x256x1024.Idx → Elt F .f32) (wq wo : S1024x1024.Idx → Elt F .f32) (kk vv : S1x1024x8x128.Idx → Elt F .f32) (R : sProp 𝕄) :
    iprop(R ∗ InsP c arg1 arg2 arg3 arg4 arg5 x wq wo kk vv ∗ AtS c x wq kk vv 2) ⊢ Wp c (k0_part31 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (k0_pay87 x wq) (k0_pay88 (F := F)) (k0_pay92 (k0_pay87 x wq) (hd kk 2)) (k0_pay93 (k0_pay87 x wq) (k0_pay88 (F := F)) (hd kk 2)))
      (fun r => iprop(⌜r = (k0_pay96 (k0_pay87 x wq) (hd kk 4))⌝ ∗ R ∗ InsP c arg1 arg2 arg3 arg4 arg5 x wq wo kk vv ∗ AtS c x wq kk vv 4)) := by
  rw [k0_part31_eq_skeleton]; unfold k0_part31_skel
  refine step_ld_vv c 2 rfl ?_
  refine step_head c 2 x wq kk vv _ rfl rfl ?_
  refine step_ld_kk c 3 rfl ?_
  refine step_ld_vv c 3 rfl ?_
  refine step_head c 3 x wq kk vv _ rfl rfl ?_
  refine step_ld_kk c 4 rfl ?_
  exact wp_pure_ret c _ rfl

set_option maxHeartbeats 8000000 in
/-- The heads from 4 on, to 5. -/
theorem part32_spec (c : Dev nD) (x : S1x256x1024.Idx → Elt F .f32) (wq wo : S1024x1024.Idx → Elt F .f32) (kk vv : S1x1024x8x128.Idx → Elt F .f32) (R : sProp 𝕄) :
    iprop(R ∗ InsP c arg1 arg2 arg3 arg4 arg5 x wq wo kk vv ∗ AtS c x wq kk vv 4) ⊢ Wp c (k0_part32 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (k0_pay87 x wq) (k0_pay88 (F := F)) (k0_pay96 (k0_pay87 x wq) (hd kk 4)))
      (fun r => iprop(⌜r = (k0_pay99 (k0_pay87 x wq))⌝ ∗ R ∗ InsP c arg1 arg2 arg3 arg4 arg5 x wq wo kk vv ∗ AtS c x wq kk vv 6)) := by
  rw [k0_part32_eq_skeleton]; unfold k0_part32_skel
  refine step_ld_vv c 4 rfl ?_
  refine step_head c 4 x wq kk vv _ rfl rfl ?_
  refine step_ld_kk c 5 rfl ?_
  refine step_ld_vv c 5 rfl ?_
  refine step_head c 5 x wq kk vv _ rfl rfl ?_
  exact wp_pure_ret c _ rfl

set_option maxHeartbeats 8000000 in
/-- The heads from 6 on, to 6. -/
theorem part33_spec (c : Dev nD) (x : S1x256x1024.Idx → Elt F .f32) (wq wo : S1024x1024.Idx → Elt F .f32) (kk vv : S1x1024x8x128.Idx → Elt F .f32) (R : sProp 𝕄) :
    iprop(R ∗ InsP c arg1 arg2 arg3 arg4 arg5 x wq wo kk vv ∗ AtS c x wq kk vv 6) ⊢ Wp c (k0_part33 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (k0_pay87 x wq) (k0_pay88 (F := F)) (k0_pay99 (k0_pay87 x wq)))
      (fun r => iprop(⌜r = (k0_pay101 (k0_pay87 x wq) (k0_pay88 (F := F)) (hd kk 7) (hd vv 7))⌝ ∗ R ∗ InsP c arg1 arg2 arg3 arg4 arg5 x wq wo kk vv ∗ AtS c x wq kk vv 7)) := by
  rw [k0_part33_eq_skeleton]; unfold k0_part33_skel
  refine step_ld_kk c 6 rfl ?_
  refine step_ld_vv c 6 rfl ?_
  refine step_head c 6 x wq kk vv _ rfl rfl ?_
  refine step_ld_kk c 7 rfl ?_
  refine step_ld_vv c 7 rfl ?_
  exact wp_pure_ret c _ rfl

set_option maxHeartbeats 8000000 in
/-- The last head, the product with the output weights, and the transfers to the peers 0 to 3. -/
theorem part34_spec (c : Dev nD) (g : Fin 4) (hg : (i 0).val = g.val) (x : S1x256x1024.Idx → Elt F .f32) (wq wo : S1024x1024.Idx → Elt F .f32) (kk vv : S1x1024x8x128.Idx → Elt F .f32) (ob ou : S4x256x1024.Idx → Elt F .f32) (nO nF : ℕ) (hO : nO ≤ g.val) (hF : nF ≤ 16 * g.val) (hw : ∀ j : S1x256x1024.Idx, oV x wq wo kk vv j = ob (ix3 g (j 1) (j 2))) (hu : ∀ j : S1x256x1024.Idx, k0_pay104 (oV x wq wo kk vv) j = v.stg c (ix3 g (j 1) (j 2))) (a0 : BitVec 32) (R : sProp 𝕄) :
    iprop((Known v K ∗ R ∗ (bigSep (others c) (fun e => iprop(rsTok (F := F) c g e ∗ ∃ f, rsP (F := F) e g c f)) ∗ ∃ f, bigP (F := F) c g f) ∗ OutS c ob ou g.val nO nF ∗ Owing (F := F) c (rsBase g + 0)) ∗ InsP c arg1 arg2 arg3 arg4 arg5 x wq wo kk vv ∗ AtS c x wq kk vv 7) ⊢ Wp c (k0_part34 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 a0 c (v2w c) (k0_pay101 (k0_pay87 x wq) (k0_pay88 (F := F)) (hd kk 7) (hd vv 7)))
      (fun r => iprop(Known v K ∗ ((R ∗ InsP c arg1 arg2 arg3 arg4 arg5 x wq wo kk vv ∗ AtS c x wq kk vv 8) ∗ OutS c ob ou (g.val + 1) nO nF ∗ stP c g c (v.stg c)) ∗ fam c (rsA v c g) (rsB c g) 4 ∗ Owing (F := F) c (rsBase g + 4))) := by
  rw [k0_part34_eq_skeleton]; unfold k0_part34_skel
  refine step_head c 7 x wq kk vv _ rfl rfl ?_
  refine step_heads c ?_
  refine step_ld_wo c rfl ?_
  refine BI.Entails.trans (show iprop((Known v K ∗ R ∗ (bigSep (others c) (fun e => iprop(rsTok (F := F) c g e ∗ ∃ f, rsP (F := F) e g c f)) ∗ ∃ f, bigP (F := F) c g f) ∗ OutS c ob ou g.val nO nF ∗ Owing (F := F) c (rsBase g + 0)) ∗ InsP c arg1 arg2 arg3 arg4 arg5 x wq wo kk vv ∗ AtS c x wq kk vv 8) ⊢ iprop(Known v K ∗ (R ∗ InsP c arg1 arg2 arg3 arg4 arg5 x wq wo kk vv ∗ AtS c x wq kk vv 8) ∗ (bigSep (others c) (fun e => iprop(rsTok (F := F) c g e ∗ ∃ f, rsP (F := F) e g c f)) ∗ ∃ f, bigP (F := F) c g f) ∗ OutS c ob ou g.val nO nF ∗ Owing (F := F) c (rsBase g + 0)) from ?_) ?_
  · iintro ⟨⟨#HK, HR, HX, HS, HO⟩, HI, HA⟩
    isplitr; · iexact HK
    isplitl [HR HI HA]
    · isplitl [HR]; · iexact HR
      isplitl [HI]; · iexact HI
      iexact HA
    isplitl [HX]; · iexact HX
    isplitl [HS]; · iexact HS
    iexact HO
  refine step_big v K c g (rsBase g + 0) ob ou nO nF hO hF (oV x wq wo kk vv) k0_pay104 hw hu ((k0_off1_eq i).trans (by rw [hg])) ?_
  refine step_rs_send v K c g 0 (by decide) (cond18 c) k0_dev17_eq ((k0_off2_eq i).trans (by rw [hg])) ((k0_off3_eq i c).trans (by rw [hg])) ((k0_off4_eq i c).trans (by rw [hg])) ((k0_off5_eq i).trans (by rw [hg])) ?_
  refine step_rs_send v K c g 1 (by decide) (cond19 c) k0_dev18_eq ((k0_off6_eq i).trans (by rw [hg])) ((k0_off7_eq i c).trans (by rw [hg])) ((k0_off8_eq i c).trans (by rw [hg])) ((k0_off9_eq i).trans (by rw [hg])) ?_
  refine step_rs_send v K c g 2 (by decide) (cond20 c) k0_dev19_eq ((k0_off10_eq i).trans (by rw [hg])) ((k0_off11_eq i c).trans (by rw [hg])) ((k0_off12_eq i c).trans (by rw [hg])) ((k0_off13_eq i).trans (by rw [hg])) ?_
  refine step_rs_send v K c g 3 (by decide) (cond21 c) k0_dev20_eq ((k0_off14_eq i).trans (by rw [hg])) ((k0_off15_eq i c).trans (by rw [hg])) ((k0_off16_eq i c).trans (by rw [hg])) ((k0_off17_eq i).trans (by rw [hg])) ?_
  rw [Wp, Prog.pure_eq_ret, wp_ret]; exact fupd_intro

end Cert.RsAg
-- ==== Proof.Barrier.lean ====
/-
# The signals of the barrier
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The peers 0 to 8 are signalled. -/
theorem part1_spec (c : Dev nD) {A : Dev nD → sProp 𝕄} (hA : ∀ e, A e = iprop(dutyTok ER (barCell e) 0 c ∗ barPay (F := F) e c)) (h1 : k0_cond1 i = 1#1) (R : sProp 𝕄) :
    iprop(Known v K ∗ R ∗ fam c A (fun _ => iprop(emp)) 0 ∗ Owing (F := F) c 0) ⊢ Wp c (k0_part1 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h1)
      (fun r => iprop(⌜r = SemArray.scalar (sig.barrier 0 rfl)⌝ ∗ Known v K ∗ R ∗ fam c A (fun _ => iprop(emp)) 9 ∗ Owing (F := F) c 9)) := by
  rw [k0_part1_eq_skeleton]; unfold k0_part1_skel
  refine step_signal v K c (A := A) 0 (by decide) hA (cond2 c) k0_dev1_eq ?_
  refine step_signal v K c (A := A) 1 (by decide) hA (cond3 c) k0_dev2_eq ?_
  refine step_signal v K c (A := A) 2 (by decide) hA (cond4 c) k0_dev3_eq ?_
  refine step_signal v K c (A := A) 3 (by decide) hA (cond5 c) k0_dev4_eq ?_
  refine step_signal v K c (A := A) 4 (by decide) hA (cond6 c) k0_dev5_eq ?_
  refine step_signal v K c (A := A) 5 (by decide) hA (cond7 c) k0_dev6_eq ?_
  refine step_signal v K c (A := A) 6 (by decide) hA (cond8 c) k0_dev7_eq ?_
  refine step_signal v K c (A := A) 7 (by decide) hA (cond9 c) k0_dev8_eq ?_
  refine step_signal v K c (A := A) 8 (by decide) hA (cond10 c) k0_dev9_eq ?_
  exact wp_pure_ret c _ rfl

end Cert.RsAg
-- ==== Proof.First.lean ====
/-
# The barrier, and the first loads of a batch
-/
module

public import proofs.«01_k».proof.Proof.Heads
public import proofs.«01_k».proof.Proof.Barrier

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The device asks for its own number. -/
theorem wp_dev (c : Dev nD) {α : Type} {Q : α → sProp 𝕄} {P : sProp 𝕄} {k : Dev nD → Pr α} (hk : P ⊢ Wp c (k c) Q) :
    P ⊢ Wp c (do
      let d0 : Dev nD ← Prog.lift .deviceId
      k d0) Q := by
  simp only [Prog.lift, Prog.bind_op, Prog.bind_ret, Prog.pure_eq_ret]
  refine hk.trans ?_
  rw [Wp, Wp, wp_deviceId]

/-- The device waits for its fifteen peers. -/
theorem step_bar (c : Dev nD) {α : Type} {Q : α → sProp 𝕄} {R I A : sProp 𝕄} {B : sProp 𝕄} {k : Pr α}
    (hk : iprop((Known v K ∗ R ∗ bigSep (others c) (fun p => barPay (F := F) c p) ∗ semVal (barCell c) 0 ∗ Owing (F := F) c 16) ∗ I ∗ A) ⊢ Wp c k Q) :
    iprop(Known v K ∗ (R ∗ I ∗ A ∗ cred (tallyAt (barCell c) () 15) ∗ atPos ER (barCell c) 0 ∅ 0) ∗ B ∗ Owing (F := F) c 16) ⊢ Wp c (do
      semWaitWord barS 15#32
      k) Q := by
  simp only [Prog.lift, Prog.bind_op, Prog.bind_ret, Prog.pure_eq_ret, semWaitWord]
  iintro ⟨#HK, ⟨HR, HI, HA, HC, HP⟩, -, HO⟩
  iapply (wp_bar_wait v K c rfl) $$ [HO HC HP]
  · isplitr; · iexact HK
    isplitl [HC]; · iexact HC
    isplitl [HO]; · iexact HO
    iexact HP
  iintro ⟨HB, HV, HO⟩
  iapply hk
  isplitl [HR HB HV HO]
  · isplitr; · iexact HK
    isplitl [HR]; · iexact HR
    isplitl [HB]; · iexact HB
    isplitl [HV]; · iexact HV
    iexact HO
  isplitl [HI]; · iexact HI
  iexact HA

set_option maxHeartbeats 8000000 in
/-- At every grid point but the first. -/
theorem part29_later (c : Dev nD) (x : S1x256x1024.Idx → Elt F .f32) (wq wo : S1024x1024.Idx → Elt F .f32) (kk vv : S1x1024x8x128.Idx → Elt F .f32) (h1 : ¬ k0_cond1 i = 1#1) (R : sProp 𝕄) :
    iprop(R ∗ InsP c arg1 arg2 arg3 arg4 arg5 x wq wo kk vv ∗ AtS c x wq kk vv 0) ⊢ Wp c (k0_part29 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(⌜r = ⟨BitVec.ofNat 32 (i 0).val, c, v2w c, k0_pay87 x wq, k0_pay88 (F := F), k0_pay89 x wq (hd kk 0) (hd vv 0)⟩⌝ ∗ R ∗ InsP c arg1 arg2 arg3 arg4 arg5 x wq wo kk vv ∗ AtS c x wq kk vv 0)) := by
  rw [k0_part29_eq_skeleton]; unfold k0_part29_skel
  refine wp_dev c ?_
  refine wp_if_neg c h1 ?_
  refine step_ld_x c rfl ?_
  refine step_ld_wq c rfl ?_
  refine step_ld_kk c 0 rfl ?_
  refine step_ld_vv c 0 rfl ?_
  exact wp_pure_ret c _ rfl

set_option maxHeartbeats 8000000 in
/-- At the first grid point, with the barrier. -/
theorem part29_first (c : Dev nD) (x : S1x256x1024.Idx → Elt F .f32) (wq wo : S1024x1024.Idx → Elt F .f32) (kk vv : S1x1024x8x128.Idx → Elt F .f32) (h1 : k0_cond1 i = 1#1) (R : sProp 𝕄) :
    iprop((Known v K ∗ R ∗ bigSep (others c) (fun e => iprop(dutyTok ER (barCell e) 0 c ∗ barPay (F := F) e c)) ∗ cred (tallyAt (barCell c) () 15) ∗ atPos ER (barCell c) 0 ∅ 0 ∗ Owing (F := F) c 0) ∗ InsP c arg1 arg2 arg3 arg4 arg5 x wq wo kk vv ∗ AtS c x wq kk vv 0) ⊢ Wp c (k0_part29 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(⌜r = ⟨BitVec.ofNat 32 (i 0).val, c, v2w c, k0_pay87 x wq, k0_pay88 (F := F), k0_pay89 x wq (hd kk 0) (hd vv 0)⟩⌝ ∗ (Known v K ∗ R ∗ bigSep (others c) (fun p => barPay (F := F) c p) ∗ semVal (barCell c) 0 ∗ Owing (F := F) c 16) ∗ InsP c arg1 arg2 arg3 arg4 arg5 x wq wo kk vv ∗ AtS c x wq kk vv 0)) := by
  rw [k0_part29_eq_skeleton]; unfold k0_part29_skel
  refine wp_dev c ?_
  refine wp_if_pos c h1 ?_
  refine BI.Entails.trans (show iprop((Known v K ∗ R ∗ bigSep (others c) (fun e => iprop(dutyTok ER (barCell e) 0 c ∗ barPay (F := F) e c)) ∗ cred (tallyAt (barCell c) () 15) ∗ atPos ER (barCell c) 0 ∅ 0 ∗ Owing (F := F) c 0) ∗ InsP c arg1 arg2 arg3 arg4 arg5 x wq wo kk vv ∗ AtS c x wq kk vv 0)
    ⊢ iprop(Known v K ∗ (R ∗ InsP c arg1 arg2 arg3 arg4 arg5 x wq wo kk vv ∗ AtS c x wq kk vv 0 ∗ cred (tallyAt (barCell c) () 15) ∗ atPos ER (barCell c) 0 ∅ 0) ∗ fam c (fun e => iprop(dutyTok ER (barCell e) 0 c ∗ barPay (F := F) e c)) (fun _ => iprop(emp)) 0 ∗ Owing (F := F) c 0) from ?_) ?_
  · iintro ⟨⟨#HK, HR, HF, HC, HP, HO⟩, HI, HA⟩
    ihave HF := (Entails.of_eq (fam_zero c (fun e => iprop(dutyTok ER (barCell e) 0 c ∗ barPay (F := F) e c)) (fun _ => iprop(emp))).symm) $$ HF
    isplitr; · iexact HK
    isplitl [HR HI HA HC HP]
    · isplitl [HR]; · iexact HR
      isplitl [HI]; · iexact HI
      isplitl [HA]; · iexact HA
      isplitl [HC]; · iexact HC
      iexact HP
    isplitl [HF]; · iexact HF
    iexact HO
  refine wp_call c (part1_spec v K i arg1 harg1 arg2 harg2 arg3 harg3 arg4 harg4 arg5 harg5 c (A := (fun e => iprop(dutyTok ER (barCell e) 0 c ∗ barPay (F := F) e c))) (fun _ => rfl) h1 _) fun r => pure_elim fun hr => ?_
  subst hr
  refine step_signal v K c (A := (fun e => iprop(dutyTok ER (barCell e) 0 c ∗ barPay (F := F) e c))) 9 (by decide) (fun _ => rfl) (cond11 c) k0_dev10_eq ?_
  refine step_signal v K c (A := (fun e => iprop(dutyTok ER (barCell e) 0 c ∗ barPay (F := F) e c))) 10 (by decide) (fun _ => rfl) (cond12 c) k0_dev11_eq ?_
  refine step_signal v K c (A := (fun e => iprop(dutyTok ER (barCell e) 0 c ∗ barPay (F := F) e c))) 11 (by decide) (fun _ => rfl) (cond13 c) k0_dev12_eq ?_
  refine step_signal v K c (A := (fun e => iprop(dutyTok ER (barCell e) 0 c ∗ barPay (F := F) e c))) 12 (by decide) (fun _ => rfl) (cond14 c) k0_dev13_eq ?_
  refine step_signal v K c (A := (fun e => iprop(dutyTok ER (barCell e) 0 c ∗ barPay (F := F) e c))) 13 (by decide) (fun _ => rfl) (cond15 c) k0_dev14_eq ?_
  refine step_signal v K c (A := (fun e => iprop(dutyTok ER (barCell e) 0 c ∗ barPay (F := F) e c))) 14 (by decide) (fun _ => rfl) (cond16 c) k0_dev15_eq ?_
  refine step_signal v K c (A := (fun e => iprop(dutyTok ER (barCell e) 0 c ∗ barPay (F := F) e c))) 15 (by decide) (fun _ => rfl) (cond17 c) k0_dev16_eq ?_
  refine step_bar v K c ?_
  refine step_ld_x c rfl ?_
  refine step_ld_wq c rfl ?_
  refine step_ld_kk c 0 rfl ?_
  refine step_ld_vv c 0 rfl ?_
  exact wp_pure_ret c _ rfl

end Cert.RsAg
-- ==== Proof.Issue.lean ====
/-
# The transfers of the first exchange, all but the first and the last ones
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The transfers to the peers 4 to 13. -/
theorem part35_spec (c : Dev nD) (g : Fin 4) (hg : (i 0).val = g.val) (v206 : BitVec 1) (R : sProp 𝕄) :
    iprop(Known v K ∗ R ∗ fam c (rsA v c g) (rsB c g) 4 ∗ Owing (F := F) c (rsBase g + 4)) ⊢ Wp c (k0_part35 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) v206)
      (fun r => iprop(Known v K ∗ R ∗ fam c (rsA v c g) (rsB c g) 14 ∗ Owing (F := F) c (rsBase g + 14))) := by
  rw [k0_part35_eq_skeleton]; unfold k0_part35_skel
  refine step_rs_send v K c g 4 (by decide) (cond22 c) k0_dev21_eq ((k0_off18_eq i).trans (by rw [hg])) ((k0_off19_eq i c).trans (by rw [hg])) ((k0_off20_eq i c).trans (by rw [hg])) ((k0_off21_eq i).trans (by rw [hg])) ?_
  refine step_rs_send v K c g 5 (by decide) (cond23 c) k0_dev22_eq ((k0_off22_eq i).trans (by rw [hg])) ((k0_off23_eq i c).trans (by rw [hg])) ((k0_off24_eq i c).trans (by rw [hg])) ((k0_off25_eq i).trans (by rw [hg])) ?_
  refine step_rs_send v K c g 6 (by decide) (cond24 c) k0_dev23_eq ((k0_off26_eq i).trans (by rw [hg])) ((k0_off27_eq i c).trans (by rw [hg])) ((k0_off28_eq i c).trans (by rw [hg])) ((k0_off29_eq i).trans (by rw [hg])) ?_
  refine step_rs_send v K c g 7 (by decide) (cond25 c) k0_dev24_eq ((k0_off30_eq i).trans (by rw [hg])) ((k0_off31_eq i c).trans (by rw [hg])) ((k0_off32_eq i c).trans (by rw [hg])) ((k0_off33_eq i).trans (by rw [hg])) ?_
  refine step_rs_send v K c g 8 (by decide) (cond26 c) k0_dev25_eq ((k0_off34_eq i).trans (by rw [hg])) ((k0_off35_eq i c).trans (by rw [hg])) ((k0_off36_eq i c).trans (by rw [hg])) ((k0_off37_eq i).trans (by rw [hg])) ?_
  refine step_rs_send v K c g 9 (by decide) (cond27 c) k0_dev26_eq ((k0_off38_eq i).trans (by rw [hg])) ((k0_off39_eq i c).trans (by rw [hg])) ((k0_off40_eq i c).trans (by rw [hg])) ((k0_off41_eq i).trans (by rw [hg])) ?_
  refine step_rs_send v K c g 10 (by decide) (cond28 c) k0_dev27_eq ((k0_off42_eq i).trans (by rw [hg])) ((k0_off43_eq i c).trans (by rw [hg])) ((k0_off44_eq i c).trans (by rw [hg])) ((k0_off45_eq i).trans (by rw [hg])) ?_
  refine step_rs_send v K c g 11 (by decide) (cond29 c) k0_dev28_eq ((k0_off46_eq i).trans (by rw [hg])) ((k0_off47_eq i c).trans (by rw [hg])) ((k0_off48_eq i c).trans (by rw [hg])) ((k0_off49_eq i).trans (by rw [hg])) ?_
  refine step_rs_send v K c g 12 (by decide) (cond30 c) k0_dev29_eq ((k0_off50_eq i).trans (by rw [hg])) ((k0_off51_eq i c).trans (by rw [hg])) ((k0_off52_eq i c).trans (by rw [hg])) ((k0_off53_eq i).trans (by rw [hg])) ?_
  refine step_rs_send v K c g 13 (by decide) (cond31 c) k0_dev30_eq ((k0_off54_eq i).trans (by rw [hg])) ((k0_off55_eq i c).trans (by rw [hg])) ((k0_off56_eq i c).trans (by rw [hg])) ((k0_off57_eq i).trans (by rw [hg])) ?_
  rw [Wp, Prog.pure_eq_ret, wp_ret]; exact fupd_intro

end Cert.RsAg
-- ==== Proof.Store.lean ====
/-
# The first stores of the second exchange, one batch
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The chunks of the peers 0 to 8 are waited for and stored. -/
theorem part2_spec (c : Dev nD) (g : Fin 4) (hg : (i 0).val = g.val + 2) (n : ℕ) (ob ou : S4x256x1024.Idx → Elt F .f32) (nA nO : ℕ) (hou : ∀ (g : Fin 4) (d : Fin 16), d ≠ c → ∀ j : S1x16x1024.Idx, k0_pay1 (slotV v.agB g d) j = ou (ix3 g (rowOf d (j 1)) (j 2))) (hl1 : ∀ d, levelOf (some (c, some (3, g, d))) ≤ n / 16) (hl0 : ∀ d, levelOf (some (c, some (2, g, d))) ≤ n / 16) (h34 : k0_cond34 i = 1#1) (a0 : BitVec 32) (R : sProp 𝕄) :
    iprop(Known v K ∗ R ∗ fam c (agW (F := F) c g) (agD v c g) 0 ∗ OutS c ob ou nA nO (16 * g.val + 0) ∗ Owing (F := F) c (n)) ⊢ Wp c (k0_part2 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 a0 c (v2w c) h34)
      (fun r => iprop(Known v K ∗ R ∗ fam c (agW (F := F) c g) (agD v c g) 9 ∗ OutS c ob ou nA nO (16 * g.val + 9) ∗ Owing (F := F) c (n))) := by
  rw [k0_part2_eq_skeleton]; unfold k0_part2_skel
  refine step_ag_store v K c g 0 (by decide) n ob ou nA nO hou (hl1 _) (hl0 _) rfl (cond35 c) (off66 i g hg) (off67 i g hg) (off68 i g hg) (off69 i g hg) (off70 i g hg) ?_
  refine step_ag_store v K c g 1 (by decide) n ob ou nA nO hou (hl1 _) (hl0 _) rfl (cond36 c) (off71 i g hg) (off72 i g hg) (off73 i g hg) (off74 i g hg) (off75 i g hg) ?_
  refine step_ag_store v K c g 2 (by decide) n ob ou nA nO hou (hl1 _) (hl0 _) rfl (cond37 c) (off76 i g hg) (off77 i g hg) (off78 i g hg) (off79 i g hg) (off80 i g hg) ?_
  refine step_ag_store v K c g 3 (by decide) n ob ou nA nO hou (hl1 _) (hl0 _) rfl (cond38 c) (off81 i g hg) (off82 i g hg) (off83 i g hg) (off84 i g hg) (off85 i g hg) ?_
  refine step_ag_store v K c g 4 (by decide) n ob ou nA nO hou (hl1 _) (hl0 _) rfl (cond39 c) (off86 i g hg) (off87 i g hg) (off88 i g hg) (off89 i g hg) (off90 i g hg) ?_
  refine step_ag_store v K c g 5 (by decide) n ob ou nA nO hou (hl1 _) (hl0 _) rfl (cond40 c) (off91 i g hg) (off92 i g hg) (off93 i g hg) (off94 i g hg) (off95 i g hg) ?_
  refine step_ag_store v K c g 6 (by decide) n ob ou nA nO hou (hl1 _) (hl0 _) rfl (cond41 c) (off96 i g hg) (off97 i g hg) (off98 i g hg) (off99 i g hg) (off100 i g hg) ?_
  refine step_ag_store v K c g 7 (by decide) n ob ou nA nO hou (hl1 _) (hl0 _) rfl (cond42 c) (off101 i g hg) (off102 i g hg) (off103 i g hg) (off104 i g hg) (off105 i g hg) ?_
  refine step_ag_store v K c g 8 (by decide) n ob ou nA nO hou (hl1 _) (hl0 _) rfl (cond43 c) (off106 i g hg) (off107 i g hg) (off108 i g hg) (off109 i g hg) (off110 i g hg) ?_
  rw [Wp, Prog.pure_eq_ret, wp_ret]; exact fupd_intro

end Cert.RsAg
-- ==== Proof.Reduce.lean ====
/-
# The sums of the first exchange, one batch
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The running sum starts at the device's own chunk; the chunks of the peers 0 to 6 are waited for and added. -/
theorem part3_spec (c : Dev nD) (g : Fin 4) (hg : (i 0).val = g.val + 1) (n : ℕ) (ob ou : S4x256x1024.Idx → Elt F .f32) (nA nO nF : ℕ) (hl1 : ∀ d, levelOf (some (c, some (1, g, d))) ≤ n / 16) (hl0 : ∀ d, levelOf (some (c, some (0, g, d))) ≤ n / 16) (hO : nO ≤ g.val) (hA : g.val < nA) (h51 : k0_cond51 i = 1#1) (a0 : BitVec 32) (R : sProp 𝕄) :
    iprop(Known v K ∗ R ∗ fam c (rsW (F := F) c g) (rsD v c g) 0 ∗ (∃ f, accP (F := F) c f) ∗ OutS c ob ou nA nO nF ∗ Owing (F := F) c (n)) ⊢ Wp c (k0_part3 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 a0 c (v2w c) h51)
      (fun r => iprop(Known v K ∗ (R ∗ OutS c ob ou nA nO nF) ∗ fam c (rsW (F := F) c g) (rsD v c g) 7 ∗ accP c (accS v (k0_pay18 (rowsV ob g c)) c g 7) ∗ Owing (F := F) c (n))) := by
  rw [k0_part3_eq_skeleton]; unfold k0_part3_skel
  refine step_init v K c g n ob ou nA nO nF hO hA (off146 i g c hg) (pay := k0_pay18) ?_
  refine step_red v K c g 0 (by decide) n (k0_pay18 (rowsV ob g c)) (hl1 _) (hl0 _) rfl (cond52 c) (off147 i g hg) (off148 i g hg) (off149 i g hg) (off150 i g hg) ?_
  refine step_red v K c g 1 (by decide) n (k0_pay18 (rowsV ob g c)) (hl1 _) (hl0 _) rfl (cond53 c) (off151 i g hg) (off152 i g hg) (off153 i g hg) (off154 i g hg) ?_
  refine step_red v K c g 2 (by decide) n (k0_pay18 (rowsV ob g c)) (hl1 _) (hl0 _) rfl (cond54 c) (off155 i g hg) (off156 i g hg) (off157 i g hg) (off158 i g hg) ?_
  refine step_red v K c g 3 (by decide) n (k0_pay18 (rowsV ob g c)) (hl1 _) (hl0 _) rfl (cond55 c) (off159 i g hg) (off160 i g hg) (off161 i g hg) (off162 i g hg) ?_
  refine step_red v K c g 4 (by decide) n (k0_pay18 (rowsV ob g c)) (hl1 _) (hl0 _) rfl (cond56 c) (off163 i g hg) (off164 i g hg) (off165 i g hg) (off166 i g hg) ?_
  refine step_red v K c g 5 (by decide) n (k0_pay18 (rowsV ob g c)) (hl1 _) (hl0 _) rfl (cond57 c) (off167 i g hg) (off168 i g hg) (off169 i g hg) (off170 i g hg) ?_
  refine step_red v K c g 6 (by decide) n (k0_pay18 (rowsV ob g c)) (hl1 _) (hl0 _) rfl (cond58 c) (off171 i g hg) (off172 i g hg) (off173 i g hg) (off174 i g hg) ?_
  rw [Wp, Prog.pure_eq_ret, wp_ret]; exact fupd_intro

set_option maxHeartbeats 8000000 in
/-- The chunks of the peers 7 to 15 are waited for and added; the sum is read. -/
theorem part4_spec (c : Dev nD) (g : Fin 4) (hg : (i 0).val = g.val + 1) (n : ℕ) (ob ou : S4x256x1024.Idx → Elt F .f32) (nA nO nF : ℕ) (hl1 : ∀ d, levelOf (some (c, some (1, g, d))) ≤ n / 16) (hl0 : ∀ d, levelOf (some (c, some (0, g, d))) ≤ n / 16) (a : S16x1024.Idx → Elt F .f32) (h51 : k0_cond51 i = 1#1) (v251 v282 : BitVec 32) (R : sProp 𝕄) :
    iprop(Known v K ∗ (R ∗ OutS c ob ou nA nO nF) ∗ fam c (rsW (F := F) c g) (rsD v c g) 7 ∗ accP c (accS v a c g 7) ∗ Owing (F := F) c (n)) ⊢ Wp c (k0_part4 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h51 v251 v282)
      (fun r => iprop(⌜r.1 = accS v a c g 16⌝ ∗ Known v K ∗ (R ∗ OutS c ob ou nA nO nF) ∗ fam c (rsW (F := F) c g) (rsD v c g) 16 ∗ accP c (accS v a c g 16) ∗ Owing (F := F) c (n))) := by
  rw [k0_part4_eq_skeleton]; unfold k0_part4_skel
  refine step_red (R := iprop(R ∗ OutS c ob ou nA nO nF)) v K c g 7 (by decide) n a (hl1 _) (hl0 _) rfl (cond59 c) (off175 i g hg) (off176 i g hg) (off177 i g hg) (off178 i g hg) ?_
  refine step_red (R := iprop(R ∗ OutS c ob ou nA nO nF)) v K c g 8 (by decide) n a (hl1 _) (hl0 _) rfl (cond60 c) (off179 i g hg) (off180 i g hg) (off181 i g hg) (off182 i g hg) ?_
  refine step_red (R := iprop(R ∗ OutS c ob ou nA nO nF)) v K c g 9 (by decide) n a (hl1 _) (hl0 _) rfl (cond61 c) (off183 i g hg) (off184 i g hg) (off185 i g hg) (off186 i g hg) ?_
  refine step_red (R := iprop(R ∗ OutS c ob ou nA nO nF)) v K c g 10 (by decide) n a (hl1 _) (hl0 _) rfl (cond62 c) (off187 i g hg) (off188 i g hg) (off189 i g hg) (off190 i g hg) ?_
  refine step_red (R := iprop(R ∗ OutS c ob ou nA nO nF)) v K c g 11 (by decide) n a (hl1 _) (hl0 _) rfl (cond63 c) (off191 i g hg) (off192 i g hg) (off193 i g hg) (off194 i g hg) ?_
  refine step_red (R := iprop(R ∗ OutS c ob ou nA nO nF)) v K c g 12 (by decide) n a (hl1 _) (hl0 _) rfl (cond64 c) (off195 i g hg) (off196 i g hg) (off197 i g hg) (off198 i g hg) ?_
  refine step_red (R := iprop(R ∗ OutS c ob ou nA nO nF)) v K c g 13 (by decide) n a (hl1 _) (hl0 _) rfl (cond65 c) (off199 i g hg) (off200 i g hg) (off201 i g hg) (off202 i g hg) ?_
  refine step_red (R := iprop(R ∗ OutS c ob ou nA nO nF)) v K c g 14 (by decide) n a (hl1 _) (hl0 _) rfl (cond66 c) (off203 i g hg) (off204 i g hg) (off205 i g hg) (off206 i g hg) ?_
  refine step_red (R := iprop(R ∗ OutS c ob ou nA nO nF)) v K c g 15 (by decide) n a (hl1 _) (hl0 _) rfl (cond67 c) (off207 i g hg) (off208 i g hg) (off209 i g hg) (off210 i g hg) ?_
  refine step_sum v K c g n ob ou nA nO nF (accS v a c g 16) (off146 i g c hg) fun w => ?_
  exact wp_pure_ret c _ rfl

end Cert.RsAg
-- ==== Proof.Gather.lean ====
/-
# The transfers of the second exchange, one batch
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The finished sum is stored and sent to the peers 0 to 7. -/
theorem part5_spec (c : Dev nD) (g : Fin 4) (hg : (i 0).val = g.val + 1) (ob ou : S4x256x1024.Idx → Elt F .f32) (nA nF : ℕ) (w : S16x1024.Idx → Elt F .f32) (hw : ∀ j : S1x16x1024.Idx, k0_pay35 w j = ou (ix3 g (rowOf c (j 1)) (j 2))) (hu : ∀ j : S1x16x1024.Idx, k0_pay36 w j = v.ags c (ix3 g (j 1) (j 2))) (h51 : k0_cond51 i = 1#1) (v251 : BitVec 32) (v312 : Vec F S1x16x1024 .f32) (R : sProp 𝕄) :
    iprop(Known v K ∗ R ∗ (bigSep (others c) (fun e => iprop(agTok (F := F) c g e ∗ ∃ f, agP (F := F) e g c f)) ∗ ∃ f, sgP (F := F) c g fullShare f) ∗ OutS c ob ou nA g.val nF ∗ Owing (F := F) c (agBase g + 0)) ⊢ Wp c (k0_part5 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h51 v251 w v312)
      (fun r => iprop(Known v K ∗ (R ∗ OutS c ob ou nA (g.val + 1) nF ∗ sgRest v c g) ∗ fam c (agA v c g) (agB c g) 8 ∗ Owing (F := F) c (agBase g + 8))) := by
  rw [k0_part5_eq_skeleton]; unfold k0_part5_skel
  refine step_own v K c g ob ou nA nF (k0_pay35 w) (k0_pay36 w) hw hu (off146 i g c hg) (off211 i g hg) ?_
  refine step_ag_send v K c g 0 (by decide) (cond68 c) k0_dev33_eq (off212 i g hg) (off213 i g c hg) (off214 i g c hg) (off215 i g hg) ?_
  refine step_ag_send v K c g 1 (by decide) (cond69 c) k0_dev34_eq (off216 i g hg) (off217 i g c hg) (off218 i g c hg) (off219 i g hg) ?_
  refine step_ag_send v K c g 2 (by decide) (cond70 c) k0_dev35_eq (off220 i g hg) (off221 i g c hg) (off222 i g c hg) (off223 i g hg) ?_
  refine step_ag_send v K c g 3 (by decide) (cond71 c) k0_dev36_eq (off224 i g hg) (off225 i g c hg) (off226 i g c hg) (off227 i g hg) ?_
  refine step_ag_send v K c g 4 (by decide) (cond72 c) k0_dev37_eq (off228 i g hg) (off229 i g c hg) (off230 i g c hg) (off231 i g hg) ?_
  refine step_ag_send v K c g 5 (by decide) (cond73 c) k0_dev38_eq (off232 i g hg) (off233 i g c hg) (off234 i g c hg) (off235 i g hg) ?_
  refine step_ag_send v K c g 6 (by decide) (cond74 c) k0_dev39_eq (off236 i g hg) (off237 i g c hg) (off238 i g c hg) (off239 i g hg) ?_
  refine step_ag_send v K c g 7 (by decide) (cond75 c) k0_dev40_eq (off240 i g hg) (off241 i g c hg) (off242 i g c hg) (off243 i g hg) ?_
  rw [Wp, Prog.pure_eq_ret, wp_ret]; exact fupd_intro

end Cert.RsAg
-- ==== Proof.Body0.lean ====
/-
# The body at the grid point of batch 0
-/
module

public import proofs.«01_k».proof.Proof.Phases
public import proofs.«01_k».proof.Proof.Attn
public import proofs.«01_k».proof.Proof.First
public import proofs.«01_k».proof.Proof.Issue
public import proofs.«01_k».proof.Proof.Store
public import proofs.«01_k».proof.Proof.Reduce
public import proofs.«01_k».proof.Proof.Gather

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The guards of the body. -/
theorem body0_guards : (∀ i : grid0.Coords, k0_cond1 i = 1#1 ↔ (i 0).val = 0) ∧ (∀ i : grid0.Coords, k0_cond34 i = 1#1 ↔ 2 ≤ (i 0).val)
    ∧ (∀ i : grid0.Coords, k0_cond51 i = 1#1 ↔ 1 ≤ (i 0).val) ∧ ∀ i : grid0.Coords, k0_cond84 i = 1#1 ↔ (i 0).val = 3 := by decide

set_option maxHeartbeats 8000000 in
/-- The body of batch 0. -/
theorem body0 (c : Dev nD) (hb : (i 0).val = 0) (x : S1x256x1024.Idx → Elt F .f32) (wq wo : S1024x1024.Idx → Elt F .f32) (kk vv : S1x1024x8x128.Idx → Elt F .f32) (ob ou : S4x256x1024.Idx → Elt F .f32)
    (hou : ∀ (g : Fin 4) (d : Fin 16), d ≠ c → ∀ j : S1x16x1024.Idx, k0_pay1 (slotV v.agB g d) j = ou (ix3 g (rowOf d (j 1)) (j 2)))
    (hW : ∀ (g : Fin 4) (j : S1x16x1024.Idx), k0_pay35 (accS v (k0_pay18 (rowsV ob g c)) c g 16) j = ou (ix3 g (rowOf c (j 1)) (j 2)))
    (hU : ∀ (g : Fin 4) (j : S1x16x1024.Idx), k0_pay36 (accS v (k0_pay18 (rowsV ob g c)) c g 16) j = v.ags c (ix3 g (j 1) (j 2)))
    (hw : ∀ j : S1x256x1024.Idx, oV x wq wo kk vv j = ob (ix3 0 (j 1) (j 2))) (hu : ∀ j : S1x256x1024.Idx, k0_pay104 (oV x wq wo kk vv) j = v.stg c (ix3 0 (j 1) (j 2))) (R : sProp 𝕄) :
    iprop((Known v K ∗ (R ∗ (∃ f, accP (F := F) c f) ∗ bigSep Finset.univ (fun g : Fin 4 => iprop(bareRS (F := F) c g ∗ bareAG (F := F) c g)) ∗ OutS c ob ou (0) (0) (0)) ∗ bigSep (others c) (fun e => iprop(dutyTok ER (barCell e) 0 c ∗ barPay (F := F) e c)) ∗ cred (tallyAt (barCell c) () 15) ∗ atPos ER (barCell c) 0 ∅ 0 ∗ Owing (F := F) c 0) ∗ InsP c arg1 arg2 arg3 arg4 arg5 x wq wo kk vv ∗ AtS c x wq kk vv 0) ⊢ Wp c (cc0__fused_body (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(Known v K ∗ (R ∗ (∃ f, accP (F := F) c f) ∗ (RS v c 1 0) ∗ (RS v c 2 0) ∗ (RS v c 3 0) ∗ (AG v c 0 0) ∗ (AG v c 1 0) ∗ (AG v c 2 0) ∗ (AG v c 3 0) ∗ (semVal (barCell c) 0) ∗ RS v c 0 1) ∗ OutS c ob ou (1) (0) (0) ∗ Owing (F := F) c 32 ∗ InsP c arg1 arg2 arg3 arg4 arg5 x wq wo kk vv ∗ AtS c x wq kk vv 8)) := by
  obtain ⟨cond1_iff, cond34_iff, cond51_iff, cond84_iff⟩ := body0_guards
  rw [cc0__fused_body_eq_skeleton]; unfold cc0__fused_body_skel
  refine wp_call c (part29_first v K i arg1 harg1 arg2 harg2 arg3 harg3 arg4 harg4 arg5 harg5 c x wq wo kk vv ((cond1_iff i).2 hb) _) fun r => pure_elim fun hr => ?_
  subst hr
  refine BI.Entails.trans (show iprop((Known v K ∗ (R ∗ (∃ f, accP (F := F) c f) ∗ bigSep Finset.univ (fun g : Fin 4 => iprop(bareRS (F := F) c g ∗ bareAG (F := F) c g)) ∗ OutS c ob ou (0) (0) (0)) ∗ bigSep (others c) (fun p => barPay (F := F) c p) ∗ semVal (barCell c) 0 ∗ Owing (F := F) c 16) ∗ InsP c arg1 arg2 arg3 arg4 arg5 x wq wo kk vv ∗ AtS c x wq kk vv 0) ⊢ iprop((Known v K ∗ ((R ∗ (∃ f, accP (F := F) c f) ∗ (RS v c 1 0) ∗ (RS v c 2 0) ∗ (RS v c 3 0) ∗ (AG v c 0 0) ∗ (AG v c 1 0) ∗ (AG v c 2 0) ∗ (AG v c 3 0) ∗ (semVal (barCell c) 0)) ∗ bigSep (others c) (rsWt (F := F) c 0)) ∗ (bigSep (others c) (fun e => iprop(rsTok (F := F) c 0 e ∗ ∃ f, rsP (F := F) e 0 c f)) ∗ ∃ f, bigP (F := F) c 0 f) ∗ OutS c ob ou (0) (0) (0) ∗ Owing (F := F) c (rsBase 0 + 0)) ∗ InsP c arg1 arg2 arg3 arg4 arg5 x wq wo kk vv ∗ AtS c x wq kk vv 0) from ?_) ?_
  · iintro ⟨⟨#HK, ⟨HR, HA, HB, HS⟩, HP, HV, HO⟩, HI, HT⟩
    ihave HZ := (bar_open v c) $$ [HP HB]
    · isplitl [HP]; · iexact HP
      iexact HB
    icases HZ with ⟨⟨G0, H0⟩, ⟨G1, H1⟩, ⟨G2, H2⟩, ⟨G3, H3⟩⟩
    ihave HZ := ((show RS v c 0 0 ⊢ iprop((bigSep (others c) (fun e => iprop(rsTok (F := F) c 0 e ∗ ∃ f, rsP (F := F) e 0 c f)) ∗ bigSep (others c) (rsWt (F := F) c 0) ∗ ∃ f, bigP (F := F) c 0 f)) from .refl)) $$ G0
    icases HZ with ⟨T0, W0, B0⟩
    isplitl [HR HA G1 G2 G3 H0 H1 H2 H3 HV W0 T0 B0 HS HO]
    · isplitr; · iexact HK
      isplitl [HR HA G1 G2 G3 H0 H1 H2 H3 HV W0]
      · isplitl [HR HA G1 G2 G3 H0 H1 H2 H3 HV]
        · isplitl [HR]; · iexact HR
          isplitl [HA]; · iexact HA
          isplitl [G1]; · iexact G1
          isplitl [G2]; · iexact G2
          isplitl [G3]; · iexact G3
          isplitl [H0]; · iexact H0
          isplitl [H1]; · iexact H1
          isplitl [H2]; · iexact H2
          isplitl [H3]; · iexact H3
          iexact HV
        iexact W0
      isplitl [T0 B0]
      · isplitl [T0]; · iexact T0
        iexact B0
      isplitl [HS]; · iexact HS
      iexact HO
    isplitl [HI]; · iexact HI
    iexact HT
  refine wp_call c (part30_spec i arg1 harg1 arg2 harg2 arg3 harg3 arg4 harg4 arg5 harg5 c x wq wo kk vv _) fun r => pure_elim fun hr => ?_
  subst hr
  refine wp_call c (part31_spec i arg1 harg1 arg2 harg2 arg3 harg3 arg4 harg4 arg5 harg5 c x wq wo kk vv _) fun r => pure_elim fun hr => ?_
  subst hr
  refine wp_call c (part32_spec i arg1 harg1 arg2 harg2 arg3 harg3 arg4 harg4 arg5 harg5 c x wq wo kk vv _) fun r => pure_elim fun hr => ?_
  subst hr
  refine wp_call c (part33_spec i arg1 harg1 arg2 harg2 arg3 harg3 arg4 harg4 arg5 harg5 c x wq wo kk vv _) fun r => pure_elim fun hr => ?_
  subst hr
  refine wp_call c (part34_spec v K i arg1 harg1 arg2 harg2 arg3 harg3 arg4 harg4 arg5 harg5 c 0 hb x wq wo kk vv ob ou (0) (0) (Nat.le_of_ble_eq_true rfl) (Nat.le_of_ble_eq_true rfl) hw hu _ _) fun r => ?_
  refine wp_call c (part35_spec v K i arg1 harg1 arg2 harg2 arg3 harg3 arg4 harg4 arg5 harg5 c 0 hb r _) fun r => ?_
  refine step_rs_send v K c 0 14 (by decide) (cond32 c) k0_dev31_eq ((k0_off58_eq i).trans (by rw [show (i 0).val = (0 : Fin 4).val from hb])) ((k0_off59_eq i c).trans (by rw [show (i 0).val = (0 : Fin 4).val from hb])) ((k0_off60_eq i c).trans (by rw [show (i 0).val = (0 : Fin 4).val from hb])) ((k0_off61_eq i).trans (by rw [show (i 0).val = (0 : Fin 4).val from hb])) ?_
  refine step_rs_send v K c 0 15 (by decide) (cond33 c) k0_dev32_eq ((k0_off62_eq i).trans (by rw [show (i 0).val = (0 : Fin 4).val from hb])) ((k0_off63_eq i c).trans (by rw [show (i 0).val = (0 : Fin 4).val from hb])) ((k0_off64_eq i c).trans (by rw [show (i 0).val = (0 : Fin 4).val from hb])) ((k0_off65_eq i).trans (by rw [show (i 0).val = (0 : Fin 4).val from hb])) ?_
  refine wp_if_neg c (fun h => by have := (cond34_iff i).1 h; omega) ?_
  refine wp_if_neg c (fun h => by have := (cond51_iff i).1 h; omega) ?_
  refine wp_if_neg c (fun h => by have := (cond84_iff i).1 h; omega) ?_
  refine BI.Entails.trans (show iprop(Known v K ∗ ((((R ∗ (∃ f, accP (F := F) c f) ∗ (RS v c 1 0) ∗ (RS v c 2 0) ∗ (RS v c 3 0) ∗ (AG v c 0 0) ∗ (AG v c 1 0) ∗ (AG v c 2 0) ∗ (AG v c 3 0) ∗ (semVal (barCell c) 0)) ∗ bigSep (others c) (rsWt (F := F) c 0)) ∗ InsP c arg1 arg2 arg3 arg4 arg5 x wq wo kk vv ∗ AtS c x wq kk vv 8) ∗ OutS c ob ou (1) (0) (0) ∗ stP c 0 c (v.stg c)) ∗ fam c (rsA v c 0) (rsB c 0) 16 ∗ Owing (F := F) c (rsBase 0 + 16)) ⊢ iprop(Known v K ∗ (R ∗ (∃ f, accP (F := F) c f) ∗ (RS v c 1 0) ∗ (RS v c 2 0) ∗ (RS v c 3 0) ∗ (AG v c 0 0) ∗ (AG v c 1 0) ∗ (AG v c 2 0) ∗ (AG v c 3 0) ∗ (semVal (barCell c) 0) ∗ RS v c 0 1) ∗ OutS c ob ou (1) (0) (0) ∗ Owing (F := F) c 32 ∗ InsP c arg1 arg2 arg3 arg4 arg5 x wq wo kk vv ∗ AtS c x wq kk vv 8) from ?_) ?_
  · iintro ⟨#HK, ⟨⟨⟨⟨HR, HA, G1, G2, G3, H0, H1, H2, H3, HV⟩, W0⟩, HI, HT⟩, HS, HST⟩, HF, HO⟩
    ihave HZ := (rs_sent v c 0) $$ [HF W0 HST]
    · isplitl [HF]; · iexact HF
      isplitl [W0]; · iexact W0
      iexact HST
    icases HZ with GB
    isplitr; · iexact HK
    isplitl [HR HA G1 G2 G3 H0 H1 H2 H3 HV GB]
    · isplitl [HR]; · iexact HR
      isplitl [HA]; · iexact HA
      isplitl [G1]; · iexact G1
      isplitl [G2]; · iexact G2
      isplitl [G3]; · iexact G3
      isplitl [H0]; · iexact H0
      isplitl [H1]; · iexact H1
      isplitl [H2]; · iexact H2
      isplitl [H3]; · iexact H3
      isplitl [HV]; · iexact HV
      iexact GB
    isplitl [HS]; · iexact HS
    isplitl [HO]; · iexact HO
    isplitl [HI]; · iexact HI
    iexact HT
  exact wp_done c (BI.Entails.refl _)

end Cert.RsAg
-- ==== Proof.Body1.lean ====
/-
# The body at the grid point of batch 1
-/
module

public import proofs.«01_k».proof.Proof.Phases
public import proofs.«01_k».proof.Proof.Attn
public import proofs.«01_k».proof.Proof.First
public import proofs.«01_k».proof.Proof.Issue
public import proofs.«01_k».proof.Proof.Store
public import proofs.«01_k».proof.Proof.Reduce
public import proofs.«01_k».proof.Proof.Gather

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The guards of the body. -/
theorem body1_guards : (∀ i : grid0.Coords, k0_cond1 i = 1#1 ↔ (i 0).val = 0) ∧ (∀ i : grid0.Coords, k0_cond34 i = 1#1 ↔ 2 ≤ (i 0).val)
    ∧ (∀ i : grid0.Coords, k0_cond51 i = 1#1 ↔ 1 ≤ (i 0).val) ∧ ∀ i : grid0.Coords, k0_cond84 i = 1#1 ↔ (i 0).val = 3 := by decide

set_option maxHeartbeats 8000000 in
/-- The body of batch 1. -/
theorem body1 (c : Dev nD) (hb : (i 0).val = 1) (x : S1x256x1024.Idx → Elt F .f32) (wq wo : S1024x1024.Idx → Elt F .f32) (kk vv : S1x1024x8x128.Idx → Elt F .f32) (ob ou : S4x256x1024.Idx → Elt F .f32)
    (hou : ∀ (g : Fin 4) (d : Fin 16), d ≠ c → ∀ j : S1x16x1024.Idx, k0_pay1 (slotV v.agB g d) j = ou (ix3 g (rowOf d (j 1)) (j 2)))
    (hW : ∀ (g : Fin 4) (j : S1x16x1024.Idx), k0_pay35 (accS v (k0_pay18 (rowsV ob g c)) c g 16) j = ou (ix3 g (rowOf c (j 1)) (j 2)))
    (hU : ∀ (g : Fin 4) (j : S1x16x1024.Idx), k0_pay36 (accS v (k0_pay18 (rowsV ob g c)) c g 16) j = v.ags c (ix3 g (j 1) (j 2)))
    (hw : ∀ j : S1x256x1024.Idx, oV x wq wo kk vv j = ob (ix3 1 (j 1) (j 2))) (hu : ∀ j : S1x256x1024.Idx, k0_pay104 (oV x wq wo kk vv) j = v.stg c (ix3 1 (j 1) (j 2))) (R : sProp 𝕄) :
    iprop((Known v K ∗ (R ∗ (∃ f, accP (F := F) c f) ∗ (RS v c 0 1) ∗ (AG v c 0 0)) ∗ RS v c 1 0 ∗ OutS c ob ou (1) (0) (0) ∗ Owing (F := F) c 32) ∗ InsP c arg1 arg2 arg3 arg4 arg5 x wq wo kk vv ∗ AtS c x wq kk vv 0) ⊢ Wp c (cc0__fused_body (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(Known v K ∗ (R ∗ (RS v c 1 1) ∗ (RS v c 0 2) ∗ ((∃ f, accP (F := F) c f)) ∗ (AG v c 0 1)) ∗ OutS c ob ou (2) (1) (0) ∗ Owing (F := F) c 64 ∗ InsP c arg1 arg2 arg3 arg4 arg5 x wq wo kk vv ∗ AtS c x wq kk vv 8)) := by
  obtain ⟨cond1_iff, cond34_iff, cond51_iff, cond84_iff⟩ := body1_guards
  rw [cc0__fused_body_eq_skeleton]; unfold cc0__fused_body_skel
  refine wp_call c (part29_later i arg1 harg1 arg2 harg2 arg3 harg3 arg4 harg4 arg5 harg5 c x wq wo kk vv (fun h => by have := (cond1_iff i).1 h; omega) _) fun r => pure_elim fun hr => ?_
  subst hr
  refine BI.Entails.trans (show iprop((Known v K ∗ (R ∗ (∃ f, accP (F := F) c f) ∗ (RS v c 0 1) ∗ (AG v c 0 0)) ∗ RS v c 1 0 ∗ OutS c ob ou (1) (0) (0) ∗ Owing (F := F) c 32) ∗ InsP c arg1 arg2 arg3 arg4 arg5 x wq wo kk vv ∗ AtS c x wq kk vv 0) ⊢ iprop((Known v K ∗ ((R ∗ (∃ f, accP (F := F) c f) ∗ (RS v c 0 1) ∗ (AG v c 0 0)) ∗ bigSep (others c) (rsWt (F := F) c 1)) ∗ (bigSep (others c) (fun e => iprop(rsTok (F := F) c 1 e ∗ ∃ f, rsP (F := F) e 1 c f)) ∗ ∃ f, bigP (F := F) c 1 f) ∗ OutS c ob ou (1) (0) (0) ∗ Owing (F := F) c (rsBase 1 + 0)) ∗ InsP c arg1 arg2 arg3 arg4 arg5 x wq wo kk vv ∗ AtS c x wq kk vv 0) from ?_) ?_
  · iintro ⟨⟨#HK, ⟨HR, HA, G0, H0⟩, GB, HS, HO⟩, HI, HT⟩
    ihave HZ := ((show RS v c 1 0 ⊢ iprop((bigSep (others c) (fun e => iprop(rsTok (F := F) c 1 e ∗ ∃ f, rsP (F := F) e 1 c f)) ∗ bigSep (others c) (rsWt (F := F) c 1) ∗ ∃ f, bigP (F := F) c 1 f)) from .refl)) $$ GB
    icases HZ with ⟨T0, W0, B0⟩
    isplitl [HR HA G0 H0 W0 T0 B0 HS HO]
    · isplitr; · iexact HK
      isplitl [HR HA G0 H0 W0]
      · isplitl [HR HA G0 H0]
        · isplitl [HR]; · iexact HR
          isplitl [HA]; · iexact HA
          isplitl [G0]; · iexact G0
          iexact H0
        iexact W0
      isplitl [T0 B0]
      · isplitl [T0]; · iexact T0
        iexact B0
      isplitl [HS]; · iexact HS
      iexact HO
    isplitl [HI]; · iexact HI
    iexact HT
  refine wp_call c (part30_spec i arg1 harg1 arg2 harg2 arg3 harg3 arg4 harg4 arg5 harg5 c x wq wo kk vv _) fun r => pure_elim fun hr => ?_
  subst hr
  refine wp_call c (part31_spec i arg1 harg1 arg2 harg2 arg3 harg3 arg4 harg4 arg5 harg5 c x wq wo kk vv _) fun r => pure_elim fun hr => ?_
  subst hr
  refine wp_call c (part32_spec i arg1 harg1 arg2 harg2 arg3 harg3 arg4 harg4 arg5 harg5 c x wq wo kk vv _) fun r => pure_elim fun hr => ?_
  subst hr
  refine wp_call c (part33_spec i arg1 harg1 arg2 harg2 arg3 harg3 arg4 harg4 arg5 harg5 c x wq wo kk vv _) fun r => pure_elim fun hr => ?_
  subst hr
  refine wp_call c (part34_spec v K i arg1 harg1 arg2 harg2 arg3 harg3 arg4 harg4 arg5 harg5 c 1 hb x wq wo kk vv ob ou (0) (0) (Nat.le_of_ble_eq_true rfl) (Nat.le_of_ble_eq_true rfl) hw hu _ _) fun r => ?_
  refine wp_call c (part35_spec v K i arg1 harg1 arg2 harg2 arg3 harg3 arg4 harg4 arg5 harg5 c 1 hb r _) fun r => ?_
  refine step_rs_send v K c 1 14 (by decide) (cond32 c) k0_dev31_eq ((k0_off58_eq i).trans (by rw [show (i 0).val = (1 : Fin 4).val from hb])) ((k0_off59_eq i c).trans (by rw [show (i 0).val = (1 : Fin 4).val from hb])) ((k0_off60_eq i c).trans (by rw [show (i 0).val = (1 : Fin 4).val from hb])) ((k0_off61_eq i).trans (by rw [show (i 0).val = (1 : Fin 4).val from hb])) ?_
  refine step_rs_send v K c 1 15 (by decide) (cond33 c) k0_dev32_eq ((k0_off62_eq i).trans (by rw [show (i 0).val = (1 : Fin 4).val from hb])) ((k0_off63_eq i c).trans (by rw [show (i 0).val = (1 : Fin 4).val from hb])) ((k0_off64_eq i c).trans (by rw [show (i 0).val = (1 : Fin 4).val from hb])) ((k0_off65_eq i).trans (by rw [show (i 0).val = (1 : Fin 4).val from hb])) ?_
  refine wp_if_neg c (fun h => by have := (cond34_iff i).1 h; omega) ?_
  refine wp_if_pos c ((cond51_iff i).2 (by omega)) ?_
  refine BI.Entails.trans (show iprop(Known v K ∗ ((((R ∗ (∃ f, accP (F := F) c f) ∗ (RS v c 0 1) ∗ (AG v c 0 0)) ∗ bigSep (others c) (rsWt (F := F) c 1)) ∗ InsP c arg1 arg2 arg3 arg4 arg5 x wq wo kk vv ∗ AtS c x wq kk vv 8) ∗ OutS c ob ou (2) (0) (0) ∗ stP c 1 c (v.stg c)) ∗ fam c (rsA v c 1) (rsB c 1) 16 ∗ Owing (F := F) c (rsBase 1 + 16)) ⊢ iprop(Known v K ∗ (R ∗ (RS v c 1 1) ∗ (InsP c arg1 arg2 arg3 arg4 arg5 x wq wo kk vv) ∗ (AtS c x wq kk vv 8) ∗ (stP c 0 c (v.stg c)) ∗ ((bigSep (others c) (fun e => iprop(agTok (F := F) c 0 e ∗ ∃ f, agP (F := F) e 0 c f)) ∗ ∃ f, sgP (F := F) c 0 fullShare f)) ∗ (bigSep (others c) (agWt (F := F) c 0))) ∗ fam c (rsW (F := F) c 0) (rsD v c 0) 0 ∗ (∃ f, accP (F := F) c f) ∗ OutS c ob ou (2) (0) (0) ∗ Owing (F := F) c 48) from ?_) ?_
  · iintro ⟨#HK, ⟨⟨⟨⟨HR, HA, G0, H0⟩, W0⟩, HI, HT⟩, HS, HST⟩, HF, HO⟩
    ihave HZ := (rs_sent v c 1) $$ [HF W0 HST]
    · isplitl [HF]; · iexact HF
      isplitl [W0]; · iexact W0
      iexact HST
    icases HZ with GB
    ihave HZ := (rs_open v c 0) $$ G0
    icases HZ with ⟨RR, ST⟩
    ihave HZ := ((show AG v c 0 0 ⊢ iprop((bigSep (others c) (fun e => iprop(agTok (F := F) c 0 e ∗ ∃ f, agP (F := F) e 0 c f)) ∗ bigSep (others c) (agWt (F := F) c 0) ∗ ∃ f, sgP (F := F) c 0 fullShare f)) from .refl)) $$ H0
    icases HZ with ⟨AT, AW, AB⟩
    isplitr; · iexact HK
    isplitl [HR GB HI HT ST AT AB AW]
    · isplitl [HR]; · iexact HR
      isplitl [GB]; · iexact GB
      isplitl [HI]; · iexact HI
      isplitl [HT]; · iexact HT
      isplitl [ST]; · iexact ST
      isplitl [AT AB]
      · isplitl [AT]; · iexact AT
        iexact AB
      iexact AW
    isplitl [RR]; · iexact RR
    isplitl [HA]; · iexact HA
    isplitl [HS]; · iexact HS
    iexact HO
  refine wp_call c (part3_spec v K i arg1 harg1 arg2 harg2 arg3 harg3 arg4 harg4 arg5 harg5 c 0 hb 48 ob ou (2) (0) (0) (fun _ => Nat.le_of_ble_eq_true rfl) (fun _ => Nat.le_of_ble_eq_true rfl) (Nat.le_of_ble_eq_true rfl) (Nat.le_of_ble_eq_true rfl) ((cond51_iff i).2 (by omega)) _ _) fun r => ?_
  obtain ⟨v251, v282⟩ := r
  refine wp_call c (part4_spec v K i arg1 harg1 arg2 harg2 arg3 harg3 arg4 harg4 arg5 harg5 c 0 hb 48 ob ou (2) (0) (0) (fun _ => Nat.le_of_ble_eq_true rfl) (fun _ => Nat.le_of_ble_eq_true rfl) (k0_pay18 (rowsV ob 0 c)) ((cond51_iff i).2 (by omega)) v251 v282 _) fun r => pure_elim fun hr => ?_
  obtain ⟨v308, v312⟩ := r
  obtain rfl : v308 = accS v (k0_pay18 (rowsV ob 0 c)) c 0 16 := hr
  refine BI.Entails.trans (show iprop(Known v K ∗ ((R ∗ (RS v c 1 1) ∗ (InsP c arg1 arg2 arg3 arg4 arg5 x wq wo kk vv) ∗ (AtS c x wq kk vv 8) ∗ (stP c 0 c (v.stg c)) ∗ ((bigSep (others c) (fun e => iprop(agTok (F := F) c 0 e ∗ ∃ f, agP (F := F) e 0 c f)) ∗ ∃ f, sgP (F := F) c 0 fullShare f)) ∗ (bigSep (others c) (agWt (F := F) c 0))) ∗ OutS c ob ou (2) (0) (0)) ∗ fam c (rsW (F := F) c 0) (rsD v c 0) 16 ∗ accP c (accS v (k0_pay18 (rowsV ob 0 c)) c 0 16) ∗ Owing (F := F) c 48) ⊢ iprop(Known v K ∗ (R ∗ (RS v c 1 1) ∗ (InsP c arg1 arg2 arg3 arg4 arg5 x wq wo kk vv) ∗ (AtS c x wq kk vv 8) ∗ (bigSep (others c) (agWt (F := F) c 0)) ∗ (RS v c 0 2) ∗ ((∃ f, accP (F := F) c f))) ∗ (bigSep (others c) (fun e => iprop(agTok (F := F) c 0 e ∗ ∃ f, agP (F := F) e 0 c f)) ∗ ∃ f, sgP (F := F) c 0 fullShare f) ∗ OutS c ob ou (2) ((0 : Fin 4).val) (0) ∗ Owing (F := F) c (agBase 0 + 0)) from ?_) ?_
  · iintro ⟨#HK, ⟨⟨HR, GB, HI, HT, ST, AGR, AW⟩, HS⟩, RR, HA, HO⟩
    ihave HZ := (rs_got v c 0) $$ [RR ST]
    · isplitl [RR]; · iexact RR
      iexact ST
    icases HZ with GG
    ihave HZ := ((show accP c (accS v (k0_pay18 (rowsV ob 0 c)) c 0 16) ⊢ iprop(∃ f, accP (F := F) c f) from by iintro H; iexists _; iexact H)) $$ HA
    icases HZ with HA
    isplitr; · iexact HK
    isplitl [HR GB HI HT AW GG HA]
    · isplitl [HR]; · iexact HR
      isplitl [GB]; · iexact GB
      isplitl [HI]; · iexact HI
      isplitl [HT]; · iexact HT
      isplitl [AW]; · iexact AW
      isplitl [GG]; · iexact GG
      iexact HA
    isplitl [AGR]; · iexact AGR
    isplitl [HS]; · iexact HS
    iexact HO
  refine wp_call c (part5_spec v K i arg1 harg1 arg2 harg2 arg3 harg3 arg4 harg4 arg5 harg5 c 0 hb ob ou (2) (0) (accS v (k0_pay18 (rowsV ob 0 c)) c 0 16) (hW 0) (hU 0) ((cond51_iff i).2 (by omega)) v251 v312 _) fun r => ?_
  refine step_ag_send v K c 0 8 (by decide) (cond76 c) k0_dev41_eq (off244 i 0 hb) (off245 i 0 c hb) (off246 i 0 c hb) (off247 i 0 hb) ?_
  refine step_ag_send v K c 0 9 (by decide) (cond77 c) k0_dev42_eq (off248 i 0 hb) (off249 i 0 c hb) (off250 i 0 c hb) (off251 i 0 hb) ?_
  refine step_ag_send v K c 0 10 (by decide) (cond78 c) k0_dev43_eq (off252 i 0 hb) (off253 i 0 c hb) (off254 i 0 c hb) (off255 i 0 hb) ?_
  refine step_ag_send v K c 0 11 (by decide) (cond79 c) k0_dev44_eq (off256 i 0 hb) (off257 i 0 c hb) (off258 i 0 c hb) (off259 i 0 hb) ?_
  refine step_ag_send v K c 0 12 (by decide) (cond80 c) k0_dev45_eq (off260 i 0 hb) (off261 i 0 c hb) (off262 i 0 c hb) (off263 i 0 hb) ?_
  refine step_ag_send v K c 0 13 (by decide) (cond81 c) k0_dev46_eq (off264 i 0 hb) (off265 i 0 c hb) (off266 i 0 c hb) (off267 i 0 hb) ?_
  refine step_ag_send v K c 0 14 (by decide) (cond82 c) k0_dev47_eq (off268 i 0 hb) (off269 i 0 c hb) (off270 i 0 c hb) (off271 i 0 hb) ?_
  refine step_ag_send v K c 0 15 (by decide) (cond83 c) k0_dev48_eq (off272 i 0 hb) (off273 i 0 c hb) (off274 i 0 c hb) (off275 i 0 hb) ?_
  refine wp_if_neg c (fun h => by have := (cond84_iff i).1 h; omega) ?_
  refine BI.Entails.trans (show iprop(Known v K ∗ ((R ∗ (RS v c 1 1) ∗ (InsP c arg1 arg2 arg3 arg4 arg5 x wq wo kk vv) ∗ (AtS c x wq kk vv 8) ∗ (bigSep (others c) (agWt (F := F) c 0)) ∗ (RS v c 0 2) ∗ ((∃ f, accP (F := F) c f))) ∗ OutS c ob ou (2) ((0 : Fin 4).val + 1) (0) ∗ sgRest v c 0) ∗ fam c (agA v c 0) (agB c 0) 16 ∗ Owing (F := F) c (agBase 0 + 16)) ⊢ iprop(Known v K ∗ (R ∗ (RS v c 1 1) ∗ (RS v c 0 2) ∗ ((∃ f, accP (F := F) c f)) ∗ (AG v c 0 1)) ∗ OutS c ob ou (2) (1) (0) ∗ Owing (F := F) c 64 ∗ InsP c arg1 arg2 arg3 arg4 arg5 x wq wo kk vv ∗ AtS c x wq kk vv 8) from ?_) ?_
  · iintro ⟨#HK, ⟨⟨HR, GB, HI, HT, AW, GG, HA⟩, HS, SG⟩, AA, HO⟩
    ihave HZ := (ag_sent v c 0) $$ [AA AW SG]
    · isplitl [AA]; · iexact AA
      isplitl [AW]; · iexact AW
      iexact SG
    icases HZ with HN
    isplitr; · iexact HK
    isplitl [HR GB GG HA HN]
    · isplitl [HR]; · iexact HR
      isplitl [GB]; · iexact GB
      isplitl [GG]; · iexact GG
      isplitl [HA]; · iexact HA
      iexact HN
    isplitl [HS]; · iexact HS
    isplitl [HO]; · iexact HO
    isplitl [HI]; · iexact HI
    iexact HT
  exact wp_done c (BI.Entails.refl _)

end Cert.RsAg
-- ==== Proof.Body2.lean ====
/-
# The body at the grid point of batch 2
-/
module

public import proofs.«01_k».proof.Proof.Phases
public import proofs.«01_k».proof.Proof.Attn
public import proofs.«01_k».proof.Proof.First
public import proofs.«01_k».proof.Proof.Issue
public import proofs.«01_k».proof.Proof.Store
public import proofs.«01_k».proof.Proof.Reduce
public import proofs.«01_k».proof.Proof.Gather

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The guards of the body. -/
theorem body2_guards : (∀ i : grid0.Coords, k0_cond1 i = 1#1 ↔ (i 0).val = 0) ∧ (∀ i : grid0.Coords, k0_cond34 i = 1#1 ↔ 2 ≤ (i 0).val)
    ∧ (∀ i : grid0.Coords, k0_cond51 i = 1#1 ↔ 1 ≤ (i 0).val) ∧ ∀ i : grid0.Coords, k0_cond84 i = 1#1 ↔ (i 0).val = 3 := by decide

set_option maxHeartbeats 8000000 in
/-- The body of batch 2. -/
theorem body2 (c : Dev nD) (hb : (i 0).val = 2) (x : S1x256x1024.Idx → Elt F .f32) (wq wo : S1024x1024.Idx → Elt F .f32) (kk vv : S1x1024x8x128.Idx → Elt F .f32) (ob ou : S4x256x1024.Idx → Elt F .f32)
    (hou : ∀ (g : Fin 4) (d : Fin 16), d ≠ c → ∀ j : S1x16x1024.Idx, k0_pay1 (slotV v.agB g d) j = ou (ix3 g (rowOf d (j 1)) (j 2)))
    (hW : ∀ (g : Fin 4) (j : S1x16x1024.Idx), k0_pay35 (accS v (k0_pay18 (rowsV ob g c)) c g 16) j = ou (ix3 g (rowOf c (j 1)) (j 2)))
    (hU : ∀ (g : Fin 4) (j : S1x16x1024.Idx), k0_pay36 (accS v (k0_pay18 (rowsV ob g c)) c g 16) j = v.ags c (ix3 g (j 1) (j 2)))
    (hw : ∀ j : S1x256x1024.Idx, oV x wq wo kk vv j = ob (ix3 2 (j 1) (j 2))) (hu : ∀ j : S1x256x1024.Idx, k0_pay104 (oV x wq wo kk vv) j = v.stg c (ix3 2 (j 1) (j 2))) (R : sProp 𝕄) :
    iprop((Known v K ∗ (R ∗ (∃ f, accP (F := F) c f) ∗ (RS v c 1 1) ∗ (AG v c 0 1) ∗ (AG v c 1 0)) ∗ RS v c 2 0 ∗ OutS c ob ou (2) (1) (0) ∗ Owing (F := F) c 64) ∗ InsP c arg1 arg2 arg3 arg4 arg5 x wq wo kk vv ∗ AtS c x wq kk vv 0) ⊢ Wp c (cc0__fused_body (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(Known v K ∗ (R ∗ (AG v c 0 2) ∗ (RS v c 2 1) ∗ (RS v c 1 2) ∗ ((∃ f, accP (F := F) c f)) ∗ (AG v c 1 1)) ∗ OutS c ob ou (3) (2) (16) ∗ Owing (F := F) c 96 ∗ InsP c arg1 arg2 arg3 arg4 arg5 x wq wo kk vv ∗ AtS c x wq kk vv 8)) := by
  obtain ⟨cond1_iff, cond34_iff, cond51_iff, cond84_iff⟩ := body2_guards
  rw [cc0__fused_body_eq_skeleton]; unfold cc0__fused_body_skel
  refine wp_call c (part29_later i arg1 harg1 arg2 harg2 arg3 harg3 arg4 harg4 arg5 harg5 c x wq wo kk vv (fun h => by have := (cond1_iff i).1 h; omega) _) fun r => pure_elim fun hr => ?_
  subst hr
  refine BI.Entails.trans (show iprop((Known v K ∗ (R ∗ (∃ f, accP (F := F) c f) ∗ (RS v c 1 1) ∗ (AG v c 0 1) ∗ (AG v c 1 0)) ∗ RS v c 2 0 ∗ OutS c ob ou (2) (1) (0) ∗ Owing (F := F) c 64) ∗ InsP c arg1 arg2 arg3 arg4 arg5 x wq wo kk vv ∗ AtS c x wq kk vv 0) ⊢ iprop((Known v K ∗ ((R ∗ (∃ f, accP (F := F) c f) ∗ (RS v c 1 1) ∗ (AG v c 0 1) ∗ (AG v c 1 0)) ∗ bigSep (others c) (rsWt (F := F) c 2)) ∗ (bigSep (others c) (fun e => iprop(rsTok (F := F) c 2 e ∗ ∃ f, rsP (F := F) e 2 c f)) ∗ ∃ f, bigP (F := F) c 2 f) ∗ OutS c ob ou (2) (1) (0) ∗ Owing (F := F) c (rsBase 2 + 0)) ∗ InsP c arg1 arg2 arg3 arg4 arg5 x wq wo kk vv ∗ AtS c x wq kk vv 0) from ?_) ?_
  · iintro ⟨⟨#HK, ⟨HR, HA, G1, H0, H1⟩, GB, HS, HO⟩, HI, HT⟩
    ihave HZ := ((show RS v c 2 0 ⊢ iprop((bigSep (others c) (fun e => iprop(rsTok (F := F) c 2 e ∗ ∃ f, rsP (F := F) e 2 c f)) ∗ bigSep (others c) (rsWt (F := F) c 2) ∗ ∃ f, bigP (F := F) c 2 f)) from .refl)) $$ GB
    icases HZ with ⟨T0, W0, B0⟩
    isplitl [HR HA G1 H0 H1 W0 T0 B0 HS HO]
    · isplitr; · iexact HK
      isplitl [HR HA G1 H0 H1 W0]
      · isplitl [HR HA G1 H0 H1]
        · isplitl [HR]; · iexact HR
          isplitl [HA]; · iexact HA
          isplitl [G1]; · iexact G1
          isplitl [H0]; · iexact H0
          iexact H1
        iexact W0
      isplitl [T0 B0]
      · isplitl [T0]; · iexact T0
        iexact B0
      isplitl [HS]; · iexact HS
      iexact HO
    isplitl [HI]; · iexact HI
    iexact HT
  refine wp_call c (part30_spec i arg1 harg1 arg2 harg2 arg3 harg3 arg4 harg4 arg5 harg5 c x wq wo kk vv _) fun r => pure_elim fun hr => ?_
  subst hr
  refine wp_call c (part31_spec i arg1 harg1 arg2 harg2 arg3 harg3 arg4 harg4 arg5 harg5 c x wq wo kk vv _) fun r => pure_elim fun hr => ?_
  subst hr
  refine wp_call c (part32_spec i arg1 harg1 arg2 harg2 arg3 harg3 arg4 harg4 arg5 harg5 c x wq wo kk vv _) fun r => pure_elim fun hr => ?_
  subst hr
  refine wp_call c (part33_spec i arg1 harg1 arg2 harg2 arg3 harg3 arg4 harg4 arg5 harg5 c x wq wo kk vv _) fun r => pure_elim fun hr => ?_
  subst hr
  refine wp_call c (part34_spec v K i arg1 harg1 arg2 harg2 arg3 harg3 arg4 harg4 arg5 harg5 c 2 hb x wq wo kk vv ob ou (1) (0) (Nat.le_of_ble_eq_true rfl) (Nat.le_of_ble_eq_true rfl) hw hu _ _) fun r => ?_
  refine wp_call c (part35_spec v K i arg1 harg1 arg2 harg2 arg3 harg3 arg4 harg4 arg5 harg5 c 2 hb r _) fun r => ?_
  refine step_rs_send v K c 2 14 (by decide) (cond32 c) k0_dev31_eq ((k0_off58_eq i).trans (by rw [show (i 0).val = (2 : Fin 4).val from hb])) ((k0_off59_eq i c).trans (by rw [show (i 0).val = (2 : Fin 4).val from hb])) ((k0_off60_eq i c).trans (by rw [show (i 0).val = (2 : Fin 4).val from hb])) ((k0_off61_eq i).trans (by rw [show (i 0).val = (2 : Fin 4).val from hb])) ?_
  refine step_rs_send v K c 2 15 (by decide) (cond33 c) k0_dev32_eq ((k0_off62_eq i).trans (by rw [show (i 0).val = (2 : Fin 4).val from hb])) ((k0_off63_eq i c).trans (by rw [show (i 0).val = (2 : Fin 4).val from hb])) ((k0_off64_eq i c).trans (by rw [show (i 0).val = (2 : Fin 4).val from hb])) ((k0_off65_eq i).trans (by rw [show (i 0).val = (2 : Fin 4).val from hb])) ?_
  refine wp_if_pos c ((cond34_iff i).2 (by omega)) ?_
  refine BI.Entails.trans (show iprop(Known v K ∗ ((((R ∗ (∃ f, accP (F := F) c f) ∗ (RS v c 1 1) ∗ (AG v c 0 1) ∗ (AG v c 1 0)) ∗ bigSep (others c) (rsWt (F := F) c 2)) ∗ InsP c arg1 arg2 arg3 arg4 arg5 x wq wo kk vv ∗ AtS c x wq kk vv 8) ∗ OutS c ob ou (3) (1) (0) ∗ stP c 2 c (v.stg c)) ∗ fam c (rsA v c 2) (rsB c 2) 16 ∗ Owing (F := F) c (rsBase 2 + 16)) ⊢ iprop(Known v K ∗ (R ∗ (∃ f, accP (F := F) c f) ∗ (RS v c 1 1) ∗ (AG v c 1 0) ∗ (InsP c arg1 arg2 arg3 arg4 arg5 x wq wo kk vv) ∗ (AtS c x wq kk vv 8) ∗ (RS v c 2 1) ∗ (sgRest v c 0)) ∗ fam c (agW (F := F) c 0) (agD v c 0) 0 ∗ OutS c ob ou (3) (1) (16 * (0 : Fin 4).val + 0) ∗ Owing (F := F) c 80) from ?_) ?_
  · iintro ⟨#HK, ⟨⟨⟨⟨HR, HA, G1, H0, H1⟩, W0⟩, HI, HT⟩, HS, HST⟩, HF, HO⟩
    ihave HZ := (rs_sent v c 2) $$ [HF W0 HST]
    · isplitl [HF]; · iexact HF
      isplitl [W0]; · iexact W0
      iexact HST
    icases HZ with GB
    ihave HZ := (ag_open v c 0) $$ H0
    icases HZ with ⟨AA, SG⟩
    isplitr; · iexact HK
    isplitl [HR HA G1 H1 HI HT GB SG]
    · isplitl [HR]; · iexact HR
      isplitl [HA]; · iexact HA
      isplitl [G1]; · iexact G1
      isplitl [H1]; · iexact H1
      isplitl [HI]; · iexact HI
      isplitl [HT]; · iexact HT
      isplitl [GB]; · iexact GB
      iexact SG
    isplitl [AA]; · iexact AA
    isplitl [HS]; · iexact HS
    iexact HO
  refine wp_call c (part2_spec v K i arg1 harg1 arg2 harg2 arg3 harg3 arg4 harg4 arg5 harg5 c 0 hb 80 ob ou (3) (1) hou (fun _ => Nat.le_of_ble_eq_true rfl) (fun _ => Nat.le_of_ble_eq_true rfl) ((cond34_iff i).2 (by omega)) _ _) fun r => ?_
  refine step_ag_store v K c 0 9 (by decide) 80 ob ou (3) (1) hou (Nat.le_of_ble_eq_true rfl) (Nat.le_of_ble_eq_true rfl) rfl (cond44 c) (off111 i 0 hb) (off112 i 0 hb) (off113 i 0 hb) (off114 i 0 hb) (off115 i 0 hb) ?_
  refine step_ag_store v K c 0 10 (by decide) 80 ob ou (3) (1) hou (Nat.le_of_ble_eq_true rfl) (Nat.le_of_ble_eq_true rfl) rfl (cond45 c) (off116 i 0 hb) (off117 i 0 hb) (off118 i 0 hb) (off119 i 0 hb) (off120 i 0 hb) ?_
  refine step_ag_store v K c 0 11 (by decide) 80 ob ou (3) (1) hou (Nat.le_of_ble_eq_true rfl) (Nat.le_of_ble_eq_true rfl) rfl (cond46 c) (off121 i 0 hb) (off122 i 0 hb) (off123 i 0 hb) (off124 i 0 hb) (off125 i 0 hb) ?_
  refine step_ag_store v K c 0 12 (by decide) 80 ob ou (3) (1) hou (Nat.le_of_ble_eq_true rfl) (Nat.le_of_ble_eq_true rfl) rfl (cond47 c) (off126 i 0 hb) (off127 i 0 hb) (off128 i 0 hb) (off129 i 0 hb) (off130 i 0 hb) ?_
  refine step_ag_store v K c 0 13 (by decide) 80 ob ou (3) (1) hou (Nat.le_of_ble_eq_true rfl) (Nat.le_of_ble_eq_true rfl) rfl (cond48 c) (off131 i 0 hb) (off132 i 0 hb) (off133 i 0 hb) (off134 i 0 hb) (off135 i 0 hb) ?_
  refine step_ag_store v K c 0 14 (by decide) 80 ob ou (3) (1) hou (Nat.le_of_ble_eq_true rfl) (Nat.le_of_ble_eq_true rfl) rfl (cond49 c) (off136 i 0 hb) (off137 i 0 hb) (off138 i 0 hb) (off139 i 0 hb) (off140 i 0 hb) ?_
  refine step_ag_store v K c 0 15 (by decide) 80 ob ou (3) (1) hou (Nat.le_of_ble_eq_true rfl) (Nat.le_of_ble_eq_true rfl) rfl (cond50 c) (off141 i 0 hb) (off142 i 0 hb) (off143 i 0 hb) (off144 i 0 hb) (off145 i 0 hb) ?_
  refine wp_if_pos c ((cond51_iff i).2 (by omega)) ?_
  refine BI.Entails.trans (show iprop(Known v K ∗ (R ∗ (∃ f, accP (F := F) c f) ∗ (RS v c 1 1) ∗ (AG v c 1 0) ∗ (InsP c arg1 arg2 arg3 arg4 arg5 x wq wo kk vv) ∗ (AtS c x wq kk vv 8) ∗ (RS v c 2 1) ∗ (sgRest v c 0)) ∗ fam c (agW (F := F) c 0) (agD v c 0) 16 ∗ OutS c ob ou (3) (1) (16 * (0 : Fin 4).val + 16) ∗ Owing (F := F) c 80) ⊢ iprop(Known v K ∗ (R ∗ (AG v c 0 2) ∗ (RS v c 2 1) ∗ (InsP c arg1 arg2 arg3 arg4 arg5 x wq wo kk vv) ∗ (AtS c x wq kk vv 8) ∗ (stP c 1 c (v.stg c)) ∗ ((bigSep (others c) (fun e => iprop(agTok (F := F) c 1 e ∗ ∃ f, agP (F := F) e 1 c f)) ∗ ∃ f, sgP (F := F) c 1 fullShare f)) ∗ (bigSep (others c) (agWt (F := F) c 1))) ∗ fam c (rsW (F := F) c 1) (rsD v c 1) 0 ∗ (∃ f, accP (F := F) c f) ∗ OutS c ob ou (3) (1) (16) ∗ Owing (F := F) c 80) from ?_) ?_
  · iintro ⟨#HK, ⟨HR, HA, G1, H1, HI, HT, GB, SG⟩, AA, HS, HO⟩
    ihave HZ := (ag_got v c 0) $$ [AA SG]
    · isplitl [AA]; · iexact AA
      iexact SG
    icases HZ with H0
    ihave HZ := (rs_open v c 1) $$ G1
    icases HZ with ⟨RR, ST⟩
    ihave HZ := ((show AG v c 1 0 ⊢ iprop((bigSep (others c) (fun e => iprop(agTok (F := F) c 1 e ∗ ∃ f, agP (F := F) e 1 c f)) ∗ bigSep (others c) (agWt (F := F) c 1) ∗ ∃ f, sgP (F := F) c 1 fullShare f)) from .refl)) $$ H1
    icases HZ with ⟨AT, AW, AB⟩
    isplitr; · iexact HK
    isplitl [HR H0 GB HI HT ST AT AB AW]
    · isplitl [HR]; · iexact HR
      isplitl [H0]; · iexact H0
      isplitl [GB]; · iexact GB
      isplitl [HI]; · iexact HI
      isplitl [HT]; · iexact HT
      isplitl [ST]; · iexact ST
      isplitl [AT AB]
      · isplitl [AT]; · iexact AT
        iexact AB
      iexact AW
    isplitl [RR]; · iexact RR
    isplitl [HA]; · iexact HA
    isplitl [HS]; · iexact HS
    iexact HO
  refine wp_call c (part3_spec v K i arg1 harg1 arg2 harg2 arg3 harg3 arg4 harg4 arg5 harg5 c 1 hb 80 ob ou (3) (1) (16) (fun _ => Nat.le_of_ble_eq_true rfl) (fun _ => Nat.le_of_ble_eq_true rfl) (Nat.le_of_ble_eq_true rfl) (Nat.le_of_ble_eq_true rfl) ((cond51_iff i).2 (by omega)) _ _) fun r => ?_
  obtain ⟨v251, v282⟩ := r
  refine wp_call c (part4_spec v K i arg1 harg1 arg2 harg2 arg3 harg3 arg4 harg4 arg5 harg5 c 1 hb 80 ob ou (3) (1) (16) (fun _ => Nat.le_of_ble_eq_true rfl) (fun _ => Nat.le_of_ble_eq_true rfl) (k0_pay18 (rowsV ob 1 c)) ((cond51_iff i).2 (by omega)) v251 v282 _) fun r => pure_elim fun hr => ?_
  obtain ⟨v308, v312⟩ := r
  obtain rfl : v308 = accS v (k0_pay18 (rowsV ob 1 c)) c 1 16 := hr
  refine BI.Entails.trans (show iprop(Known v K ∗ ((R ∗ (AG v c 0 2) ∗ (RS v c 2 1) ∗ (InsP c arg1 arg2 arg3 arg4 arg5 x wq wo kk vv) ∗ (AtS c x wq kk vv 8) ∗ (stP c 1 c (v.stg c)) ∗ ((bigSep (others c) (fun e => iprop(agTok (F := F) c 1 e ∗ ∃ f, agP (F := F) e 1 c f)) ∗ ∃ f, sgP (F := F) c 1 fullShare f)) ∗ (bigSep (others c) (agWt (F := F) c 1))) ∗ OutS c ob ou (3) (1) (16)) ∗ fam c (rsW (F := F) c 1) (rsD v c 1) 16 ∗ accP c (accS v (k0_pay18 (rowsV ob 1 c)) c 1 16) ∗ Owing (F := F) c 80) ⊢ iprop(Known v K ∗ (R ∗ (AG v c 0 2) ∗ (RS v c 2 1) ∗ (InsP c arg1 arg2 arg3 arg4 arg5 x wq wo kk vv) ∗ (AtS c x wq kk vv 8) ∗ (bigSep (others c) (agWt (F := F) c 1)) ∗ (RS v c 1 2) ∗ ((∃ f, accP (F := F) c f))) ∗ (bigSep (others c) (fun e => iprop(agTok (F := F) c 1 e ∗ ∃ f, agP (F := F) e 1 c f)) ∗ ∃ f, sgP (F := F) c 1 fullShare f) ∗ OutS c ob ou (3) ((1 : Fin 4).val) (16) ∗ Owing (F := F) c (agBase 1 + 0)) from ?_) ?_
  · iintro ⟨#HK, ⟨⟨HR, H0, GB, HI, HT, ST, AGR, AW⟩, HS⟩, RR, HA, HO⟩
    ihave HZ := (rs_got v c 1) $$ [RR ST]
    · isplitl [RR]; · iexact RR
      iexact ST
    icases HZ with GG
    ihave HZ := ((show accP c (accS v (k0_pay18 (rowsV ob 1 c)) c 1 16) ⊢ iprop(∃ f, accP (F := F) c f) from by iintro H; iexists _; iexact H)) $$ HA
    icases HZ with HA
    isplitr; · iexact HK
    isplitl [HR H0 GB HI HT AW GG HA]
    · isplitl [HR]; · iexact HR
      isplitl [H0]; · iexact H0
      isplitl [GB]; · iexact GB
      isplitl [HI]; · iexact HI
      isplitl [HT]; · iexact HT
      isplitl [AW]; · iexact AW
      isplitl [GG]; · iexact GG
      iexact HA
    isplitl [AGR]; · iexact AGR
    isplitl [HS]; · iexact HS
    iexact HO
  refine wp_call c (part5_spec v K i arg1 harg1 arg2 harg2 arg3 harg3 arg4 harg4 arg5 harg5 c 1 hb ob ou (3) (16) (accS v (k0_pay18 (rowsV ob 1 c)) c 1 16) (hW 1) (hU 1) ((cond51_iff i).2 (by omega)) v251 v312 _) fun r => ?_
  refine step_ag_send v K c 1 8 (by decide) (cond76 c) k0_dev41_eq (off244 i 1 hb) (off245 i 1 c hb) (off246 i 1 c hb) (off247 i 1 hb) ?_
  refine step_ag_send v K c 1 9 (by decide) (cond77 c) k0_dev42_eq (off248 i 1 hb) (off249 i 1 c hb) (off250 i 1 c hb) (off251 i 1 hb) ?_
  refine step_ag_send v K c 1 10 (by decide) (cond78 c) k0_dev43_eq (off252 i 1 hb) (off253 i 1 c hb) (off254 i 1 c hb) (off255 i 1 hb) ?_
  refine step_ag_send v K c 1 11 (by decide) (cond79 c) k0_dev44_eq (off256 i 1 hb) (off257 i 1 c hb) (off258 i 1 c hb) (off259 i 1 hb) ?_
  refine step_ag_send v K c 1 12 (by decide) (cond80 c) k0_dev45_eq (off260 i 1 hb) (off261 i 1 c hb) (off262 i 1 c hb) (off263 i 1 hb) ?_
  refine step_ag_send v K c 1 13 (by decide) (cond81 c) k0_dev46_eq (off264 i 1 hb) (off265 i 1 c hb) (off266 i 1 c hb) (off267 i 1 hb) ?_
  refine step_ag_send v K c 1 14 (by decide) (cond82 c) k0_dev47_eq (off268 i 1 hb) (off269 i 1 c hb) (off270 i 1 c hb) (off271 i 1 hb) ?_
  refine step_ag_send v K c 1 15 (by decide) (cond83 c) k0_dev48_eq (off272 i 1 hb) (off273 i 1 c hb) (off274 i 1 c hb) (off275 i 1 hb) ?_
  refine wp_if_neg c (fun h => by have := (cond84_iff i).1 h; omega) ?_
  refine BI.Entails.trans (show iprop(Known v K ∗ ((R ∗ (AG v c 0 2) ∗ (RS v c 2 1) ∗ (InsP c arg1 arg2 arg3 arg4 arg5 x wq wo kk vv) ∗ (AtS c x wq kk vv 8) ∗ (bigSep (others c) (agWt (F := F) c 1)) ∗ (RS v c 1 2) ∗ ((∃ f, accP (F := F) c f))) ∗ OutS c ob ou (3) ((1 : Fin 4).val + 1) (16) ∗ sgRest v c 1) ∗ fam c (agA v c 1) (agB c 1) 16 ∗ Owing (F := F) c (agBase 1 + 16)) ⊢ iprop(Known v K ∗ (R ∗ (AG v c 0 2) ∗ (RS v c 2 1) ∗ (RS v c 1 2) ∗ ((∃ f, accP (F := F) c f)) ∗ (AG v c 1 1)) ∗ OutS c ob ou (3) (2) (16) ∗ Owing (F := F) c 96 ∗ InsP c arg1 arg2 arg3 arg4 arg5 x wq wo kk vv ∗ AtS c x wq kk vv 8) from ?_) ?_
  · iintro ⟨#HK, ⟨⟨HR, H0, GB, HI, HT, AW, GG, HA⟩, HS, SG⟩, AA, HO⟩
    ihave HZ := (ag_sent v c 1) $$ [AA AW SG]
    · isplitl [AA]; · iexact AA
      isplitl [AW]; · iexact AW
      iexact SG
    icases HZ with HN
    isplitr; · iexact HK
    isplitl [HR H0 GB GG HA HN]
    · isplitl [HR]; · iexact HR
      isplitl [H0]; · iexact H0
      isplitl [GB]; · iexact GB
      isplitl [GG]; · iexact GG
      isplitl [HA]; · iexact HA
      iexact HN
    isplitl [HS]; · iexact HS
    isplitl [HO]; · iexact HO
    isplitl [HI]; · iexact HI
    iexact HT
  exact wp_done c (BI.Entails.refl _)

end Cert.RsAg
-- ==== Proof.SumA.lean ====
/-
# The additions of the last batch, the peers 0 to 7
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The chunk of peer 0 is waited for and added. -/
theorem part6_spec (c : Dev nD) (n : ℕ) (hl1 : levelOf (some (c, some (1, 3, (⟨0, by decide⟩ : Dev nD)))) ≤ n / 16) (hl0 : levelOf (some (c, some (0, 3, (⟨0, by decide⟩ : Dev nD)))) ≤ n / 16)
    (R : sProp 𝕄) (hdc : (⟨0, by decide⟩ : Dev nD) ≠ c) (a : S16x1024.Idx → Elt F .f32) :
    iprop(Known v K ∗ R ∗ rsW (F := F) c 3 (⟨0, by decide⟩ : Dev nD) ∗ accP c a ∗ Owing (F := F) c n) ⊢ Wp c (k0_part6 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨0, by decide⟩ : Dev nD) ∗ accP c (k0_pay19 a (slotV (v.rsB c) 3 (⟨0, by decide⟩ : Dev nD))) ∗ Owing (F := F) c n)) := by
  rw [k0_part6_eq_skeleton]; unfold k0_part6_skel
  simp only [Prog.lift, Prog.bind_op, Prog.bind_ret, Prog.pure_eq_ret]
  refine red_core v K c 3 (⟨0, by decide⟩ : Dev nD) hdc n a hl1 hl0 (pay := k0_pay19) rfl rfl rfl rfl ?_
  rw [Wp, wp_ret]; exact fupd_intro

/-- The chunk of peer 1 is waited for and added. -/
theorem part7_spec (c : Dev nD) (n : ℕ) (hl1 : levelOf (some (c, some (1, 3, (⟨1, by decide⟩ : Dev nD)))) ≤ n / 16) (hl0 : levelOf (some (c, some (0, 3, (⟨1, by decide⟩ : Dev nD)))) ≤ n / 16)
    (R : sProp 𝕄) (hdc : (⟨1, by decide⟩ : Dev nD) ≠ c) (a : S16x1024.Idx → Elt F .f32) :
    iprop(Known v K ∗ R ∗ rsW (F := F) c 3 (⟨1, by decide⟩ : Dev nD) ∗ accP c a ∗ Owing (F := F) c n) ⊢ Wp c (k0_part7 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨1, by decide⟩ : Dev nD) ∗ accP c (k0_pay19 a (slotV (v.rsB c) 3 (⟨1, by decide⟩ : Dev nD))) ∗ Owing (F := F) c n)) := by
  rw [k0_part7_eq_skeleton]; unfold k0_part7_skel
  simp only [Prog.lift, Prog.bind_op, Prog.bind_ret, Prog.pure_eq_ret]
  refine red_core v K c 3 (⟨1, by decide⟩ : Dev nD) hdc n a hl1 hl0 (pay := k0_pay19) rfl rfl rfl rfl ?_
  rw [Wp, wp_ret]; exact fupd_intro

/-- The chunk of peer 2 is waited for and added. -/
theorem part8_spec (c : Dev nD) (n : ℕ) (hl1 : levelOf (some (c, some (1, 3, (⟨2, by decide⟩ : Dev nD)))) ≤ n / 16) (hl0 : levelOf (some (c, some (0, 3, (⟨2, by decide⟩ : Dev nD)))) ≤ n / 16)
    (R : sProp 𝕄) (hdc : (⟨2, by decide⟩ : Dev nD) ≠ c) (a : S16x1024.Idx → Elt F .f32) :
    iprop(Known v K ∗ R ∗ rsW (F := F) c 3 (⟨2, by decide⟩ : Dev nD) ∗ accP c a ∗ Owing (F := F) c n) ⊢ Wp c (k0_part8 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨2, by decide⟩ : Dev nD) ∗ accP c (k0_pay19 a (slotV (v.rsB c) 3 (⟨2, by decide⟩ : Dev nD))) ∗ Owing (F := F) c n)) := by
  rw [k0_part8_eq_skeleton]; unfold k0_part8_skel
  simp only [Prog.lift, Prog.bind_op, Prog.bind_ret, Prog.pure_eq_ret]
  refine red_core v K c 3 (⟨2, by decide⟩ : Dev nD) hdc n a hl1 hl0 (pay := k0_pay19) rfl rfl rfl rfl ?_
  rw [Wp, wp_ret]; exact fupd_intro

/-- The chunk of peer 3 is waited for and added. -/
theorem part9_spec (c : Dev nD) (n : ℕ) (hl1 : levelOf (some (c, some (1, 3, (⟨3, by decide⟩ : Dev nD)))) ≤ n / 16) (hl0 : levelOf (some (c, some (0, 3, (⟨3, by decide⟩ : Dev nD)))) ≤ n / 16)
    (R : sProp 𝕄) (hdc : (⟨3, by decide⟩ : Dev nD) ≠ c) (a : S16x1024.Idx → Elt F .f32) :
    iprop(Known v K ∗ R ∗ rsW (F := F) c 3 (⟨3, by decide⟩ : Dev nD) ∗ accP c a ∗ Owing (F := F) c n) ⊢ Wp c (k0_part9 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨3, by decide⟩ : Dev nD) ∗ accP c (k0_pay19 a (slotV (v.rsB c) 3 (⟨3, by decide⟩ : Dev nD))) ∗ Owing (F := F) c n)) := by
  rw [k0_part9_eq_skeleton]; unfold k0_part9_skel
  simp only [Prog.lift, Prog.bind_op, Prog.bind_ret, Prog.pure_eq_ret]
  refine red_core v K c 3 (⟨3, by decide⟩ : Dev nD) hdc n a hl1 hl0 (pay := k0_pay19) rfl rfl rfl rfl ?_
  rw [Wp, wp_ret]; exact fupd_intro

/-- The chunk of peer 4 is waited for and added. -/
theorem part10_spec (c : Dev nD) (n : ℕ) (hl1 : levelOf (some (c, some (1, 3, (⟨4, by decide⟩ : Dev nD)))) ≤ n / 16) (hl0 : levelOf (some (c, some (0, 3, (⟨4, by decide⟩ : Dev nD)))) ≤ n / 16)
    (R : sProp 𝕄) (hdc : (⟨4, by decide⟩ : Dev nD) ≠ c) (a : S16x1024.Idx → Elt F .f32) :
    iprop(Known v K ∗ R ∗ rsW (F := F) c 3 (⟨4, by decide⟩ : Dev nD) ∗ accP c a ∗ Owing (F := F) c n) ⊢ Wp c (k0_part10 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨4, by decide⟩ : Dev nD) ∗ accP c (k0_pay19 a (slotV (v.rsB c) 3 (⟨4, by decide⟩ : Dev nD))) ∗ Owing (F := F) c n)) := by
  rw [k0_part10_eq_skeleton]; unfold k0_part10_skel
  simp only [Prog.lift, Prog.bind_op, Prog.bind_ret, Prog.pure_eq_ret]
  refine red_core v K c 3 (⟨4, by decide⟩ : Dev nD) hdc n a hl1 hl0 (pay := k0_pay19) rfl rfl rfl rfl ?_
  rw [Wp, wp_ret]; exact fupd_intro

/-- The chunk of peer 5 is waited for and added. -/
theorem part11_spec (c : Dev nD) (n : ℕ) (hl1 : levelOf (some (c, some (1, 3, (⟨5, by decide⟩ : Dev nD)))) ≤ n / 16) (hl0 : levelOf (some (c, some (0, 3, (⟨5, by decide⟩ : Dev nD)))) ≤ n / 16)
    (R : sProp 𝕄) (hdc : (⟨5, by decide⟩ : Dev nD) ≠ c) (a : S16x1024.Idx → Elt F .f32) :
    iprop(Known v K ∗ R ∗ rsW (F := F) c 3 (⟨5, by decide⟩ : Dev nD) ∗ accP c a ∗ Owing (F := F) c n) ⊢ Wp c (k0_part11 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨5, by decide⟩ : Dev nD) ∗ accP c (k0_pay19 a (slotV (v.rsB c) 3 (⟨5, by decide⟩ : Dev nD))) ∗ Owing (F := F) c n)) := by
  rw [k0_part11_eq_skeleton]; unfold k0_part11_skel
  simp only [Prog.lift, Prog.bind_op, Prog.bind_ret, Prog.pure_eq_ret]
  refine red_core v K c 3 (⟨5, by decide⟩ : Dev nD) hdc n a hl1 hl0 (pay := k0_pay19) rfl rfl rfl rfl ?_
  rw [Wp, wp_ret]; exact fupd_intro

/-- The chunk of peer 6 is waited for and added. -/
theorem part12_spec (c : Dev nD) (n : ℕ) (hl1 : levelOf (some (c, some (1, 3, (⟨6, by decide⟩ : Dev nD)))) ≤ n / 16) (hl0 : levelOf (some (c, some (0, 3, (⟨6, by decide⟩ : Dev nD)))) ≤ n / 16)
    (R : sProp 𝕄) (hdc : (⟨6, by decide⟩ : Dev nD) ≠ c) (a : S16x1024.Idx → Elt F .f32) :
    iprop(Known v K ∗ R ∗ rsW (F := F) c 3 (⟨6, by decide⟩ : Dev nD) ∗ accP c a ∗ Owing (F := F) c n) ⊢ Wp c (k0_part12 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨6, by decide⟩ : Dev nD) ∗ accP c (k0_pay19 a (slotV (v.rsB c) 3 (⟨6, by decide⟩ : Dev nD))) ∗ Owing (F := F) c n)) := by
  rw [k0_part12_eq_skeleton]; unfold k0_part12_skel
  simp only [Prog.lift, Prog.bind_op, Prog.bind_ret, Prog.pure_eq_ret]
  refine red_core v K c 3 (⟨6, by decide⟩ : Dev nD) hdc n a hl1 hl0 (pay := k0_pay19) rfl rfl rfl rfl ?_
  rw [Wp, wp_ret]; exact fupd_intro

/-- The chunk of peer 7 is waited for and added. -/
theorem part13_spec (c : Dev nD) (n : ℕ) (hl1 : levelOf (some (c, some (1, 3, (⟨7, by decide⟩ : Dev nD)))) ≤ n / 16) (hl0 : levelOf (some (c, some (0, 3, (⟨7, by decide⟩ : Dev nD)))) ≤ n / 16)
    (R : sProp 𝕄) (hdc : (⟨7, by decide⟩ : Dev nD) ≠ c) (a : S16x1024.Idx → Elt F .f32) :
    iprop(Known v K ∗ R ∗ rsW (F := F) c 3 (⟨7, by decide⟩ : Dev nD) ∗ accP c a ∗ Owing (F := F) c n) ⊢ Wp c (k0_part13 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨7, by decide⟩ : Dev nD) ∗ accP c (k0_pay19 a (slotV (v.rsB c) 3 (⟨7, by decide⟩ : Dev nD))) ∗ Owing (F := F) c n)) := by
  rw [k0_part13_eq_skeleton]; unfold k0_part13_skel
  simp only [Prog.lift, Prog.bind_op, Prog.bind_ret, Prog.pure_eq_ret]
  refine red_core v K c 3 (⟨7, by decide⟩ : Dev nD) hdc n a hl1 hl0 (pay := k0_pay19) rfl rfl rfl rfl ?_
  rw [Wp, wp_ret]; exact fupd_intro

end Cert.RsAg
-- ==== Proof.SumB.lean ====
/-
# The additions of the last batch, the peers 8 to 15
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The chunk of peer 8 is waited for and added. -/
theorem part14_spec (c : Dev nD) (n : ℕ) (hl1 : levelOf (some (c, some (1, 3, (⟨8, by decide⟩ : Dev nD)))) ≤ n / 16) (hl0 : levelOf (some (c, some (0, 3, (⟨8, by decide⟩ : Dev nD)))) ≤ n / 16)
    (R : sProp 𝕄) (hdc : (⟨8, by decide⟩ : Dev nD) ≠ c) (a : S16x1024.Idx → Elt F .f32) :
    iprop(Known v K ∗ R ∗ rsW (F := F) c 3 (⟨8, by decide⟩ : Dev nD) ∗ accP c a ∗ Owing (F := F) c n) ⊢ Wp c (k0_part14 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨8, by decide⟩ : Dev nD) ∗ accP c (k0_pay19 a (slotV (v.rsB c) 3 (⟨8, by decide⟩ : Dev nD))) ∗ Owing (F := F) c n)) := by
  rw [k0_part14_eq_skeleton]; unfold k0_part14_skel
  simp only [Prog.lift, Prog.bind_op, Prog.bind_ret, Prog.pure_eq_ret]
  refine red_core v K c 3 (⟨8, by decide⟩ : Dev nD) hdc n a hl1 hl0 (pay := k0_pay19) rfl rfl rfl rfl ?_
  rw [Wp, wp_ret]; exact fupd_intro

/-- The chunk of peer 9 is waited for and added. -/
theorem part15_spec (c : Dev nD) (n : ℕ) (hl1 : levelOf (some (c, some (1, 3, (⟨9, by decide⟩ : Dev nD)))) ≤ n / 16) (hl0 : levelOf (some (c, some (0, 3, (⟨9, by decide⟩ : Dev nD)))) ≤ n / 16)
    (R : sProp 𝕄) (hdc : (⟨9, by decide⟩ : Dev nD) ≠ c) (a : S16x1024.Idx → Elt F .f32) :
    iprop(Known v K ∗ R ∗ rsW (F := F) c 3 (⟨9, by decide⟩ : Dev nD) ∗ accP c a ∗ Owing (F := F) c n) ⊢ Wp c (k0_part15 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨9, by decide⟩ : Dev nD) ∗ accP c (k0_pay19 a (slotV (v.rsB c) 3 (⟨9, by decide⟩ : Dev nD))) ∗ Owing (F := F) c n)) := by
  rw [k0_part15_eq_skeleton]; unfold k0_part15_skel
  simp only [Prog.lift, Prog.bind_op, Prog.bind_ret, Prog.pure_eq_ret]
  refine red_core v K c 3 (⟨9, by decide⟩ : Dev nD) hdc n a hl1 hl0 (pay := k0_pay19) rfl rfl rfl rfl ?_
  rw [Wp, wp_ret]; exact fupd_intro

/-- The chunk of peer 10 is waited for and added. -/
theorem part16_spec (c : Dev nD) (n : ℕ) (hl1 : levelOf (some (c, some (1, 3, (⟨10, by decide⟩ : Dev nD)))) ≤ n / 16) (hl0 : levelOf (some (c, some (0, 3, (⟨10, by decide⟩ : Dev nD)))) ≤ n / 16)
    (R : sProp 𝕄) (hdc : (⟨10, by decide⟩ : Dev nD) ≠ c) (a : S16x1024.Idx → Elt F .f32) :
    iprop(Known v K ∗ R ∗ rsW (F := F) c 3 (⟨10, by decide⟩ : Dev nD) ∗ accP c a ∗ Owing (F := F) c n) ⊢ Wp c (k0_part16 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨10, by decide⟩ : Dev nD) ∗ accP c (k0_pay19 a (slotV (v.rsB c) 3 (⟨10, by decide⟩ : Dev nD))) ∗ Owing (F := F) c n)) := by
  rw [k0_part16_eq_skeleton]; unfold k0_part16_skel
  simp only [Prog.lift, Prog.bind_op, Prog.bind_ret, Prog.pure_eq_ret]
  refine red_core v K c 3 (⟨10, by decide⟩ : Dev nD) hdc n a hl1 hl0 (pay := k0_pay19) rfl rfl rfl rfl ?_
  rw [Wp, wp_ret]; exact fupd_intro

/-- The chunk of peer 11 is waited for and added. -/
theorem part17_spec (c : Dev nD) (n : ℕ) (hl1 : levelOf (some (c, some (1, 3, (⟨11, by decide⟩ : Dev nD)))) ≤ n / 16) (hl0 : levelOf (some (c, some (0, 3, (⟨11, by decide⟩ : Dev nD)))) ≤ n / 16)
    (R : sProp 𝕄) (hdc : (⟨11, by decide⟩ : Dev nD) ≠ c) (a : S16x1024.Idx → Elt F .f32) :
    iprop(Known v K ∗ R ∗ rsW (F := F) c 3 (⟨11, by decide⟩ : Dev nD) ∗ accP c a ∗ Owing (F := F) c n) ⊢ Wp c (k0_part17 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨11, by decide⟩ : Dev nD) ∗ accP c (k0_pay19 a (slotV (v.rsB c) 3 (⟨11, by decide⟩ : Dev nD))) ∗ Owing (F := F) c n)) := by
  rw [k0_part17_eq_skeleton]; unfold k0_part17_skel
  simp only [Prog.lift, Prog.bind_op, Prog.bind_ret, Prog.pure_eq_ret]
  refine red_core v K c 3 (⟨11, by decide⟩ : Dev nD) hdc n a hl1 hl0 (pay := k0_pay19) rfl rfl rfl rfl ?_
  rw [Wp, wp_ret]; exact fupd_intro

/-- The chunk of peer 12 is waited for and added. -/
theorem part18_spec (c : Dev nD) (n : ℕ) (hl1 : levelOf (some (c, some (1, 3, (⟨12, by decide⟩ : Dev nD)))) ≤ n / 16) (hl0 : levelOf (some (c, some (0, 3, (⟨12, by decide⟩ : Dev nD)))) ≤ n / 16)
    (R : sProp 𝕄) (hdc : (⟨12, by decide⟩ : Dev nD) ≠ c) (a : S16x1024.Idx → Elt F .f32) :
    iprop(Known v K ∗ R ∗ rsW (F := F) c 3 (⟨12, by decide⟩ : Dev nD) ∗ accP c a ∗ Owing (F := F) c n) ⊢ Wp c (k0_part18 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨12, by decide⟩ : Dev nD) ∗ accP c (k0_pay19 a (slotV (v.rsB c) 3 (⟨12, by decide⟩ : Dev nD))) ∗ Owing (F := F) c n)) := by
  rw [k0_part18_eq_skeleton]; unfold k0_part18_skel
  simp only [Prog.lift, Prog.bind_op, Prog.bind_ret, Prog.pure_eq_ret]
  refine red_core v K c 3 (⟨12, by decide⟩ : Dev nD) hdc n a hl1 hl0 (pay := k0_pay19) rfl rfl rfl rfl ?_
  rw [Wp, wp_ret]; exact fupd_intro

/-- The chunk of peer 13 is waited for and added. -/
theorem part19_spec (c : Dev nD) (n : ℕ) (hl1 : levelOf (some (c, some (1, 3, (⟨13, by decide⟩ : Dev nD)))) ≤ n / 16) (hl0 : levelOf (some (c, some (0, 3, (⟨13, by decide⟩ : Dev nD)))) ≤ n / 16)
    (R : sProp 𝕄) (hdc : (⟨13, by decide⟩ : Dev nD) ≠ c) (a : S16x1024.Idx → Elt F .f32) :
    iprop(Known v K ∗ R ∗ rsW (F := F) c 3 (⟨13, by decide⟩ : Dev nD) ∗ accP c a ∗ Owing (F := F) c n) ⊢ Wp c (k0_part19 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨13, by decide⟩ : Dev nD) ∗ accP c (k0_pay19 a (slotV (v.rsB c) 3 (⟨13, by decide⟩ : Dev nD))) ∗ Owing (F := F) c n)) := by
  rw [k0_part19_eq_skeleton]; unfold k0_part19_skel
  simp only [Prog.lift, Prog.bind_op, Prog.bind_ret, Prog.pure_eq_ret]
  refine red_core v K c 3 (⟨13, by decide⟩ : Dev nD) hdc n a hl1 hl0 (pay := k0_pay19) rfl rfl rfl rfl ?_
  rw [Wp, wp_ret]; exact fupd_intro

/-- The chunk of peer 14 is waited for and added. -/
theorem part20_spec (c : Dev nD) (n : ℕ) (hl1 : levelOf (some (c, some (1, 3, (⟨14, by decide⟩ : Dev nD)))) ≤ n / 16) (hl0 : levelOf (some (c, some (0, 3, (⟨14, by decide⟩ : Dev nD)))) ≤ n / 16)
    (R : sProp 𝕄) (hdc : (⟨14, by decide⟩ : Dev nD) ≠ c) (a : S16x1024.Idx → Elt F .f32) :
    iprop(Known v K ∗ R ∗ rsW (F := F) c 3 (⟨14, by decide⟩ : Dev nD) ∗ accP c a ∗ Owing (F := F) c n) ⊢ Wp c (k0_part20 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨14, by decide⟩ : Dev nD) ∗ accP c (k0_pay19 a (slotV (v.rsB c) 3 (⟨14, by decide⟩ : Dev nD))) ∗ Owing (F := F) c n)) := by
  rw [k0_part20_eq_skeleton]; unfold k0_part20_skel
  simp only [Prog.lift, Prog.bind_op, Prog.bind_ret, Prog.pure_eq_ret]
  refine red_core v K c 3 (⟨14, by decide⟩ : Dev nD) hdc n a hl1 hl0 (pay := k0_pay19) rfl rfl rfl rfl ?_
  rw [Wp, wp_ret]; exact fupd_intro

/-- The chunk of peer 15 is waited for and added. -/
theorem part21_spec (c : Dev nD) (n : ℕ) (hl1 : levelOf (some (c, some (1, 3, (⟨15, by decide⟩ : Dev nD)))) ≤ n / 16) (hl0 : levelOf (some (c, some (0, 3, (⟨15, by decide⟩ : Dev nD)))) ≤ n / 16)
    (R : sProp 𝕄) (hdc : (⟨15, by decide⟩ : Dev nD) ≠ c) (a : S16x1024.Idx → Elt F .f32) :
    iprop(Known v K ∗ R ∗ rsW (F := F) c 3 (⟨15, by decide⟩ : Dev nD) ∗ accP c a ∗ Owing (F := F) c n) ⊢ Wp c (k0_part21 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun _ => iprop(Known v K ∗ R ∗ rsD v c 3 (⟨15, by decide⟩ : Dev nD) ∗ accP c (k0_pay19 a (slotV (v.rsB c) 3 (⟨15, by decide⟩ : Dev nD))) ∗ Owing (F := F) c n)) := by
  rw [k0_part21_eq_skeleton]; unfold k0_part21_skel
  simp only [Prog.lift, Prog.bind_op, Prog.bind_ret, Prog.pure_eq_ret]
  refine red_core v K c 3 (⟨15, by decide⟩ : Dev nD) hdc n a hl1 hl0 (pay := k0_pay19) rfl rfl rfl rfl ?_
  rw [Wp, wp_ret]; exact fupd_intro

end Cert.RsAg
-- ==== Proof.DrainA.lean ====
/-
# The sums of the last batch
-/
module

public import proofs.«01_k».proof.Proof.SumA
public import proofs.«01_k».proof.Proof.SumB

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The running sum starts at the device's own chunk; the chunks of the peers 0 to 6 are waited for and added. -/
theorem part22_spec (c : Dev nD) (n : ℕ) (ob ou : S4x256x1024.Idx → Elt F .f32) (nA nO nF : ℕ) (hl1 : ∀ d, levelOf (some (c, some (1, 3, d))) ≤ n / 16) (hl0 : ∀ d, levelOf (some (c, some (0, 3, d))) ≤ n / 16) (hO : nO ≤ 3) (hA : 3 < nA) (h84 : k0_cond84 i = 1#1) (R : sProp 𝕄) :
    iprop(Known v K ∗ R ∗ fam c (rsW (F := F) c 3) (rsD v c 3) 0 ∗ (∃ f, accP (F := F) c f) ∗ OutS c ob ou nA nO nF ∗ Owing (F := F) c (n)) ⊢ Wp c (k0_part22 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h84)
      (fun r => iprop(⌜r = Scalar.cmpi .ne (Scalar.extui (Scalar.cmpi .ne (v2w c) 7#32) : BitVec 32) 0#32⌝ ∗ Known v K ∗ (R ∗ OutS c ob ou nA nO nF) ∗ fam c (rsW (F := F) c 3) (rsD v c 3) 7 ∗ accP c (accS v (k0_pay18 (rowsV ob 3 c)) c 3 7) ∗ Owing (F := F) c (n))) := by
  rw [k0_part22_eq_skeleton]; unfold k0_part22_skel
  refine step_init v K c 3 n ob ou nA nO nF hO hA (k0_off276_eq c) (pay := k0_pay18) ?_
  refine step_red_call v K c 3 0 (by decide) n (k0_pay18 (rowsV ob 3 c)) (condV ⟨0, by decide⟩ c) (part6_spec v K i arg1 harg1 arg2 harg2 arg3 harg3 arg4 harg4 arg5 harg5 c n (hl1 _) (hl0 _)) ?_
  refine step_red_call v K c 3 1 (by decide) n (k0_pay18 (rowsV ob 3 c)) (condV ⟨1, by decide⟩ c) (part7_spec v K i arg1 harg1 arg2 harg2 arg3 harg3 arg4 harg4 arg5 harg5 c n (hl1 _) (hl0 _)) ?_
  refine step_red_call v K c 3 2 (by decide) n (k0_pay18 (rowsV ob 3 c)) (condV ⟨2, by decide⟩ c) (part8_spec v K i arg1 harg1 arg2 harg2 arg3 harg3 arg4 harg4 arg5 harg5 c n (hl1 _) (hl0 _)) ?_
  refine step_red_call v K c 3 3 (by decide) n (k0_pay18 (rowsV ob 3 c)) (condV ⟨3, by decide⟩ c) (part9_spec v K i arg1 harg1 arg2 harg2 arg3 harg3 arg4 harg4 arg5 harg5 c n (hl1 _) (hl0 _)) ?_
  refine step_red_call v K c 3 4 (by decide) n (k0_pay18 (rowsV ob 3 c)) (condV ⟨4, by decide⟩ c) (part10_spec v K i arg1 harg1 arg2 harg2 arg3 harg3 arg4 harg4 arg5 harg5 c n (hl1 _) (hl0 _)) ?_
  refine step_red_call v K c 3 5 (by decide) n (k0_pay18 (rowsV ob 3 c)) (condV ⟨5, by decide⟩ c) (part11_spec v K i arg1 harg1 arg2 harg2 arg3 harg3 arg4 harg4 arg5 harg5 c n (hl1 _) (hl0 _)) ?_
  refine step_red_call v K c 3 6 (by decide) n (k0_pay18 (rowsV ob 3 c)) (condV ⟨6, by decide⟩ c) (part12_spec v K i arg1 harg1 arg2 harg2 arg3 harg3 arg4 harg4 arg5 harg5 c n (hl1 _) (hl0 _)) ?_
  exact wp_pure_ret c _ rfl

set_option maxHeartbeats 8000000 in
/-- The chunks of the peers 7 to 15 are waited for and added; the sum is read. -/
theorem part23_spec (c : Dev nD) (n : ℕ) (ob ou : S4x256x1024.Idx → Elt F .f32) (nA nO nF : ℕ) (hl1 : ∀ d, levelOf (some (c, some (1, 3, d))) ≤ n / 16) (hl0 : ∀ d, levelOf (some (c, some (0, 3, d))) ≤ n / 16) (a : S16x1024.Idx → Elt F .f32) (h84 : k0_cond84 i = 1#1) (R : sProp 𝕄) :
    iprop(Known v K ∗ (R ∗ OutS c ob ou nA nO nF) ∗ fam c (rsW (F := F) c 3) (rsD v c 3) 7 ∗ accP c (accS v a c 3 7) ∗ Owing (F := F) c (n)) ⊢ Wp c (k0_part23 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h84 (Scalar.cmpi .ne (Scalar.extui (Scalar.cmpi .ne (v2w c) 7#32) : BitVec 32) 0#32))
      (fun r => iprop(⌜r = ⟨accS v a c 3 16, k0_pay35 (accS v a c 3 16)⟩⌝ ∗ Known v K ∗ (R ∗ OutS c ob ou nA nO nF) ∗ fam c (rsW (F := F) c 3) (rsD v c 3) 16 ∗ accP c (accS v a c 3 16) ∗ Owing (F := F) c (n))) := by
  rw [k0_part23_eq_skeleton]; unfold k0_part23_skel
  refine step_red_call v K c 3 7 (by decide) n a (condV ⟨7, by decide⟩ c) (part13_spec v K i arg1 harg1 arg2 harg2 arg3 harg3 arg4 harg4 arg5 harg5 c n (hl1 _) (hl0 _)) ?_
  refine step_red_call v K c 3 8 (by decide) n a (condV ⟨8, by decide⟩ c) (part14_spec v K i arg1 harg1 arg2 harg2 arg3 harg3 arg4 harg4 arg5 harg5 c n (hl1 _) (hl0 _)) ?_
  refine step_red_call v K c 3 9 (by decide) n a (condV ⟨9, by decide⟩ c) (part15_spec v K i arg1 harg1 arg2 harg2 arg3 harg3 arg4 harg4 arg5 harg5 c n (hl1 _) (hl0 _)) ?_
  refine step_red_call v K c 3 10 (by decide) n a (condV ⟨10, by decide⟩ c) (part16_spec v K i arg1 harg1 arg2 harg2 arg3 harg3 arg4 harg4 arg5 harg5 c n (hl1 _) (hl0 _)) ?_
  refine step_red_call v K c 3 11 (by decide) n a (condV ⟨11, by decide⟩ c) (part17_spec v K i arg1 harg1 arg2 harg2 arg3 harg3 arg4 harg4 arg5 harg5 c n (hl1 _) (hl0 _)) ?_
  refine step_red_call v K c 3 12 (by decide) n a (condV ⟨12, by decide⟩ c) (part18_spec v K i arg1 harg1 arg2 harg2 arg3 harg3 arg4 harg4 arg5 harg5 c n (hl1 _) (hl0 _)) ?_
  refine step_red_call v K c 3 13 (by decide) n a (condV ⟨13, by decide⟩ c) (part19_spec v K i arg1 harg1 arg2 harg2 arg3 harg3 arg4 harg4 arg5 harg5 c n (hl1 _) (hl0 _)) ?_
  refine step_red_call v K c 3 14 (by decide) n a (condV ⟨14, by decide⟩ c) (part20_spec v K i arg1 harg1 arg2 harg2 arg3 harg3 arg4 harg4 arg5 harg5 c n (hl1 _) (hl0 _)) ?_
  refine step_red_call v K c 3 15 (by decide) n a (condV ⟨15, by decide⟩ c) (part21_spec v K i arg1 harg1 arg2 harg2 arg3 harg3 arg4 harg4 arg5 harg5 c n (hl1 _) (hl0 _)) ?_
  refine step_sum v K c 3 n ob ou nA nO nF (accS v a c 3 16) (k0_off276_eq c) fun w => ?_
  exact wp_pure_ret c _ rfl

end Cert.RsAg
-- ==== Proof.DrainB.lean ====
/-
# The transfers of the last batch's second exchange
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The finished sum is stored and sent to the peers 0 to 7. -/
theorem part24_spec (c : Dev nD) (ob ou : S4x256x1024.Idx → Elt F .f32) (nA nF : ℕ) (w : S16x1024.Idx → Elt F .f32) (hw : ∀ j : S1x16x1024.Idx, k0_pay35 w j = ou (ix3 3 (rowOf c (j 1)) (j 2))) (hu : ∀ j : S1x16x1024.Idx, k0_pay36 w j = v.ags c (ix3 3 (j 1) (j 2))) (h84 : k0_cond84 i = 1#1) (R : sProp 𝕄) :
    iprop(Known v K ∗ R ∗ (bigSep (others c) (fun e => iprop(agTok (F := F) c 3 e ∗ ∃ f, agP (F := F) e 3 c f)) ∗ ∃ f, sgP (F := F) c 3 fullShare f) ∗ OutS c ob ou nA 3 nF ∗ Owing (F := F) c (agBase 3 + 0)) ⊢ Wp c (k0_part24 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h84 w (k0_pay35 w))
      (fun r => iprop(Known v K ∗ (R ∗ OutS c ob ou nA 4 nF ∗ sgRest v c 3) ∗ fam c (agA v c 3) (agB c 3) 8 ∗ Owing (F := F) c (agBase 3 + 8))) := by
  rw [k0_part24_eq_skeleton]; unfold k0_part24_skel
  refine step_own v K c 3 ob ou nA nF (k0_pay35 w) (k0_pay36 w) hw hu (k0_off276_eq c) rfl ?_
  refine step_ag_send v K c 3 0 (by decide) (cond101 c) k0_dev49_eq rfl (k0_off277_eq c) (k0_off278_eq c) rfl ?_
  refine step_ag_send v K c 3 1 (by decide) (cond102 c) k0_dev50_eq rfl (k0_off279_eq c) (k0_off280_eq c) rfl ?_
  refine step_ag_send v K c 3 2 (by decide) (cond103 c) k0_dev51_eq rfl (k0_off281_eq c) (k0_off282_eq c) rfl ?_
  refine step_ag_send v K c 3 3 (by decide) (cond104 c) k0_dev52_eq rfl (k0_off283_eq c) (k0_off284_eq c) rfl ?_
  refine step_ag_send v K c 3 4 (by decide) (cond105 c) k0_dev53_eq rfl (k0_off285_eq c) (k0_off286_eq c) rfl ?_
  refine step_ag_send v K c 3 5 (by decide) (cond106 c) k0_dev54_eq rfl (k0_off287_eq c) (k0_off288_eq c) rfl ?_
  refine step_ag_send v K c 3 6 (by decide) (cond107 c) k0_dev55_eq rfl (k0_off289_eq c) (k0_off290_eq c) rfl ?_
  refine step_ag_send v K c 3 7 (by decide) (cond108 c) k0_dev56_eq rfl (k0_off291_eq c) (k0_off292_eq c) rfl ?_
  rw [Wp, Prog.pure_eq_ret, wp_ret]; exact fupd_intro

set_option maxHeartbeats 8000000 in
/-- The finished sum is sent to the peers 8 to 15; the chunks of the batch before of the peers 0 and 1 are waited for and stored. -/
theorem part25_spec (c : Dev nD) (ob ou : S4x256x1024.Idx → Elt F .f32) (nA nO : ℕ) (hou : ∀ (g : Fin 4) (d : Fin 16), d ≠ c → ∀ j : S1x16x1024.Idx, k0_pay1 (slotV v.agB g d) j = ou (ix3 g (rowOf d (j 1)) (j 2))) (h84 : k0_cond84 i = 1#1) (v341 : BitVec 32) (R : sProp 𝕄) :
    iprop(Known v K ∗ (R ∗ fam c (agW (F := F) c 2) (agD v c 2) 0 ∗ OutS c ob ou (nA) (nO) (32 + 0)) ∗ fam c (agA v c 3) (agB c 3) 8 ∗ Owing (F := F) c (agBase 3 + 8)) ⊢ Wp c (k0_part25 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h84 v341)
      (fun r => iprop(⌜r = (Scalar.extui (Scalar.cmpi .ne (v2w c) 2#32) : BitVec 32)⌝ ∗ Known v K ∗ (R ∗ fam c (agA v c 3) (agB c 3) 16) ∗ fam c (agW (F := F) c 2) (agD v c 2) 2 ∗ OutS c ob ou (nA) (nO) (32 + 2) ∗ Owing (F := F) c (agBase 3 + 16))) := by
  rw [k0_part25_eq_skeleton]; unfold k0_part25_skel
  refine step_ag_send v K c 3 8 (by decide) (cond109 c) k0_dev57_eq rfl (k0_off293_eq c) (k0_off294_eq c) rfl ?_
  refine step_ag_send v K c 3 9 (by decide) (cond110 c) k0_dev58_eq rfl (k0_off295_eq c) (k0_off296_eq c) rfl ?_
  refine step_ag_send v K c 3 10 (by decide) (cond111 c) k0_dev59_eq rfl (k0_off297_eq c) (k0_off298_eq c) rfl ?_
  refine step_ag_send v K c 3 11 (by decide) (cond112 c) k0_dev60_eq rfl (k0_off299_eq c) (k0_off300_eq c) rfl ?_
  refine step_ag_send v K c 3 12 (by decide) (cond113 c) k0_dev61_eq rfl (k0_off301_eq c) (k0_off302_eq c) rfl ?_
  refine step_ag_send v K c 3 13 (by decide) (cond114 c) k0_dev62_eq rfl (k0_off303_eq c) (k0_off304_eq c) rfl ?_
  refine step_ag_send v K c 3 14 (by decide) (cond115 c) k0_dev63_eq rfl (k0_off305_eq c) (k0_off306_eq c) rfl ?_
  refine step_ag_send v K c 3 15 (by decide) (cond116 c) k0_dev64_eq rfl (k0_off307_eq c) (k0_off308_eq c) rfl ?_
  refine BI.Entails.trans (show iprop(Known v K ∗ (R ∗ fam c (agW (F := F) c 2) (agD v c 2) 0 ∗ OutS c ob ou (nA) (nO) (32 + 0)) ∗ fam c (agA v c 3) (agB c 3) 16 ∗ Owing (F := F) c (agBase 3 + 16)) ⊢ iprop(Known v K ∗ (R ∗ fam c (agA v c 3) (agB c 3) 16) ∗ fam c (agW (F := F) c 2) (agD v c 2) 0 ∗ OutS c ob ou (nA) (nO) (32 + 0) ∗ Owing (F := F) c (agBase 3 + 16)) from ?_) ?_
  · iintro ⟨#HK, ⟨HR, HX, HY⟩, HF, HO⟩
    isplitr; · iexact HK
    isplitl [HR HF]
    · isplitl [HR]; · iexact HR
      iexact HF
    isplitl [HX]; · iexact HX
    isplitl [HY]; · iexact HY
    iexact HO
  refine step_ag_store v K c 2 0 (by decide) (agBase 3 + 16) ob ou nA nO hou (lvAll _) (lvAll _) rfl (condV ⟨0, by decide⟩ c) rfl rfl rfl rfl rfl ?_
  refine step_ag_store v K c 2 1 (by decide) (agBase 3 + 16) ob ou nA nO hou (lvAll _) (lvAll _) rfl (condV ⟨1, by decide⟩ c) rfl rfl rfl rfl rfl ?_
  exact wp_pure_ret c _ rfl

end Cert.RsAg
-- ==== Proof.DrainC.lean ====
/-
# The stores of the last two batches
-/
module

public import proofs.«01_k».proof.Proof.Offsets

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- The chunks of the peers 2 to 11 are waited for and stored. -/
theorem part26_spec (c : Dev nD) (ob ou : S4x256x1024.Idx → Elt F .f32) (nA nO : ℕ) (hou : ∀ (g : Fin 4) (d : Fin 16), d ≠ c → ∀ j : S1x16x1024.Idx, k0_pay1 (slotV v.agB g d) j = ou (ix3 g (rowOf d (j 1)) (j 2))) (R : sProp 𝕄) :
    iprop(Known v K ∗ R ∗ fam c (agW (F := F) c 2) (agD v c 2) 2 ∗ OutS c ob ou (nA) (nO) (32 + 2) ∗ Owing (F := F) c (agBase 3 + 16)) ⊢ Wp c (k0_part26 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (v2w c) (Scalar.extui (Scalar.cmpi .ne (v2w c) 2#32) : BitVec 32))
      (fun r => iprop(⌜r = (Scalar.extui (Scalar.cmpi .ne (v2w c) 12#32) : BitVec 32)⌝ ∗ Known v K ∗ R ∗ fam c (agW (F := F) c 2) (agD v c 2) 12 ∗ OutS c ob ou (nA) (nO) (32 + 12) ∗ Owing (F := F) c (agBase 3 + 16))) := by
  rw [k0_part26_eq_skeleton]; unfold k0_part26_skel
  refine step_ag_store v K c 2 2 (by decide) (agBase 3 + 16) ob ou nA nO hou (lvAll _) (lvAll _) rfl (condV ⟨2, by decide⟩ c) rfl rfl rfl rfl rfl ?_
  refine step_ag_store v K c 2 3 (by decide) (agBase 3 + 16) ob ou nA nO hou (lvAll _) (lvAll _) rfl (condV ⟨3, by decide⟩ c) rfl rfl rfl rfl rfl ?_
  refine step_ag_store v K c 2 4 (by decide) (agBase 3 + 16) ob ou nA nO hou (lvAll _) (lvAll _) rfl (condV ⟨4, by decide⟩ c) rfl rfl rfl rfl rfl ?_
  refine step_ag_store v K c 2 5 (by decide) (agBase 3 + 16) ob ou nA nO hou (lvAll _) (lvAll _) rfl (condV ⟨5, by decide⟩ c) rfl rfl rfl rfl rfl ?_
  refine step_ag_store v K c 2 6 (by decide) (agBase 3 + 16) ob ou nA nO hou (lvAll _) (lvAll _) rfl (condV ⟨6, by decide⟩ c) rfl rfl rfl rfl rfl ?_
  refine step_ag_store v K c 2 7 (by decide) (agBase 3 + 16) ob ou nA nO hou (lvAll _) (lvAll _) rfl (condV ⟨7, by decide⟩ c) rfl rfl rfl rfl rfl ?_
  refine step_ag_store v K c 2 8 (by decide) (agBase 3 + 16) ob ou nA nO hou (lvAll _) (lvAll _) rfl (condV ⟨8, by decide⟩ c) rfl rfl rfl rfl rfl ?_
  refine step_ag_store v K c 2 9 (by decide) (agBase 3 + 16) ob ou nA nO hou (lvAll _) (lvAll _) rfl (condV ⟨9, by decide⟩ c) rfl rfl rfl rfl rfl ?_
  refine step_ag_store v K c 2 10 (by decide) (agBase 3 + 16) ob ou nA nO hou (lvAll _) (lvAll _) rfl (condV ⟨10, by decide⟩ c) rfl rfl rfl rfl rfl ?_
  refine step_ag_store v K c 2 11 (by decide) (agBase 3 + 16) ob ou nA nO hou (lvAll _) (lvAll _) rfl (condV ⟨11, by decide⟩ c) rfl rfl rfl rfl rfl ?_
  exact wp_pure_ret c _ rfl

set_option maxHeartbeats 8000000 in
/-- The chunks of the peers 12 to 15, and the last batch's of the peers 0 to 5, are waited for and stored. -/
theorem part27_spec (c : Dev nD) (ob ou : S4x256x1024.Idx → Elt F .f32) (nA nO : ℕ) (hou : ∀ (g : Fin 4) (d : Fin 16), d ≠ c → ∀ j : S1x16x1024.Idx, k0_pay1 (slotV v.agB g d) j = ou (ix3 g (rowOf d (j 1)) (j 2))) (R : sProp 𝕄) :
    iprop(Known v K ∗ (R ∗ fam c (agW (F := F) c 3) (agD v c 3) 0) ∗ fam c (agW (F := F) c 2) (agD v c 2) 12 ∗ OutS c ob ou (nA) (nO) (32 + 12) ∗ Owing (F := F) c (agBase 3 + 16)) ⊢ Wp c (k0_part27 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 (v2w c) (Scalar.extui (Scalar.cmpi .ne (v2w c) 12#32) : BitVec 32))
      (fun r => iprop(⌜r = (Scalar.extui (Scalar.cmpi .ne (v2w c) 6#32) : BitVec 32)⌝ ∗ Known v K ∗ (R ∗ fam c (agW (F := F) c 2) (agD v c 2) 16) ∗ fam c (agW (F := F) c 3) (agD v c 3) 6 ∗ OutS c ob ou (nA) (nO) (48 + 6) ∗ Owing (F := F) c (agBase 3 + 16))) := by
  rw [k0_part27_eq_skeleton]; unfold k0_part27_skel
  refine step_ag_store v K c 2 12 (by decide) (agBase 3 + 16) ob ou nA nO hou (lvAll _) (lvAll _) rfl (condV ⟨12, by decide⟩ c) rfl rfl rfl rfl rfl ?_
  refine step_ag_store v K c 2 13 (by decide) (agBase 3 + 16) ob ou nA nO hou (lvAll _) (lvAll _) rfl (condV ⟨13, by decide⟩ c) rfl rfl rfl rfl rfl ?_
  refine step_ag_store v K c 2 14 (by decide) (agBase 3 + 16) ob ou nA nO hou (lvAll _) (lvAll _) rfl (condV ⟨14, by decide⟩ c) rfl rfl rfl rfl rfl ?_
  refine step_ag_store v K c 2 15 (by decide) (agBase 3 + 16) ob ou nA nO hou (lvAll _) (lvAll _) rfl (condV ⟨15, by decide⟩ c) rfl rfl rfl rfl rfl ?_
  refine BI.Entails.trans (show iprop(Known v K ∗ (R ∗ fam c (agW (F := F) c 3) (agD v c 3) 0) ∗ fam c (agW (F := F) c 2) (agD v c 2) 16 ∗ OutS c ob ou (nA) (nO) (32 + 16) ∗ Owing (F := F) c (agBase 3 + 16)) ⊢ iprop(Known v K ∗ (R ∗ fam c (agW (F := F) c 2) (agD v c 2) 16) ∗ fam c (agW (F := F) c 3) (agD v c 3) 0 ∗ OutS c ob ou (nA) (nO) (48 + 0) ∗ Owing (F := F) c (agBase 3 + 16)) from ?_) ?_
  · iintro ⟨#HK, ⟨HR, HX⟩, HF, HY, HO⟩
    isplitr; · iexact HK
    isplitl [HR HF]
    · isplitl [HR]; · iexact HR
      iexact HF
    isplitl [HX]; · iexact HX
    isplitl [HY]; · iexact HY
    iexact HO
  refine step_ag_store v K c 3 0 (by decide) (agBase 3 + 16) ob ou nA nO hou (lvAll _) (lvAll _) rfl (condV ⟨0, by decide⟩ c) rfl rfl rfl rfl rfl ?_
  refine step_ag_store v K c 3 1 (by decide) (agBase 3 + 16) ob ou nA nO hou (lvAll _) (lvAll _) rfl (condV ⟨1, by decide⟩ c) rfl rfl rfl rfl rfl ?_
  refine step_ag_store v K c 3 2 (by decide) (agBase 3 + 16) ob ou nA nO hou (lvAll _) (lvAll _) rfl (condV ⟨2, by decide⟩ c) rfl rfl rfl rfl rfl ?_
  refine step_ag_store v K c 3 3 (by decide) (agBase 3 + 16) ob ou nA nO hou (lvAll _) (lvAll _) rfl (condV ⟨3, by decide⟩ c) rfl rfl rfl rfl rfl ?_
  refine step_ag_store v K c 3 4 (by decide) (agBase 3 + 16) ob ou nA nO hou (lvAll _) (lvAll _) rfl (condV ⟨4, by decide⟩ c) rfl rfl rfl rfl rfl ?_
  refine step_ag_store v K c 3 5 (by decide) (agBase 3 + 16) ob ou nA nO hou (lvAll _) (lvAll _) rfl (condV ⟨5, by decide⟩ c) rfl rfl rfl rfl rfl ?_
  exact wp_pure_ret c _ rfl

end Cert.RsAg
-- ==== Proof.DrainD.lean ====
/-
# The drain after the last batch
-/
module

public import proofs.«01_k».proof.Proof.DrainA
public import proofs.«01_k».proof.Proof.DrainB
public import proofs.«01_k».proof.Proof.DrainC

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

set_option maxHeartbeats 8000000 in
/-- All that is left after the last batch's transfers, but its last store. -/
theorem part28_spec (c : Dev nD) (ob ou : S4x256x1024.Idx → Elt F .f32) (hou : ∀ (g : Fin 4) (d : Fin 16), d ≠ c → ∀ j : S1x16x1024.Idx, k0_pay1 (slotV v.agB g d) j = ou (ix3 g (rowOf d (j 1)) (j 2))) (hw : ∀ j : S1x16x1024.Idx, k0_pay35 (accS v (k0_pay18 (rowsV ob 3 c)) c 3 16) j = ou (ix3 3 (rowOf c (j 1)) (j 2))) (hu : ∀ j : S1x16x1024.Idx, k0_pay36 (accS v (k0_pay18 (rowsV ob 3 c)) c 3 16) j = v.ags c (ix3 3 (j 1) (j 2))) (h84 : k0_cond84 i = 1#1) (R : sProp 𝕄) :
    iprop(Known v K ∗ R ∗ fam c (rsW (F := F) c 3) (rsD v c 3) 0 ∗ (∃ f, accP (F := F) c f) ∗ AG v c 3 0 ∗ fam c (agW (F := F) c 2) (agD v c 2) 0 ∗ OutS c ob ou (4) (3) (32 + 0) ∗ Owing (F := F) c 128) ⊢ Wp c (k0_part28 (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c (v2w c) h84)
      (fun r => iprop(⌜r = (Scalar.extui (Scalar.cmpi .ne (v2w c) 15#32) : BitVec 32)⌝ ∗ Known v K ∗ ((R ∗ fam c (rsW (F := F) c 3) (rsD v c 3) 16 ∗ accP c (accS v (k0_pay18 (rowsV ob 3 c)) c 3 16) ∗ sgRest v c 3) ∗ fam c (agW (F := F) c 2) (agD v c 2) 16) ∗ fam c (agW (F := F) c 3) (agD v c 3) 15 ∗ OutS c ob ou (4) (4) (48 + 15) ∗ Owing (F := F) c (agBase 3 + 16))) := by
  rw [k0_part28_eq_skeleton]; unfold k0_part28_skel
  refine BI.Entails.trans (show iprop(Known v K ∗ R ∗ fam c (rsW (F := F) c 3) (rsD v c 3) 0 ∗ (∃ f, accP (F := F) c f) ∗ AG v c 3 0 ∗ fam c (agW (F := F) c 2) (agD v c 2) 0 ∗ OutS c ob ou (4) (3) (32 + 0) ∗ Owing (F := F) c 128) ⊢ iprop(Known v K ∗ (R ∗ AG v c 3 0 ∗ fam c (agW (F := F) c 2) (agD v c 2) 0) ∗ fam c (rsW (F := F) c 3) (rsD v c 3) 0 ∗ (∃ f, accP (F := F) c f) ∗ OutS c ob ou (4) (3) (32 + 0) ∗ Owing (F := F) c 128) from ?_) ?_
  · iintro ⟨#HK, HR, HW, HX, HG, HF, HY, HO⟩
    isplitr; · iexact HK
    isplitl [HR HG HF]
    · isplitl [HR]; · iexact HR
      isplitl [HG]; · iexact HG
      iexact HF
    isplitl [HW]; · iexact HW
    isplitl [HX]; · iexact HX
    isplitl [HY]; · iexact HY
    iexact HO
  refine wp_call c (part22_spec v K i arg1 harg1 arg2 harg2 arg3 harg3 arg4 harg4 arg5 harg5 c 128 ob ou 4 3 (32 + 0) (fun _ => Nat.le_of_ble_eq_true rfl) (fun _ => Nat.le_of_ble_eq_true rfl) (by decide) (by decide) h84 _) fun r => pure_elim fun hr => ?_
  subst hr
  refine wp_call c (part23_spec v K i arg1 harg1 arg2 harg2 arg3 harg3 arg4 harg4 arg5 harg5 c 128 ob ou 4 3 (32 + 0) (fun _ => Nat.le_of_ble_eq_true rfl) (fun _ => Nat.le_of_ble_eq_true rfl) (k0_pay18 (rowsV ob 3 c)) h84 _) fun r => pure_elim fun hr => ?_
  subst hr
  refine BI.Entails.trans (show iprop(Known v K ∗ ((R ∗ (bigSep (others c) (fun e => iprop(agTok (F := F) c 3 e ∗ ∃ f, agP (F := F) e 3 c f)) ∗ bigSep (others c) (agWt (F := F) c 3) ∗ ∃ f, sgP (F := F) c 3 fullShare f) ∗ fam c (agW (F := F) c 2) (agD v c 2) 0) ∗ OutS c ob ou (4) (3) (32 + 0)) ∗ fam c (rsW (F := F) c 3) (rsD v c 3) 16 ∗ accP c (accS v (k0_pay18 (rowsV ob 3 c)) c 3 16) ∗ Owing (F := F) c 128) ⊢ iprop(Known v K ∗ ((R ∗ fam c (rsW (F := F) c 3) (rsD v c 3) 16 ∗ accP c (accS v (k0_pay18 (rowsV ob 3 c)) c 3 16) ∗ bigSep (others c) (agWt (F := F) c 3)) ∗ fam c (agW (F := F) c 2) (agD v c 2) 0) ∗ (bigSep (others c) (fun e => iprop(agTok (F := F) c 3 e ∗ ∃ f, agP (F := F) e 3 c f)) ∗ ∃ f, sgP (F := F) c 3 fullShare f) ∗ OutS c ob ou (4) (3) (32 + 0) ∗ Owing (F := F) c (agBase 3 + 0)) from ?_) ?_
  · iintro ⟨#HK, ⟨⟨HR, ⟨HT, HU, HS⟩, HF⟩, HY⟩, HW, HX, HO⟩
    isplitr; · iexact HK
    isplitl [HR HW HX HU HF]
    · isplitl [HR HW HX HU]
      · isplitl [HR]; · iexact HR
        isplitl [HW]; · iexact HW
        isplitl [HX]; · iexact HX
        iexact HU
      iexact HF
    isplitl [HT HS]
    · isplitl [HT]; · iexact HT
      iexact HS
    isplitl [HY]; · iexact HY
    iexact HO
  refine wp_call c (part24_spec v K i arg1 harg1 arg2 harg2 arg3 harg3 arg4 harg4 arg5 harg5 c ob ou 4 (32 + 0) (accS v (k0_pay18 (rowsV ob 3 c)) c 3 16) hw hu h84 _) fun r => ?_
  refine BI.Entails.trans (show iprop(Known v K ∗ (((R ∗ fam c (rsW (F := F) c 3) (rsD v c 3) 16 ∗ accP c (accS v (k0_pay18 (rowsV ob 3 c)) c 3 16) ∗ bigSep (others c) (agWt (F := F) c 3)) ∗ fam c (agW (F := F) c 2) (agD v c 2) 0) ∗ OutS c ob ou (4) (4) (32 + 0) ∗ sgRest v c 3) ∗ fam c (agA v c 3) (agB c 3) 8 ∗ Owing (F := F) c (agBase 3 + 8)) ⊢ iprop(Known v K ∗ (((R ∗ fam c (rsW (F := F) c 3) (rsD v c 3) 16 ∗ accP c (accS v (k0_pay18 (rowsV ob 3 c)) c 3 16) ∗ sgRest v c 3) ∗ bigSep (others c) (agWt (F := F) c 3)) ∗ fam c (agW (F := F) c 2) (agD v c 2) 0 ∗ OutS c ob ou (4) (4) (32 + 0)) ∗ fam c (agA v c 3) (agB c 3) 8 ∗ Owing (F := F) c (agBase 3 + 8)) from ?_) ?_
  · iintro ⟨#HK, ⟨⟨⟨HR, HW, HX, HU⟩, HF⟩, HY, HS⟩, HG, HO⟩
    isplitr; · iexact HK
    isplitl [HR HW HX HS HU HF HY]
    · isplitl [HR HW HX HS HU]
      · isplitl [HR HW HX HS]
        · isplitl [HR]; · iexact HR
          isplitl [HW]; · iexact HW
          isplitl [HX]; · iexact HX
          iexact HS
        iexact HU
      isplitl [HF]; · iexact HF
      iexact HY
    isplitl [HG]; · iexact HG
    iexact HO
  refine wp_call c (part25_spec v K i arg1 harg1 arg2 harg2 arg3 harg3 arg4 harg4 arg5 harg5 c ob ou 4 4 hou h84 r _) fun r => pure_elim fun hr => ?_
  subst hr
  refine BI.Entails.trans (show iprop(Known v K ∗ (((R ∗ fam c (rsW (F := F) c 3) (rsD v c 3) 16 ∗ accP c (accS v (k0_pay18 (rowsV ob 3 c)) c 3 16) ∗ sgRest v c 3) ∗ bigSep (others c) (agWt (F := F) c 3)) ∗ fam c (agA v c 3) (agB c 3) 16) ∗ fam c (agW (F := F) c 2) (agD v c 2) 2 ∗ OutS c ob ou (4) (4) (32 + 2) ∗ Owing (F := F) c (agBase 3 + 16))
    ⊢ iprop(Known v K ∗ ((R ∗ fam c (rsW (F := F) c 3) (rsD v c 3) 16 ∗ accP c (accS v (k0_pay18 (rowsV ob 3 c)) c 3 16) ∗ sgRest v c 3) ∗ fam c (agW (F := F) c 3) (agD v c 3) 0) ∗ fam c (agW (F := F) c 2) (agD v c 2) 2 ∗ OutS c ob ou (4) (4) (32 + 2) ∗ Owing (F := F) c (agBase 3 + 16)) from ?_) ?_
  · iintro ⟨#HK, ⟨⟨HR, HU⟩, HG⟩, HF, HY, HO⟩
    ihave HG := (Entails.of_eq (fam_full c (agA v c 3) (agB (F := F) c 3))) $$ HG
    ihave HU := (ag_waits v c 3) $$ [HG HU]
    · isplitl [HG]; · iexact HG
      iexact HU
    isplitr; · iexact HK
    isplitl [HR HU]
    · isplitl [HR]; · iexact HR
      iexact HU
    isplitl [HF]; · iexact HF
    isplitl [HY]; · iexact HY
    iexact HO
  refine wp_call c (part26_spec v K i arg1 harg1 arg2 harg2 arg3 harg3 arg4 harg4 arg5 harg5 c ob ou 4 4 hou _) fun r => pure_elim fun hr => ?_
  subst hr
  refine wp_call c (part27_spec v K i arg1 harg1 arg2 harg2 arg3 harg3 arg4 harg4 arg5 harg5 c ob ou 4 4 hou _) fun r => pure_elim fun hr => ?_
  subst hr
  refine step_ag_store v K c 3 6 (by decide) (agBase 3 + 16) ob ou 4 4 hou (lvAll _) (lvAll _) rfl (condV ⟨6, by decide⟩ c) rfl rfl rfl rfl rfl ?_
  refine step_ag_store v K c 3 7 (by decide) (agBase 3 + 16) ob ou 4 4 hou (lvAll _) (lvAll _) rfl (condV ⟨7, by decide⟩ c) rfl rfl rfl rfl rfl ?_
  refine step_ag_store v K c 3 8 (by decide) (agBase 3 + 16) ob ou 4 4 hou (lvAll _) (lvAll _) rfl (condV ⟨8, by decide⟩ c) rfl rfl rfl rfl rfl ?_
  refine step_ag_store v K c 3 9 (by decide) (agBase 3 + 16) ob ou 4 4 hou (lvAll _) (lvAll _) rfl (condV ⟨9, by decide⟩ c) rfl rfl rfl rfl rfl ?_
  refine step_ag_store v K c 3 10 (by decide) (agBase 3 + 16) ob ou 4 4 hou (lvAll _) (lvAll _) rfl (condV ⟨10, by decide⟩ c) rfl rfl rfl rfl rfl ?_
  refine step_ag_store v K c 3 11 (by decide) (agBase 3 + 16) ob ou 4 4 hou (lvAll _) (lvAll _) rfl (condV ⟨11, by decide⟩ c) rfl rfl rfl rfl rfl ?_
  refine step_ag_store v K c 3 12 (by decide) (agBase 3 + 16) ob ou 4 4 hou (lvAll _) (lvAll _) rfl (condV ⟨12, by decide⟩ c) rfl rfl rfl rfl rfl ?_
  refine step_ag_store v K c 3 13 (by decide) (agBase 3 + 16) ob ou 4 4 hou (lvAll _) (lvAll _) rfl (condV ⟨13, by decide⟩ c) rfl rfl rfl rfl rfl ?_
  refine step_ag_store v K c 3 14 (by decide) (agBase 3 + 16) ob ou 4 4 hou (lvAll _) (lvAll _) rfl (condV ⟨14, by decide⟩ c) rfl rfl rfl rfl rfl ?_
  exact wp_pure_ret c _ rfl

end Cert.RsAg
-- ==== Proof.Body3.lean ====
/-
# The body at the grid point of batch 3
-/
module

public import proofs.«01_k».proof.Proof.Phases
public import proofs.«01_k».proof.Proof.Attn
public import proofs.«01_k».proof.Proof.First
public import proofs.«01_k».proof.Proof.Issue
public import proofs.«01_k».proof.Proof.Store
public import proofs.«01_k».proof.Proof.Reduce
public import proofs.«01_k».proof.Proof.Gather
public import proofs.«01_k».proof.Proof.DrainD

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pr" α => Prog (TpuEff nD τ sig (Elt F) Λ₀ Proc.tc) α

variable (v : Vals F) (K : Dev nD × Option CK → ℕ)
variable (i : grid0.Coords) (arg1 : Memref sig .tc .vmem S1x256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024x8x128 .f32) (harg4 : arg4.IsWhole) (arg5 : Memref sig .tc .vmem S1x1024x8x128 .f32) (harg5 : arg5.IsWhole)

/-- The guards of the body. -/
theorem body3_guards : (∀ i : grid0.Coords, k0_cond1 i = 1#1 ↔ (i 0).val = 0) ∧ (∀ i : grid0.Coords, k0_cond34 i = 1#1 ↔ 2 ≤ (i 0).val)
    ∧ (∀ i : grid0.Coords, k0_cond51 i = 1#1 ↔ 1 ≤ (i 0).val) ∧ ∀ i : grid0.Coords, k0_cond84 i = 1#1 ↔ (i 0).val = 3 := by decide

set_option maxHeartbeats 8000000 in
/-- The body of batch 3. -/
theorem body3 (c : Dev nD) (hb : (i 0).val = 3) (x : S1x256x1024.Idx → Elt F .f32) (wq wo : S1024x1024.Idx → Elt F .f32) (kk vv : S1x1024x8x128.Idx → Elt F .f32) (ob ou : S4x256x1024.Idx → Elt F .f32)
    (hou : ∀ (g : Fin 4) (d : Fin 16), d ≠ c → ∀ j : S1x16x1024.Idx, k0_pay1 (slotV v.agB g d) j = ou (ix3 g (rowOf d (j 1)) (j 2)))
    (hW : ∀ (g : Fin 4) (j : S1x16x1024.Idx), k0_pay35 (accS v (k0_pay18 (rowsV ob g c)) c g 16) j = ou (ix3 g (rowOf c (j 1)) (j 2)))
    (hU : ∀ (g : Fin 4) (j : S1x16x1024.Idx), k0_pay36 (accS v (k0_pay18 (rowsV ob g c)) c g 16) j = v.ags c (ix3 g (j 1) (j 2)))
    (hw : ∀ j : S1x256x1024.Idx, oV x wq wo kk vv j = ob (ix3 3 (j 1) (j 2))) (hu : ∀ j : S1x256x1024.Idx, k0_pay104 (oV x wq wo kk vv) j = v.stg c (ix3 3 (j 1) (j 2))) (R : sProp 𝕄) :
    iprop((Known v K ∗ (R ∗ (∃ f, accP (F := F) c f) ∗ (RS v c 2 1) ∗ (AG v c 1 1) ∗ (AG v c 2 0) ∗ (AG v c 3 0)) ∗ RS v c 3 0 ∗ OutS c ob ou (3) (2) (16) ∗ Owing (F := F) c 96) ∗ InsP c arg1 arg2 arg3 arg4 arg5 x wq wo kk vv ∗ AtS c x wq kk vv 0) ⊢ Wp c (cc0__fused_body (F := F) i arg1 harg1 arg2 harg2 arg3 harg3 arg4 harg4 arg5 harg5 (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
      (fun r => iprop(Known v K ∗ (R ∗ (AG v c 1 2) ∗ (RS v c 2 2) ∗ (RS v c 3 2) ∗ (AG v c 2 2) ∗ (AG v c 3 2) ∗ ((∃ f, accP (F := F) c f))) ∗ OutS c ob ou (4) (4) (64) ∗ Owing (F := F) c 144 ∗ InsP c arg1 arg2 arg3 arg4 arg5 x wq wo kk vv ∗ AtS c x wq kk vv 8)) := by
  obtain ⟨cond1_iff, cond34_iff, cond51_iff, cond84_iff⟩ := body3_guards
  rw [cc0__fused_body_eq_skeleton]; unfold cc0__fused_body_skel
  refine wp_call c (part29_later i arg1 harg1 arg2 harg2 arg3 harg3 arg4 harg4 arg5 harg5 c x wq wo kk vv (fun h => by have := (cond1_iff i).1 h; omega) _) fun r => pure_elim fun hr => ?_
  subst hr
  refine BI.Entails.trans (show iprop((Known v K ∗ (R ∗ (∃ f, accP (F := F) c f) ∗ (RS v c 2 1) ∗ (AG v c 1 1) ∗ (AG v c 2 0) ∗ (AG v c 3 0)) ∗ RS v c 3 0 ∗ OutS c ob ou (3) (2) (16) ∗ Owing (F := F) c 96) ∗ InsP c arg1 arg2 arg3 arg4 arg5 x wq wo kk vv ∗ AtS c x wq kk vv 0) ⊢ iprop((Known v K ∗ ((R ∗ (∃ f, accP (F := F) c f) ∗ (RS v c 2 1) ∗ (AG v c 1 1) ∗ (AG v c 2 0) ∗ (AG v c 3 0)) ∗ bigSep (others c) (rsWt (F := F) c 3)) ∗ (bigSep (others c) (fun e => iprop(rsTok (F := F) c 3 e ∗ ∃ f, rsP (F := F) e 3 c f)) ∗ ∃ f, bigP (F := F) c 3 f) ∗ OutS c ob ou (3) (2) (16) ∗ Owing (F := F) c (rsBase 3 + 0)) ∗ InsP c arg1 arg2 arg3 arg4 arg5 x wq wo kk vv ∗ AtS c x wq kk vv 0) from ?_) ?_
  · iintro ⟨⟨#HK, ⟨HR, HA, G2, H1, H2, H3⟩, GB, HS, HO⟩, HI, HT⟩
    ihave HZ := ((show RS v c 3 0 ⊢ iprop((bigSep (others c) (fun e => iprop(rsTok (F := F) c 3 e ∗ ∃ f, rsP (F := F) e 3 c f)) ∗ bigSep (others c) (rsWt (F := F) c 3) ∗ ∃ f, bigP (F := F) c 3 f)) from .refl)) $$ GB
    icases HZ with ⟨T0, W0, B0⟩
    isplitl [HR HA G2 H1 H2 H3 W0 T0 B0 HS HO]
    · isplitr; · iexact HK
      isplitl [HR HA G2 H1 H2 H3 W0]
      · isplitl [HR HA G2 H1 H2 H3]
        · isplitl [HR]; · iexact HR
          isplitl [HA]; · iexact HA
          isplitl [G2]; · iexact G2
          isplitl [H1]; · iexact H1
          isplitl [H2]; · iexact H2
          iexact H3
        iexact W0
      isplitl [T0 B0]
      · isplitl [T0]; · iexact T0
        iexact B0
      isplitl [HS]; · iexact HS
      iexact HO
    isplitl [HI]; · iexact HI
    iexact HT
  refine wp_call c (part30_spec i arg1 harg1 arg2 harg2 arg3 harg3 arg4 harg4 arg5 harg5 c x wq wo kk vv _) fun r => pure_elim fun hr => ?_
  subst hr
  refine wp_call c (part31_spec i arg1 harg1 arg2 harg2 arg3 harg3 arg4 harg4 arg5 harg5 c x wq wo kk vv _) fun r => pure_elim fun hr => ?_
  subst hr
  refine wp_call c (part32_spec i arg1 harg1 arg2 harg2 arg3 harg3 arg4 harg4 arg5 harg5 c x wq wo kk vv _) fun r => pure_elim fun hr => ?_
  subst hr
  refine wp_call c (part33_spec i arg1 harg1 arg2 harg2 arg3 harg3 arg4 harg4 arg5 harg5 c x wq wo kk vv _) fun r => pure_elim fun hr => ?_
  subst hr
  refine wp_call c (part34_spec v K i arg1 harg1 arg2 harg2 arg3 harg3 arg4 harg4 arg5 harg5 c 3 hb x wq wo kk vv ob ou (2) (16) (Nat.le_of_ble_eq_true rfl) (Nat.le_of_ble_eq_true rfl) hw hu _ _) fun r => ?_
  refine wp_call c (part35_spec v K i arg1 harg1 arg2 harg2 arg3 harg3 arg4 harg4 arg5 harg5 c 3 hb r _) fun r => ?_
  refine step_rs_send v K c 3 14 (by decide) (cond32 c) k0_dev31_eq ((k0_off58_eq i).trans (by rw [show (i 0).val = (3 : Fin 4).val from hb])) ((k0_off59_eq i c).trans (by rw [show (i 0).val = (3 : Fin 4).val from hb])) ((k0_off60_eq i c).trans (by rw [show (i 0).val = (3 : Fin 4).val from hb])) ((k0_off61_eq i).trans (by rw [show (i 0).val = (3 : Fin 4).val from hb])) ?_
  refine step_rs_send v K c 3 15 (by decide) (cond33 c) k0_dev32_eq ((k0_off62_eq i).trans (by rw [show (i 0).val = (3 : Fin 4).val from hb])) ((k0_off63_eq i c).trans (by rw [show (i 0).val = (3 : Fin 4).val from hb])) ((k0_off64_eq i c).trans (by rw [show (i 0).val = (3 : Fin 4).val from hb])) ((k0_off65_eq i).trans (by rw [show (i 0).val = (3 : Fin 4).val from hb])) ?_
  refine wp_if_pos c ((cond34_iff i).2 (by omega)) ?_
  refine BI.Entails.trans (show iprop(Known v K ∗ ((((R ∗ (∃ f, accP (F := F) c f) ∗ (RS v c 2 1) ∗ (AG v c 1 1) ∗ (AG v c 2 0) ∗ (AG v c 3 0)) ∗ bigSep (others c) (rsWt (F := F) c 3)) ∗ InsP c arg1 arg2 arg3 arg4 arg5 x wq wo kk vv ∗ AtS c x wq kk vv 8) ∗ OutS c ob ou (4) (2) (16) ∗ stP c 3 c (v.stg c)) ∗ fam c (rsA v c 3) (rsB c 3) 16 ∗ Owing (F := F) c (rsBase 3 + 16)) ⊢ iprop(Known v K ∗ (R ∗ (∃ f, accP (F := F) c f) ∗ (RS v c 2 1) ∗ (AG v c 2 0) ∗ (AG v c 3 0) ∗ (InsP c arg1 arg2 arg3 arg4 arg5 x wq wo kk vv) ∗ (AtS c x wq kk vv 8) ∗ (RS v c 3 1) ∗ (sgRest v c 1)) ∗ fam c (agW (F := F) c 1) (agD v c 1) 0 ∗ OutS c ob ou (4) (2) (16 * (1 : Fin 4).val + 0) ∗ Owing (F := F) c 112) from ?_) ?_
  · iintro ⟨#HK, ⟨⟨⟨⟨HR, HA, G2, H1, H2, H3⟩, W0⟩, HI, HT⟩, HS, HST⟩, HF, HO⟩
    ihave HZ := (rs_sent v c 3) $$ [HF W0 HST]
    · isplitl [HF]; · iexact HF
      isplitl [W0]; · iexact W0
      iexact HST
    icases HZ with GB
    ihave HZ := (ag_open v c 1) $$ H1
    icases HZ with ⟨AA, SG⟩
    isplitr; · iexact HK
    isplitl [HR HA G2 H2 H3 HI HT GB SG]
    · isplitl [HR]; · iexact HR
      isplitl [HA]; · iexact HA
      isplitl [G2]; · iexact G2
      isplitl [H2]; · iexact H2
      isplitl [H3]; · iexact H3
      isplitl [HI]; · iexact HI
      isplitl [HT]; · iexact HT
      isplitl [GB]; · iexact GB
      iexact SG
    isplitl [AA]; · iexact AA
    isplitl [HS]; · iexact HS
    iexact HO
  refine wp_call c (part2_spec v K i arg1 harg1 arg2 harg2 arg3 harg3 arg4 harg4 arg5 harg5 c 1 hb 112 ob ou (4) (2) hou (fun _ => Nat.le_of_ble_eq_true rfl) (fun _ => Nat.le_of_ble_eq_true rfl) ((cond34_iff i).2 (by omega)) _ _) fun r => ?_
  refine step_ag_store v K c 1 9 (by decide) 112 ob ou (4) (2) hou (Nat.le_of_ble_eq_true rfl) (Nat.le_of_ble_eq_true rfl) rfl (cond44 c) (off111 i 1 hb) (off112 i 1 hb) (off113 i 1 hb) (off114 i 1 hb) (off115 i 1 hb) ?_
  refine step_ag_store v K c 1 10 (by decide) 112 ob ou (4) (2) hou (Nat.le_of_ble_eq_true rfl) (Nat.le_of_ble_eq_true rfl) rfl (cond45 c) (off116 i 1 hb) (off117 i 1 hb) (off118 i 1 hb) (off119 i 1 hb) (off120 i 1 hb) ?_
  refine step_ag_store v K c 1 11 (by decide) 112 ob ou (4) (2) hou (Nat.le_of_ble_eq_true rfl) (Nat.le_of_ble_eq_true rfl) rfl (cond46 c) (off121 i 1 hb) (off122 i 1 hb) (off123 i 1 hb) (off124 i 1 hb) (off125 i 1 hb) ?_
  refine step_ag_store v K c 1 12 (by decide) 112 ob ou (4) (2) hou (Nat.le_of_ble_eq_true rfl) (Nat.le_of_ble_eq_true rfl) rfl (cond47 c) (off126 i 1 hb) (off127 i 1 hb) (off128 i 1 hb) (off129 i 1 hb) (off130 i 1 hb) ?_
  refine step_ag_store v K c 1 13 (by decide) 112 ob ou (4) (2) hou (Nat.le_of_ble_eq_true rfl) (Nat.le_of_ble_eq_true rfl) rfl (cond48 c) (off131 i 1 hb) (off132 i 1 hb) (off133 i 1 hb) (off134 i 1 hb) (off135 i 1 hb) ?_
  refine step_ag_store v K c 1 14 (by decide) 112 ob ou (4) (2) hou (Nat.le_of_ble_eq_true rfl) (Nat.le_of_ble_eq_true rfl) rfl (cond49 c) (off136 i 1 hb) (off137 i 1 hb) (off138 i 1 hb) (off139 i 1 hb) (off140 i 1 hb) ?_
  refine step_ag_store v K c 1 15 (by decide) 112 ob ou (4) (2) hou (Nat.le_of_ble_eq_true rfl) (Nat.le_of_ble_eq_true rfl) rfl (cond50 c) (off141 i 1 hb) (off142 i 1 hb) (off143 i 1 hb) (off144 i 1 hb) (off145 i 1 hb) ?_
  refine wp_if_pos c ((cond51_iff i).2 (by omega)) ?_
  refine BI.Entails.trans (show iprop(Known v K ∗ (R ∗ (∃ f, accP (F := F) c f) ∗ (RS v c 2 1) ∗ (AG v c 2 0) ∗ (AG v c 3 0) ∗ (InsP c arg1 arg2 arg3 arg4 arg5 x wq wo kk vv) ∗ (AtS c x wq kk vv 8) ∗ (RS v c 3 1) ∗ (sgRest v c 1)) ∗ fam c (agW (F := F) c 1) (agD v c 1) 16 ∗ OutS c ob ou (4) (2) (16 * (1 : Fin 4).val + 16) ∗ Owing (F := F) c 112) ⊢ iprop(Known v K ∗ (R ∗ (AG v c 1 2) ∗ (AG v c 3 0) ∗ (RS v c 3 1) ∗ (InsP c arg1 arg2 arg3 arg4 arg5 x wq wo kk vv) ∗ (AtS c x wq kk vv 8) ∗ (stP c 2 c (v.stg c)) ∗ ((bigSep (others c) (fun e => iprop(agTok (F := F) c 2 e ∗ ∃ f, agP (F := F) e 2 c f)) ∗ ∃ f, sgP (F := F) c 2 fullShare f)) ∗ (bigSep (others c) (agWt (F := F) c 2))) ∗ fam c (rsW (F := F) c 2) (rsD v c 2) 0 ∗ (∃ f, accP (F := F) c f) ∗ OutS c ob ou (4) (2) (32) ∗ Owing (F := F) c 112) from ?_) ?_
  · iintro ⟨#HK, ⟨HR, HA, G2, H2, H3, HI, HT, GB, SG⟩, AA, HS, HO⟩
    ihave HZ := (ag_got v c 1) $$ [AA SG]
    · isplitl [AA]; · iexact AA
      iexact SG
    icases HZ with H1
    ihave HZ := (rs_open v c 2) $$ G2
    icases HZ with ⟨RR, ST⟩
    ihave HZ := ((show AG v c 2 0 ⊢ iprop((bigSep (others c) (fun e => iprop(agTok (F := F) c 2 e ∗ ∃ f, agP (F := F) e 2 c f)) ∗ bigSep (others c) (agWt (F := F) c 2) ∗ ∃ f, sgP (F := F) c 2 fullShare f)) from .refl)) $$ H2
    icases HZ with ⟨AT, AW, AB⟩
    isplitr; · iexact HK
    isplitl [HR H1 H3 GB HI HT ST AT AB AW]
    · isplitl [HR]; · iexact HR
      isplitl [H1]; · iexact H1
      isplitl [H3]; · iexact H3
      isplitl [GB]; · iexact GB
      isplitl [HI]; · iexact HI
      isplitl [HT]; · iexact HT
      isplitl [ST]; · iexact ST
      isplitl [AT AB]
      · isplitl [AT]; · iexact AT
        iexact AB
      iexact AW
    isplitl [RR]; · iexact RR
    isplitl [HA]; · iexact HA
    isplitl [HS]; · iexact HS
    iexact HO
  refine wp_call c (part3_spec v K i arg1 harg1 arg2 harg2 arg3 harg3 arg4 harg4 arg5 harg5 c 2 hb 112 ob ou (4) (2) (32) (fun _ => Nat.le_of_ble_eq_true rfl) (fun _ => Nat.le_of_ble_eq_true rfl) (Nat.le_of_ble_eq_true rfl) (Nat.le_of_ble_eq_true rfl) ((cond51_iff i).2 (by omega)) _ _) fun r => ?_
  obtain ⟨v251, v282⟩ := r
  refine wp_call c (part4_spec v K i arg1 harg1 arg2 harg2 arg3 harg3 arg4 harg4 arg5 harg5 c 2 hb 112 ob ou (4) (2) (32) (fun _ => Nat.le_of_ble_eq_true rfl) (fun _ => Nat.le_of_ble_eq_true rfl) (k0_pay18 (rowsV ob 2 c)) ((cond51_iff i).2 (by omega)) v251 v282 _) fun r => pure_elim fun hr => ?_
  obtain ⟨v308, v312⟩ := r
  obtain rfl : v308 = accS v (k0_pay18 (rowsV ob 2 c)) c 2 16 := hr
  refine BI.Entails.trans (show iprop(Known v K ∗ ((R ∗ (AG v c 1 2) ∗ (AG v c 3 0) ∗ (RS v c 3 1) ∗ (InsP c arg1 arg2 arg3 arg4 arg5 x wq wo kk vv) ∗ (AtS c x wq kk vv 8) ∗ (stP c 2 c (v.stg c)) ∗ ((bigSep (others c) (fun e => iprop(agTok (F := F) c 2 e ∗ ∃ f, agP (F := F) e 2 c f)) ∗ ∃ f, sgP (F := F) c 2 fullShare f)) ∗ (bigSep (others c) (agWt (F := F) c 2))) ∗ OutS c ob ou (4) (2) (32)) ∗ fam c (rsW (F := F) c 2) (rsD v c 2) 16 ∗ accP c (accS v (k0_pay18 (rowsV ob 2 c)) c 2 16) ∗ Owing (F := F) c 112) ⊢ iprop(Known v K ∗ (R ∗ (AG v c 1 2) ∗ (AG v c 3 0) ∗ (RS v c 3 1) ∗ (InsP c arg1 arg2 arg3 arg4 arg5 x wq wo kk vv) ∗ (AtS c x wq kk vv 8) ∗ (bigSep (others c) (agWt (F := F) c 2)) ∗ (RS v c 2 2) ∗ ((∃ f, accP (F := F) c f))) ∗ (bigSep (others c) (fun e => iprop(agTok (F := F) c 2 e ∗ ∃ f, agP (F := F) e 2 c f)) ∗ ∃ f, sgP (F := F) c 2 fullShare f) ∗ OutS c ob ou (4) ((2 : Fin 4).val) (32) ∗ Owing (F := F) c (agBase 2 + 0)) from ?_) ?_
  · iintro ⟨#HK, ⟨⟨HR, H1, H3, GB, HI, HT, ST, AGR, AW⟩, HS⟩, RR, HA, HO⟩
    ihave HZ := (rs_got v c 2) $$ [RR ST]
    · isplitl [RR]; · iexact RR
      iexact ST
    icases HZ with GG
    ihave HZ := ((show accP c (accS v (k0_pay18 (rowsV ob 2 c)) c 2 16) ⊢ iprop(∃ f, accP (F := F) c f) from by iintro H; iexists _; iexact H)) $$ HA
    icases HZ with HA
    isplitr; · iexact HK
    isplitl [HR H1 H3 GB HI HT AW GG HA]
    · isplitl [HR]; · iexact HR
      isplitl [H1]; · iexact H1
      isplitl [H3]; · iexact H3
      isplitl [GB]; · iexact GB
      isplitl [HI]; · iexact HI
      isplitl [HT]; · iexact HT
      isplitl [AW]; · iexact AW
      isplitl [GG]; · iexact GG
      iexact HA
    isplitl [AGR]; · iexact AGR
    isplitl [HS]; · iexact HS
    iexact HO
  refine wp_call c (part5_spec v K i arg1 harg1 arg2 harg2 arg3 harg3 arg4 harg4 arg5 harg5 c 2 hb ob ou (4) (32) (accS v (k0_pay18 (rowsV ob 2 c)) c 2 16) (hW 2) (hU 2) ((cond51_iff i).2 (by omega)) v251 v312 _) fun r => ?_
  refine step_ag_send v K c 2 8 (by decide) (cond76 c) k0_dev41_eq (off244 i 2 hb) (off245 i 2 c hb) (off246 i 2 c hb) (off247 i 2 hb) ?_
  refine step_ag_send v K c 2 9 (by decide) (cond77 c) k0_dev42_eq (off248 i 2 hb) (off249 i 2 c hb) (off250 i 2 c hb) (off251 i 2 hb) ?_
  refine step_ag_send v K c 2 10 (by decide) (cond78 c) k0_dev43_eq (off252 i 2 hb) (off253 i 2 c hb) (off254 i 2 c hb) (off255 i 2 hb) ?_
  refine step_ag_send v K c 2 11 (by decide) (cond79 c) k0_dev44_eq (off256 i 2 hb) (off257 i 2 c hb) (off258 i 2 c hb) (off259 i 2 hb) ?_
  refine step_ag_send v K c 2 12 (by decide) (cond80 c) k0_dev45_eq (off260 i 2 hb) (off261 i 2 c hb) (off262 i 2 c hb) (off263 i 2 hb) ?_
  refine step_ag_send v K c 2 13 (by decide) (cond81 c) k0_dev46_eq (off264 i 2 hb) (off265 i 2 c hb) (off266 i 2 c hb) (off267 i 2 hb) ?_
  refine step_ag_send v K c 2 14 (by decide) (cond82 c) k0_dev47_eq (off268 i 2 hb) (off269 i 2 c hb) (off270 i 2 c hb) (off271 i 2 hb) ?_
  refine step_ag_send v K c 2 15 (by decide) (cond83 c) k0_dev48_eq (off272 i 2 hb) (off273 i 2 c hb) (off274 i 2 c hb) (off275 i 2 hb) ?_
  refine wp_if_pos c ((cond84_iff i).2 (by omega)) ?_
  refine BI.Entails.trans (show iprop(Known v K ∗ ((R ∗ (AG v c 1 2) ∗ (AG v c 3 0) ∗ (RS v c 3 1) ∗ (InsP c arg1 arg2 arg3 arg4 arg5 x wq wo kk vv) ∗ (AtS c x wq kk vv 8) ∗ (bigSep (others c) (agWt (F := F) c 2)) ∗ (RS v c 2 2) ∗ ((∃ f, accP (F := F) c f))) ∗ OutS c ob ou (4) ((2 : Fin 4).val + 1) (32) ∗ sgRest v c 2) ∗ fam c (agA v c 2) (agB c 2) 16 ∗ Owing (F := F) c (agBase 2 + 16)) ⊢ iprop(Known v K ∗ (R ∗ (AG v c 1 2) ∗ (InsP c arg1 arg2 arg3 arg4 arg5 x wq wo kk vv) ∗ (AtS c x wq kk vv 8) ∗ (RS v c 2 2) ∗ (stP c 3 c (v.stg c)) ∗ (sgRest v c 2)) ∗ fam c (rsW (F := F) c 3) (rsD v c 3) 0 ∗ (∃ f, accP (F := F) c f) ∗ AG v c 3 0 ∗ fam c (agW (F := F) c 2) (agD v c 2) 0 ∗ OutS c ob ou (4) (3) (32 + 0) ∗ Owing (F := F) c 128) from ?_) ?_
  · iintro ⟨#HK, ⟨⟨HR, H1, H3, GB, HI, HT, AW, GG, HA⟩, HS, SG⟩, AA, HO⟩
    ihave HZ := (ag_sent v c 2) $$ [AA AW SG]
    · isplitl [AA]; · iexact AA
      isplitl [AW]; · iexact AW
      iexact SG
    icases HZ with HN
    ihave HZ := (ag_open v c 2) $$ HN
    icases HZ with ⟨AA, SG⟩
    ihave HZ := (rs_open v c 3) $$ GB
    icases HZ with ⟨RR, ST⟩
    isplitr; · iexact HK
    isplitl [HR H1 HI HT GG ST SG]
    · isplitl [HR]; · iexact HR
      isplitl [H1]; · iexact H1
      isplitl [HI]; · iexact HI
      isplitl [HT]; · iexact HT
      isplitl [GG]; · iexact GG
      isplitl [ST]; · iexact ST
      iexact SG
    isplitl [RR]; · iexact RR
    isplitl [HA]; · iexact HA
    isplitl [H3]; · iexact H3
    isplitl [AA]; · iexact AA
    isplitl [HS]; · iexact HS
    iexact HO
  refine wp_call c (part28_spec v K i arg1 harg1 arg2 harg2 arg3 harg3 arg4 harg4 arg5 harg5 c ob ou hou (hW 3) (hU 3) ((cond84_iff i).2 (by omega)) _) fun r => pure_elim fun hr => ?_
  subst hr
  refine step_ag_store v K c 3 15 (by decide) (agBase 3 + 16) ob ou 4 4 hou (lvAll _) (lvAll _) rfl (condV ⟨15, by decide⟩ c) rfl rfl rfl rfl rfl ?_
  refine BI.Entails.trans (show iprop(Known v K ∗ (((R ∗ (AG v c 1 2) ∗ (InsP c arg1 arg2 arg3 arg4 arg5 x wq wo kk vv) ∗ (AtS c x wq kk vv 8) ∗ (RS v c 2 2) ∗ (stP c 3 c (v.stg c)) ∗ (sgRest v c 2)) ∗ fam c (rsW (F := F) c 3) (rsD v c 3) 16 ∗ accP c (accS v (k0_pay18 (rowsV ob 3 c)) c 3 16) ∗ sgRest v c 3) ∗ fam c (agW (F := F) c 2) (agD v c 2) 16) ∗ fam c (agW (F := F) c 3) (agD v c 3) 16 ∗ OutS c ob ou (4) (4) (48 + 16) ∗ Owing (F := F) c (agBase 3 + 16)) ⊢ iprop(Known v K ∗ (R ∗ (AG v c 1 2) ∗ (RS v c 2 2) ∗ (RS v c 3 2) ∗ (AG v c 2 2) ∗ (AG v c 3 2) ∗ ((∃ f, accP (F := F) c f))) ∗ OutS c ob ou (4) (4) (64) ∗ Owing (F := F) c 144 ∗ InsP c arg1 arg2 arg3 arg4 arg5 x wq wo kk vv ∗ AtS c x wq kk vv 8) from ?_) ?_
  · iintro ⟨#HK, ⟨⟨⟨HR, H1, HI, HT, GG, ST, SG⟩, RR, HA, SG3⟩, A2⟩, A3, HS, HO⟩
    ihave HZ := (rs_got v c 3) $$ [RR ST]
    · isplitl [RR]; · iexact RR
      iexact ST
    icases HZ with G3
    ihave HZ := (ag_got v c 2) $$ [A2 SG]
    · isplitl [A2]; · iexact A2
      iexact SG
    icases HZ with H2
    ihave HZ := (ag_got v c 3) $$ [A3 SG3]
    · isplitl [A3]; · iexact A3
      iexact SG3
    icases HZ with H3
    ihave HZ := ((show accP c (accS v (k0_pay18 (rowsV ob 3 c)) c 3 16) ⊢ iprop(∃ f, accP (F := F) c f) from by iintro H; iexists _; iexact H)) $$ HA
    icases HZ with HA
    isplitr; · iexact HK
    isplitl [HR H1 GG G3 H2 H3 HA]
    · isplitl [HR]; · iexact HR
      isplitl [H1]; · iexact H1
      isplitl [GG]; · iexact GG
      isplitl [G3]; · iexact G3
      isplitl [H2]; · iexact H2
      isplitl [H3]; · iexact H3
      iexact HA
    isplitl [HS]; · iexact HS
    isplitl [HO]; · iexact HO
    isplitl [HI]; · iexact HI
    iexact HT
  exact wp_done c (BI.Entails.refl _)

end Cert.RsAg
-- ==== Proof.Data.lean ====
/-
# The grid points as steps of the pipeline

Each grid point finds its blocks of the arguments, and the output block as the earlier points left it. It leaves the
output block one batch further. Between the points the device holds the state of both exchanges of every batch.
-/
module

public import proofs.«01_k».proof.Proof.Values
public import proofs.«01_k».proof.Proof.Gen.KernelIdeal.Points
public import proofs.«01_k».proof.Proof.Body0
public import proofs.«01_k».proof.Proof.Body1
public import proofs.«01_k».proof.Proof.Body2
public import proofs.«01_k».proof.Proof.Body3

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The blocks -/

theorem point_val (t : Fin cfg0.N) : (grid0.coords t 0).val = t.val := by revert t; decide

theorem emb_w0 (t : Fin cfg0.N) (j : S1x256x1024.Idx) : ((cfg0.win 0).blk t).view.emb j = ix3 (grid0.coords t 0) (j 1) (j 2) := by
  funext a
  have h0 : (j 0).val < 1 := (j 0).isLt
  have h4 : (grid0.coords t 0).val < 4 := (grid0.coords t 0).isLt
  refine Fin.ext ?_
  match a with
  | ⟨0, _⟩ =>
    show (BitVec.ofNat 32 (grid0.coords t 0).val).toNat * 1 + 1 * (j 0).val = (grid0.coords t 0).val
    rw [BitVec.toNat_ofNat, Nat.mod_eq_of_lt (by omega)]; omega
  | ⟨1, _⟩ => show 0 * 256 + 1 * (j 1).val = (j 1).val; omega
  | ⟨2, _⟩ => show 0 * 1024 + 1 * (j 2).val = (j 2).val; omega

theorem emb_w3 (t : Fin cfg0.N) (j : S1x1024x8x128.Idx) : ((cfg0.win 3).blk t).view.emb j = ix4 (grid0.coords t 0) (j 1) (j 2) (j 3) := by
  funext a
  have h0 : (j 0).val < 1 := (j 0).isLt
  have h4 : (grid0.coords t 0).val < 4 := (grid0.coords t 0).isLt
  refine Fin.ext ?_
  match a with
  | ⟨0, _⟩ =>
    show (BitVec.ofNat 32 (grid0.coords t 0).val).toNat * 1 + 1 * (j 0).val = (grid0.coords t 0).val
    rw [BitVec.toNat_ofNat, Nat.mod_eq_of_lt (by omega)]; omega
  | ⟨1, _⟩ => show 0 * 1024 + 1 * (j 1).val = (j 1).val; omega
  | ⟨2, _⟩ => show 0 * 8 + 1 * (j 2).val = (j 2).val; omega
  | ⟨3, _⟩ => show 0 * 128 + 1 * (j 3).val = (j 3).val; omega

theorem emb_w4 (t : Fin cfg0.N) (j : S1x1024x8x128.Idx) : ((cfg0.win 4).blk t).view.emb j = ix4 (grid0.coords t 0) (j 1) (j 2) (j 3) := by
  funext a
  have h0 : (j 0).val < 1 := (j 0).isLt
  have h4 : (grid0.coords t 0).val < 4 := (grid0.coords t 0).isLt
  refine Fin.ext ?_
  match a with
  | ⟨0, _⟩ =>
    show (BitVec.ofNat 32 (grid0.coords t 0).val).toNat * 1 + 1 * (j 0).val = (grid0.coords t 0).val
    rw [BitVec.toNat_ofNat, Nat.mod_eq_of_lt (by omega)]; omega
  | ⟨1, _⟩ => show 0 * 1024 + 1 * (j 1).val = (j 1).val; omega
  | ⟨2, _⟩ => show 0 * 8 + 1 * (j 2).val = (j 2).val; omega
  | ⟨3, _⟩ => show 0 * 128 + 1 * (j 3).val = (j 3).val; omega

theorem emb_w1 (t : Fin cfg0.N) (j : S1024x1024.Idx) : ((cfg0.win 1).blk t).view.emb j = j := by
  funext a
  refine Fin.ext ?_
  match a with
  | ⟨0, _⟩ => show 0 * 1024 + 1 * (j 0).val = (j 0).val; omega
  | ⟨1, _⟩ => show 0 * 1024 + 1 * (j 1).val = (j 1).val; omega

theorem emb_w2 (t : Fin cfg0.N) (j : S1024x1024.Idx) : ((cfg0.win 2).blk t).view.emb j = j := by
  funext a
  refine Fin.ext ?_
  match a with
  | ⟨0, _⟩ => show 0 * 1024 + 1 * (j 0).val = (j 0).val; omega
  | ⟨1, _⟩ => show 0 * 1024 + 1 * (j 1).val = (j 1).val; omega

theorem emb_w5 (t : Fin cfg0.N) (j : S4x256x1024.Idx) : ((cfg0.win 5).blk t).view.emb j = j := by
  funext a
  refine Fin.ext ?_
  match a with
  | ⟨0, _⟩ => show 0 * 4 + 1 * (j 0).val = (j 0).val; omega
  | ⟨1, _⟩ => show 0 * 256 + 1 * (j 1).val = (j 1).val; omega
  | ⟨2, _⟩ => show 0 * 1024 + 1 * (j 2).val = (j 2).val; omega

theorem stage5 (t : Fin cfg0.N) : (cfg0.win 5).stage (cfg0.slots t 5) = Memref.whole cc0_stg5_0 := by
  have h : (cfg0.slots t 5) = (⟨0, by decide⟩ : Fin 1) := Subsingleton.elim (α := Fin 1) _ _
  rw [h]

/-! ## The state between the points -/

variable (m : (ℓ : Loc nD τ sig) → Buf (Elt F) ℓ)

/-- The device's own slots and their semaphores, which no transfer uses. -/
def Slf (c : Dev nD) : sProp 𝕄 := iprop(barPay (F := F) c c ∗ bigSep Finset.univ fun kg : Fin 4 × Fin 4 => semVal (xCell c kg.1 kg.2 c) 0)

/-- Before the handshake. -/
def Start (c : Dev nD) : sProp 𝕄 :=
  iprop(∃ K, Known (valsOf m) K ∗ Slf (F := F) c ∗ (∃ f, accP (F := F) c f) ∗ (∃ f, atP (F := F) c f)
    ∗ bigSep Finset.univ (fun g : Fin 4 => iprop(bareRS (F := F) c g ∗ bareAG (F := F) c g))
    ∗ bigSep (others c) (fun e => iprop(dutyTok ER (barCell e) 0 c ∗ barPay (F := F) e c)) ∗ cred (tallyAt (barCell c) () 15) ∗ atPos ER (barCell c) 0 ∅ 0)

/-- After it: the stages of the two exchanges of the four batches. -/
def Mid (c : Dev nD) (r0 r1 r2 r3 a0 a1 a2 a3 : ℕ) : sProp 𝕄 :=
  iprop(∃ K, Known (valsOf m) K ∗ Slf (F := F) c ∗ (∃ f, accP (F := F) c f) ∗ (∃ f, atP (F := F) c f) ∗ semVal (barCell c) 0
    ∗ RS (valsOf m) c 0 r0 ∗ RS (valsOf m) c 1 r1 ∗ RS (valsOf m) c 2 r2 ∗ RS (valsOf m) c 3 r3
    ∗ AG (valsOf m) c 0 a0 ∗ AG (valsOf m) c 1 a1 ∗ AG (valsOf m) c 2 a2 ∗ AG (valsOf m) c 3 a3)

def Inv (c : Dev nD) : ℕ → sProp 𝕄
  | 0 => Start m c
  | 1 => Mid m c 1 0 0 0 0 0 0 0
  | 2 => Mid m c 2 1 0 0 1 0 0 0
  | 3 => Mid m c 2 2 1 0 2 1 0 0
  | _ => Mid m c 2 2 2 2 2 2 2 2

/-- How many of its payments the device has made before a point. -/
def paid : ℕ → ℕ
  | 0 => 0
  | 1 => 32
  | 2 => 64
  | 3 => 96
  | _ => 144

/-- The output block before a point. -/
def OutAt (c : Dev nD) : ℕ → (S4x256x1024.Idx → Elt F .f32) → Prop
  | 0 => OutK c (obOf m c) (ouOf m c) 0 0 0
  | 1 => OutK c (obOf m c) (ouOf m c) 1 0 0
  | 2 => OutK c (obOf m c) (ouOf m c) 2 1 0
  | 3 => OutK c (obOf m c) (ouOf m c) 3 2 16
  | _ => OutK c (obOf m c) (ouOf m c) 4 4 64

theorem outAt_zero (c : Dev nD) (f : S4x256x1024.Idx → Elt F .f32) : OutAt m c 0 f :=
  ⟨fun _ _ _ _ _ h => absurd h (Nat.not_lt_zero _), fun _ _ _ h => absurd h (Nat.not_lt_zero _), fun _ _ _ _ h => absurd h (Nat.not_lt_zero _)⟩

theorem outAt_last (c : Dev nD) (f : S4x256x1024.Idx → Elt F .f32) (h : OutAt m c 4 f) : f = ouOf m c := by
  obtain ⟨h1, h2, -⟩ := h
  funext x
  have hx : x = ix3 (x 0) (rowOf (ownerOf (x 1)) (inRow (x 1))) (x 2) :=
    (eq_ix3 x).trans (congrArg (fun y => ix3 (x 0) y (x 2)) (rowOf_inRow (x 1)).symm)
  have hp : ∀ (g : Fin 4) (e r : Fin 16) (k : Fin 1024), f (ix3 g (rowOf e r) k) = ouOf m c (ix3 g (rowOf e r) k) := fun g e r k => by
    by_cases hc : e = c
    · subst hc; exact h2 g r k g.isLt
    · exact h1 g e r k hc (by omega)
  exact (congrArg f hx).trans ((hp _ _ _ _).trans (congrArg (ouOf m c) hx.symm))

def rdats : (p : Fin 1) → (c : Dev nD) → Pipeline.RDat τ (Elt F) Unit ℕ UU ℕ (cfgs p) c := fun
  | 0 => fun c =>
    { A := fun w => m ((cfg0.win w).arr.view.loc (c : Thread nD τ))
      after := fun
        | 0 => fun _ Y X => X = Y
        | 1 => fun _ Y X => X = Y
        | 2 => fun _ Y X => X = Y
        | 3 => fun _ Y X => X = Y
        | 4 => fun _ Y X => X = Y
        | 5 => fun t _ X => OutAt m c (t.val + 1) X
        | ⟨_ + 6, h⟩ => absurd h (Nat.not_lt.2 (Nat.le_add_left _ _))
      Φ := fun t => Inv m c t.val
      q := fun _ => fullShare
      owed := fun t => owe c (paid t.val) }

theorem finds_w0 (c : Dev nD) (t : Fin cfg0.N) (Y : S1x256x1024.Idx → Elt F .f32) (h : (rdats m 0 c).Finds 0 t Y) : Y = xOf m c (grid0.coords t 0) := by
  obtain ⟨d, hd⟩ := ((rdats m 0 c).finds_of_fetch (fetch0_0 t) Y).1 h
  refine hd.trans (funext fun j => ?_)
  exact congrArg (m ((c : Thread nD τ).loc main_arg0)) (emb_w0 t j)

theorem finds_w3 (c : Dev nD) (t : Fin cfg0.N) (Y : S1x1024x8x128.Idx → Elt F .f32) (h : (rdats m 0 c).Finds 3 t Y) : Y = kOf m c (grid0.coords t 0) := by
  obtain ⟨d, hd⟩ := ((rdats m 0 c).finds_of_fetch (fetch0_3 t) Y).1 h
  refine hd.trans (funext fun j => ?_)
  exact congrArg (m ((c : Thread nD τ).loc main_arg2)) (emb_w3 t j)

theorem finds_w4 (c : Dev nD) (t : Fin cfg0.N) (Y : S1x1024x8x128.Idx → Elt F .f32) (h : (rdats m 0 c).Finds 4 t Y) : Y = vOf m c (grid0.coords t 0) := by
  obtain ⟨d, hd⟩ := ((rdats m 0 c).finds_of_fetch (fetch0_4 t) Y).1 h
  refine hd.trans (funext fun j => ?_)
  exact congrArg (m ((c : Thread nD τ).loc main_arg3)) (emb_w4 t j)

theorem finds_w1 (c : Dev nD) (n : ℕ) : ∀ (hn : n < cfg0.N) (Y : S1024x1024.Idx → Elt F .f32), (rdats m 0 c).Finds 1 ⟨n, hn⟩ Y → Y = wqOf m c := by
  have hF : ∀ (t : Fin cfg0.N) (Y : S1024x1024.Idx → Elt F .f32), (cfg0.win 1).fetch t = true → (rdats m 0 c).Finds 1 t Y → Y = wqOf m c := fun t Y ht h => by
    obtain ⟨d, hd⟩ := ((rdats m 0 c).finds_of_fetch ht Y).1 h
    refine hd.trans (funext fun j => ?_)
    exact congrArg (m ((c : Thread nD τ).loc main_arg1)) (emb_w1 t j)
  induction n with
  | zero => exact fun hn Y h => hF ⟨0, hn⟩ Y ((fetch0_1 ⟨0, hn⟩).2 rfl) h
  | succ n ih =>
    intro hn Y h
    by_cases hf : (cfg0.win 1).fetch ⟨n + 1, hn⟩ = true
    · exact hF _ Y hf h
    rcases ((rdats m 0 c).finds_of_pos (Bool.eq_false_iff.2 hf) (Nat.succ_ne_zero n) Y).1 h with h' | ⟨Z, hZ, hY⟩
    · exact absurd h' Bool.false_ne_true
    · have hY' : Y = Z := hY
      rw [hY']; exact ih (Nat.lt_of_succ_lt hn) Z hZ

theorem finds_w2 (c : Dev nD) (n : ℕ) : ∀ (hn : n < cfg0.N) (Y : S1024x1024.Idx → Elt F .f32), (rdats m 0 c).Finds 2 ⟨n, hn⟩ Y → Y = woOf m c := by
  have hF : ∀ (t : Fin cfg0.N) (Y : S1024x1024.Idx → Elt F .f32), (cfg0.win 2).fetch t = true → (rdats m 0 c).Finds 2 t Y → Y = woOf m c := fun t Y ht h => by
    obtain ⟨d, hd⟩ := ((rdats m 0 c).finds_of_fetch ht Y).1 h
    refine hd.trans (funext fun j => ?_)
    exact congrArg (m ((c : Thread nD τ).loc main_arg4)) (emb_w2 t j)
  induction n with
  | zero => exact fun hn Y h => hF ⟨0, hn⟩ Y ((fetch0_2 ⟨0, hn⟩).2 rfl) h
  | succ n ih =>
    intro hn Y h
    by_cases hf : (cfg0.win 2).fetch ⟨n + 1, hn⟩ = true
    · exact hF _ Y hf h
    rcases ((rdats m 0 c).finds_of_pos (Bool.eq_false_iff.2 hf) (Nat.succ_ne_zero n) Y).1 h with h' | ⟨Z, hZ, hY⟩
    · exact absurd h' Bool.false_ne_true
    · have hY' : Y = Z := hY
      rw [hY']; exact ih (Nat.lt_of_succ_lt hn) Z hZ

theorem finds_w5 (c : Dev nD) (t : Fin cfg0.N) (Y : S4x256x1024.Idx → Elt F .f32) (h : (rdats m 0 c).Finds 5 t Y) : OutAt m c t.val Y := by
  obtain ⟨n, hn⟩ := t
  match n with
  | 0 => exact outAt_zero m c Y
  | n + 1 =>
    rcases ((rdats m 0 c).finds_of_pos (w := 5) rfl (Nat.succ_ne_zero n) Y).1 h with h' | ⟨Z, hZ, hY⟩
    · have := (flush0_5 _).1 h'
      have hN : n + 1 < 4 := hn
      have : n % 4 = 3 := this
      omega
    · exact hY

end Cert.RsAg

end
-- ==== Proof.Alloc.lean ====
/-
# The protocol's state at the launch

The launch gives every device the states of its cells, its positions and its duty tokens. All devices together open
the cells' invariants, and every token goes to the device that pays the duty. A device's cells towards itself have no
duty, and close at once.
-/
module

public import proofs.«01_k».proof.Proof.Credits
public import proofs.«01_k».proof.Proof.Data

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What the launch funds -/

/-- All cells of the protocol. -/
def allCells : Finset (GSem nD τ sig) := Finset.univ.map ⟨kcell, kcell_inj⟩

/-- The duty of peer `e` on one cell of device `c`: the barrier cell, or the transfer cell of a kind and batch. -/
def dutyOf (x : (Dev nD × Dev nD) × Option (Fin 4 × Fin 4)) : GSem nD τ sig × ℕ × Dev nD :=
  (kcell (x.1.1, x.2.map fun kg => (kg.1, kg.2, x.1.2)), 0, x.1.2)

theorem dutyOf_inj : Function.Injective dutyOf := by
  rintro ⟨⟨c, e⟩, o⟩ ⟨⟨c', e'⟩, o'⟩ h
  have h1 := kcell_inj (Prod.mk.inj h).1
  have h2 : e = e' := (Prod.mk.inj (Prod.mk.inj h).2).2
  subst h2
  obtain ⟨h3, h4⟩ := Prod.mk.inj h1
  have h3' : c = c' := h3
  subst h3'
  have h5 : o = o' := by
    cases o <;> cases o'
    · rfl
    · exact absurd h4 (by simp)
    · exact absurd h4 (by simp)
    · obtain ⟨h6, h7⟩ := Prod.mk.inj (Option.some.inj h4)
      exact congrArg some (Prod.ext h6 (Prod.mk.inj h7).1)
  rw [h5]

def allDuties : Finset (GSem nD τ sig × ℕ × Dev nD) := Finset.univ.map ⟨dutyOf, dutyOf_inj⟩

/-- The launch's element: the pipeline's part and the protocol's part. -/
def u₀ : UU := (initOf (Pipeline.cells cfgs cellOf_inj) (Pipeline.launchToks cfgs cellOf_inj), initOf allCells allDuties)

variable (v : Vals F)

/-- The token of peer `e` on device `c`'s cell of kind `k` and batch `g`. -/
abbrev xTok (c e : Dev nD) (k g : Fin 4) : sProp 𝕄 := dutyTok ER (xCell c k g e) 0 e
/-- The tokens of peer `e` on the cells of device `c`. -/
def pairTok (c e : Dev nD) : sProp 𝕄 :=
  iprop(dutyTok ER (barCell c) 0 e ∗ (bigSep Finset.univ fun g => xTok (F := F) c e 0 g) ∗ (bigSep Finset.univ fun g => xTok (F := F) c e 1 g)
    ∗ (bigSep Finset.univ fun g => xTok (F := F) c e 2 g) ∗ bigSep Finset.univ fun g => xTok (F := F) c e 3 g)
/-- The tokens which device `c` uses with peer `e`. -/
def useTok (c e : Dev nD) : sProp 𝕄 :=
  iprop(dutyTok ER (barCell e) 0 c ∗ (bigSep Finset.univ fun g => xTok (F := F) c e 0 g) ∗ (bigSep Finset.univ fun g => xTok (F := F) e c 1 g)
    ∗ (bigSep Finset.univ fun g => xTok (F := F) c e 2 g) ∗ bigSep Finset.univ fun g => xTok (F := F) e c 3 g)

/-- What the launch's element gives device `c`. -/
def Fund (c : Dev nD) : sProp 𝕄 :=
  iprop((bigSep Finset.univ fun ck => roundState ER (rd v) (kcell (c, ck)) 0) ∗ (bigSep Finset.univ fun ck => reached ER (kcell (c, ck)) 0)
    ∗ (bigSep Finset.univ fun ck => atPos ER (kcell (c, ck)) 0 ∅ 0) ∗ bigSep Finset.univ fun e => pairTok (F := F) c e)

omit [FloatOps F] [Named F] in
theorem cells_eq (Φ : GSem nD τ sig → sProp 𝕄) : bigSep allCells Φ = bigSep Finset.univ fun c : Dev nD => bigSep Finset.univ fun ck : Option CK => Φ (kcell (c, ck)) := by
  unfold allCells; rw [bigSep_map, bigSep_univ_prod]; rfl

omit [FloatOps F] [Named F] in
theorem duties_eq : bigSep allDuties (fun x => (dutyTok ER x.1 x.2.1 x.2.2 : sProp 𝕄)) = bigSep Finset.univ fun c : Dev nD => bigSep Finset.univ fun e : Dev nD => pairTok (F := F) c e := by
  unfold allDuties
  rw [bigSep_map, bigSep_univ_prod, bigSep_univ_prod]
  refine bigSep_congr fun c _ => bigSep_congr fun e _ => ?_
  rw [star_option, bigSep_univ_prod, star_fin4]
  rfl

omit [FloatOps F] [Named F] in
theorem fund : BI.own (ER (initOf allCells allDuties)) ⊢ (|==> bigSep Finset.univ (Fund v) : sProp 𝕄) := by
  iintro H
  imod (Rounds.fund ER (rd v) allCells allDuties) $$ H with ⟨H1, H2, H3, H4⟩
  imodintro
  ihave H1' := (Entails.of_eq (cells_eq fun g => roundState ER (rd v) g 0)) $$ H1
  ihave H2' := (Entails.of_eq (cells_eq fun g => reached ER g 0)) $$ H2
  ihave H3' := (Entails.of_eq (cells_eq fun g => atPos ER g 0 ∅ 0)) $$ H3
  ihave H4' := (Entails.of_eq (duties_eq (F := F))) $$ H4
  unfold Fund
  rw [← star_sep, ← star_sep, ← star_sep]
  isplitl [H1']; · iexact H1'
  isplitl [H2']; · iexact H2'
  isplitl [H3']; · iexact H3'
  iexact H4'

/-! ## The semaphores -/

/-- The kernel's own semaphores. -/
abbrev osem (x : CK) : SemLoc sig := csem (some x)

theorem ownSemFacts : Pipeline.OwnSemFacts cfg0.spec osem where
  isScoped := by rintro ⟨k, g, d⟩; revert k g d; decide
  inj := fun x y h => Option.some.inj (csem_inj h)
  disj := by
    rintro ⟨k, g, d⟩ w s h
    have h9 : 9 ≤ (dsem k g d : Fin 265).val := by show 9 ≤ 9 + 64 * k.val + 16 * g.val + d.val; omega
    rw [SemLoc.dma.inj h] at h9
    clear h
    revert h9; revert w s; decide

omit [FloatOps F] [Named F] in
theorem sems_own (c : Dev nD) : (Pipeline.ownSems0 (Ix := Unit) (Name := ℕ) (U := UU) (Lvl := ℕ) (Val := Elt F) (τ := τ) osem c : sProp 𝕄) = bigSep Finset.univ fun x : CK => semVal (kcell (c, some x)) 0 := rfl
omit [FloatOps F] [Named F] in
theorem sems_bar (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems_all (c : Dev nD) : (iprop(Pipeline.ownSems0 (Ix := Unit) (Name := ℕ) (U := UU) (Lvl := ℕ) (Val := Elt F) (τ := τ) osem c ∗ unscopedSems0 c) : sProp 𝕄) ⊢ bigSep Finset.univ fun ck : Option CK => semVal (kcell (c, ck)) 0 := by
  rw [sems_own, sems_bar, star_option]
  exact BI.sep_comm

/-- One device opens the invariants of its cells. -/
theorem open_cells (c : Dev nD) :
    iprop(Pipeline.ownSems0 (Ix := Unit) (Name := ℕ) (U := UU) (Lvl := ℕ) (Val := Elt F) (τ := τ) osem c ∗ unscopedSems0 c ∗ Fund v c)
      ⊢ |={Set.univ}=> iprop((bigSep Finset.univ fun ck => iprop(∃ κ : ℕ, cellInv ER (rd v) κ (kcell (c, ck)))) ∗ (bigSep Finset.univ fun ck => reached ER (kcell (c, ck)) 0)
        ∗ (bigSep Finset.univ fun ck => atPos ER (kcell (c, ck)) 0 ∅ 0) ∗ bigSep Finset.univ fun e => pairTok (F := F) c e) := by
  unfold Fund
  iintro ⟨H1, H2, HS, HR, HP, HT⟩
  ihave HV := (sems_all (F := F) c) $$ [H1 H2]
  · isplitl [H1] <;> iassumption
  have hopen : iprop((bigSep Finset.univ fun ck : Option CK => semVal (kcell (c, ck)) 0) ∗ bigSep Finset.univ fun ck => roundState ER (rd v) (kcell (c, ck)) 0)
      ⊢ (|={Set.univ}=> bigSep Finset.univ fun ck => iprop(∃ κ : ℕ, cellInv ER (rd v) κ (kcell (c, ck))) : sProp 𝕄) := by
    rw [star_sep]
    exact (bigSep_mono fun ck _ => (Rounds.body_intro ER (rd v) (kcell (c, ck))).trans inv_alloc).trans (bigSep_fupd _ _)
  imod (hopen) $$ [HV HS] with HI
  · isplitl [HV] <;> iassumption
  imodintro
  isplitl [HI]; · iexact HI
  isplitl [HR]; · iexact HR
  isplitl [HP]; · iexact HP
  iexact HT

/-- The cells' invariants, and that every cell is at round 0 at least. -/
def Open (K : Dev nD × Option CK → ℕ) : sProp 𝕄 :=
  iprop((bigSep Finset.univ fun ck => cellInv ER (rd v) (K ck) (kcell ck)) ∗ bigSep Finset.univ fun ck => reached ER (kcell ck) 0)
instance open_persistent (K : Dev nD × Option CK → ℕ) : BI.Persistent (Open v K) := by unfold Open; infer_instance

/-- What device `c` starts from: the invariants, its positions and the tokens it uses. -/
def Deal (c : Dev nD) : sProp 𝕄 :=
  iprop(∃ K, Open v K ∗ (bigSep Finset.univ fun ck => atPos ER (kcell (c, ck)) 0 ∅ 0) ∗ bigSep Finset.univ fun e => useTok (F := F) c e)

omit [FloatOps F] [Named F] in
/-- Every token goes to the device that uses it. -/
theorem toks_dealt : (bigSep Finset.univ fun c : Dev nD => bigSep Finset.univ fun e : Dev nD => pairTok (F := F) c e) ⊢ bigSep Finset.univ fun c : Dev nD => bigSep Finset.univ fun e : Dev nD => useTok (F := F) c e := by
  have hs : ∀ Φ : Dev nD → Dev nD → sProp 𝕄, (bigSep Finset.univ fun c => bigSep Finset.univ fun e => Φ c e) = bigSep Finset.univ fun c => bigSep Finset.univ fun e => Φ e c := fun Φ => bigSep_univ_comm Φ
  have hd : ∀ Φ Ψ : Dev nD → Dev nD → sProp 𝕄, (bigSep Finset.univ fun c : Dev nD => bigSep Finset.univ fun e : Dev nD => iprop(Φ c e ∗ Ψ c e)) = iprop((bigSep Finset.univ fun c => bigSep Finset.univ fun e => Φ c e) ∗ bigSep Finset.univ fun c => bigSep Finset.univ fun e => Ψ c e) :=
    fun Φ Ψ => (bigSep_congr fun c _ => (star_sep ..).symm).trans (star_sep ..).symm
  unfold pairTok useTok
  rw [hd, hd, hd, hd, hd, hd, hd, hd, hs fun c e => dutyTok ER (barCell c) 0 e, hs fun c e => bigSep Finset.univ fun g => xTok (F := F) c e 1 g, hs fun c e => bigSep Finset.univ fun g => xTok (F := F) c e 3 g]

omit [FloatOps F] [Named F] in
theorem deal_all :
    (bigSep Finset.univ fun c : Dev nD => iprop((bigSep Finset.univ fun ck => iprop(∃ κ : ℕ, cellInv ER (rd v) κ (kcell (c, ck)))) ∗ (bigSep Finset.univ fun ck => reached ER (kcell (c, ck)) 0)
        ∗ (bigSep Finset.univ fun ck => atPos ER (kcell (c, ck)) 0 ∅ 0) ∗ bigSep Finset.univ fun e => pairTok (F := F) c e))
      ⊢ bigSep Finset.univ (Deal v) := by
  rw [← star_sep, ← star_sep, ← star_sep, ← bigSep_univ_prod (fun ck : Dev nD × Option CK => iprop(∃ κ : ℕ, cellInv ER (rd v) κ (kcell ck))), ← bigSep_univ_prod (fun ck : Dev nD × Option CK => (reached ER (kcell ck) 0 : sProp 𝕄))]
  iintro ⟨HI, #HR, HP, HT⟩
  ihave HK := (BI.bigSep_exists_pi Finset.univ (fun (ck : Dev nD × Option CK) (κ : ℕ) => (cellInv ER (rd v) κ (kcell ck) : sProp 𝕄))) $$ HI
  icases HK with ⟨%K, #HI⟩
  ihave HT' := (toks_dealt (F := F)) $$ HT
  have hg : ∀ c : Dev nD, iprop(Open v K ∗ (bigSep Finset.univ fun ck => atPos ER (kcell (c, ck)) 0 ∅ 0) ∗ bigSep Finset.univ fun e => useTok (F := F) c e) ⊢ Deal v c := fun c => by
    unfold Deal; iintro H; iexists K; iexact H
  have hall : iprop(Open v K ∗ bigSep Finset.univ fun c : Dev nD => iprop((bigSep Finset.univ fun ck => atPos ER (kcell (c, ck)) 0 ∅ 0) ∗ bigSep Finset.univ fun e => useTok (F := F) c e)) ⊢ bigSep Finset.univ (Deal v) :=
    (sep_mono_left (BI.bigSep_of_persistent Finset.univ (Open v K))).trans (by rw [star_sep]; exact bigSep_mono fun c _ => hg c)
  iapply hall
  isplitr
  · unfold Open
    isplitl; · iexact HI
    iexact HR
  rw [← star_sep]
  isplitl [HP]; · iexact HP
  iexact HT'

/-- All devices together open their cells and deal the tokens. -/
theorem deal : (bigSep Finset.univ fun c => iprop(Pipeline.ownSems0 (Ix := Unit) (Name := ℕ) (U := UU) (Lvl := ℕ) (Val := Elt F) (τ := τ) osem c ∗ unscopedSems0 c ∗ Fund v c) : sProp 𝕄)
    ⊢ |={Set.univ}=> bigSep Finset.univ (Deal v) :=
  ((bigSep_mono fun c _ => open_cells v c).trans (bigSep_fupd _ _)).trans (BI.fupd_mono (deal_all v))

end Cert.RsAg

end
-- ==== Proof.Enter.lean ====
/-
# Entering the region

What the launch gives a device, put together as the state before the handshake.
-/
module

public import proofs.«01_k».proof.Proof.Alloc

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A device's transfer cells, sorted -/

omit [FloatOps F] [Named F] in
/-- The cells towards the device itself, then the cells of each kind towards its peers. -/
theorem cells_split (c : Dev nD) (Φ : CK → sProp 𝕄) :
    bigSep Finset.univ Φ = iprop((bigSep Finset.univ fun kg : Fin 4 × Fin 4 => Φ (kg.1, kg.2, c))
      ∗ (bigSep Finset.univ fun g : Fin 4 => bigSep (others c) fun e => Φ (0, g, e)) ∗ (bigSep Finset.univ fun g : Fin 4 => bigSep (others c) fun e => Φ (1, g, e))
      ∗ (bigSep Finset.univ fun g : Fin 4 => bigSep (others c) fun e => Φ (2, g, e)) ∗ (bigSep Finset.univ fun g : Fin 4 => bigSep (others c) fun e => Φ (3, g, e))) := by
  have h1 : bigSep Finset.univ Φ = bigSep Finset.univ fun kg : Fin 4 × Fin 4 => bigSep Finset.univ fun e : Dev nD => Φ (kg.1, kg.2, e) := by
    rw [bigSep_univ_prod, bigSep_univ_prod]
    exact bigSep_congr fun k _ => bigSep_univ_prod _
  have h2 : (bigSep Finset.univ fun kg : Fin 4 × Fin 4 => bigSep Finset.univ fun e : Dev nD => Φ (kg.1, kg.2, e))
      = iprop((bigSep Finset.univ fun kg : Fin 4 × Fin 4 => Φ (kg.1, kg.2, c)) ∗ bigSep Finset.univ fun kg : Fin 4 × Fin 4 => bigSep (others c) fun e => Φ (kg.1, kg.2, e)) :=
    (bigSep_congr fun kg _ => (congrArg (fun s => bigSep s fun e => Φ (kg.1, kg.2, e)) (univ_insert c)).trans (star_insert (notMem_others c) _)).trans (star_sep ..).symm
  rw [h1, h2, bigSep_univ_prod (fun kg : Fin 4 × Fin 4 => bigSep (others c) fun e => Φ (kg.1, kg.2, e)), star_fin4]

/-! ## The buffers, sliced -/

omit [FloatOps F] [Named F] in
theorem slots0 (c : Dev nD) (f : S4x16x16x1024.Idx → Elt F .bf16) :
    ((c : Thread nD τ).loc cc0_scratch0 ↦{fullShare} f : sProp 𝕄) ⊢ bigSep Finset.univ fun e : Dev nD => bigSep Finset.univ fun g : Fin 4 => iprop(∃ f, rsP (F := F) c g e f) := by
  refine BI.Entails.trans (Entails.of_eq (Idealize.ShloMosaic.Ring.pointsTo_blocks (Val := Elt F) (Ix := Unit) (Name := ℕ) (U := UU) (Lvl := ℕ) (ℓ := (c : Thread nD τ).loc cc0_scratch0) (q := fullShare) (fun x : Fin 4 × Fin 16 => slotS x.1 x.2) slotS_disj slotS_cover f)) ?_
  rw [bigSep_univ_prod, bigSep_univ_comm]
  refine bigSep_mono fun e _ => bigSep_mono fun g _ => show rsP c g e f ⊢ iprop(∃ f, rsP (F := F) c g e f) from ?_
  iintro H; iexists f; iexact H

omit [FloatOps F] [Named F] in
theorem slots1 (c : Dev nD) (f : S4x16x16x1024.Idx → Elt F .bf16) :
    ((c : Thread nD τ).loc cc0_scratch1 ↦{fullShare} f : sProp 𝕄) ⊢ bigSep Finset.univ fun e : Dev nD => bigSep Finset.univ fun g : Fin 4 => iprop(∃ f, agP (F := F) c g e f) := by
  refine BI.Entails.trans (Entails.of_eq (Idealize.ShloMosaic.Ring.pointsTo_blocks (Val := Elt F) (Ix := Unit) (Name := ℕ) (U := UU) (Lvl := ℕ) (ℓ := (c : Thread nD τ).loc cc0_scratch1) (q := fullShare) (fun x : Fin 4 × Fin 16 => slotS x.1 x.2) slotS_disj slotS_cover f)) ?_
  rw [bigSep_univ_prod, bigSep_univ_comm]
  refine bigSep_mono fun e _ => bigSep_mono fun g _ => show agP c g e f ⊢ iprop(∃ f, agP (F := F) c g e f) from ?_
  iintro H; iexists f; iexact H

omit [FloatOps F] [Named F] in
theorem slots2 (c : Dev nD) (f : S4x256x1024.Idx → Elt F .bf16) :
    ((c : Thread nD τ).loc cc0_scratch2 ↦{fullShare} f : sProp 𝕄) ⊢ bigSep Finset.univ fun g : Fin 4 => iprop(∃ f, bigP (F := F) c g f) := by
  refine BI.Entails.trans (Entails.of_eq (Idealize.ShloMosaic.Ring.pointsTo_blocks (Val := Elt F) (Ix := Unit) (Name := ℕ) (U := UU) (Lvl := ℕ) (ℓ := (c : Thread nD τ).loc cc0_scratch2) (q := fullShare) bigS bigS_disj bigS_cover f)) ?_
  refine bigSep_mono fun g _ => show bigP c g f ⊢ iprop(∃ f, bigP (F := F) c g f) from ?_
  iintro H; iexists f; iexact H

omit [FloatOps F] [Named F] in
theorem slots3 (c : Dev nD) (f : S4x16x1024.Idx → Elt F .bf16) :
    ((c : Thread nD τ).loc cc0_scratch3 ↦{fullShare} f : sProp 𝕄) ⊢ bigSep Finset.univ fun g : Fin 4 => iprop(∃ f, sgP (F := F) c g fullShare f) := by
  refine BI.Entails.trans (Entails.of_eq (Idealize.ShloMosaic.Ring.pointsTo_blocks (Val := Elt F) (Ix := Unit) (Name := ℕ) (U := UU) (Lvl := ℕ) (ℓ := (c : Thread nD τ).loc cc0_scratch3) (q := fullShare) slabS slabS_disj slabS_cover f)) ?_
  refine bigSep_mono fun g _ => show sgP c g fullShare f ⊢ iprop(∃ f, sgP (F := F) c g fullShare f) from ?_
  iintro H; iexists f; iexact H

omit [FloatOps F] [Named F] in
/-- Every peer's slots in the device's two landing buffers, its own among them. -/
theorem slots_all (c : Dev nD) (f f' : S4x16x16x1024.Idx → Elt F .bf16) :
    iprop(((c : Thread nD τ).loc cc0_scratch0 ↦{fullShare} f : sProp 𝕄) ∗ ((c : Thread nD τ).loc cc0_scratch1 ↦{fullShare} f' : sProp 𝕄))
      ⊢ iprop(barPay (F := F) c c ∗ bigSep (others c) fun e => barPay (F := F) e c) := by
  have h : iprop((bigSep Finset.univ fun e : Dev nD => bigSep Finset.univ fun g : Fin 4 => iprop(∃ f, rsP (F := F) c g e f)) ∗ (bigSep Finset.univ fun e : Dev nD => bigSep Finset.univ fun g : Fin 4 => iprop(∃ f, agP (F := F) c g e f)))
      = iprop(barPay (F := F) c c ∗ bigSep (others c) fun e => barPay (F := F) e c) := by
    rw [star_sep, ← star_insert (notMem_others c) fun e => barPay (F := F) e c, ← univ_insert c]
    exact bigSep_congr fun e _ => star_sep ..
  exact BI.Entails.trans (BI.sep_mono (slots0 c f) (slots1 c f')) (Entails.of_eq h)

/-! ## The ghost state, sorted -/

variable (v : Vals F)

omit [FloatOps F] [Named F] in
theorem open_inv (K : Dev nD × Option CK → ℕ) (ck : Dev nD × Option CK) : Open v K ⊢ cellInv ER (rd v) (K ck) (kcell ck) := by
  unfold Open
  iintro ⟨HI, -⟩
  iapply (show (bigSep Finset.univ fun ck => (cellInv ER (rd v) (K ck) (kcell ck) : sProp 𝕄)) ⊢ cellInv ER (rd v) (K ck) (kcell ck) from bigSep_elim (Finset.mem_univ ck)) $$ HI

omit [FloatOps F] [Named F] in
/-- The cells towards the device itself have no duty, and close. -/
theorem close_self (K : Dev nD × Option CK → ℕ) (c : Dev nD) :
    iprop(Open v K ∗ bigSep Finset.univ fun kg : Fin 4 × Fin 4 => atPos ER (xCell c kg.1 kg.2 c) 0 ∅ 0)
      ⊢ (|={Set.univ}=> bigSep Finset.univ fun kg : Fin 4 × Fin 4 => semVal (xCell c kg.1 kg.2 c) 0 : sProp 𝕄) := by
  refine BI.Entails.trans (sep_mono_left (BI.bigSep_of_persistent (Finset.univ : Finset (Fin 4 × Fin 4)) (Open v K))) ?_
  rw [star_sep]
  refine BI.Entails.trans (bigSep_mono fun kg _ => ?_) (bigSep_fupd _ _)
  exact (sep_mono_left (open_inv v K (c, some (kg.1, kg.2, c)))).trans
    (Rounds.cell_close ER (rd v) (Set.mem_univ _) (fun h => h) (R := 0) (duties_x_self_all v c kg.1 kg.2))

omit [FloatOps F] [Named F] in
/-- The tokens of one batch and kind, with a peer. -/
theorem use_split (c e : Dev nD) : useTok (F := F) c e ⊢ iprop(dutyTok ER (barCell e) 0 c ∗ (bigSep Finset.univ fun g : Fin 4 => rsTok (F := F) c g e) ∗ (bigSep Finset.univ fun g : Fin 4 => agTok (F := F) c g e)) := by
  unfold useTok rsTok agTok
  rw [← star_sep, ← star_sep]
  iintro ⟨H, H0, H1, H2, H3⟩
  isplitl [H]; · iexact H
  isplitl [H0 H1]
  · isplitl [H0]; · iexact H0
    iexact H1
  · isplitl [H2]; · iexact H2
    iexact H3

omit [FloatOps F] [Named F] in
theorem uses_split (c : Dev nD) : (bigSep Finset.univ fun e => useTok (F := F) c e)
    ⊢ iprop((bigSep (others c) fun e => dutyTok ER (barCell e) 0 c) ∗ (bigSep Finset.univ fun g : Fin 4 => bigSep (others c) (rsTok (F := F) c g)) ∗ (bigSep Finset.univ fun g : Fin 4 => bigSep (others c) (agTok (F := F) c g))) := by
  refine BI.Entails.trans ((bigSep_subset (Finset.subset_univ (others c))).trans (bigSep_mono fun e _ => use_split c e)) ?_
  rw [← star_sep, ← star_sep, star_comm4 (others c) fun e g => rsTok (F := F) c g e, star_comm4 (others c) fun e g => agTok (F := F) c g e]
  exact .refl _

/-- What a device holds once its own cells are closed, apart from its buffers. -/
def Ready (c : Dev nD) : sProp 𝕄 :=
  iprop(∃ K, Known v K ∗ (bigSep Finset.univ fun kg : Fin 4 × Fin 4 => semVal (xCell c kg.1 kg.2 c) 0) ∗ (bigSep (others c) fun e => dutyTok ER (barCell e) 0 c)
    ∗ cred (tallyAt (barCell c) () 15) ∗ atPos ER (barCell c) 0 ∅ 0
    ∗ (bigSep Finset.univ fun g : Fin 4 => bigSep (others c) (rsTok (F := F) c g)) ∗ (bigSep Finset.univ fun g : Fin 4 => bigSep (others c) (agTok (F := F) c g))
    ∗ (bigSep Finset.univ fun g : Fin 4 => bigSep (others c) (rsWt (F := F) c g)) ∗ (bigSep Finset.univ fun g : Fin 4 => bigSep (others c) (agWt (F := F) c g)))

omit [FloatOps F] [Named F] in
theorem waits_join (c : Dev nD) (k k' : Fin 4) :
    iprop((bigSep Finset.univ fun g : Fin 4 => bigSep (others c) fun e => cred (tallyAt (xCell c k g e) () N)) ∗ (bigSep Finset.univ fun g : Fin 4 => bigSep (others c) fun e => atPos ER (xCell c k g e) 0 ∅ 0)
      ∗ (bigSep Finset.univ fun g : Fin 4 => bigSep (others c) fun e => atPos ER (xCell c k' g e) 0 ∅ 0))
    = (bigSep Finset.univ fun g : Fin 4 => bigSep (others c) fun e => iprop(cred (tallyAt (xCell c k g e) () N) ∗ atPos ER (xCell c k g e) 0 ∅ 0 ∗ atPos ER (xCell c k' g e) 0 ∅ 0) : sProp 𝕄) := by
  rw [star_sep, star_sep]
  exact bigSep_congr fun g _ => by rw [star_sep, star_sep]

variable (m : (ℓ : Loc nD τ sig) → Buf (Elt F) ℓ)

/-- From the launch. -/
theorem enter_ready (ρ : Dev nD → PrngReg) (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ Deal v c)
      ⊢ |={Set.univ}=> iprop(Ready v c ∗ emp) := by
  unfold Deal Ready
  iintro ⟨-, Hlev, Hcr, -, ⟨%K, #HO, Hat, Huse⟩⟩
  ihave Hc := (creds (F := F) c) $$ Hcr
  icases Hc with ⟨HcB, Hc1, Hc3⟩
  ihave Hat := (Entails.of_eq (star_option fun ck => (atPos ER (kcell (c, ck)) 0 ∅ 0 : sProp 𝕄))) $$ Hat
  icases Hat with ⟨HaB, Hat⟩
  ihave Hat := (Entails.of_eq (cells_split c fun x => (atPos ER (kcell (c, some x)) 0 ∅ 0 : sProp 𝕄))) $$ Hat
  icases Hat with ⟨Hs, Ha0, Ha1, Ha2, Ha3⟩
  ihave Ht := (uses_split (F := F) c) $$ Huse
  icases Ht with ⟨HtB, HtR, HtA⟩
  imod (close_self v K c) $$ [Hs] with Hs
  · isplitr
    · iexact HO
    · iexact Hs
  imodintro
  isplitl
  · iexists K
    isplitl [Hlev]
    · unfold Known Open
      icases HO with ⟨#H1, #H2⟩
      isplitr; · iexact H1
      isplitr; · iexact H2
      iexact Hlev
    isplitl [Hs]; · iexact Hs
    isplitl [HtB]; · iexact HtB
    isplitl [HcB]; · iexact HcB
    isplitl [HaB]; · iexact HaB
    isplitl [HtR]; · iexact HtR
    isplitl [HtA]; · iexact HtA
    isplitl [Hc1 Ha1 Ha0]
    · iapply (Entails.of_eq (waits_join (F := F) c 1 0))
      isplitl [Hc1]; · iexact Hc1
      isplitl [Ha1]; · iexact Ha1
      iexact Ha0
    · iapply (Entails.of_eq (waits_join (F := F) c 3 2))
      isplitl [Hc3]; · iexact Hc3
      isplitl [Ha3]; · iexact Ha3
      iexact Ha2
  · iempintro

omit [FloatOps F] [Named F] in
theorem bare_one (c : Dev nD) (g : Fin 4) :
    iprop(bigSep (others c) (rsTok (F := F) c g) ∗ bigSep (others c) (agTok (F := F) c g) ∗ bigSep (others c) (rsWt (F := F) c g) ∗ bigSep (others c) (agWt (F := F) c g)
      ∗ (∃ f, bigP (F := F) c g f) ∗ ∃ f, sgP (F := F) c g fullShare f) ⊢ iprop(bareRS (F := F) c g ∗ bareAG (F := F) c g) := by
  unfold bareRS bareAG
  iintro ⟨H1, H2, H3, H4, H5, H6⟩
  isplitl [H1 H3 H5]
  · isplitl [H1]; · iexact H1
    isplitl [H3]; · iexact H3
    iexact H5
  · isplitl [H2]; · iexact H2
    isplitl [H4]; · iexact H4
    iexact H6

omit [FloatOps F] [Named F] in
theorem bare_join (c : Dev nD) :
    iprop((bigSep Finset.univ fun g : Fin 4 => bigSep (others c) (rsTok (F := F) c g)) ∗ (bigSep Finset.univ fun g : Fin 4 => bigSep (others c) (agTok (F := F) c g))
      ∗ (bigSep Finset.univ fun g : Fin 4 => bigSep (others c) (rsWt (F := F) c g)) ∗ (bigSep Finset.univ fun g : Fin 4 => bigSep (others c) (agWt (F := F) c g))
      ∗ (bigSep Finset.univ fun g : Fin 4 => iprop(∃ f, bigP (F := F) c g f)) ∗ (bigSep Finset.univ fun g : Fin 4 => iprop(∃ f, sgP (F := F) c g fullShare f)))
    ⊢ bigSep Finset.univ (fun g : Fin 4 => iprop(bareRS (F := F) c g ∗ bareAG (F := F) c g)) := by
  rw [star_sep, star_sep, star_sep, star_sep, star_sep]
  exact bigSep_mono fun g _ => bare_one (F := F) c g

/-- With the buffers: the state before the handshake. -/
theorem enter_start (c : Dev nD) :
    iprop(Ready (valsOf m) c ∗ Pipeline.prefHeld Pipeline.Prefetch.none c (fun _ => fullShare.right) (fun k => k.elim0) ∗ Pipeline.scopedRest cfg0.spec c)
      ⊢ Start m c := by
  rw [scopedRest0_eq]
  unfold Ready Start Slf
  iintro ⟨⟨%K, HK, Hs, HtB, HcB, HaB, HtR, HtA, HwR, HwA⟩, -, ⟨%f0, H0⟩, ⟨%f1, H1⟩, ⟨%f2, H2⟩, ⟨%f3, H3⟩, ⟨%f4, H4⟩, ⟨%f5, H5⟩⟩
  ihave Hp := (slots_all c f0 f1) $$ [H0 H1]
  · isplitl [H0]; · iexact H0
    iexact H1
  icases Hp with ⟨Hpc, Hp⟩
  ihave H2 := (slots2 c f2) $$ H2
  ihave H3 := (slots3 c f3) $$ H3
  iexists K
  isplitl [HK]; · iexact HK
  isplitl [Hpc Hs]
  · isplitl [Hpc]; · iexact Hpc
    iexact Hs
  isplitl [H4]
  · iexists f4; unfold accP; iexact H4
  isplitl [H5]
  · iexists f5; unfold atP; iexact H5
  isplitl [HtR HtA HwR HwA H2 H3]
  · iapply (bare_join (F := F) c)
    isplitl [HtR]; · iexact HtR
    isplitl [HtA]; · iexact HtA
    isplitl [HwR]; · iexact HwR
    isplitl [HwA]; · iexact HwA
    isplitl [H2]; · iexact H2
    iexact H3
  isplitl [HtB Hp]
  · iapply (Entails.of_eq (star_sep (others c) (fun e => (dutyTok ER (barCell e) 0 c : sProp 𝕄)) fun e => barPay (F := F) e c))
    isplitl [HtB]; · iexact HtB
    iexact Hp
  isplitl [HcB]; · iexact HcB
  iexact HaB

end Cert.RsAg

end
-- ==== Proof.Leave.lean ====
/-
# Leaving the region

After the last point every semaphore is zero, and the slices join to the whole buffers.
-/
module

public import proofs.«01_k».proof.Proof.Enter

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (v : Vals F) (c : Dev nD)

omit [FloatOps F] [Named F] in
theorem rsD_open (g : Fin 4) (e : Dev nD) : rsD v c g e ⊢ iprop((∃ f, rsP (F := F) c g e f) ∗ semVal (xCell c 1 g e) 0 ∗ stP c g e (v.stg c) ∗ semVal (xCell c 0 g e) 0) := by
  unfold rsD
  iintro ⟨H1, H2⟩
  isplitl [H1]
  · iexists (v.rsB c); iexact H1
  · iexact H2

omit [FloatOps F] [Named F] in
theorem rs_leave (g : Fin 4) : RS v c g 2
    ⊢ iprop((bigSep (others c) fun e => iprop(∃ f, rsP (F := F) c g e f)) ∗ (bigSep (others c) fun e => semVal (xCell c 1 g e) 0) ∗ (bigSep (others c) fun e => semVal (xCell c 0 g e) 0) ∗ ∃ f, bigP (F := F) c g f) := by
  have hb : iprop(stP c g c (v.stg c) ∗ bigSep (others c) (fun e => stP c g e (v.stg c))) ⊢ bigP c g (v.stg c) := by
    have h := Entails.of_eq (Idealize.ShloMosaic.Ring.pointsTo_sub_blocks (Val := Elt F) (Ix := Unit) (Name := ℕ) (U := UU) (Lvl := ℕ) (ℓ := (c : Thread nD τ).loc cc0_scratch2) (q := fullShare) (I := fun d : Fin 16 => rowsS g d) (rowsS_disj g) (S := bigS g) (rowsS_cover g) (v.stg c)).symm
    refine BI.Entails.trans ?_ h
    rw [univ_insert c, star_insert (notMem_others c)]
    exact .refl _
  have hd : bigSep (others c) (rsD v c g) ⊢ iprop((bigSep (others c) fun e => iprop(∃ f, rsP (F := F) c g e f)) ∗ (bigSep (others c) fun e => semVal (xCell c 1 g e) 0) ∗ (bigSep (others c) fun e => stP c g e (v.stg c)) ∗ (bigSep (others c) fun e => semVal (xCell c 0 g e) 0)) := by
    rw [star_sep, star_sep, star_sep]
    exact bigSep_mono fun e _ => rsD_open v c g e
  show iprop(bigSep (others c) (rsD v c g) ∗ stP c g c (v.stg c)) ⊢ _
  iintro ⟨H, HS⟩
  ihave H := hd $$ H
  icases H with ⟨H1, H2, H3, H4⟩
  isplitl [H1]; · iexact H1
  isplitl [H2]; · iexact H2
  isplitl [H4]; · iexact H4
  iexists (v.stg c)
  iapply hb
  isplitl [HS]; · iexact HS
  iexact H3

omit [FloatOps F] [Named F] in
theorem agD_open (g : Fin 4) (e : Dev nD) : agD v c g e ⊢ iprop((∃ f, agP (F := F) c g e f) ∗ semVal (xCell c 3 g e) 0 ∗ sgP c g (sh e) (v.ags c) ∗ semVal (xCell c 2 g e) 0) := by
  unfold agD
  iintro ⟨H1, H2⟩
  isplitl [H1]
  · iexists v.agB; iexact H1
  · iexact H2

omit [FloatOps F] [Named F] in
theorem ag_leave (g : Fin 4) : AG v c g 2
    ⊢ iprop((bigSep (others c) fun e => iprop(∃ f, agP (F := F) c g e f)) ∗ (bigSep (others c) fun e => semVal (xCell c 3 g e) 0) ∗ (bigSep (others c) fun e => semVal (xCell c 2 g e) 0) ∗ ∃ f, sgP (F := F) c g fullShare f) := by
  have hb : iprop(sgP c g (Transfers.shareDrop fullShare 16) (v.ags c) ∗ sgP c g (sh c) (v.ags c) ∗ bigSep (others c) (fun e => sgP c g (sh e) (v.ags c))) ⊢ sgP c g fullShare (v.ags c) := by
    have h := (Transfers.pointsTo_toks (Val := Elt F) (Ix := Unit) (Name := ℕ) (U := UU) (Lvl := ℕ) (ℓ := (c : Thread nD τ).loc cc0_scratch3) (S := slabS g) (f := v.ags c) fullShare 16).2
    rw [univ_insert c, star_insert (notMem_others c)] at h
    exact h
  have hd : bigSep (others c) (agD v c g) ⊢ iprop((bigSep (others c) fun e => iprop(∃ f, agP (F := F) c g e f)) ∗ (bigSep (others c) fun e => semVal (xCell c 3 g e) 0) ∗ (bigSep (others c) fun e => sgP c g (sh e) (v.ags c)) ∗ (bigSep (others c) fun e => semVal (xCell c 2 g e) 0)) := by
    rw [star_sep, star_sep, star_sep]
    exact bigSep_mono fun e _ => agD_open v c g e
  show iprop(bigSep (others c) (agD v c g) ∗ sgP c g (Transfers.shareDrop fullShare 16) (v.ags c) ∗ sgP c g (sh c) (v.ags c)) ⊢ _
  iintro ⟨H, HS, HS'⟩
  ihave H := hd $$ H
  icases H with ⟨H1, H2, H3, H4⟩
  isplitl [H1]; · iexact H1
  isplitl [H2]; · iexact H2
  isplitl [H4]; · iexact H4
  iexists (v.ags c)
  iapply hb
  isplitl [HS]; · iexact HS
  isplitl [HS']; · iexact HS'
  iexact H3

/-! ## The whole buffers -/

omit [FloatOps F] [Named F] in
theorem join0 (f₀ : S4x16x16x1024.Idx → Elt F .bf16) : iprop((bigSep Finset.univ fun g : Fin 4 => iprop(∃ f, rsP (F := F) c g c f)) ∗ bigSep Finset.univ fun g : Fin 4 => bigSep (others c) fun e => iprop(∃ f, rsP (F := F) c g e f))
    ⊢ (iprop(∃ f : Buf (Elt F) ((c : Thread nD τ).loc cc0_scratch0), (c : Thread nD τ).loc cc0_scratch0 ↦{fullShare} f) : sProp 𝕄) := by
  refine BI.Entails.trans ?_ (Idealize.ShloMosaic.Ring.pointsTo_blocks_join_exists (Val := Elt F) (Ix := Unit) (Name := ℕ) (U := UU) (Lvl := ℕ) (ℓ := (c : Thread nD τ).loc cc0_scratch0) (q := fullShare) (fun x : Fin 4 × Fin 16 => slotS x.1 x.2) slotS_disj slotS_cover f₀)
  rw [star_sep, bigSep_univ_prod]
  refine bigSep_mono fun g _ => ?_
  rw [← star_insert (notMem_others c) fun e => iprop(∃ f, rsP (F := F) c g e f), ← univ_insert c]
  exact .refl _

omit [FloatOps F] [Named F] in
theorem join1 (f₀ : S4x16x16x1024.Idx → Elt F .bf16) : iprop((bigSep Finset.univ fun g : Fin 4 => iprop(∃ f, agP (F := F) c g c f)) ∗ bigSep Finset.univ fun g : Fin 4 => bigSep (others c) fun e => iprop(∃ f, agP (F := F) c g e f))
    ⊢ (iprop(∃ f : Buf (Elt F) ((c : Thread nD τ).loc cc0_scratch1), (c : Thread nD τ).loc cc0_scratch1 ↦{fullShare} f) : sProp 𝕄) := by
  refine BI.Entails.trans ?_ (Idealize.ShloMosaic.Ring.pointsTo_blocks_join_exists (Val := Elt F) (Ix := Unit) (Name := ℕ) (U := UU) (Lvl := ℕ) (ℓ := (c : Thread nD τ).loc cc0_scratch1) (q := fullShare) (fun x : Fin 4 × Fin 16 => slotS x.1 x.2) slotS_disj slotS_cover f₀)
  rw [star_sep, bigSep_univ_prod]
  refine bigSep_mono fun g _ => ?_
  rw [← star_insert (notMem_others c) fun e => iprop(∃ f, agP (F := F) c g e f), ← univ_insert c]
  exact .refl _

omit [FloatOps F] [Named F] in
theorem join2 (f₀ : S4x256x1024.Idx → Elt F .bf16) : (bigSep Finset.univ fun g : Fin 4 => iprop(∃ f, bigP (F := F) c g f))
    ⊢ (iprop(∃ f : Buf (Elt F) ((c : Thread nD τ).loc cc0_scratch2), (c : Thread nD τ).loc cc0_scratch2 ↦{fullShare} f) : sProp 𝕄) :=
  Idealize.ShloMosaic.Ring.pointsTo_blocks_join_exists (Val := Elt F) (Ix := Unit) (Name := ℕ) (U := UU) (Lvl := ℕ) (ℓ := (c : Thread nD τ).loc cc0_scratch2) (q := fullShare) bigS bigS_disj bigS_cover f₀

omit [FloatOps F] [Named F] in
theorem join3 (f₀ : S4x16x1024.Idx → Elt F .bf16) : (bigSep Finset.univ fun g : Fin 4 => iprop(∃ f, sgP (F := F) c g fullShare f))
    ⊢ (iprop(∃ f : Buf (Elt F) ((c : Thread nD τ).loc cc0_scratch3), (c : Thread nD τ).loc cc0_scratch3 ↦{fullShare} f) : sProp 𝕄) :=
  Idealize.ShloMosaic.Ring.pointsTo_blocks_join_exists (Val := Elt F) (Ix := Unit) (Name := ℕ) (U := UU) (Lvl := ℕ) (ℓ := (c : Thread nD τ).loc cc0_scratch3) (q := fullShare) slabS slabS_disj slabS_cover f₀

/-! ## All batches -/

omit [FloatOps F] [Named F] in
theorem rs_all : iprop(RS v c 0 2 ∗ RS v c 1 2 ∗ RS v c 2 2 ∗ RS v c 3 2)
    ⊢ iprop((bigSep Finset.univ fun g : Fin 4 => bigSep (others c) fun e => iprop(∃ f, rsP (F := F) c g e f)) ∗ (bigSep Finset.univ fun g : Fin 4 => bigSep (others c) fun e => semVal (xCell c 1 g e) 0)
      ∗ (bigSep Finset.univ fun g : Fin 4 => bigSep (others c) fun e => semVal (xCell c 0 g e) 0) ∗ bigSep Finset.univ fun g : Fin 4 => iprop(∃ f, bigP (F := F) c g f)) := by
  rw [← star_fin4 fun g => RS v c g 2, star_sep, star_sep, star_sep]
  exact bigSep_mono fun g _ => rs_leave v c g

omit [FloatOps F] [Named F] in
theorem ag_all : iprop(AG v c 0 2 ∗ AG v c 1 2 ∗ AG v c 2 2 ∗ AG v c 3 2)
    ⊢ iprop((bigSep Finset.univ fun g : Fin 4 => bigSep (others c) fun e => iprop(∃ f, agP (F := F) c g e f)) ∗ (bigSep Finset.univ fun g : Fin 4 => bigSep (others c) fun e => semVal (xCell c 3 g e) 0)
      ∗ (bigSep Finset.univ fun g : Fin 4 => bigSep (others c) fun e => semVal (xCell c 2 g e) 0) ∗ bigSep Finset.univ fun g : Fin 4 => iprop(∃ f, sgP (F := F) c g fullShare f)) := by
  rw [← star_fin4 fun g => AG v c g 2, star_sep, star_sep, star_sep]
  exact bigSep_mono fun g _ => ag_leave v c g

omit [FloatOps F] [Named F] in
theorem sems_leave : iprop((bigSep Finset.univ fun kg : Fin 4 × Fin 4 => semVal (xCell c kg.1 kg.2 c) 0)
      ∗ (bigSep Finset.univ fun g : Fin 4 => bigSep (others c) fun e => semVal (xCell c 0 g e) 0) ∗ (bigSep Finset.univ fun g : Fin 4 => bigSep (others c) fun e => semVal (xCell c 1 g e) 0)
      ∗ (bigSep Finset.univ fun g : Fin 4 => bigSep (others c) fun e => semVal (xCell c 2 g e) 0) ∗ (bigSep Finset.univ fun g : Fin 4 => bigSep (others c) fun e => semVal (xCell c 3 g e) 0))
    ⊢ (Pipeline.ownSems0 (Ix := Unit) (Name := ℕ) (U := UU) (Lvl := ℕ) (Val := Elt F) (τ := τ) osem c : sProp 𝕄) := by
  rw [sems_own, cells_split c fun x => (semVal (kcell (c, some x)) 0 : sProp 𝕄)]

omit [FloatOps F] [Named F] in
theorem own_slots : barPay (F := F) c c ⊢ iprop((bigSep Finset.univ fun g : Fin 4 => iprop(∃ f, rsP (F := F) c g c f)) ∗ bigSep Finset.univ fun g : Fin 4 => iprop(∃ f, agP (F := F) c g c f)) := by
  unfold barPay; rw [← star_sep]

variable (m : (ℓ : Loc nD τ sig) → Buf (Elt F) ℓ)

/-- Out of the region. -/
theorem leave : Mid m c 2 2 2 2 2 2 2 2 ⊢ iprop(unscopedSems0 c ∗ Pipeline.ownSems0 osem c ∗ Pipeline.scopedRest cfg0.spec c) := by
  rw [scopedRest0_eq, sems_bar]
  unfold Mid Slf
  iintro ⟨%K, -, ⟨Hp, Hs⟩, Hacc, Hat, HB, R0, R1, R2, R3, A0, A1, A2, A3⟩
  ihave HR := (rs_all (valsOf m) c) $$ [R0 R1 R2 R3]
  · isplitl [R0]; · iexact R0
    isplitl [R1]; · iexact R1
    isplitl [R2]; · iexact R2
    iexact R3
  ihave HA := (ag_all (valsOf m) c) $$ [A0 A1 A2 A3]
  · isplitl [A0]; · iexact A0
    isplitl [A1]; · iexact A1
    isplitl [A2]; · iexact A2
    iexact A3
  icases HR with ⟨HR, S1, S0, HG⟩
  icases HA with ⟨HA, S3, S2, HH⟩
  ihave Hp := (own_slots (F := F) c) $$ Hp
  icases Hp with ⟨HpR, HpA⟩
  isplitl [HB]; · iexact HB
  isplitl [Hs S0 S1 S2 S3]
  · iapply (sems_leave (F := F) c)
    isplitl [Hs]; · iexact Hs
    isplitl [S0]; · iexact S0
    isplitl [S1]; · iexact S1
    isplitl [S2]; · iexact S2
    iexact S3
  isplitl [HpR HR]
  · iapply (join0 c ((valsOf m).rsB c))
    isplitl [HpR]; · iexact HpR
    iexact HR
  isplitl [HpA HA]
  · iapply (join1 c ((valsOf m).agB))
    isplitl [HpA]; · iexact HpA
    iexact HA
  isplitl [HG]
  · iapply (join2 c ((valsOf m).stg c)) $$ HG
  isplitl [HH]
  · iapply (join3 c ((valsOf m).ags c)) $$ HH
  isplitl [Hacc]
  · icases Hacc with ⟨%f, H⟩
    iexists f; unfold accP; iexact H
  icases Hat with ⟨%f, H⟩
  iexists f; unfold atP; iexact H

end Cert.RsAg

end
-- ==== Proof.Grid.lean ====
/-
# The body at every grid point

At each of the four grid points, the body takes the state before the point to the state after it.
-/
module

public import proofs.«01_k».proof.Proof.Data

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- What a point leaves of the argument blocks and the output block. -/
def Left (c : Dev nD) (t : Fin cfg0.N) (n : ℕ) (x : S1x256x1024.Idx → Elt F .f32) (wq wo : S1024x1024.Idx → Elt F .f32) (kk vv : S1x1024x8x128.Idx → Elt F .f32) : sProp 𝕄 :=
  iprop((∃ X, ⌜X = x⌝ ∗ owns (c : Thread nD τ) (st0_0 t) fullShare X) ∗ (∃ X, ⌜X = wq⌝ ∗ owns (c : Thread nD τ) (st0_1 t) fullShare X) ∗ (∃ X, ⌜X = wo⌝ ∗ owns (c : Thread nD τ) (st0_2 t) fullShare X)
    ∗ (∃ X, ⌜X = kk⌝ ∗ owns (c : Thread nD τ) (st0_3 t) fullShare X) ∗ (∃ X, ⌜X = vv⌝ ∗ owns (c : Thread nD τ) (st0_4 t) fullShare X)
    ∗ ∃ X, ⌜OutAt m c n X⌝ ∗ owns (c : Thread nD τ) (st0_5 t) fullShare X)

/-- What the device owes, at any record of its waits. -/
abbrev Debt (c : Dev nD) (n : ℕ) : sProp 𝕄 := iprop(∃ W : Waits sig Unit, ⌜True⌝ ∗ owes (c : Thread nD τ) (owe c n) W)

theorem out_owns (c : Dev nD) (t : Fin cfg0.N) (f : S4x256x1024.Idx → Elt F .f32) : (owns (c : Thread nD τ) (st0_5 t) fullShare f : sProp 𝕄) = outP (F := F) c f := by
  unfold st0_5
  rw [stage5 t]
  exact owns_whole (Ix := Unit) (Val := Elt F) (Name := ℕ) (U := UU) (Lvl := ℕ) (c : Thread nD τ) cc0_stg5_0 fullShare f

theorem left_intro (c : Dev nD) (t : Fin cfg0.N) (n : ℕ) (x : S1x256x1024.Idx → Elt F .f32) (wq wo : S1024x1024.Idx → Elt F .f32) (kk vv : S1x1024x8x128.Idx → Elt F .f32)
    (a o f : ℕ) (h : ∀ X, OutK c (obOf m c) (ouOf m c) a o f X → OutAt m c n X) :
    iprop(InsP (F := F) c (st0_0 t) (st0_1 t) (st0_2 t) (st0_3 t) (st0_4 t) x wq wo kk vv ∗ OutS c (obOf m c) (ouOf m c) a o f) ⊢ Left m c t n x wq wo kk vv := by
  unfold InsP OutS Left
  iintro ⟨⟨H0, H1, H2, H3, H4⟩, ⟨%X, %hX, H5⟩⟩
  isplitl [H0]
  · iexists x; isplitr; · (ipureintro; rfl)
    iexact H0
  isplitl [H1]
  · iexists wq; isplitr; · (ipureintro; rfl)
    iexact H1
  isplitl [H2]
  · iexists wo; isplitr; · (ipureintro; rfl)
    iexact H2
  isplitl [H3]
  · iexists kk; isplitr; · (ipureintro; rfl)
    iexact H3
  isplitl [H4]
  · iexists vv; isplitr; · (ipureintro; rfl)
    iexact H4
  iexists X
  isplitr; · (ipureintro; exact h X hX)
  ihave H := (Entails.of_eq (out_owns (F := F) c t X).symm) $$ H5
  iexact H

theorem heads_none (c : Dev nD) (x : S1x256x1024.Idx → Elt F .f32) (wq : S1024x1024.Idx → Elt F .f32) (kk vv : S1x1024x8x128.Idx → Elt F .f32) :
    (iprop(∃ f, atP (F := F) c f) : sProp 𝕄) ⊢ AtS c x wq kk vv 0 := by
  unfold AtS
  iintro ⟨%f, H⟩
  iexists f
  isplitr; · (ipureintro; exact fun _ h => absurd h (Nat.not_lt_zero _))
  iexact H

theorem heads_drop (c : Dev nD) (x : S1x256x1024.Idx → Elt F .f32) (wq : S1024x1024.Idx → Elt F .f32) (kk vv : S1x1024x8x128.Idx → Elt F .f32) :
    AtS c x wq kk vv 8 ⊢ (iprop(∃ f, atP (F := F) c f) : sProp 𝕄) := by
  unfold AtS
  iintro ⟨%f, -, H⟩
  iexists f
  iexact H

theorem debt_in (c : Dev nD) (n : ℕ) : Debt (F := F) c n ⊢ Owing (F := F) c n := by
  unfold Owing
  iintro ⟨%W, -, H⟩
  iexists W
  iexact H

theorem debt_out (c : Dev nD) (n : ℕ) : Owing (F := F) c n ⊢ Debt (F := F) c n := by
  unfold Owing
  iintro ⟨%W, H⟩
  iexists W
  isplitr; · (ipureintro; trivial)
  iexact H

set_option maxHeartbeats 1000000 in
/-- The point of batch 0. -/
theorem point0 (c : Dev nD) :
    iprop(Inv m c 0 ∗ Debt (F := F) c 0 ∗ InsP (F := F) c (st0_0 t0_0) (st0_1 t0_0) (st0_2 t0_0) (st0_3 t0_0) (st0_4 t0_0) (xOf m c 0) (wqOf m c) (woOf m c) (kOf m c 0) (vOf m c 0) ∗ ∃ f, ⌜OutAt m c 0 f⌝ ∗ owns (c : Thread nD τ) (st0_5 t0_0) fullShare f)
      ⊢ Wp c (bodyAt0 (F := F) t0_0) (fun _ => iprop(Inv m c 1 ∗ Debt (F := F) c 32 ∗ Left m c t0_0 1 (xOf m c 0) (wqOf m c) (woOf m c) (kOf m c 0) (vOf m c 0))) := by
  show iprop(Start m c ∗ _) ⊢ _
  unfold Start
  iintro ⟨⟨%K, #HK, HSF, HACC, HAT, HB, HFB, HC, HP⟩, HD, HI, ⟨%f, %hf, HX⟩⟩
  ihave HO := (debt_in (F := F) c 0) $$ HD
  ihave HT := (heads_none (F := F) c (xOf m c 0) (wqOf m c) (kOf m c 0) (vOf m c 0)) $$ HAT
  ihave HX' := (Entails.of_eq (out_owns (F := F) c t0_0 f)) $$ HX
  iapply ((body0 (valsOf m) K (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) c (point_val t0_0) (xOf m c 0) (wqOf m c) (woOf m c) (kOf m c 0) (vOf m c 0) (obOf m c) (ouOf m c)
    (vals_other m c) (vals_own m c) (vals_sent m c) (vals_part m c 0) (vals_staged m c 0) iprop(Slf (F := F) c)).trans (wp_mono _ _ _ fun r => ?_))
  · show _ ⊢ iprop(Mid m c 1 0 0 0 0 0 0 0 ∗ _)
    unfold Mid
    iintro ⟨#HK, ⟨HSF, HACC, HR1, HR2, HR3, HA0, HA1, HA2, HA3, HSEM, HR0⟩, HS, HO, HI, HT⟩
    ihave HD := (debt_out (F := F) c 32) $$ HO
    ihave HAT := (heads_drop (F := F) c (xOf m c 0) (wqOf m c) (kOf m c 0) (vOf m c 0)) $$ HT
    isplitl [HSF HACC HAT HSEM HR0 HR1 HR2 HR3 HA0 HA1 HA2 HA3]
    · iexists K
      isplitr; · iexact HK
      isplitl [HSF]; · iexact HSF
      isplitl [HACC]; · iexact HACC
      isplitl [HAT]; · iexact HAT
      isplitl [HSEM]; · iexact HSEM
      isplitl [HR0]; · iexact HR0
      isplitl [HR1]; · iexact HR1
      isplitl [HR2]; · iexact HR2
      isplitl [HR3]; · iexact HR3
      isplitl [HA0]; · iexact HA0
      isplitl [HA1]; · iexact HA1
      isplitl [HA2]; · iexact HA2
      iexact HA3
    isplitl [HD]; · iexact HD
    iapply (left_intro m c t0_0 1 (xOf m c 0) (wqOf m c) (woOf m c) (kOf m c 0) (vOf m c 0) (1) (0) (0) (fun _ h => h))
    isplitl [HI]; · iexact HI
    iexact HS
  · isplitr [HI HT]
    · isplitr; · iexact HK
      isplitl [HSF HACC HB HX']
      · isplitl [HSF]; · iexact HSF
        isplitl [HACC]; · iexact HACC
        isplitl [HB]; · iexact HB
        unfold OutS; iexists f; isplitr; · (ipureintro; exact hf)
        iexact HX'
      isplitl [HFB]; · iexact HFB
      isplitl [HC]; · iexact HC
      isplitl [HP]; · iexact HP
      iexact HO
    isplitl [HI]; · iexact HI
    iexact HT

set_option maxHeartbeats 1000000 in
/-- The point of batch 1. -/
theorem point1 (c : Dev nD) :
    iprop(Inv m c 1 ∗ Debt (F := F) c 32 ∗ InsP (F := F) c (st0_0 t0_1) (st0_1 t0_1) (st0_2 t0_1) (st0_3 t0_1) (st0_4 t0_1) (xOf m c 1) (wqOf m c) (woOf m c) (kOf m c 1) (vOf m c 1) ∗ ∃ f, ⌜OutAt m c 1 f⌝ ∗ owns (c : Thread nD τ) (st0_5 t0_1) fullShare f)
      ⊢ Wp c (bodyAt0 (F := F) t0_1) (fun _ => iprop(Inv m c 2 ∗ Debt (F := F) c 64 ∗ Left m c t0_1 2 (xOf m c 1) (wqOf m c) (woOf m c) (kOf m c 1) (vOf m c 1))) := by
  show iprop(Mid m c 1 0 0 0 0 0 0 0 ∗ _) ⊢ _
  unfold Mid
  iintro ⟨⟨%K, #HK, HSF, HACC, HAT, HSEM, HR0, HR1, HR2, HR3, HA0, HA1, HA2, HA3⟩, HD, HI, ⟨%f, %hf, HX⟩⟩
  ihave HO := (debt_in (F := F) c 32) $$ HD
  ihave HT := (heads_none (F := F) c (xOf m c 1) (wqOf m c) (kOf m c 1) (vOf m c 1)) $$ HAT
  ihave HX' := (Entails.of_eq (out_owns (F := F) c t0_1 f)) $$ HX
  iapply ((body1 (valsOf m) K (grid0.coords t0_1) (win0_0.stage (cfg0.slots t0_1 0)) (hstage0_0 ((cfg0.slots t0_1 0).cast nbuf0_0)) (win0_1.stage (cfg0.slots t0_1 1)) (hstage0_1 ((cfg0.slots t0_1 1).cast nbuf0_1)) (win0_2.stage (cfg0.slots t0_1 2)) (hstage0_2 ((cfg0.slots t0_1 2).cast nbuf0_2)) (win0_3.stage (cfg0.slots t0_1 3)) (hstage0_3 ((cfg0.slots t0_1 3).cast nbuf0_3)) (win0_4.stage (cfg0.slots t0_1 4)) (hstage0_4 ((cfg0.slots t0_1 4).cast nbuf0_4)) c (point_val t0_1) (xOf m c 1) (wqOf m c) (woOf m c) (kOf m c 1) (vOf m c 1) (obOf m c) (ouOf m c)
    (vals_other m c) (vals_own m c) (vals_sent m c) (vals_part m c 1) (vals_staged m c 1) iprop(Slf (F := F) c ∗ semVal (barCell c) 0 ∗ RS (valsOf m) c 2 0 ∗ RS (valsOf m) c 3 0 ∗ AG (valsOf m) c 1 0 ∗ AG (valsOf m) c 2 0 ∗ AG (valsOf m) c 3 0)).trans (wp_mono _ _ _ fun r => ?_))
  · show _ ⊢ iprop(Mid m c 2 1 0 0 1 0 0 0 ∗ _)
    unfold Mid
    iintro ⟨#HK, ⟨⟨HSF, HSEM, HR2, HR3, HA1, HA2, HA3⟩, HR1, HR0, HACC, HA0⟩, HS, HO, HI, HT⟩
    ihave HD := (debt_out (F := F) c 64) $$ HO
    ihave HAT := (heads_drop (F := F) c (xOf m c 1) (wqOf m c) (kOf m c 1) (vOf m c 1)) $$ HT
    isplitl [HSF HACC HAT HSEM HR0 HR1 HR2 HR3 HA0 HA1 HA2 HA3]
    · iexists K
      isplitr; · iexact HK
      isplitl [HSF]; · iexact HSF
      isplitl [HACC]; · iexact HACC
      isplitl [HAT]; · iexact HAT
      isplitl [HSEM]; · iexact HSEM
      isplitl [HR0]; · iexact HR0
      isplitl [HR1]; · iexact HR1
      isplitl [HR2]; · iexact HR2
      isplitl [HR3]; · iexact HR3
      isplitl [HA0]; · iexact HA0
      isplitl [HA1]; · iexact HA1
      isplitl [HA2]; · iexact HA2
      iexact HA3
    isplitl [HD]; · iexact HD
    iapply (left_intro m c t0_1 2 (xOf m c 1) (wqOf m c) (woOf m c) (kOf m c 1) (vOf m c 1) (2) (1) (0) (fun _ h => h))
    isplitl [HI]; · iexact HI
    iexact HS
  · isplitr [HI HT]
    · isplitr; · iexact HK
      isplitl [HSF HSEM HR2 HR3 HA1 HA2 HA3 HACC HR0 HA0]
      · isplitl [HSF HSEM HR2 HR3 HA1 HA2 HA3]
        · isplitl [HSF]; · iexact HSF
          isplitl [HSEM]; · iexact HSEM
          isplitl [HR2]; · iexact HR2
          isplitl [HR3]; · iexact HR3
          isplitl [HA1]; · iexact HA1
          isplitl [HA2]; · iexact HA2
          iexact HA3
        isplitl [HACC]; · iexact HACC
        isplitl [HR0]; · iexact HR0
        iexact HA0
      isplitl [HR1]; · iexact HR1
      isplitl [HX']
      · unfold OutS; iexists f; isplitr; · (ipureintro; exact hf)
        iexact HX'
      iexact HO
    isplitl [HI]; · iexact HI
    iexact HT

set_option maxHeartbeats 1000000 in
/-- The point of batch 2. -/
theorem point2 (c : Dev nD) :
    iprop(Inv m c 2 ∗ Debt (F := F) c 64 ∗ InsP (F := F) c (st0_0 t0_2) (st0_1 t0_2) (st0_2 t0_2) (st0_3 t0_2) (st0_4 t0_2) (xOf m c 2) (wqOf m c) (woOf m c) (kOf m c 2) (vOf m c 2) ∗ ∃ f, ⌜OutAt m c 2 f⌝ ∗ owns (c : Thread nD τ) (st0_5 t0_2) fullShare f)
      ⊢ Wp c (bodyAt0 (F := F) t0_2) (fun _ => iprop(Inv m c 3 ∗ Debt (F := F) c 96 ∗ Left m c t0_2 3 (xOf m c 2) (wqOf m c) (woOf m c) (kOf m c 2) (vOf m c 2))) := by
  show iprop(Mid m c 2 1 0 0 1 0 0 0 ∗ _) ⊢ _
  unfold Mid
  iintro ⟨⟨%K, #HK, HSF, HACC, HAT, HSEM, HR0, HR1, HR2, HR3, HA0, HA1, HA2, HA3⟩, HD, HI, ⟨%f, %hf, HX⟩⟩
  ihave HO := (debt_in (F := F) c 64) $$ HD
  ihave HT := (heads_none (F := F) c (xOf m c 2) (wqOf m c) (kOf m c 2) (vOf m c 2)) $$ HAT
  ihave HX' := (Entails.of_eq (out_owns (F := F) c t0_2 f)) $$ HX
  iapply ((body2 (valsOf m) K (grid0.coords t0_2) (win0_0.stage (cfg0.slots t0_2 0)) (hstage0_0 ((cfg0.slots t0_2 0).cast nbuf0_0)) (win0_1.stage (cfg0.slots t0_2 1)) (hstage0_1 ((cfg0.slots t0_2 1).cast nbuf0_1)) (win0_2.stage (cfg0.slots t0_2 2)) (hstage0_2 ((cfg0.slots t0_2 2).cast nbuf0_2)) (win0_3.stage (cfg0.slots t0_2 3)) (hstage0_3 ((cfg0.slots t0_2 3).cast nbuf0_3)) (win0_4.stage (cfg0.slots t0_2 4)) (hstage0_4 ((cfg0.slots t0_2 4).cast nbuf0_4)) c (point_val t0_2) (xOf m c 2) (wqOf m c) (woOf m c) (kOf m c 2) (vOf m c 2) (obOf m c) (ouOf m c)
    (vals_other m c) (vals_own m c) (vals_sent m c) (vals_part m c 2) (vals_staged m c 2) iprop(Slf (F := F) c ∗ semVal (barCell c) 0 ∗ RS (valsOf m) c 0 2 ∗ RS (valsOf m) c 3 0 ∗ AG (valsOf m) c 2 0 ∗ AG (valsOf m) c 3 0)).trans (wp_mono _ _ _ fun r => ?_))
  · show _ ⊢ iprop(Mid m c 2 2 1 0 2 1 0 0 ∗ _)
    unfold Mid
    iintro ⟨#HK, ⟨⟨HSF, HSEM, HR0, HR3, HA2, HA3⟩, HA0, HR2, HR1, HACC, HA1⟩, HS, HO, HI, HT⟩
    ihave HD := (debt_out (F := F) c 96) $$ HO
    ihave HAT := (heads_drop (F := F) c (xOf m c 2) (wqOf m c) (kOf m c 2) (vOf m c 2)) $$ HT
    isplitl [HSF HACC HAT HSEM HR0 HR1 HR2 HR3 HA0 HA1 HA2 HA3]
    · iexists K
      isplitr; · iexact HK
      isplitl [HSF]; · iexact HSF
      isplitl [HACC]; · iexact HACC
      isplitl [HAT]; · iexact HAT
      isplitl [HSEM]; · iexact HSEM
      isplitl [HR0]; · iexact HR0
      isplitl [HR1]; · iexact HR1
      isplitl [HR2]; · iexact HR2
      isplitl [HR3]; · iexact HR3
      isplitl [HA0]; · iexact HA0
      isplitl [HA1]; · iexact HA1
      isplitl [HA2]; · iexact HA2
      iexact HA3
    isplitl [HD]; · iexact HD
    iapply (left_intro m c t0_2 3 (xOf m c 2) (wqOf m c) (woOf m c) (kOf m c 2) (vOf m c 2) (3) (2) (16) (fun _ h => h))
    isplitl [HI]; · iexact HI
    iexact HS
  · isplitr [HI HT]
    · isplitr; · iexact HK
      isplitl [HSF HSEM HR0 HR3 HA2 HA3 HACC HR1 HA0 HA1]
      · isplitl [HSF HSEM HR0 HR3 HA2 HA3]
        · isplitl [HSF]; · iexact HSF
          isplitl [HSEM]; · iexact HSEM
          isplitl [HR0]; · iexact HR0
          isplitl [HR3]; · iexact HR3
          isplitl [HA2]; · iexact HA2
          iexact HA3
        isplitl [HACC]; · iexact HACC
        isplitl [HR1]; · iexact HR1
        isplitl [HA0]; · iexact HA0
        iexact HA1
      isplitl [HR2]; · iexact HR2
      isplitl [HX']
      · unfold OutS; iexists f; isplitr; · (ipureintro; exact hf)
        iexact HX'
      iexact HO
    isplitl [HI]; · iexact HI
    iexact HT

set_option maxHeartbeats 1000000 in
/-- The point of batch 3. -/
theorem point3 (c : Dev nD) :
    iprop(Inv m c 3 ∗ Debt (F := F) c 96 ∗ InsP (F := F) c (st0_0 t0_3) (st0_1 t0_3) (st0_2 t0_3) (st0_3 t0_3) (st0_4 t0_3) (xOf m c 3) (wqOf m c) (woOf m c) (kOf m c 3) (vOf m c 3) ∗ ∃ f, ⌜OutAt m c 3 f⌝ ∗ owns (c : Thread nD τ) (st0_5 t0_3) fullShare f)
      ⊢ Wp c (bodyAt0 (F := F) t0_3) (fun _ => iprop(Inv m c 4 ∗ Debt (F := F) c 144 ∗ Left m c t0_3 4 (xOf m c 3) (wqOf m c) (woOf m c) (kOf m c 3) (vOf m c 3))) := by
  show iprop(Mid m c 2 2 1 0 2 1 0 0 ∗ _) ⊢ _
  unfold Mid
  iintro ⟨⟨%K, #HK, HSF, HACC, HAT, HSEM, HR0, HR1, HR2, HR3, HA0, HA1, HA2, HA3⟩, HD, HI, ⟨%f, %hf, HX⟩⟩
  ihave HO := (debt_in (F := F) c 96) $$ HD
  ihave HT := (heads_none (F := F) c (xOf m c 3) (wqOf m c) (kOf m c 3) (vOf m c 3)) $$ HAT
  ihave HX' := (Entails.of_eq (out_owns (F := F) c t0_3 f)) $$ HX
  iapply ((body3 (valsOf m) K (grid0.coords t0_3) (win0_0.stage (cfg0.slots t0_3 0)) (hstage0_0 ((cfg0.slots t0_3 0).cast nbuf0_0)) (win0_1.stage (cfg0.slots t0_3 1)) (hstage0_1 ((cfg0.slots t0_3 1).cast nbuf0_1)) (win0_2.stage (cfg0.slots t0_3 2)) (hstage0_2 ((cfg0.slots t0_3 2).cast nbuf0_2)) (win0_3.stage (cfg0.slots t0_3 3)) (hstage0_3 ((cfg0.slots t0_3 3).cast nbuf0_3)) (win0_4.stage (cfg0.slots t0_3 4)) (hstage0_4 ((cfg0.slots t0_3 4).cast nbuf0_4)) c (point_val t0_3) (xOf m c 3) (wqOf m c) (woOf m c) (kOf m c 3) (vOf m c 3) (obOf m c) (ouOf m c)
    (vals_other m c) (vals_own m c) (vals_sent m c) (vals_part m c 3) (vals_staged m c 3) iprop(Slf (F := F) c ∗ semVal (barCell c) 0 ∗ RS (valsOf m) c 0 2 ∗ RS (valsOf m) c 1 2 ∗ AG (valsOf m) c 0 2)).trans (wp_mono _ _ _ fun r => ?_))
  · show _ ⊢ iprop(Mid m c 2 2 2 2 2 2 2 2 ∗ _)
    unfold Mid
    iintro ⟨#HK, ⟨⟨HSF, HSEM, HR0, HR1, HA0⟩, HA1, HR2, HR3, HA2, HA3, HACC⟩, HS, HO, HI, HT⟩
    ihave HD := (debt_out (F := F) c 144) $$ HO
    ihave HAT := (heads_drop (F := F) c (xOf m c 3) (wqOf m c) (kOf m c 3) (vOf m c 3)) $$ HT
    isplitl [HSF HACC HAT HSEM HR0 HR1 HR2 HR3 HA0 HA1 HA2 HA3]
    · iexists K
      isplitr; · iexact HK
      isplitl [HSF]; · iexact HSF
      isplitl [HACC]; · iexact HACC
      isplitl [HAT]; · iexact HAT
      isplitl [HSEM]; · iexact HSEM
      isplitl [HR0]; · iexact HR0
      isplitl [HR1]; · iexact HR1
      isplitl [HR2]; · iexact HR2
      isplitl [HR3]; · iexact HR3
      isplitl [HA0]; · iexact HA0
      isplitl [HA1]; · iexact HA1
      isplitl [HA2]; · iexact HA2
      iexact HA3
    isplitl [HD]; · iexact HD
    iapply (left_intro m c t0_3 4 (xOf m c 3) (wqOf m c) (woOf m c) (kOf m c 3) (vOf m c 3) (4) (4) (64) (fun _ h => h))
    isplitl [HI]; · iexact HI
    iexact HS
  · isplitr [HI HT]
    · isplitr; · iexact HK
      isplitl [HSF HSEM HR0 HR1 HA0 HACC HR2 HA1 HA2 HA3]
      · isplitl [HSF HSEM HR0 HR1 HA0]
        · isplitl [HSF]; · iexact HSF
          isplitl [HSEM]; · iexact HSEM
          isplitl [HR0]; · iexact HR0
          isplitl [HR1]; · iexact HR1
          iexact HA0
        isplitl [HACC]; · iexact HACC
        isplitl [HR2]; · iexact HR2
        isplitl [HA1]; · iexact HA1
        isplitl [HA2]; · iexact HA2
        iexact HA3
      isplitl [HR3]; · iexact HR3
      isplitl [HX']
      · unfold OutS; iexists f; isplitr; · (ipureintro; exact hf)
        iexact HX'
      iexact HO
    isplitl [HI]; · iexact HI
    iexact HT

/-- What the body does at point `t`, the `k`-th: it works on batch `b` and takes the payments from `n` to `n'`. -/
def Step (c : Dev nD) (t : Fin cfg0.N) (b : Fin 4) (k n n' : ℕ) : Prop :=
   iprop(Inv m c k ∗ Debt (F := F) c (n) ∗ InsP (F := F) c (st0_0 t) (st0_1 t) (st0_2 t) (st0_3 t) (st0_4 t) (xOf m c b) (wqOf m c) (woOf m c) (kOf m c b) (vOf m c b)
        ∗ ∃ f, ⌜OutAt m c k f⌝ ∗ owns (c : Thread nD τ) (st0_5 t) fullShare f)
      ⊢ Wp c (bodyAt0 (F := F) t) (fun _ => iprop(Inv m c (k + 1) ∗ Debt (F := F) c (n') ∗ Left m c t (k + 1) (xOf m c b) (wqOf m c) (woOf m c) (kOf m c b) (vOf m c b)))

/-- A point's step in the pipeline's terms. -/
theorem body_at (c : Dev nD) (t : Fin cfg0.N) (b : Fin 4) (hb : grid0.coords t 0 = b) (k n n' : ℕ) (hk : t.val = k) (hn : paid k = n) (hn' : paid (k + 1) = n') (Y : (w : Fin cfg0.W) → (cfg0.win w).block.Idx → Elt F (cfg0.win w).elt) (hY : ∀ w, (rdats (F := F) m 0 c).Finds w t (Y w))
    (hp : Step m c t b k n n') :
    iprop((rdats m 0 c).Φ t.castSucc ∗ (rdats m 0 c).owesAt () t.castSucc ∗ bigSep Finset.univ fun w => owns (c : Thread nD τ) ((cfg0.win w).stage (cfg0.slots t w)) fullShare (Y w))
      ⊢ Wp c (bodyAt0 (F := F) t) (fun _ => iprop((rdats m 0 c).Φ t.succ ∗ (rdats m 0 c).owesAt () t.succ
        ∗ bigSep Finset.univ fun w => iprop(∃ X, ⌜(rdats m 0 c).after w t (Y w) X⌝ ∗ owns (c : Thread nD τ) ((cfg0.win w).stage (cfg0.slots t w)) fullShare X))) := by
  subst hb hk hn hn'
  have h0 := finds_w0 m c t (Y 0) (hY 0)
  have h1 := finds_w1 m c t.val t.isLt (Y 1) (hY 1)
  have h2 := finds_w2 m c t.val t.isLt (Y 2) (hY 2)
  have h3 := finds_w3 m c t (Y 3) (hY 3)
  have h4 := finds_w4 m c t (Y 4) (hY 4)
  have h5 := finds_w5 m c t (Y 5) (hY 5)
  rw [bigSep_W0, bigSep_W0]
  have hst : ∀ P : sProp 𝕄, (iprop(P ∗ (rdats m 0 c).owesAt () t.castSucc ∗ owns (c : Thread nD τ) (st0_0 t) fullShare (Y 0) ∗ owns (c : Thread nD τ) (st0_1 t) fullShare (Y 1) ∗ owns (c : Thread nD τ) (st0_2 t) fullShare (Y 2)
      ∗ owns (c : Thread nD τ) (st0_3 t) fullShare (Y 3) ∗ owns (c : Thread nD τ) (st0_4 t) fullShare (Y 4) ∗ owns (c : Thread nD τ) (st0_5 t) fullShare (Y 5)) : sProp 𝕄)
      ⊢ iprop(P ∗ Debt (F := F) c (paid t.val) ∗ InsP (F := F) c (st0_0 t) (st0_1 t) (st0_2 t) (st0_3 t) (st0_4 t) (xOf m c (grid0.coords t 0)) (wqOf m c) (woOf m c) (kOf m c (grid0.coords t 0)) (vOf m c (grid0.coords t 0))
        ∗ ∃ f, ⌜OutAt m c t.val f⌝ ∗ owns (c : Thread nD τ) (st0_5 t) fullShare f) := fun P => by
    rw [← h0, ← h1, ← h2, ← h3, ← h4]
    unfold InsP
    iintro ⟨HP, ⟨%W, %hW, HO⟩, H0, H1, H2, H3, H4, H5⟩
    isplitl [HP]; · iexact HP
    isplitl [HO]
    · iexists W; isplitr; · (ipureintro; trivial)
      iexact HO
    isplitl [H0 H1 H2 H3 H4]
    · isplitl [H0]; · iexact H0
      isplitl [H1]; · iexact H1
      isplitl [H2]; · iexact H2
      isplitl [H3]; · iexact H3
      iexact H4
    iexists (Y 5)
    isplitr; · (ipureintro; exact h5)
    iexact H5
  have hen : ∀ P : sProp 𝕄, iprop(P ∗ Debt (F := F) c (paid (t.val + 1)) ∗ Left m c t (t.val + 1) (xOf m c (grid0.coords t 0)) (wqOf m c) (woOf m c) (kOf m c (grid0.coords t 0)) (vOf m c (grid0.coords t 0)))
      ⊢ iprop(P ∗ (rdats m 0 c).owesAt () t.succ ∗ (∃ X, ⌜(rdats m 0 c).after 0 t (Y 0) X⌝ ∗ owns (c : Thread nD τ) (st0_0 t) fullShare X) ∗ (∃ X, ⌜(rdats m 0 c).after 1 t (Y 1) X⌝ ∗ owns (c : Thread nD τ) (st0_1 t) fullShare X)
        ∗ (∃ X, ⌜(rdats m 0 c).after 2 t (Y 2) X⌝ ∗ owns (c : Thread nD τ) (st0_2 t) fullShare X) ∗ (∃ X, ⌜(rdats m 0 c).after 3 t (Y 3) X⌝ ∗ owns (c : Thread nD τ) (st0_3 t) fullShare X)
        ∗ (∃ X, ⌜(rdats m 0 c).after 4 t (Y 4) X⌝ ∗ owns (c : Thread nD τ) (st0_4 t) fullShare X) ∗ (∃ X, ⌜(rdats m 0 c).after 5 t (Y 5) X⌝ ∗ owns (c : Thread nD τ) (st0_5 t) fullShare X)) := fun P => by
    rw [← h0, ← h1, ← h2, ← h3, ← h4]
    show _ ⊢ iprop(P ∗ (rdats m 0 c).owesAt () t.succ ∗ Left m c t (t.val + 1) (Y 0) (Y 1) (Y 2) (Y 3) (Y 4))
    iintro ⟨HP, ⟨%W, %hW, HO⟩, HL⟩
    isplitl [HP]; · iexact HP
    isplitl [HO]
    · iexists W; isplitr; · (ipureintro; exact fun _ _ => Or.inl trivial)
      iexact HO
    iexact HL
  exact (hst _).trans (hp.trans (wp_mono _ _ _ fun _ => hen _))

theorem step0 (c : Dev nD) : Step m c t0_0 0 0 0 32 := by
  unfold Step
  refine BI.Entails.trans ?_ (BI.Entails.trans (point0 m c) (wp_mono _ _ _ fun _ => ?_))
  · exact .refl _
  · exact .refl

theorem step1 (c : Dev nD) : Step m c t0_1 1 1 32 64 := by
  unfold Step
  refine BI.Entails.trans ?_ (BI.Entails.trans (point1 m c) (wp_mono _ _ _ fun _ => ?_))
  · exact .refl _
  · exact .refl

theorem step2 (c : Dev nD) : Step m c t0_2 2 2 64 96 := by
  unfold Step
  refine BI.Entails.trans ?_ (BI.Entails.trans (point2 m c) (wp_mono _ _ _ fun _ => ?_))
  · exact .refl _
  · exact .refl

theorem step3 (c : Dev nD) : Step m c t0_3 3 3 96 144 := by
  unfold Step
  refine BI.Entails.trans ?_ (BI.Entails.trans (point3 m c) (wp_mono _ _ _ fun _ => ?_))
  · exact .refl _
  · exact .refl

/-- Every point is one of the four. -/
theorem steps (c : Dev nD) (t : Fin cfg0.N) : ∃ (b : Fin 4) (k n n' : ℕ), grid0.coords t 0 = b ∧ t.val = k ∧ paid k = n ∧ paid (k + 1) = n' ∧ Step m c t b k n n' := by
  rcases fin_N0 t with h | h | h | h
  · exact ⟨0, 0, 0, 32, h ▸ Fin.ext (point_val t0_0), h ▸ rfl, rfl, rfl, h ▸ step0 m c⟩
  · exact ⟨1, 1, 32, 64, h ▸ Fin.ext (point_val t0_1), h ▸ rfl, rfl, rfl, h ▸ step1 m c⟩
  · exact ⟨2, 2, 64, 96, h ▸ Fin.ext (point_val t0_2), h ▸ rfl, rfl, rfl, h ▸ step2 m c⟩
  · exact ⟨3, 3, 96, 144, h ▸ Fin.ext (point_val t0_3), h ▸ rfl, rfl, rfl, h ▸ step3 m c⟩

/-- The pipeline's obligation of the body. -/
theorem body_spec (c : Dev nD) : (rdats (F := F) m 0 c).BodyObligation (defs₀ (F := F)) 𝒱₀ () Set.univ := by
  intro t Y hY
  obtain ⟨b, k, n, n', hb, hk, hn, hn', hp⟩ := steps m c t
  exact body_at m c t b hb k n n' hk hn hn' Y hY hp

end Cert.RsAg

end
-- ==== Proof.Run.lean ====
/-
# The run

On sixteen devices, from any memory, every device's result ends at the computed contents, the arguments are unchanged and
every semaphore is zero.
-/
module

public import proofs.«01_k».proof.Proof.Leave
public import proofs.«01_k».proof.Proof.Grid
public import Idealize.ShloMosaic.Lib.Pipeline.CollectiveSegs

@[expose] public section

noncomputable section

namespace Cert.RsAg

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- A staging semaphore is no cell of the protocol. -/
theorem lv_stage (c : Dev nD) (w : Fin cfg0.W) (s : Fin (cfg0.win w).nbuf) : lv ((c : Thread nD τ), SemLoc.dma ((cfg0.win w).sem s)) () = 0 := by
  have hne : ∀ ck, kcell ck ≠ ((c : Thread nD τ), SemLoc.dma ((cfg0.win w).sem s)) := by
    rintro ⟨d, _ | x⟩ h
    · have h2 := congrArg Prod.snd h
      exact absurd h2 (by intro h3; cases h3)
    · exact ownSemFacts.disj x w s (congrArg Prod.snd h)
  have hn : nameOf ((c : Thread nD τ), SemLoc.dma ((cfg0.win w).sem s)) = none := by
    unfold nameOf Function.partialInv
    exact dif_neg fun ⟨ck, hck⟩ => hne ck hck
  unfold lv; rw [hn]; rfl

theorem waits (c : Dev nD) : (levAts L lv : sProp 𝕄) ⊢ Pipeline.RDat.cellsWaits cfgs (rdats (F := F) m) () 0 c :=
  Pipeline.RDat.cellsWaits_intro cfgs (rdats m) () 0 c fun w s t =>
    mayWait c _ _ (by rw [lv_stage c w s]; exact Nat.zero_le _)

/-- The output array after the last point. -/
theorem result_eq (c : Dev nD) (G : S4x256x1024.Idx → Elt F .f32) (h : (rdats m 0 c).ArrAt 5 cfg0.N G) : G = ouOf m c := by
  have h3 : 3 < cfg0.N := by decide
  have hs := (rdats m 0 c).ArrAt_succ 5 ⟨3, h3⟩
  rw [if_pos ((flush0_5 ⟨3, h3⟩).2 rfl)] at hs
  have h' : (rdats m 0 c).ArrAt 5 ((⟨3, h3⟩ : Fin cfg0.N).val + 1) G := h
  rw [hs] at h'
  obtain ⟨G₀, X, -, hX, hG⟩ := h'
  have hX' : OutAt m c 4 X := by
    rcases hX with ⟨Y, -, hY⟩
    exact hY
  have hXo := outAt_last m c X hX'
  funext x
  have hw := congrFun hG (((cfg0.win 5).blk ⟨3, h3⟩).view.emb x)
  rw [View.write_emb_of_mem _ _ (Finset.mem_univ x)] at hw
  have he : ((cfg0.win 5).blk ⟨3, h3⟩).view.emb x = x := emb_w5 ⟨3, h3⟩ x
  rw [← hXo]
  exact (congrArg G he.symm).trans hw

/-- What holds after the run. -/
def Done (s : MemSt nD τ sig (Elt F)) : Prop :=
  ∀ c : Dev nD, s.mem ((c : Thread nD τ).loc main_v1) = ouOf m c
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem done_of (s : MemSt nD τ sig (Elt F)) (h : ∀ (c : Dev nD) (w : Fin cfg0.W), (rdats m 0 c).ArrAt w cfg0.N (s.mem ((cfg0.win w).arr.view.loc (c : Thread nD τ)))) : Done m s := fun c => by
  have hi : ∀ (w : Fin cfg0.W), (cfg0.win w).isOut = false → s.mem ((cfg0.win w).arr.view.loc (c : Thread nD τ)) = m ((cfg0.win w).arr.view.loc (c : Thread nD τ)) := fun w hw => by
    have h1 := h c w
    rw [(rdats m 0 c).ArrAt_in w hw] at h1
    exact h1
  exact ⟨result_eq m c _ (h c 5), hi 0 rfl, hi 1 rfl, hi 3 rfl, hi 4 rfl, hi 2 rfl⟩

set_option maxRecDepth 8000 in
theorem run_main (ρ : Dev nD → PrngReg) : θ_run (defs (F := F)) (onTc (τ := τ) (main (F := F))) ⟨m, fun _ => 0, ρ⟩ (fun r => Done m r.2 ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_spec m) (hne := block_pos0) (harr := arr_whole0) (hstage := stage_whole0)
    (hshare := fun c w => by unfold Pipeline.RDat.share; split <;> rfl)
    (hdistinct := winFacts0.arr_inj)
    (O₀ := fun d => owe d 0) (howed₀ := fun _ => rfl) (howedN := fun c => owe_end c)
    (L := L) (lv := lv) (hL := L_of_ne) (hwaits := waits m)
    (G := Fund (valsOf m)) (G' := Deal (valsOf m)) (u₀ := u₀)
    (hu₀ := by
      unfold u₀
      iintro Hu
      ihave H := (ownU_pair _ _) $$ Hu
      icases H with ⟨HP, HX⟩
      imod (fund (valsOf m)) $$ HX with HG
      imodintro
      isplitl [HP] <;> iassumption)
    (hglob := deal (valsOf m))
    (hA := fun _ _ => rfl) (hpf := fun _ k => k.elim0)
    (X := Ready (valsOf m)) (Y := fun c => unscopedSems0 c) (Z := fun _ => iprop(emp))
    (hX := enter_ready (valsOf m) m ρ) (hin := enter_start m) (hout := fun c => leave c m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨done_of m s fun c w => (h c).1 w, sem_eq_zero hs fun c => (h c).2.2⟩)

end Cert.RsAg

end
-- ==== Proof.FrameKernel.lean ====
/-
# The kernel's own run, in words of bits

The kernel and its idealization are the same text but for one constant, so the run proved for any float values is the
kernel's run once the named constant is read as its word.
-/
module

public import proofs.«01_k».proof.Defs
public import proofs.«01_k».proof.Proof.Gen.Kernel
public import proofs.«01_k».proof.Proof.Run

@[expose] public section

noncomputable section

namespace Cert.RsAg

open Idealize.ShloMosaic Idealize.ShloMosaic.TcCoe Idealize.SL.Sem

/-- Over words, the named constant is the word it stands for. -/
local instance namedBits : Named Bits where
  named _ _ {φ} b := Scalar.ofBits φ b

attribute [local instance] Cert.Kernel.Gen.facts Cert.KernelIdeal.Gen.facts

/-- The two body functions are one program over words. -/
theorem body_words :
    Cert.Kernel.cc0__fused_body (F := Bits) = Cert.KernelIdeal.cc0__fused_body (F := Bits) := rfl

/-- So are the tables that give each label its body: there is one label. -/
theorem bodies_words : Cert.Kernel.defs₀ (F := Bits) = Cert.KernelIdeal.defs₀ (F := Bits) := by
  refine congrArg Defs.onTc (funext fun l => ?_)
  match l with
  | ⟨0, _⟩ => exact funext fun ⟨_, _⟩ => rfl

/-- And so are the tables with the pipeline's own entries. -/
theorem defs_words : Cert.Kernel.defs (F := Bits) = Cert.KernelIdeal.defs (F := Bits) :=
  congrArg (Pipeline.defs (Cert.Kernel.pcfgs (F := Bits))) bodies_words

/-- The kernel ends on every machine, leaves its arguments as they were and every semaphore at zero. -/
theorem frame_kernel : Cert.quiescent_Kernel (hKernel := Cert.Kernel.Gen.facts) := fun m ρ _ => by
  rw [defs_words]
  exact (θ_run (Cert.KernelIdeal.defs (F := Bits))
    (onTc (τ := Cert.KernelIdeal.τ) (Cert.KernelIdeal.main (F := Bits))) ⟨m, fun _ => 0, ρ⟩).mono
    (fun _ h => ⟨fun c => (h.1 c).2, h.2⟩) (run_main (F := Bits) m ρ)

end Cert.RsAg

end
-- ==== Proof.Frames.lean ====
/-
# The frames of the idealized kernel and of the reference

Each program runs to its end, leaves its arguments as they were and every semaphore at zero.
-/
module

public import proofs.«01_k».proof.Defs
public import proofs.«01_k».proof.Proof.Run
public import proofs.«01_k».proof.Proof.Gen.ReferenceIdeal.Run
public import Idealize.ShloMosaic.Lib.Quiescent

@[expose] public section

noncomputable section

namespace Cert.RsAg

open Idealize.ShloMosaic Idealize.ShloMosaic.TcCoe Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The facts of the precondition's function, on the kernel's arguments. -/
instance pre_facts : Cert.Pre_finite_scores_KernelIdeal.Facts where
  bcast_S_S4x256x1024 := by decide
  reducesTo_S4x256x1024_S_d0_1_2 := by decide
  h_S_ := by decide
  bcast_S_S1024x1024 := by decide
  reducesTo_S1024x1024_S_d0_1 := by decide
  bcast_S_S4x1024x8x128 := by decide
  reducesTo_S4x1024x8x128_S_d0_1_2_3 := by decide

/-- The facts of the precondition's function, on the reference's arguments. -/
instance pre_facts_ref : Cert.Pre_finite_scores_ReferenceIdeal.Facts := by
  constructor <;> decide

theorem frame_ideal_pre : Cert.quiescent_KernelIdeal_pre_finite_scores_KernelIdeal (hKernelIdeal := Cert.KernelIdeal.Gen.facts) :=
  fun m ρ _ => frame_ideal m ρ trivial

theorem frame_reference_pre : Cert.quiescent_ReferenceIdeal_pre_finite_scores_ReferenceIdeal (hReferenceIdeal := Cert.ReferenceIdeal.Gen.facts) :=
  fun m ρ _ => frame_reference m ρ trivial

theorem preserves : Cert.preserves_Kernel_KernelIdeal :=
  IdealRules.named_const.statement Cert.KernelIdeal.κ "scale_log2e" .f32 0x3E0293EE#32 _ rfl

end Cert.RsAg

end
-- ==== Proof.Softmax.lean ====
/-
# Softmax over the extended reals

The reference subtracts the largest score before it takes exponentials; the kernel does not, and takes its exponentials in
base two. Over finite scores the two quotients agree, whatever the values that they weigh.
-/
module

public import Idealize.ShloMosaic.PureOps.Ideal

@[expose] public section

noncomputable section

namespace Cert.RsAg

open Idealize.ShloMosaic

/-- A finite extended real is a real. -/
def Fin' (x : EReal) : Prop := x ≠ ⊤ ∧ x ≠ ⊥

theorem Fin'.coe {x : EReal} (h : Fin' x) : ((x.toReal : ℝ) : EReal) = x := EReal.coe_toReal h.1 h.2

theorem fin_coe (r : ℝ) : Fin' (r : EReal) := ⟨EReal.coe_ne_top r, EReal.coe_ne_bot r⟩

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative comes out of any sum. -/
theorem sum_mul_coe {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih]
    exact (EReal.right_distrib_of_nonneg_of_ne_top (by exact_mod_cast hc) (EReal.coe_ne_top c) _ _).symm

/-- The largest of finitely many reals, folded from minus infinity, is one of them. -/
theorem fold_max_coe {n : ℕ} (hn : 0 < n) (s : Fin n → ℝ) : ∃ M : ℝ, (Finset.univ : Finset (Fin n)).fold max (⊥ : EReal) (fun j => (s j : EReal)) = (M : EReal) := by
  have h : (Finset.univ : Finset (Fin n)).fold max (⊥ : EReal) (fun j => (s j : EReal)) = Finset.univ.sup fun j => (s j : EReal) := rfl
  obtain ⟨i, -, hi⟩ := Finset.exists_mem_eq_sup Finset.univ ⟨(⟨0, hn⟩ : Fin n), Finset.mem_univ _⟩ fun j => (s j : EReal)
  exact ⟨s i, h.trans hi⟩

/-- Scaling dividend and divisor by one positive real. -/
theorem div_scale (A : EReal) (B c : ℝ) (hB : 0 < B) (hc : 0 < c) : Ideal.div (A * (c : EReal)) (((B * c : ℝ)) : EReal) = Ideal.div A (B : EReal) := by
  have h1 : ((B * c : ℝ) : EReal) ≠ 0 := by exact_mod_cast (mul_pos hB hc).ne'
  have h2 : (B : EReal) ≠ 0 := by exact_mod_cast hB.ne'
  rw [Ideal.div, if_neg h1, Ideal.div, if_neg h2, ← EReal.coe_inv, ← EReal.coe_inv, mul_assoc, ← EReal.coe_mul]
  congr 2
  field_simp

/-- The softmax of finite scores, its largest score subtracted first or not, its exponentials in base e or in base two. -/
theorem softmax_eq {n : ℕ} (hn : 0 < n) (s : Fin n → ℝ) (v : Fin n → EReal) (M : ℝ) :
    Ideal.div (∑ j, v j * ((Real.exp (s j - M) : ℝ) : EReal)) (∑ j, ((Real.exp (s j - M) : ℝ) : EReal))
      = Ideal.div (∑ j, ((Real.exp (s j) : ℝ) : EReal) * v j) (∑ j, ((Real.exp (s j) : ℝ) : EReal)) := by
  have hx : ∀ j, Real.exp (s j - M) = Real.exp (s j) * Real.exp (-M) := fun j => by rw [← Real.exp_add]; rfl
  have h1 : ∑ j, v j * ((Real.exp (s j - M) : ℝ) : EReal) = (∑ j, ((Real.exp (s j) : ℝ) : EReal) * v j) * ((Real.exp (-M) : ℝ) : EReal) := by
    rw [← sum_mul_coe _ _ _ (Real.exp_pos _).le]
    refine Finset.sum_congr rfl fun j _ => ?_
    rw [hx, EReal.coe_mul, ← mul_assoc, mul_comm (v j)]
  have h2 : ∑ j, ((Real.exp (s j - M) : ℝ) : EReal) = (((∑ j, Real.exp (s j)) * Real.exp (-M) : ℝ) : EReal) := by
    rw [← coe_sum, Finset.sum_mul]
    exact congrArg _ (Finset.sum_congr rfl fun j _ => hx j)
  rw [h1, h2, ← coe_sum]
  refine div_scale _ _ _ (Finset.sum_pos (fun j _ => Real.exp_pos _) ⟨⟨0, hn⟩, Finset.mem_univ _⟩) (Real.exp_pos _)

/-- A power of two of a score times log₂ e is the score's exponential. -/
theorem rpow_two (t r : ℝ) : Real.rpow 2 (t * (r * (Real.log 2)⁻¹)) = Real.exp (t * r) := by
  have h : Real.log 2 ≠ 0 := (Real.log_pos (by norm_num)).ne'
  show (2 : ℝ) ^ (t * (r * (Real.log 2)⁻¹)) = _
  rw [Real.rpow_def_of_pos (by norm_num)]
  congr 1
  field_simp

end Cert.RsAg

end
-- ==== Proof.Finite.lean ====
/-
# What the precondition says

Where the precondition is all ones, every element of the three arrays it looks at is a real.
-/
module

public import proofs.«01_k».proof.Proof.Frames
public import proofs.«01_k».proof.Proof.Softmax
public import Idealize.ShloMosaic.Lib.ReduceAll
public import Idealize.ShloMosaic.Lib.Affine

@[expose] public section

noncomputable section

namespace Cert.RsAg

open Idealize.ShloMosaic

/-- An element whose absolute value is below plus infinity is a real. -/
theorem fin_of_lt (a : EReal) (h : Ideal.cmp .olt (max a (-a)) (Ideal.ofBits .f32 0x7F800000#32) = 1#1) : Fin' a := by
  have htop : Ideal.ofBits .f32 0x7F800000#32 = ⊤ := by simp [Ideal.ofBits, Ideal.ieee]
  rw [htop] at h
  have hlt : max a (-a) < ⊤ := by
    by_contra hn
    have h0 : Ideal.cmp .olt (max a (-a)) ⊤ = 0#1 := by
      show BitVec.ofBool (decide _) = _
      rw [decide_eq_false hn]; rfl
    rw [h0] at h
    exact absurd h (by decide)
  rw [max_lt_iff] at hlt
  refine ⟨hlt.1.ne, fun hb => ?_⟩
  rw [hb] at hlt
  exact absurd hlt.2 (by simp)

instance : Subsingleton Cert.Pre_finite_scores_KernelIdeal.S_.Idx := ⟨fun a b => funext fun i => i.elim0⟩

open Cert.Pre_finite_scores_KernelIdeal in
theorem pre_finite (x : FVec Ideal S4x256x1024 .f32) (wq : FVec Ideal S1024x1024 .f32) (k v : FVec Ideal S4x1024x8x128 .f32) (wo : FVec Ideal S1024x1024 .f32)
    (h : fn (F := Ideal) x wq k v wo = fun _ => 1#1) : (∀ i, Fin' (x i)) ∧ (∀ i, Fin' (wq i)) ∧ ∀ i, Fin' (k i) := by
  have h0 := congrFun h (fun i => i.elim0)
  dsimp only [fn] at h0
  obtain ⟨h1, hk⟩ := IntOp.andi_eq_one.1 h0
  obtain ⟨hx, hq⟩ := IntOp.andi_eq_one.1 h1
  exact ⟨fun i => fin_of_lt _ (Host.reduce_andi_all _ _ _ _ _ hx i), fun i => fin_of_lt _ (Host.reduce_andi_all _ _ _ _ _ hq i),
    fun i => fin_of_lt _ (Host.reduce_andi_all _ _ _ _ _ hk i)⟩

end Cert.RsAg

end
-- ==== Proof.RefValue.lean ====
/-
# What the reference computes

The reference's result at an index, step by step: queries, scores, their largest, exponentials, the weighted mean of the
values, and the output product.
-/
module

public import proofs.«01_k».proof.Proof.Softmax
public import proofs.«01_k».proof.Proof.Gen.ReferenceIdeal.Run
public import Idealize.ShloMosaic.Lib.Pointwise

@[expose] public section

noncomputable section

namespace Cert.RsAg.Ref

open Cert.ReferenceIdeal Cert.ReferenceIdeal.Gen Idealize.ShloMosaic

variable (x : FVec Ideal S4x256x1024 .f32) (wq : FVec Ideal S1024x16384 .f32) (k v : FVec Ideal S4x1024x128x128 .f32) (wo : FVec Ideal S16384x1024 .f32)

/-- The queries, by head. -/
def q : FVec Ideal S4x256x128x128 .f32 :=
  shapeCast _ (Host.dotGeneral dot_S4x256x1024_S1024x16384_S4x256x16384_2_0_01_1_n_n none x wq) shapeCasts_S4x256x16384_S4x256x128x128

/-- The scores. -/
def s : FVec Ideal S4x128x256x1024 .f32 :=
  mulf (Host.dotGeneral dot_S4x256x128x128_S4x1024x128x128_S4x128x256x1024_3_3_1_1_02_02 none (q x wq) k)
    (broadcastInDim S4x128x256x1024 ![] bcast_S_S4x128x256x1024 (constant S_ .f32 0x3DB504F3#32))

/-- The largest score of a row. -/
def mx : FVec Ideal S4x128x256 .f32 :=
  Host.reduce FloatOps.maximumf (s x wq k) (constant S_ .f32 0xFF800000#32) reducesTo_S4x128x256x1024_S4x128x256_d3 h_S_

/-- The exponentials of the scores, the largest subtracted. -/
def e : FVec Ideal S4x128x256x1024 .f32 :=
  Host.exp (subf (s x wq k) (broadcastInDim S4x128x256x1024 ![0, 1, 2, 3] bcast_S4x128x256x1_S4x128x256x1024_0_1_2_3
    (broadcastInDim S4x128x256x1 ![0, 1, 2] bcast_S4x128x256_S4x128x256x1_0_1_2 (mx x wq k))))

/-- The heads' outputs side by side. -/
def a : FVec Ideal S4x256x16384 .f32 :=
  shapeCast _ (Host.divf
    (transpose S4x256x128x128 [0, 3, 1, 2] (Host.dotGeneral dot_S4x1024x128x128_S4x128x256x1024_S4x128x128x256_1_3_3_2_02_01 none v (e x wq k)) transposes_S4x128x128x256_S4x256x128x128_0_3_1_2)
    (broadcastInDim S4x256x128x128 ![0, 1, 2, 3] bcast_S4x256x128x1_S4x256x128x128_0_1_2_3
      (transpose S4x256x128x1 [0, 2, 1, 3] (broadcastInDim S4x128x256x1 ![0, 1, 2] bcast_S4x128x256_S4x128x256x1_0_1_2
        (Host.reduceAdd (e x wq k) (constant S_ .f32 0x00000000#32) reducesTo_S4x128x256x1024_S4x128x256_d3 h_S_)) transposes_S4x128x256x1_S4x256x128x1_0_2_1_3)))
    shapeCasts_S4x256x128x128_S4x256x16384

/-- The result. -/
def out : FVec Ideal S4x256x1024 .f32 :=
  Host.dotGeneral dot_S4x256x16384_S16384x1024_S4x256x1024_2_0_01_1_n_n none (a x wq k v) wo

theorem out_apply (b : Fin 4) (r : Fin 256) (n : Fin 1024) :
    out x wq k v wo (ix3 b r n) = ∑ y : Fin 16384, a x wq k v (ix3 b r y) * wo (ix2 y n) := by
  pointwise [out]

theorem a_apply (b : Fin 4) (r : Fin 256) (h d : Fin 128) (hy : h.val * 128 + d.val < 16384) :
    a x wq k v (ix3 b r ⟨h.val * 128 + d.val, hy⟩) = Ideal.div (∑ j : Fin 1024, v (ix4 b j h d) * e x wq k (ix4 b h r j)) (∑ j : Fin 1024, e x wq k (ix4 b h r j)) := by
  pointwise [a]

theorem q_apply (b : Fin 4) (r : Fin 256) (h d : Fin 128) :
    q x wq (ix4 b r h d) = ∑ t : Fin 1024, x (ix3 b r t) * wq (ix2 t ⟨h.val * 128 + d.val, by omega⟩) := by
  pointwise [q]

theorem s_apply (b : Fin 4) (h : Fin 128) (r : Fin 256) (j : Fin 1024) :
    s x wq k (ix4 b h r j) = (∑ d : Fin 128, q x wq (ix4 b r h d) * k (ix4 b j h d)) * Ideal.ofBits .f32 0x3DB504F3#32 := by
  pointwise [s]

theorem mx_apply (b : Fin 4) (h : Fin 128) (r : Fin 256) :
    mx x wq k (ix3 b h r) = (Finset.univ : Finset (Fin 1024)).fold max ⊥ (fun j => s x wq k (ix4 b h r j)) := by
  pointwise [mx]
  rw [show Ideal.ofBits FTy.f32 0xFF800000#32 = ⊥ by simp [Ideal.ofBits, Ideal.ieee]]

theorem e_apply (b : Fin 4) (h : Fin 128) (r : Fin 256) (j : Fin 1024) :
    e x wq k (ix4 b h r j) = Ideal.exp (s x wq k (ix4 b h r j) - mx x wq k (ix3 b h r)) := by
  pointwise [e]

end Cert.RsAg.Ref

end
-- ==== Proof.IdealHeads.lean ====
/-
# One device's attention over the extended reals

Each head of a device, and the device's partial sums, read at an index with exact arithmetic.
-/
module

public import proofs.«01_k».proof.Proof.Heads
public import proofs.«01_k».proof.Proof.Softmax
public import Idealize.ShloMosaic.Lib.Pointwise
public import Idealize.ShloMosaic.Lib.IdealHost

@[expose] public section

noncomputable section

namespace Cert.RsAg

open Cert.KernelIdeal Cert.KernelIdeal.Gen Idealize.ShloMosaic

variable (x : FVec Ideal S1x256x1024 .f32) (wq wo : FVec Ideal S1024x1024 .f32) (kk vv : FVec Ideal S1x1024x8x128 .f32)

/-- The kernel's scale: the reference's literal times log₂ e. -/
theorem scale_eq : (Named.named κ "scale_log2e" (φ := .f32) 0x3E0293EE#32 : Ideal .f32) = (((11863283 / 134217728) * (Real.log 2)⁻¹ : ℝ) : EReal) := rfl

/-- A scaled query. -/
def qK (r : Fin 256) (y : Fin 1024) : EReal := (∑ t : Fin 1024, x (ix3 0 r t) * wq (ix2 t y)) * (((11863283 / 134217728) * (Real.log 2)⁻¹ : ℝ) : EReal)

theorem pay87_apply (r : Fin 256) (y : Fin 1024) : k0_pay87 (F := Ideal) x wq (ix2 r y) = qK x wq r y := by
  pointwise [k0_pay87]
  rfl

/-- A weight. -/
def eK (h : Fin 8) (r : Fin 256) (j : Fin 1024) : EReal := Ideal.exp2 (∑ t : Fin 128, qK x wq r (colOf h t) * kk (ix4 0 j h t))

/-- A head's output. -/
def hK (h : Fin 8) (r : Fin 256) (d : Fin 128) : EReal :=
  Ideal.div (∑ j : Fin 1024, eK x wq kk h r j * vv (ix4 0 j h d)) (∑ j : Fin 1024, eK x wq kk h r j)

theorem hd_apply (h : Fin 8) (j : Fin 1024) (t : Fin 128) : hd (F := Ideal) kk h (ix4 0 j 0 t) = kk (ix4 0 j h t) := by
  show kk _ = kk _
  rw [ix4_eq_valueIdx, ix4_eq_valueIdx]

/-- A head as the operations give it, its columns of the queries named `o`. -/
theorem head_form (h : Fin 8) (r : Fin 256) (d : Fin 128) (o : Fin 128 → Fin 1024) (ho : ∀ t, o t = colOf h t) :
    Ideal.div
      (∑ j : Fin 1024, (FloatOps.exp2 (F := Ideal) (φ := .f32) (∑ t : Fin 128, k0_pay87 (F := Ideal) x wq (ix2 r (o t)) * hd (F := Ideal) kk h (ix4 0 j 0 t)) : EReal) * hd (F := Ideal) vv h (ix4 0 j 0 d))
      (∑ j : Fin 1024, (FloatOps.exp2 (F := Ideal) (φ := .f32) (∑ t : Fin 128, k0_pay87 (F := Ideal) x wq (ix2 r (o t)) * hd (F := Ideal) kk h (ix4 0 j 0 t)) : EReal))
      = hK x wq kk vv h r d := by
  have he : ∀ j : Fin 1024, (FloatOps.exp2 (F := Ideal) (φ := .f32) (∑ t : Fin 128, k0_pay87 (F := Ideal) x wq (ix2 r (o t)) * hd (F := Ideal) kk h (ix4 0 j 0 t)) : EReal) = eK x wq kk h r j := fun j => by
    refine congrArg Ideal.exp2 (Finset.sum_congr rfl fun t _ => ?_)
    rw [pay87_apply, hd_apply, ho]
  unfold hK
  simp only [he]
  simp only [hd_apply]

theorem head0 (r : Fin 256) (d : Fin 128) : headO (F := Ideal) x wq kk vv 0 (ix2 r d) = hK x wq kk vv 0 r d := by
  show k0_pay90 (k0_pay89 x wq (hd (F := Ideal) kk 0) (hd (F := Ideal) vv 0)) (ix2 r d) = _
  pointwise [k0_pay90, k0_pay89, k0_pay88]
  exact head_form x wq kk vv 0 r d (fun t => ⟨t.val, by omega⟩) (fun t => Fin.ext (by show t.val = 128 * 0 + t.val; omega))

theorem head1 (r : Fin 256) (d : Fin 128) : headO (F := Ideal) x wq kk vv 1 (ix2 r d) = hK x wq kk vv 1 r d := by
  show k0_pay91 (k0_pay87 x wq) k0_pay88 (hd (F := Ideal) kk 1) (hd (F := Ideal) vv 1) (ix2 r d) = _
  pointwise [k0_pay91, k0_pay88]
  exact head_form x wq kk vv 1 r d (fun t => ⟨128 + t.val, by omega⟩) (fun t => rfl)

theorem head2 (r : Fin 256) (d : Fin 128) : headO (F := Ideal) x wq kk vv 2 (ix2 r d) = hK x wq kk vv 2 r d := by
  show k0_pay94 (k0_pay92 (k0_pay87 x wq) (hd (F := Ideal) kk 2)) (k0_pay93 (k0_pay87 x wq) k0_pay88 (hd (F := Ideal) kk 2)) (hd (F := Ideal) vv 2) (ix2 r d) = _
  pointwise [k0_pay94, k0_pay93, k0_pay92, k0_pay88]
  exact head_form x wq kk vv 2 r d (fun t => ⟨256 + t.val, by omega⟩) (fun t => rfl)

theorem head3 (r : Fin 256) (d : Fin 128) : headO (F := Ideal) x wq kk vv 3 (ix2 r d) = hK x wq kk vv 3 r d := by
  show k0_pay95 (k0_pay87 x wq) k0_pay88 (hd (F := Ideal) kk 3) (hd (F := Ideal) vv 3) (ix2 r d) = _
  pointwise [k0_pay95, k0_pay88]
  exact head_form x wq kk vv 3 r d (fun t => ⟨384 + t.val, by omega⟩) (fun t => rfl)

theorem head4 (r : Fin 256) (d : Fin 128) : headO (F := Ideal) x wq kk vv 4 (ix2 r d) = hK x wq kk vv 4 r d := by
  show k0_pay97 k0_pay88 (k0_pay96 (k0_pay87 x wq) (hd (F := Ideal) kk 4)) (hd (F := Ideal) vv 4) (ix2 r d) = _
  pointwise [k0_pay97, k0_pay96, k0_pay88]
  exact head_form x wq kk vv 4 r d (fun t => ⟨512 + t.val, by omega⟩) (fun t => rfl)

theorem head5 (r : Fin 256) (d : Fin 128) : headO (F := Ideal) x wq kk vv 5 (ix2 r d) = hK x wq kk vv 5 r d := by
  show k0_pay98 (k0_pay87 x wq) k0_pay88 (hd (F := Ideal) kk 5) (hd (F := Ideal) vv 5) (ix2 r d) = _
  pointwise [k0_pay98, k0_pay88]
  exact head_form x wq kk vv 5 r d (fun t => ⟨640 + t.val, by omega⟩) (fun t => rfl)

theorem head6 (r : Fin 256) (d : Fin 128) : headO (F := Ideal) x wq kk vv 6 (ix2 r d) = hK x wq kk vv 6 r d := by
  show k0_pay100 k0_pay88 (k0_pay99 (k0_pay87 x wq)) (hd (F := Ideal) kk 6) (hd (F := Ideal) vv 6) (ix2 r d) = _
  pointwise [k0_pay100, k0_pay99, k0_pay88]
  exact head_form x wq kk vv 6 r d (fun t => ⟨768 + t.val, by omega⟩) (fun t => rfl)

theorem head7 (r : Fin 256) (d : Fin 128) : headO (F := Ideal) x wq kk vv 7 (ix2 r d) = hK x wq kk vv 7 r d := by
  show k0_pay102 (k0_pay101 (k0_pay87 x wq) k0_pay88 (hd (F := Ideal) kk 7) (hd (F := Ideal) vv 7)) (ix2 r d) = _
  pointwise [k0_pay102, k0_pay101, k0_pay88]
  exact head_form x wq kk vv 7 r d (fun t => ⟨896 + t.val, by omega⟩) (fun t => rfl)

theorem head_apply (h : Fin 8) (r : Fin 256) (d : Fin 128) : headO (F := Ideal) x wq kk vv h (ix2 r d) = hK x wq kk vv h r d := by
  match h with
  | 0 => exact head0 x wq kk vv r d
  | 1 => exact head1 x wq kk vv r d
  | 2 => exact head2 x wq kk vv r d
  | 3 => exact head3 x wq kk vv r d
  | 4 => exact head4 x wq kk vv r d
  | 5 => exact head5 x wq kk vv r d
  | 6 => exact head6 x wq kk vv r d
  | 7 => exact head7 x wq kk vv r d

theorem part_apply (r : Fin 256) (n : Fin 1024) :
    oV (F := Ideal) x wq wo kk vv (ix3 0 r n) = ∑ y : Fin 1024, hK x wq kk vv (headOf y) r (inHead y) * wo (ix2 y n) := by
  show k0_pay103 (attnV (F := Ideal) x wq kk vv) wo (ix3 0 r n) = _
  pointwise [k0_pay103]
  refine Finset.sum_congr rfl fun y _ => congrArg (· * _) ?_
  refine Eq.trans ?_ (head_apply x wq kk vv (headOf y) r (inHead y))
  show headO (F := Ideal) x wq kk vv (headOf y) _ = headO (F := Ideal) x wq kk vv (headOf y) _
  rw [ix2_eq_valueIdx]
  rfl

end Cert.RsAg

end
-- ==== Proof.HeadValue.lean ====
/-
# A head of the kernel is a head of the reference

Over finite inputs of the scores, what a device computes for one of its heads is what the reference computes for that head
of all the heads.
-/
module

public import proofs.«01_k».proof.Proof.RefValue
public import proofs.«01_k».proof.Proof.IdealHeads

@[expose] public section

noncomputable section

namespace Cert.RsAg

open Idealize.ShloMosaic

/-- The reference's scale. -/
theorem ref_scale : Ideal.ofBits .f32 0x3DB504F3#32 = ((11863283 / 134217728 : ℝ) : EReal) := by
  simp [Ideal.ofBits, Ideal.ieee]
  norm_num
  rw [← EReal.coe_mul]
  norm_num

variable (X : FVec Ideal ReferenceIdeal.S4x256x1024 .f32) (WQ : FVec Ideal ReferenceIdeal.S1024x16384 .f32) (K V : FVec Ideal ReferenceIdeal.S4x1024x128x128 .f32)
variable (x : FVec Ideal KernelIdeal.S1x256x1024 .f32) (wq : FVec Ideal KernelIdeal.S1024x1024 .f32) (kk vv : FVec Ideal KernelIdeal.S1x1024x8x128 .f32)
variable (b : Fin 4) (H : Fin 128) (h : Fin 8)

/-- A score as a real. -/
def score (r : Fin 256) (j : Fin 1024) : ℝ :=
  (∑ d : Fin 128, (∑ t : Fin 1024, (x (ix3 0 r t) : EReal).toReal * (wq (ix2 t (colOf h d)) : EReal).toReal) * (kk (ix4 0 j h d) : EReal).toReal) * (11863283 / 134217728)

section
variable (fx : ∀ i, Fin' (x i)) (fwq : ∀ i, Fin' (wq i)) (fk : ∀ i, Fin' (kk i))
include fx fwq

theorem proj_coe (r : Fin 256) (y : Fin 1024) :
    (∑ t : Fin 1024, x (ix3 0 r t) * wq (ix2 t y) : EReal) = ((∑ t : Fin 1024, (x (ix3 0 r t) : EReal).toReal * (wq (ix2 t y) : EReal).toReal : ℝ) : EReal) := by
  rw [coe_sum]
  refine Finset.sum_congr rfl fun t _ => ?_
  rw [EReal.coe_mul, (fx _).coe, (fwq _).coe]

include fk

/-- The kernel's weight is the exponential of the score. -/
theorem eK_coe (r : Fin 256) (j : Fin 1024) : eK x wq kk h r j = ((Real.exp (score x wq kk h r j) : ℝ) : EReal) := by
  unfold eK qK
  have h1 : (∑ t : Fin 128, (∑ t' : Fin 1024, x (ix3 0 r t') * wq (ix2 t' (colOf h t))) * (((11863283 / 134217728) * (Real.log 2)⁻¹ : ℝ) : EReal) * kk (ix4 0 j h t) : EReal)
      = (((∑ d : Fin 128, (∑ t : Fin 1024, (x (ix3 0 r t) : EReal).toReal * (wq (ix2 t (colOf h d)) : EReal).toReal) * (kk (ix4 0 j h d) : EReal).toReal)
          * ((11863283 / 134217728) * (Real.log 2)⁻¹) : ℝ) : EReal) := by
    rw [Finset.sum_mul, coe_sum]
    refine Finset.sum_congr rfl fun t _ => ?_
    rw [proj_coe x wq fx fwq, mul_right_comm]
    refine Eq.trans ?_ (EReal.coe_mul _ _).symm
    refine congrArg (· * _) ?_
    rw [EReal.coe_mul, (fk _).coe]
  rw [h1]
  show ((Real.rpow 2 _ : ℝ) : EReal) = _
  rw [rpow_two]
  rfl

variable (hx : ∀ r t, (x (ix3 0 r t) : EReal) = X (ix3 b r t))
variable (hwq : ∀ t (d : Fin 128) (hd : H.val * 128 + d.val < 16384), (wq (ix2 t (colOf h d)) : EReal) = WQ (ix2 t ⟨H.val * 128 + d.val, hd⟩))
variable (hk : ∀ j d, (kk (ix4 0 j h d) : EReal) = K (ix4 b j H d))
variable (hv : ∀ j d, (vv (ix4 0 j h d) : EReal) = V (ix4 b j H d))
include hx hwq hk

/-- The reference's score. -/
theorem s_coe (r : Fin 256) (j : Fin 1024) : (Ref.s X WQ K (ix4 b H r j) : EReal) = ((score x wq kk h r j : ℝ) : EReal) := by
  rw [Ref.s_apply, ref_scale]
  unfold score
  rw [EReal.coe_mul, coe_sum]
  congr 1
  refine Finset.sum_congr rfl fun d _ => ?_
  rw [Ref.q_apply, EReal.coe_mul, ← proj_coe x wq fx fwq, (fk _).coe, hk]
  congr 1
  refine Finset.sum_congr rfl fun t _ => ?_
  rw [hx, hwq]

include hv

theorem head_eq (r : Fin 256) (d : Fin 128) (hy : H.val * 128 + d.val < 16384) :
    (Ref.a X WQ K V (ix3 b r ⟨H.val * 128 + d.val, hy⟩) : EReal) = hK x wq kk vv h r d := by
  obtain ⟨M, hM⟩ := fold_max_coe (n := 1024) (by norm_num) (fun j => score x wq kk h r j)
  have he : ∀ j, (Ref.e X WQ K (ix4 b H r j) : EReal) = ((Real.exp (score x wq kk h r j - M) : ℝ) : EReal) := fun j => by
    rw [Ref.e_apply, Ref.mx_apply]
    have hs : (fun j => (Ref.s X WQ K (ix4 b H r j) : EReal)) = fun j => ((score x wq kk h r j : ℝ) : EReal) :=
      funext fun j => s_coe X WQ K x wq kk b H h fx fwq fk hx hwq hk r j
    rw [hs, hM, s_coe X WQ K x wq kk b H h fx fwq fk hx hwq hk, ← EReal.coe_sub]
    rfl
  rw [Ref.a_apply]
  unfold hK
  rw [Finset.sum_congr rfl fun j _ => congrArg (fun z : EReal => (V (ix4 b j H d) : EReal) * z) (he j), Finset.sum_congr rfl fun j _ => he j,
    softmax_eq (n := 1024) (by norm_num)]
  refine congrArg₂ Ideal.div (Finset.sum_congr rfl fun j _ => ?_) (Finset.sum_congr rfl fun j _ => ?_)
  · rw [eK_coe x wq kk h fx fwq fk, hv]
  · rw [eK_coe x wq kk h fx fwq fk]

end

end Cert.RsAg

end
-- ==== Proof.IdealSums.lean ====
/-
# The exchanged sums over the extended reals

With exact arithmetic what the two exchanges leave in every device's output is the sum of all devices' partial results.
-/
module

public import proofs.«01_k».proof.Proof.Values
public import proofs.«01_k».proof.Proof.IdealHeads

@[expose] public section

noncomputable section

namespace Cert.RsAg

open Cert.KernelIdeal Cert.KernelIdeal.Gen Idealize.ShloMosaic Idealize.ShloMosaic.TcCoe

variable (m : (ℓ : Loc nD τ sig) → Buf (Elt Ideal) ℓ)

theorem pay19_apply (a : FVec Ideal S16x1024 .f32) (w : FVec Ideal S1x1x16x1024 .bf16) (r : Fin 16) (k : Fin 1024) :
    k0_pay19 (F := Ideal) a w (ix2 r k) = (a (ix2 r k) + w (ix4 0 0 r k) : EReal) := by
  pointwise [k0_pay19]

theorem pay18_apply (a : FVec Ideal S1x16x1024 .f32) (r : Fin 16) (k : Fin 1024) : k0_pay18 (F := Ideal) a (ix2 r k) = (a (ix3 0 r k) : EReal) := by
  pointwise [k0_pay18]

theorem pay104_apply (a : FVec Ideal S1x256x1024 .f32) (r : Fin 256) (k : Fin 1024) : k0_pay104 (F := Ideal) a (ix3 0 r k) = (a (ix3 0 r k) : EReal) := by
  pointwise [k0_pay104]

theorem pay35_apply (a : FVec Ideal S16x1024 .f32) (r : Fin 16) (k : Fin 1024) : k0_pay35 (F := Ideal) a (ix3 0 r k) = (a (ix2 r k) : EReal) := by
  pointwise [k0_pay35]

theorem pay36_apply (a : FVec Ideal S16x1024 .f32) (r : Fin 16) (k : Fin 1024) : k0_pay36 (F := Ideal) a (ix3 0 r k) = (a (ix2 r k) : EReal) := by
  pointwise [k0_pay36]

theorem pay1_apply (a : FVec Ideal S1x1x16x1024 .bf16) (r : Fin 16) (k : Fin 1024) : k0_pay1 (F := Ideal) a (ix3 0 r k) = (a (ix4 0 0 r k) : EReal) := by
  pointwise [k0_pay1]

/-- Device `d`'s share of a result. -/
def share (d : Fin 16) (g : Fin 4) (y : Fin 256) (k : Fin 1024) : EReal := partOf m d g (ix3 0 y k)

theorem stg_share (p c : Fin 16) (g : Fin 4) (r : Fin 16) (k : Fin 1024) :
    (slotV ((stgVals m).rsB c) g p (ix4 0 0 r k) : EReal) = share m p g (rowOf c r) k := by
  have h := pay104_apply (partOf m p g) (rowOf c r) k
  rw [ix3_eq_valueIdx] at h
  unfold share
  rw [ix3_eq_valueIdx, ix4_eq_valueIdx]
  exact h

theorem acc_sum (a : FVec Ideal S16x1024 .f32) (c : Fin 16) (g : Fin 4) (n : ℕ) (r : Fin 16) (k : Fin 1024) :
    (accS (F := Ideal) (stgVals m) a c g n (ix2 r k) : EReal)
      = a (ix2 r k) + ∑ i ∈ Finset.range n, if h : i < 16 then (if (⟨i, h⟩ : Fin 16) = c then 0 else share m ⟨i, h⟩ g (rowOf c r) k) else 0 := by
  induction n with
  | zero => rw [Finset.sum_range_zero, add_zero]; rfl
  | succ n ih =>
    rw [Finset.sum_range_succ, ← add_assoc, ← ih]
    by_cases h : n < 16
    · by_cases hc : (⟨n, h⟩ : Fin 16) = c
      · rw [accS_self _ _ _ _ _ h hc, dif_pos h, if_pos hc, add_zero]
      · rw [accS_other _ _ _ _ _ h hc, dif_pos h, if_neg hc, pay19_apply, stg_share]
    · rw [dif_neg h, add_zero, accS, dif_neg h]

theorem chunk_apply (c : Fin 16) (g : Fin 4) (r : Fin 16) (k : Fin 1024) : (chunkOf m c g (ix2 r k) : EReal) = ∑ d : Fin 16, share m d g (rowOf c r) k := by
  have h0 : (k0_pay18 (F := Ideal) (rowsV (obOf m c) g c) (ix2 r k) : EReal) = share m c g (rowOf c r) k := by
    rw [pay18_apply]
    unfold share
    rw [ix3_eq_valueIdx, ix3_eq_valueIdx]
    rfl
  show (accS (F := Ideal) (stgVals m) (k0_pay18 (rowsV (obOf m c) g c)) c g 16 (ix2 r k) : EReal) = _
  rw [acc_sum, h0, Finset.sum_range]
  have h1 : ∀ d : Fin 16, (if h : d.val < 16 then (if (⟨d.val, h⟩ : Fin 16) = c then 0 else share m ⟨d.val, h⟩ g (rowOf c r) k) else 0) = if d = c then 0 else share m d g (rowOf c r) k := fun d => dif_pos d.isLt
  rw [Finset.sum_congr rfl fun d _ => h1 d]
  have h2 : share m c g (rowOf c r) k = ∑ d : Fin 16, if d = c then share m d g (rowOf c r) k else 0 := by
    rw [Finset.sum_ite_eq' Finset.univ c, if_pos (Finset.mem_univ c)]
  rw [h2, ← Finset.sum_add_distrib]
  refine Finset.sum_congr rfl fun d _ => ?_
  by_cases hd : d = c
  · rw [if_pos hd, if_pos hd, add_zero]
  · rw [if_neg hd, if_neg hd, zero_add]

/-- Every device's output is the sum of all devices' shares. -/
theorem ou_apply (c : Fin 16) (g : Fin 4) (y : Fin 256) (k : Fin 1024) : (ouOf m c (ix3 g y k) : EReal) = ∑ d : Fin 16, share m d g y k := by
  rw [← rowOf_inRow y]
  by_cases hd : ownerOf y = c
  · rw [hd]
    have h := ou_own m c g (inRow y) k
    rw [← ix3_eq_valueIdx, ← ix3_eq_valueIdx] at h
    rw [h, pay35_apply, chunk_apply]
  · have h := ou_other m c g (ownerOf y) hd (inRow y) k
    rw [← ix3_eq_valueIdx, ← ix3_eq_valueIdx] at h
    rw [h, pay1_apply]
    have h1 : (slotV (valsOf m).agB g (ownerOf y) (ix4 0 0 (inRow y) k) : EReal) = k0_pay36 (F := Ideal) (chunkOf m (ownerOf y) g) (ix3 0 (inRow y) k) := by
      rw [ix4_eq_valueIdx, ix3_eq_valueIdx]; rfl
    rw [h1, pay36_apply, chunk_apply]

/-- All devices end with one output. -/
theorem ou_same (c c' : Fin 16) : ouOf m c = ouOf m c' := by
  funext x
  have h : ∀ d : Fin 16, (ouOf m d x : EReal) = ∑ d : Fin 16, share m d (x 0) (x 1) (x 2) := fun d => by
    rw [← ou_apply m d (x 0) (x 1) (x 2)]
    exact congrArg _ (eq_ix3 x)
  exact (h c).trans (h c').symm

end Cert.RsAg

end
-- ==== Proof.Algebraic.lean ====
/-
# The kernel computes the reference

Every device ends with the reference's result: the shares of the devices are the reference's output product cut along the
heads.
-/
module

public import proofs.«01_k».proof.Proof.Finite
public import proofs.«01_k».proof.Proof.HeadValue
public import proofs.«01_k».proof.Proof.IdealSums

@[expose] public section

noncomputable section

namespace Cert.RsAg

open Idealize.ShloMosaic Idealize.ShloMosaic.TcCoe Idealize.SL.Sem

variable (X : FVec Ideal ReferenceIdeal.S4x256x1024 .f32) (WQ : FVec Ideal ReferenceIdeal.S1024x16384 .f32) (K V : FVec Ideal ReferenceIdeal.S4x1024x128x128 .f32)
  (WO : FVec Ideal ReferenceIdeal.S16384x1024 .f32)

/-- The index of device `c`'s column `y` among all the columns. -/
def colAt (c : Fin 16) (y : Fin 1024) : Fin 16384 := ⟨c.val * 1024 + y.val, by omega⟩

/-- A sum over all columns, device by device. -/
theorem sum_cols (f : Fin 16384 → EReal) : ∑ y, f y = ∑ c : Fin 16, ∑ y : Fin 1024, f (colAt c y) := by
  rw [← Fintype.sum_prod_type' (fun (c : Fin 16) (y : Fin 1024) => f (colAt c y))]
  refine (Fintype.sum_equiv (finProdFinEquiv (m := 16) (n := 1024)) _ _ fun p => ?_).symm
  refine congrArg f (Fin.ext ?_)
  show p.1.val * 1024 + p.2.val = p.2.val + 1024 * p.1.val
  omega

/-- The memory of the devices, cut from the whole arrays. -/
def Cut (m : (ℓ : Loc KernelIdeal.nD KernelIdeal.τ KernelIdeal.sig) → Buf (Elt Ideal) ℓ) (c : Dev KernelIdeal.nD) : Prop :=
  m ((c : Thread KernelIdeal.nD KernelIdeal.τ).loc KernelIdeal.main_arg0) = X
  ∧ m ((c : Thread KernelIdeal.nD KernelIdeal.τ).loc KernelIdeal.main_arg1) = Layout.block ⟨2, ![1024, 1024]⟩ ⟨2, ![1024, 16384]⟩ 1 16 c WQ
  ∧ m ((c : Thread KernelIdeal.nD KernelIdeal.τ).loc KernelIdeal.main_arg2) = Layout.block ⟨4, ![4, 1024, 8, 128]⟩ ⟨4, ![4, 1024, 128, 128]⟩ 2 16 c K
  ∧ m ((c : Thread KernelIdeal.nD KernelIdeal.τ).loc KernelIdeal.main_arg3) = Layout.block ⟨4, ![4, 1024, 8, 128]⟩ ⟨4, ![4, 1024, 128, 128]⟩ 2 16 c V
  ∧ m ((c : Thread KernelIdeal.nD KernelIdeal.τ).loc KernelIdeal.main_arg4) = Layout.block ⟨2, ![1024, 1024]⟩ ⟨2, ![16384, 1024]⟩ 0 16 c WO

theorem cols_apply {α : Type} (c : Fin 16) (f : (⟨2, ![1024, 16384]⟩ : Shape).Idx → α) (t y : Fin 1024) :
    Layout.block ⟨2, ![1024, 1024]⟩ ⟨2, ![1024, 16384]⟩ 1 16 c f (by decide) (ix2 t y) = f (ix2 t (colAt c y)) := by
  rw [Layout.block_apply]
  refine congrArg f (funext fun a => Fin.ext ?_)
  match a with
  | ⟨0, _⟩ => rfl
  | ⟨1, _⟩ => rfl

theorem rows_apply {α : Type} (c : Fin 16) (f : (⟨2, ![16384, 1024]⟩ : Shape).Idx → α) (y n : Fin 1024) :
    Layout.block ⟨2, ![1024, 1024]⟩ ⟨2, ![16384, 1024]⟩ 0 16 c f (by decide) (ix2 y n) = f (ix2 (colAt c y) n) := by
  rw [Layout.block_apply]
  refine congrArg f (funext fun a => Fin.ext ?_)
  match a with
  | ⟨0, _⟩ => rfl
  | ⟨1, _⟩ => rfl

/-- Head `h` of device `c` among all the heads. -/
def headAt (c : Fin 16) (h : Fin 8) : Fin 128 := ⟨c.val * 8 + h.val, by omega⟩

theorem heads_apply {α : Type} (c : Fin 16) (f : (⟨4, ![4, 1024, 128, 128]⟩ : Shape).Idx → α) (b : Fin 4) (j : Fin 1024) (h : Fin 8) (d : Fin 128) :
    Layout.block ⟨4, ![4, 1024, 8, 128]⟩ ⟨4, ![4, 1024, 128, 128]⟩ 2 16 c f (by decide) (ix4 b j h d) = f (ix4 b j (headAt c h) d) := by
  rw [Layout.block_apply]
  refine congrArg f (funext fun a => Fin.ext ?_)
  match a with
  | ⟨0, _⟩ => rfl
  | ⟨1, _⟩ => rfl
  | ⟨2, _⟩ => rfl
  | ⟨3, _⟩ => rfl

theorem colAt_head (c : Fin 16) (y : Fin 1024) (hy : (headAt c (headOf y)).val * 128 + (inHead y).val < 16384) :
    (⟨(headAt c (headOf y)).val * 128 + (inHead y).val, hy⟩ : Fin 16384) = colAt c y := by
  refine Fin.ext ?_
  show (c.val * 8 + y.val / 128) * 128 + y.val % 128 = c.val * 1024 + y.val
  omega

theorem colAt_col (c : Fin 16) (h : Fin 8) (d : Fin 128) (hd : (headAt c h).val * 128 + d.val < 16384) :
    (⟨(headAt c h).val * 128 + d.val, hd⟩ : Fin 16384) = colAt c (colOf h d) := by
  refine Fin.ext ?_
  show (c.val * 8 + h.val) * 128 + d.val = c.val * 1024 + (128 * h.val + d.val)
  omega

variable (m : (ℓ : Loc KernelIdeal.nD KernelIdeal.τ KernelIdeal.sig) → Buf (Elt Ideal) ℓ)

/-- A device's share is its part of the reference's output product. -/
theorem share_eq (hpre : Pre_KernelIdeal_finite_scores_KernelIdeal m) (c : Dev KernelIdeal.nD) (hc : Cut X WQ K V WO m c) (g : Fin 4) (r : Fin 256) (n : Fin 1024) :
    share m c g r n = ∑ y : Fin 1024, (Ref.a X WQ K V (ix3 g r (colAt c y)) * WO (ix2 (colAt c y) n) : EReal) := by
  obtain ⟨h0, h1, h2, h3, h4⟩ := hc
  obtain ⟨fx, fq, fk⟩ := pre_finite _ _ _ _ _ (hpre c)
  unfold share
  refine (part_apply (xOf m c g) (wqOf m c) (woOf m c) (kOf m c g) (vOf m c g) r n).trans ?_
  refine Finset.sum_congr rfl fun y _ => ?_
  have hlt : (headAt c (headOf y)).val * 128 + (inHead y).val < 16384 := by
    have hcl : c.val < 16 := c.isLt
    show (c.val * 8 + y.val / 128) * 128 + y.val % 128 < 16384
    omega
  have hw : (woOf m c (ix2 y n) : EReal) = WO (ix2 (colAt c y) n) := by
    show (m ((c : Thread KernelIdeal.nD KernelIdeal.τ).loc KernelIdeal.main_arg4) (ix2 y n) : EReal) = _
    rw [h4]; exact rows_apply c WO y n
  rw [hw]
  refine congrArg (· * _) ?_
  rw [← colAt_head c y hlt]
  refine (head_eq X WQ K V (xOf m c g) (wqOf m c) (kOf m c g) (vOf m c g) g (headAt c (headOf y)) (headOf y) (fun i => fx _) (fun i => fq _) (fun i => fk _)
    (fun r t => ?_) (fun t d hd => ?_) (fun j d => ?_) (fun j d => ?_) r (inHead y) hlt).symm
  · show (m ((c : Thread KernelIdeal.nD KernelIdeal.τ).loc KernelIdeal.main_arg0) (ValueIdx.ix3 g r t) : EReal) = _
    rw [h0, ix3_eq_valueIdx]
  · show (m ((c : Thread KernelIdeal.nD KernelIdeal.τ).loc KernelIdeal.main_arg1) (ix2 t (colOf (headOf y) d)) : EReal) = _
    rw [h1, colAt_col]; exact cols_apply c WQ t _
  · show (m ((c : Thread KernelIdeal.nD KernelIdeal.τ).loc KernelIdeal.main_arg2) (ValueIdx.ix4 g j (headOf y) d) : EReal) = _
    rw [h2, ← ix4_eq_valueIdx]; exact heads_apply c K g j _ d
  · show (m ((c : Thread KernelIdeal.nD KernelIdeal.τ).loc KernelIdeal.main_arg3) (ValueIdx.ix4 g j (headOf y) d) : EReal) = _
    rw [h3, ← ix4_eq_valueIdx]; exact heads_apply c V g j _ d

/-- Every device's output is the reference's result. -/
theorem ou_ref (hpre : Pre_KernelIdeal_finite_scores_KernelIdeal m) (hm : ∀ c, Cut X WQ K V WO m c) (c : Dev KernelIdeal.nD) : ouOf m c = Ref.out X WQ K V WO := by
  have h : ∀ (g : Fin 4) (y : Fin 256) (k : Fin 1024), (ouOf m c (ix3 g y k) : EReal) = Ref.out X WQ K V WO (ix3 g y k) := fun g y k => by
    rw [ou_apply, Ref.out_apply, sum_cols]
    exact Finset.sum_congr rfl fun d _ => share_eq X WQ K V WO m hpre d (hm d) _ _ _
  funext i
  rw [eq_ix3 i]
  exact h _ _ _

theorem algebraic : Cert.algebraic_KernelIdeal_ReferenceIdeal_pre_finite_scores_KernelIdeal (hKernelIdeal := Cert.KernelIdeal.Gen.facts)
    (hReferenceIdeal := Cert.ReferenceIdeal.Gen.facts) := by
  intro m g m' g' hpre hm
  refine ⟨Ref.out _ _ _ _ _, (θ_run Cert.KernelIdeal.defs _ _).mono (fun _ h c => ?_) (run_main (F := Ideal) m g),
    (θ_run Cert.ReferenceIdeal.defs _ _).mono (fun _ h => h 0) (Cert.ReferenceIdeal.Value.run (F := Ideal) m' g')⟩
  exact ⟨(h.1 c).1.trans (ou_ref _ _ _ _ _ m hpre hm c), (h.1 c).2⟩

end Cert.RsAg

end
-- ==== Proof.lean ====
/-
# The five claims, put together

The run of the kernel (any float values), its frames, and the value claim against the plain reference are proved in
the modules imported here; this one only lists them in the order of the claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameKernel
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.RsAg.pre_facts, Cert.RsAg.pre_facts_ref,
    Cert.RsAg.frame_kernel, Cert.RsAg.frame_ideal, Cert.RsAg.frame_ideal_pre,
    Cert.RsAg.frame_reference, Cert.RsAg.frame_reference_pre,
    Cert.RsAg.preserves, Cert.RsAg.algebraic⟩

end Cert.Proof

end
